-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.bf16_pair.BufferStatement Cert.KernelIdeal.S2x2x2x672x2x128 Cert.KernelIdeal.S2x2x2x672x1x128
  ∧ IdealRules.bf16_pair.Statement Cert.KernelIdeal.S32x128 Cert.KernelIdeal.S16x128
  ∧ IdealRules.bf16_pair.Statement Cert.KernelIdeal.S1x1x1x32x2x128 Cert.KernelIdeal.S1x1x1x32x1x128
  ∧ IdealRules.bf16_pair.Statement Cert.KernelIdeal.S1x1x1x64x2x128 Cert.KernelIdeal.S1x1x1x64x1x128
  ∧ IdealRules.bf16_pair.Statement Cert.KernelIdeal.S128x128 Cert.KernelIdeal.S64x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v22)) (v1 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_v23) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_v121) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2709504 : Shape := ⟨1, ![2709504]⟩
abbrev S8x8x4x96 : Shape := ⟨4, ![8, 8, 4, 96]⟩
abbrev S4x96 : Shape := ⟨2, ![4, 96]⟩
abbrev S96 : Shape := ⟨1, ![96]⟩
abbrev S21x1008x128 : Shape := ⟨3, ![21, 1008, 128]⟩
abbrev S2x4x2x4x4x96 : Shape := ⟨6, ![2, 4, 2, 4, 4, 96]⟩
abbrev S96x2x2x4x4x4 : Shape := ⟨6, ![96, 2, 2, 4, 4, 4]⟩
abbrev S96x2x2x1x4x4 : Shape := ⟨6, ![96, 2, 2, 1, 4, 4]⟩
abbrev S96x2x2x3x4x4 : Shape := ⟨6, ![96, 2, 2, 3, 4, 4]⟩
abbrev S1x96x2x2x4x4x4 : Shape := ⟨7, ![1, 96, 2, 2, 4, 4, 4]⟩
abbrev S2x96x2x2x4x4x4 : Shape := ⟨7, ![2, 96, 2, 2, 4, 4, 4]⟩
abbrev S2x96x256 : Shape := ⟨3, ![2, 96, 256]⟩
abbrev S96x1 : Shape := ⟨2, ![96, 1]⟩
abbrev S20x20x96x256 : Shape := ⟨4, ![20, 20, 96, 256]⟩
abbrev S1x1008x128 : Shape := ⟨3, ![1, 1008, 128]⟩
abbrev S1x20x96x256 : Shape := ⟨4, ![1, 20, 96, 256]⟩
abbrev S96x128 : Shape := ⟨2, ![96, 128]⟩
abbrev S2x2x2x672x128 : Shape := ⟨5, ![2, 2, 2, 672, 128]⟩
abbrev S8x128 : Shape := ⟨2, ![8, 128]⟩
abbrev S1x8x128 : Shape := ⟨3, ![1, 8, 128]⟩
abbrev S32x128 : Shape := ⟨2, ![32, 128]⟩
abbrev S16x128 : Shape := ⟨2, ![16, 128]⟩
abbrev S1x1x1x32x128 : Shape := ⟨5, ![1, 1, 1, 32, 128]⟩
abbrev S96x256 : Shape := ⟨2, ![96, 256]⟩
abbrev S1x1x1x64x128 : Shape := ⟨5, ![1, 1, 1, 64, 128]⟩
abbrev S64x128 : Shape := ⟨2, ![64, 128]⟩
abbrev S128x128 : Shape := ⟨2, ![128, 128]⟩
abbrev S256x128 : Shape := ⟨2, ![256, 128]⟩
abbrev S256x256 : Shape := ⟨2, ![256, 256]⟩
abbrev S1x96x256 : Shape := ⟨3, ![1, 96, 256]⟩
abbrev S1x1x96x256 : Shape := ⟨4, ![1, 1, 96, 256]⟩
abbrev S256x20x20x96 : Shape := ⟨4, ![256, 20, 20, 96]⟩

abbrev nBuf : Space → Nat
  | .hbm => 29
  | .vmem => 12
  | .smem => 0
  | _ => 0

abbrev bufTy : (tb : Table) → Fin (tcTables nBuf tb) → BufTy
  | .hbm, ⟨0, _⟩ => ⟨S2709504, .i32⟩
  | .hbm, ⟨1, _⟩ => ⟨S8x8x4x96, .fp8e4m3⟩
  | .hbm, ⟨2, _⟩ => ⟨S4x96, .f32⟩
  | .hbm, ⟨3, _⟩ => ⟨S96, .f32⟩
  | .hbm, ⟨4, _⟩ => ⟨S8x8x4x96, .f32⟩
  | .hbm, ⟨5, _⟩ => ⟨S21x1008x128, .i32⟩
  | .hbm, ⟨6, _⟩ => ⟨S2x4x2x4x4x96, .fp8e4m3⟩
  | .hbm, ⟨7, _⟩ => ⟨S96x2x2x4x4x4, .fp8e4m3⟩
  | .hbm, ⟨8, _⟩ => ⟨S96x2x2x1x4x4, .fp8e4m3⟩
  | .hbm, ⟨9, _⟩ => ⟨S96x2x2x3x4x4, .fp8e4m3⟩
  | .hbm, ⟨10, _⟩ => ⟨S96x2x2x4x4x4, .fp8e4m3⟩
  | .hbm, ⟨11, _⟩ => ⟨S1x96x2x2x4x4x4, .fp8e4m3⟩
  | .hbm, ⟨12, _⟩ => ⟨S1x96x2x2x4x4x4, .fp8e4m3⟩
  | .hbm, ⟨13, _⟩ => ⟨S2x96x2x2x4x4x4, .fp8e4m3⟩
  | .hbm, ⟨14, _⟩ => ⟨S2x96x256, .fp8e4m3⟩
  | .hbm, ⟨15, _⟩ => ⟨S2x4x2x4x4x96, .f32⟩
  | .hbm, ⟨16, _⟩ => ⟨S96x2x2x4x4x4, .f32⟩
  | .hbm, ⟨17, _⟩ => ⟨S96x2x2x1x4x4, .f32⟩
  | .hbm, ⟨18, _⟩ => ⟨S96x2x2x3x4x4, .f32⟩
  | .hbm, ⟨19, _⟩ => ⟨S96x2x2x4x4x4, .f32⟩
  | .hbm, ⟨20, _⟩ => ⟨S1x96x2x2x4x4x4, .f32⟩
  | .hbm, ⟨21, _⟩ => ⟨S1x96x2x2x4x4x4, .f32⟩
  | .hbm, ⟨22, _⟩ => ⟨S2x96x2x2x4x4x4, .f32⟩
  | .hbm, ⟨23, _⟩ => ⟨S2x96x256, .f32⟩
  | .hbm, ⟨24, _⟩ => ⟨S96x1, .f32⟩
  | .hbm, ⟨25, _⟩ => ⟨S20x20x96x256, .bf16⟩
  | .hbm, ⟨26, _⟩ => ⟨S20x20x96x256, .bf16⟩
  | .hbm, ⟨27, _⟩ => ⟨S256x20x20x96, .bf16⟩
  | .hbm, ⟨28, _⟩ => ⟨S256x20x20x96, .bf16⟩
  | .local _ .vmem, ⟨0, _⟩ => ⟨S1x1008x128, .i32⟩
  | .local _ .vmem, ⟨1, _⟩ => ⟨S1x1008x128, .i32⟩
  | .local _ .vmem, ⟨2, _⟩ => ⟨S2x96x256, .fp8e4m3⟩
  | .local _ .vmem, ⟨3, _⟩ => ⟨S2x96x256, .f32⟩
  | .local _ .vmem, ⟨4, _⟩ => ⟨S96x1, .f32⟩
  | .local _ .vmem, ⟨5, _⟩ => ⟨S1x20x96x256, .bf16⟩
  | .local _ .vmem, ⟨6, _⟩ => ⟨S1x20x96x256, .bf16⟩
  | .local _ .vmem, ⟨7, _⟩ => ⟨S1x20x96x256, .bf16⟩
  | .local _ .vmem, ⟨8, _⟩ => ⟨S1x20x96x256, .bf16⟩
  | .local _ .vmem, ⟨9, _⟩ => ⟨S2x96x256, .bf16⟩
  | .local _ .vmem, ⟨10, _⟩ => ⟨S96x128, .f32⟩
  | .local _ .vmem, ⟨11, _⟩ => ⟨S2x2x2x672x128, .i32⟩
  | _, _ => ⟨S2709504, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21_0 : Ref sig .tc := ⟨.hbm, 25, rfl⟩
abbrev main_v21_1 : Ref sig .tc := ⟨.hbm, 26, rfl⟩
abbrev main_v22 : Ref sig .tc := ⟨.hbm, 27, rfl⟩
abbrev main_v23 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [BitOps F]

abbrev grid0 : Pipeline.Grid := ⟨1, ![21], ![false]⟩

def k0_off1 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v33 : Index := Scalar.indexCast v9
  let c0_12 : Index := 0#32
  let c0_13 : Index := 0#32
  let c0_14 : Index := 0#32
  let c0_15 : Index := 0#32
  ![v33.toNat, 0, 0, 0, 0]
def k0_off2 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v45 : Index := Scalar.indexCast v9
  let c1 : Index := 1#32
  let c0_16 : Index := 0#32
  let c0_17 : Index := 0#32
  let c0_18 : Index := 0#32
  ![v45.toNat, 1, 0, 0, 0]
def k0_off3 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v66 : Index := Scalar.indexCast v9
  let c0_26 : Index := 0#32
  let c1_27 : Index := 1#32
  let c0_28 : Index := 0#32
  let c0_29 : Index := 0#32
  ![v66.toNat, 0, 1, 0, 0]
def k0_off4 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v78 : Index := Scalar.indexCast v9
  let c1_30 : Index := 1#32
  let c1_31 : Index := 1#32
  let c0_32 : Index := 0#32
  let c0_33 : Index := 0#32
  ![v78.toNat, 1, 1, 0, 0]
def k0_off5 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v99 : Index := Scalar.indexCast v9
  let c0_41 : Index := 0#32
  let c0_42 : Index := 0#32
  let c32_43 : Index := 32#32
  let c0_44 : Index := 0#32
  ![v99.toNat, 0, 0, 32, 0]
def k0_off6 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v111 : Index := Scalar.indexCast v9
  let c1_45 : Index := 1#32
  let c0_46 : Index := 0#32
  let c32_47 : Index := 32#32
  let c0_48 : Index := 0#32
  ![v111.toNat, 1, 0, 32, 0]
def k0_off7 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v132 : Index := Scalar.indexCast v9
  let c0_56 : Index := 0#32
  let c1_57 : Index := 1#32
  let c32_58 : Index := 32#32
  let c0_59 : Index := 0#32
  ![v132.toNat, 0, 1, 32, 0]
def k0_off8 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v144 : Index := Scalar.indexCast v9
  let c1_60 : Index := 1#32
  let c1_61 : Index := 1#32
  let c32_62 : Index := 32#32
  let c0_63 : Index := 0#32
  ![v144.toNat, 1, 1, 32, 0]
def k0_off9 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v165 : Index := Scalar.indexCast v9
  let c0_71 : Index := 0#32
  let c0_72 : Index := 0#32
  let c64_73 : Index := 64#32
  let c0_74 : Index := 0#32
  ![v165.toNat, 0, 0, 64, 0]
def k0_off10 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v177 : Index := Scalar.indexCast v9
  let c1_75 : Index := 1#32
  let c0_76 : Index := 0#32
  let c64_77 : Index := 64#32
  let c0_78 : Index := 0#32
  ![v177.toNat, 1, 0, 64, 0]
def k0_off11 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v198 : Index := Scalar.indexCast v9
  let c0_86 : Index := 0#32
  let c1_87 : Index := 1#32
  let c64_88 : Index := 64#32
  let c0_89 : Index := 0#32
  ![v198.toNat, 0, 1, 64, 0]
def k0_off12 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v210 : Index := Scalar.indexCast v9
  let c1_90 : Index := 1#32
  let c1_91 : Index := 1#32
  let c64_92 : Index := 64#32
  let c0_93 : Index := 0#32
  ![v210.toNat, 1, 1, 64, 0]
def k0_off13 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v231 : Index := Scalar.indexCast v9
  let c0_101 : Index := 0#32
  let c0_102 : Index := 0#32
  let c96_103 : Index := 96#32
  let c0_104 : Index := 0#32
  ![v231.toNat, 0, 0, 96, 0]
def k0_off14 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v243 : Index := Scalar.indexCast v9
  let c1_105 : Index := 1#32
  let c0_106 : Index := 0#32
  let c96_107 : Index := 96#32
  let c0_108 : Index := 0#32
  ![v243.toNat, 1, 0, 96, 0]
def k0_off15 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v264 : Index := Scalar.indexCast v9
  let c0_116 : Index := 0#32
  let c1_117 : Index := 1#32
  let c96_118 : Index := 96#32
  let c0_119 : Index := 0#32
  ![v264.toNat, 0, 1, 96, 0]
def k0_off16 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v276 : Index := Scalar.indexCast v9
  let c1_120 : Index := 1#32
  let c1_121 : Index := 1#32
  let c96_122 : Index := 96#32
  let c0_123 : Index := 0#32
  ![v276.toNat, 1, 1, 96, 0]
def k0_off17 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v297 : Index := Scalar.indexCast v9
  let c0_131 : Index := 0#32
  let c0_132 : Index := 0#32
  let c128_133 : Index := 128#32
  let c0_134 : Index := 0#32
  ![v297.toNat, 0, 0, 128, 0]
def k0_off18 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v309 : Index := Scalar.indexCast v9
  let c1_135 : Index := 1#32
  let c0_136 : Index := 0#32
  let c128_137 : Index := 128#32
  let c0_138 : Index := 0#32
  ![v309.toNat, 1, 0, 128, 0]
def k0_off19 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v330 : Index := Scalar.indexCast v9
  let c0_146 : Index := 0#32
  let c1_147 : Index := 1#32
  let c128_148 : Index := 128#32
  let c0_149 : Index := 0#32
  ![v330.toNat, 0, 1, 128, 0]
def k0_off20 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v342 : Index := Scalar.indexCast v9
  let c1_150 : Index := 1#32
  let c1_151 : Index := 1#32
  let c128_152 : Index := 128#32
  let c0_153 : Index := 0#32
  ![v342.toNat, 1, 1, 128, 0]
def k0_off21 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v363 : Index := Scalar.indexCast v9
  let c0_161 : Index := 0#32
  let c0_162 : Index := 0#32
  let c160_163 : Index := 160#32
  let c0_164 : Index := 0#32
  ![v363.toNat, 0, 0, 160, 0]
def k0_off22 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v375 : Index := Scalar.indexCast v9
  let c1_165 : Index := 1#32
  let c0_166 : Index := 0#32
  let c160_167 : Index := 160#32
  let c0_168 : Index := 0#32
  ![v375.toNat, 1, 0, 160, 0]
def k0_off23 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v396 : Index := Scalar.indexCast v9
  let c0_176 : Index := 0#32
  let c1_177 : Index := 1#32
  let c160_178 : Index := 160#32
  let c0_179 : Index := 0#32
  ![v396.toNat, 0, 1, 160, 0]
def k0_off24 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v408 : Index := Scalar.indexCast v9
  let c1_180 : Index := 1#32
  let c1_181 : Index := 1#32
  let c160_182 : Index := 160#32
  let c0_183 : Index := 0#32
  ![v408.toNat, 1, 1, 160, 0]
def k0_off25 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v429 : Index := Scalar.indexCast v9
  let c0_191 : Index := 0#32
  let c0_192 : Index := 0#32
  let c192_193 : Index := 192#32
  let c0_194 : Index := 0#32
  ![v429.toNat, 0, 0, 192, 0]
def k0_off26 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v441 : Index := Scalar.indexCast v9
  let c1_195 : Index := 1#32
  let c0_196 : Index := 0#32
  let c192_197 : Index := 192#32
  let c0_198 : Index := 0#32
  ![v441.toNat, 1, 0, 192, 0]
def k0_off27 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v462 : Index := Scalar.indexCast v9
  let c0_206 : Index := 0#32
  let c1_207 : Index := 1#32
  let c192_208 : Index := 192#32
  let c0_209 : Index := 0#32
  ![v462.toNat, 0, 1, 192, 0]
def k0_off28 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v474 : Index := Scalar.indexCast v9
  let c1_210 : Index := 1#32
  let c1_211 : Index := 1#32
  let c192_212 : Index := 192#32
  let c0_213 : Index := 0#32
  ![v474.toNat, 1, 1, 192, 0]
def k0_off29 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v495 : Index := Scalar.indexCast v9
  let c0_221 : Index := 0#32
  let c0_222 : Index := 0#32
  let c224_223 : Index := 224#32
  let c0_224 : Index := 0#32
  ![v495.toNat, 0, 0, 224, 0]
def k0_off30 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v507 : Index := Scalar.indexCast v9
  let c1_225 : Index := 1#32
  let c0_226 : Index := 0#32
  let c224_227 : Index := 224#32
  let c0_228 : Index := 0#32
  ![v507.toNat, 1, 0, 224, 0]
def k0_off31 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v528 : Index := Scalar.indexCast v9
  let c0_236 : Index := 0#32
  let c1_237 : Index := 1#32
  let c224_238 : Index := 224#32
  let c0_239 : Index := 0#32
  ![v528.toNat, 0, 1, 224, 0]
def k0_off32 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v540 : Index := Scalar.indexCast v9
  let c1_240 : Index := 1#32
  let c1_241 : Index := 1#32
  let c224_242 : Index := 224#32
  let c0_243 : Index := 0#32
  ![v540.toNat, 1, 1, 224, 0]
def k0_off33 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v561 : Index := Scalar.indexCast v9
  let c0_251 : Index := 0#32
  let c0_252 : Index := 0#32
  let c256_253 : Index := 256#32
  let c0_254 : Index := 0#32
  ![v561.toNat, 0, 0, 256, 0]
def k0_off34 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v573 : Index := Scalar.indexCast v9
  let c1_255 : Index := 1#32
  let c0_256 : Index := 0#32
  let c256_257 : Index := 256#32
  let c0_258 : Index := 0#32
  ![v573.toNat, 1, 0, 256, 0]
def k0_off35 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v594 : Index := Scalar.indexCast v9
  let c0_266 : Index := 0#32
  let c1_267 : Index := 1#32
  let c256_268 : Index := 256#32
  let c0_269 : Index := 0#32
  ![v594.toNat, 0, 1, 256, 0]
def k0_off36 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v606 : Index := Scalar.indexCast v9
  let c1_270 : Index := 1#32
  let c1_271 : Index := 1#32
  let c256_272 : Index := 256#32
  let c0_273 : Index := 0#32
  ![v606.toNat, 1, 1, 256, 0]
def k0_off37 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v627 : Index := Scalar.indexCast v9
  let c0_281 : Index := 0#32
  let c0_282 : Index := 0#32
  let c288_283 : Index := 288#32
  let c0_284 : Index := 0#32
  ![v627.toNat, 0, 0, 288, 0]
def k0_off38 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v639 : Index := Scalar.indexCast v9
  let c1_285 : Index := 1#32
  let c0_286 : Index := 0#32
  let c288_287 : Index := 288#32
  let c0_288 : Index := 0#32
  ![v639.toNat, 1, 0, 288, 0]
def k0_off39 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v660 : Index := Scalar.indexCast v9
  let c0_296 : Index := 0#32
  let c1_297 : Index := 1#32
  let c288_298 : Index := 288#32
  let c0_299 : Index := 0#32
  ![v660.toNat, 0, 1, 288, 0]
def k0_off40 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v672 : Index := Scalar.indexCast v9
  let c1_300 : Index := 1#32
  let c1_301 : Index := 1#32
  let c288_302 : Index := 288#32
  let c0_303 : Index := 0#32
  ![v672.toNat, 1, 1, 288, 0]
def k0_off41 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v693 : Index := Scalar.indexCast v9
  let c0_311 : Index := 0#32
  let c0_312 : Index := 0#32
  let c320_313 : Index := 320#32
  let c0_314 : Index := 0#32
  ![v693.toNat, 0, 0, 320, 0]
def k0_off42 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v705 : Index := Scalar.indexCast v9
  let c1_315 : Index := 1#32
  let c0_316 : Index := 0#32
  let c320_317 : Index := 320#32
  let c0_318 : Index := 0#32
  ![v705.toNat, 1, 0, 320, 0]
def k0_off43 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v726 : Index := Scalar.indexCast v9
  let c0_326 : Index := 0#32
  let c1_327 : Index := 1#32
  let c320_328 : Index := 320#32
  let c0_329 : Index := 0#32
  ![v726.toNat, 0, 1, 320, 0]
def k0_off44 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v738 : Index := Scalar.indexCast v9
  let c1_330 : Index := 1#32
  let c1_331 : Index := 1#32
  let c320_332 : Index := 320#32
  let c0_333 : Index := 0#32
  ![v738.toNat, 1, 1, 320, 0]
def k0_off45 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v759 : Index := Scalar.indexCast v9
  let c0_341 : Index := 0#32
  let c0_342 : Index := 0#32
  let c352_343 : Index := 352#32
  let c0_344 : Index := 0#32
  ![v759.toNat, 0, 0, 352, 0]
def k0_off46 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v771 : Index := Scalar.indexCast v9
  let c1_345 : Index := 1#32
  let c0_346 : Index := 0#32
  let c352_347 : Index := 352#32
  let c0_348 : Index := 0#32
  ![v771.toNat, 1, 0, 352, 0]
def k0_off47 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v792 : Index := Scalar.indexCast v9
  let c0_356 : Index := 0#32
  let c1_357 : Index := 1#32
  let c352_358 : Index := 352#32
  let c0_359 : Index := 0#32
  ![v792.toNat, 0, 1, 352, 0]
def k0_off48 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v804 : Index := Scalar.indexCast v9
  let c1_360 : Index := 1#32
  let c1_361 : Index := 1#32
  let c352_362 : Index := 352#32
  let c0_363 : Index := 0#32
  ![v804.toNat, 1, 1, 352, 0]
def k0_off49 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v825 : Index := Scalar.indexCast v9
  let c0_371 : Index := 0#32
  let c0_372 : Index := 0#32
  let c384_373 : Index := 384#32
  let c0_374 : Index := 0#32
  ![v825.toNat, 0, 0, 384, 0]
def k0_off50 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v837 : Index := Scalar.indexCast v9
  let c1_375 : Index := 1#32
  let c0_376 : Index := 0#32
  let c384_377 : Index := 384#32
  let c0_378 : Index := 0#32
  ![v837.toNat, 1, 0, 384, 0]
def k0_off51 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v858 : Index := Scalar.indexCast v9
  let c0_386 : Index := 0#32
  let c1_387 : Index := 1#32
  let c384_388 : Index := 384#32
  let c0_389 : Index := 0#32
  ![v858.toNat, 0, 1, 384, 0]
def k0_off52 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v870 : Index := Scalar.indexCast v9
  let c1_390 : Index := 1#32
  let c1_391 : Index := 1#32
  let c384_392 : Index := 384#32
  let c0_393 : Index := 0#32
  ![v870.toNat, 1, 1, 384, 0]
def k0_off53 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v891 : Index := Scalar.indexCast v9
  let c0_401 : Index := 0#32
  let c0_402 : Index := 0#32
  let c416_403 : Index := 416#32
  let c0_404 : Index := 0#32
  ![v891.toNat, 0, 0, 416, 0]
def k0_off54 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v903 : Index := Scalar.indexCast v9
  let c1_405 : Index := 1#32
  let c0_406 : Index := 0#32
  let c416_407 : Index := 416#32
  let c0_408 : Index := 0#32
  ![v903.toNat, 1, 0, 416, 0]
def k0_off55 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v924 : Index := Scalar.indexCast v9
  let c0_416 : Index := 0#32
  let c1_417 : Index := 1#32
  let c416_418 : Index := 416#32
  let c0_419 : Index := 0#32
  ![v924.toNat, 0, 1, 416, 0]
def k0_off56 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v936 : Index := Scalar.indexCast v9
  let c1_420 : Index := 1#32
  let c1_421 : Index := 1#32
  let c416_422 : Index := 416#32
  let c0_423 : Index := 0#32
  ![v936.toNat, 1, 1, 416, 0]
def k0_off57 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v957 : Index := Scalar.indexCast v9
  let c0_431 : Index := 0#32
  let c0_432 : Index := 0#32
  let c448_433 : Index := 448#32
  let c0_434 : Index := 0#32
  ![v957.toNat, 0, 0, 448, 0]
def k0_off58 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v969 : Index := Scalar.indexCast v9
  let c1_435 : Index := 1#32
  let c0_436 : Index := 0#32
  let c448_437 : Index := 448#32
  let c0_438 : Index := 0#32
  ![v969.toNat, 1, 0, 448, 0]
def k0_off59 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v990 : Index := Scalar.indexCast v9
  let c0_446 : Index := 0#32
  let c1_447 : Index := 1#32
  let c448_448 : Index := 448#32
  let c0_449 : Index := 0#32
  ![v990.toNat, 0, 1, 448, 0]
def k0_off60 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1002 : Index := Scalar.indexCast v9
  let c1_450 : Index := 1#32
  let c1_451 : Index := 1#32
  let c448_452 : Index := 448#32
  let c0_453 : Index := 0#32
  ![v1002.toNat, 1, 1, 448, 0]
def k0_off61 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1023 : Index := Scalar.indexCast v9
  let c0_461 : Index := 0#32
  let c0_462 : Index := 0#32
  let c480_463 : Index := 480#32
  let c0_464 : Index := 0#32
  ![v1023.toNat, 0, 0, 480, 0]
def k0_off62 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1035 : Index := Scalar.indexCast v9
  let c1_465 : Index := 1#32
  let c0_466 : Index := 0#32
  let c480_467 : Index := 480#32
  let c0_468 : Index := 0#32
  ![v1035.toNat, 1, 0, 480, 0]
def k0_off63 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1056 : Index := Scalar.indexCast v9
  let c0_476 : Index := 0#32
  let c1_477 : Index := 1#32
  let c480_478 : Index := 480#32
  let c0_479 : Index := 0#32
  ![v1056.toNat, 0, 1, 480, 0]
def k0_off64 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1068 : Index := Scalar.indexCast v9
  let c1_480 : Index := 1#32
  let c1_481 : Index := 1#32
  let c480_482 : Index := 480#32
  let c0_483 : Index := 0#32
  ![v1068.toNat, 1, 1, 480, 0]
def k0_off65 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1089 : Index := Scalar.indexCast v9
  let c0_491 : Index := 0#32
  let c0_492 : Index := 0#32
  let c512_493 : Index := 512#32
  let c0_494 : Index := 0#32
  ![v1089.toNat, 0, 0, 512, 0]
def k0_off66 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1101 : Index := Scalar.indexCast v9
  let c1_495 : Index := 1#32
  let c0_496 : Index := 0#32
  let c512_497 : Index := 512#32
  let c0_498 : Index := 0#32
  ![v1101.toNat, 1, 0, 512, 0]
def k0_off67 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1122 : Index := Scalar.indexCast v9
  let c0_506 : Index := 0#32
  let c1_507 : Index := 1#32
  let c512_508 : Index := 512#32
  let c0_509 : Index := 0#32
  ![v1122.toNat, 0, 1, 512, 0]
def k0_off68 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1134 : Index := Scalar.indexCast v9
  let c1_510 : Index := 1#32
  let c1_511 : Index := 1#32
  let c512_512 : Index := 512#32
  let c0_513 : Index := 0#32
  ![v1134.toNat, 1, 1, 512, 0]
def k0_off69 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1155 : Index := Scalar.indexCast v9
  let c0_521 : Index := 0#32
  let c0_522 : Index := 0#32
  let c544_523 : Index := 544#32
  let c0_524 : Index := 0#32
  ![v1155.toNat, 0, 0, 544, 0]
def k0_off70 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1167 : Index := Scalar.indexCast v9
  let c1_525 : Index := 1#32
  let c0_526 : Index := 0#32
  let c544_527 : Index := 544#32
  let c0_528 : Index := 0#32
  ![v1167.toNat, 1, 0, 544, 0]
def k0_off71 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1188 : Index := Scalar.indexCast v9
  let c0_536 : Index := 0#32
  let c1_537 : Index := 1#32
  let c544_538 : Index := 544#32
  let c0_539 : Index := 0#32
  ![v1188.toNat, 0, 1, 544, 0]
def k0_off72 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1200 : Index := Scalar.indexCast v9
  let c1_540 : Index := 1#32
  let c1_541 : Index := 1#32
  let c544_542 : Index := 544#32
  let c0_543 : Index := 0#32
  ![v1200.toNat, 1, 1, 544, 0]
def k0_off73 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1221 : Index := Scalar.indexCast v9
  let c0_551 : Index := 0#32
  let c0_552 : Index := 0#32
  let c576_553 : Index := 576#32
  let c0_554 : Index := 0#32
  ![v1221.toNat, 0, 0, 576, 0]
def k0_off74 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1233 : Index := Scalar.indexCast v9
  let c1_555 : Index := 1#32
  let c0_556 : Index := 0#32
  let c576_557 : Index := 576#32
  let c0_558 : Index := 0#32
  ![v1233.toNat, 1, 0, 576, 0]
def k0_off75 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1254 : Index := Scalar.indexCast v9
  let c0_566 : Index := 0#32
  let c1_567 : Index := 1#32
  let c576_568 : Index := 576#32
  let c0_569 : Index := 0#32
  ![v1254.toNat, 0, 1, 576, 0]
def k0_off76 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1266 : Index := Scalar.indexCast v9
  let c1_570 : Index := 1#32
  let c1_571 : Index := 1#32
  let c576_572 : Index := 576#32
  let c0_573 : Index := 0#32
  ![v1266.toNat, 1, 1, 576, 0]
def k0_off77 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1287 : Index := Scalar.indexCast v9
  let c0_581 : Index := 0#32
  let c0_582 : Index := 0#32
  let c608_583 : Index := 608#32
  let c0_584 : Index := 0#32
  ![v1287.toNat, 0, 0, 608, 0]
def k0_off78 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1299 : Index := Scalar.indexCast v9
  let c1_585 : Index := 1#32
  let c0_586 : Index := 0#32
  let c608_587 : Index := 608#32
  let c0_588 : Index := 0#32
  ![v1299.toNat, 1, 0, 608, 0]
def k0_off79 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1320 : Index := Scalar.indexCast v9
  let c0_596 : Index := 0#32
  let c1_597 : Index := 1#32
  let c608_598 : Index := 608#32
  let c0_599 : Index := 0#32
  ![v1320.toNat, 0, 1, 608, 0]
def k0_off80 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1332 : Index := Scalar.indexCast v9
  let c1_600 : Index := 1#32
  let c1_601 : Index := 1#32
  let c608_602 : Index := 608#32
  let c0_603 : Index := 0#32
  ![v1332.toNat, 1, 1, 608, 0]
def k0_off81 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1353 : Index := Scalar.indexCast v9
  let c0_611 : Index := 0#32
  let c0_612 : Index := 0#32
  let c640_613 : Index := 640#32
  let c0_614 : Index := 0#32
  ![v1353.toNat, 0, 0, 640, 0]
def k0_off82 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1365 : Index := Scalar.indexCast v9
  let c1_615 : Index := 1#32
  let c0_616 : Index := 0#32
  let c640_617 : Index := 640#32
  let c0_618 : Index := 0#32
  ![v1365.toNat, 1, 0, 640, 0]
def k0_off83 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1386 : Index := Scalar.indexCast v9
  let c0_626 : Index := 0#32
  let c1_627 : Index := 1#32
  let c640_628 : Index := 640#32
  let c0_629 : Index := 0#32
  ![v1386.toNat, 0, 1, 640, 0]
def k0_off84 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1398 : Index := Scalar.indexCast v9
  let c1_630 : Index := 1#32
  let c1_631 : Index := 1#32
  let c640_632 : Index := 640#32
  let c0_633 : Index := 0#32
  ![v1398.toNat, 1, 1, 640, 0]
def k0_cond2 (i : grid0.Coords) : BitVec 1 :=
  let arg0 : BitVec 32 := BitVec.ofNat 32 (i 0).val
  let c0_i32_634 : BitVec 32 := 0#32
  let v1402 : BitVec 1 := Scalar.cmpi .sgt arg0 c0_i32_634
  let v1403 : BitVec 32 := Scalar.extui v1402
  let c0_i32_635 : BitVec 32 := 0#32
  let v1404 : BitVec 1 := Scalar.cmpi .ne v1403 c0_i32_635
  v1404

def k0_off85 (i : grid0.Coords) : Fin 5 → Nat :=
  let c1_i32_638 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1407 : BitVec 32 := Scalar.subi c1_i32_638 v9
  let v1408 : Index := Scalar.indexCast v1407
  let c0_639 : Index := 0#32
  let c0_640 : Index := 0#32
  let c0_641 : Index := 0#32
  let c0_642 : Index := 0#32
  ![v1408.toNat, 0, 0, 0, 0]
def k0_off86 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1412 : Index := Scalar.indexCast v9
  let c0_643 : Index := 0#32
  let c0_644 : Index := 0#32
  let c0_645 : Index := 0#32
  let c0_646 : Index := 0#32
  ![v1412.toNat, 0, 0, 0, 0]
def k0_off87 (i : grid0.Coords) : Fin 5 → Nat :=
  let c1_i32_647 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1417 : BitVec 32 := Scalar.subi c1_i32_647 v9
  let v1418 : Index := Scalar.indexCast v1417
  let c0_648 : Index := 0#32
  let c1_649 : Index := 1#32
  let c0_650 : Index := 0#32
  let c0_651 : Index := 0#32
  ![v1418.toNat, 0, 1, 0, 0]
def k0_off88 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1422 : Index := Scalar.indexCast v9
  let c0_652 : Index := 0#32
  let c1_653 : Index := 1#32
  let c0_654 : Index := 0#32
  let c0_655 : Index := 0#32
  ![v1422.toNat, 0, 1, 0, 0]
def k0_off89 (i : grid0.Coords) : Fin 5 → Nat :=
  let c1_i32_665 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1440 : BitVec 32 := Scalar.subi c1_i32_665 v9
  let v1441 : Index := Scalar.indexCast v1440
  let c1_666 : Index := 1#32
  let c0_667 : Index := 0#32
  let c0_668 : Index := 0#32
  let c0_669 : Index := 0#32
  ![v1441.toNat, 1, 0, 0, 0]
def k0_off90 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1445 : Index := Scalar.indexCast v9
  let c1_670 : Index := 1#32
  let c0_671 : Index := 0#32
  let c0_672 : Index := 0#32
  let c0_673 : Index := 0#32
  ![v1445.toNat, 1, 0, 0, 0]
def k0_off91 (i : grid0.Coords) : Fin 5 → Nat :=
  let c1_i32_674 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1450 : BitVec 32 := Scalar.subi c1_i32_674 v9
  let v1451 : Index := Scalar.indexCast v1450
  let c1_675 : Index := 1#32
  let c1_676 : Index := 1#32
  let c0_677 : Index := 0#32
  let c0_678 : Index := 0#32
  ![v1451.toNat, 1, 1, 0, 0]
def k0_off92 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1455 : Index := Scalar.indexCast v9
  let c1_679 : Index := 1#32
  let c1_680 : Index := 1#32
  let c0_681 : Index := 0#32
  let c0_682 : Index := 0#32
  ![v1455.toNat, 1, 1, 0, 0]
def k0_off93 (i : grid0.Coords) : Fin 5 → Nat :=
  let c1_i32_693 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1473 : BitVec 32 := Scalar.subi c1_i32_693 v9
  let v1474 : Index := Scalar.indexCast v1473
  let c0_694 : Index := 0#32
  let c0_695 : Index := 0#32
  let c32_696 : Index := 32#32
  let c0_697 : Index := 0#32
  ![v1474.toNat, 0, 0, 32, 0]
def k0_off94 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1478 : Index := Scalar.indexCast v9
  let c0_698 : Index := 0#32
  let c0_699 : Index := 0#32
  let c32_700 : Index := 32#32
  let c0_701 : Index := 0#32
  ![v1478.toNat, 0, 0, 32, 0]
def k0_off95 (i : grid0.Coords) : Fin 5 → Nat :=
  let c1_i32_702 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1483 : BitVec 32 := Scalar.subi c1_i32_702 v9
  let v1484 : Index := Scalar.indexCast v1483
  let c0_703 : Index := 0#32
  let c1_704 : Index := 1#32
  let c32_705 : Index := 32#32
  let c0_706 : Index := 0#32
  ![v1484.toNat, 0, 1, 32, 0]
def k0_off96 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1488 : Index := Scalar.indexCast v9
  let c0_707 : Index := 0#32
  let c1_708 : Index := 1#32
  let c32_709 : Index := 32#32
  let c0_710 : Index := 0#32
  ![v1488.toNat, 0, 1, 32, 0]
def k0_off97 (i : grid0.Coords) : Fin 5 → Nat :=
  let c1_i32_721 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1506 : BitVec 32 := Scalar.subi c1_i32_721 v9
  let v1507 : Index := Scalar.indexCast v1506
  let c1_722 : Index := 1#32
  let c0_723 : Index := 0#32
  let c32_724 : Index := 32#32
  let c0_725 : Index := 0#32
  ![v1507.toNat, 1, 0, 32, 0]
def k0_off98 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1511 : Index := Scalar.indexCast v9
  let c1_726 : Index := 1#32
  let c0_727 : Index := 0#32
  let c32_728 : Index := 32#32
  let c0_729 : Index := 0#32
  ![v1511.toNat, 1, 0, 32, 0]
def k0_off99 (i : grid0.Coords) : Fin 5 → Nat :=
  let c1_i32_730 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1516 : BitVec 32 := Scalar.subi c1_i32_730 v9
  let v1517 : Index := Scalar.indexCast v1516
  let c1_731 : Index := 1#32
  let c1_732 : Index := 1#32
  let c32_733 : Index := 32#32
  let c0_734 : Index := 0#32
  ![v1517.toNat, 1, 1, 32, 0]
def k0_off100 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1521 : Index := Scalar.indexCast v9
  let c1_735 : Index := 1#32
  let c1_736 : Index := 1#32
  let c32_737 : Index := 32#32
  let c0_738 : Index := 0#32
  ![v1521.toNat, 1, 1, 32, 0]
def k0_off101 (i : grid0.Coords) : Fin 5 → Nat :=
  let c1_i32_749 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1539 : BitVec 32 := Scalar.subi c1_i32_749 v9
  let v1540 : Index := Scalar.indexCast v1539
  let c0_750 : Index := 0#32
  let c0_751 : Index := 0#32
  let c64_752 : Index := 64#32
  let c0_753 : Index := 0#32
  ![v1540.toNat, 0, 0, 64, 0]
def k0_off102 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1544 : Index := Scalar.indexCast v9
  let c0_754 : Index := 0#32
  let c0_755 : Index := 0#32
  let c64_756 : Index := 64#32
  let c0_757 : Index := 0#32
  ![v1544.toNat, 0, 0, 64, 0]
def k0_off103 (i : grid0.Coords) : Fin 5 → Nat :=
  let c1_i32_758 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1549 : BitVec 32 := Scalar.subi c1_i32_758 v9
  let v1550 : Index := Scalar.indexCast v1549
  let c0_759 : Index := 0#32
  let c1_760 : Index := 1#32
  let c64_761 : Index := 64#32
  let c0_762 : Index := 0#32
  ![v1550.toNat, 0, 1, 64, 0]
def k0_off104 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1554 : Index := Scalar.indexCast v9
  let c0_763 : Index := 0#32
  let c1_764 : Index := 1#32
  let c64_765 : Index := 64#32
  let c0_766 : Index := 0#32
  ![v1554.toNat, 0, 1, 64, 0]
def k0_off105 (i : grid0.Coords) : Fin 5 → Nat :=
  let c1_i32_776 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1572 : BitVec 32 := Scalar.subi c1_i32_776 v9
  let v1573 : Index := Scalar.indexCast v1572
  let c1_777 : Index := 1#32
  let c0_778 : Index := 0#32
  let c64_779 : Index := 64#32
  let c0_780 : Index := 0#32
  ![v1573.toNat, 1, 0, 64, 0]
def k0_off106 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1577 : Index := Scalar.indexCast v9
  let c1_781 : Index := 1#32
  let c0_782 : Index := 0#32
  let c64_783 : Index := 64#32
  let c0_784 : Index := 0#32
  ![v1577.toNat, 1, 0, 64, 0]
def k0_off107 (i : grid0.Coords) : Fin 5 → Nat :=
  let c1_i32_785 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1582 : BitVec 32 := Scalar.subi c1_i32_785 v9
  let v1583 : Index := Scalar.indexCast v1582
  let c1_786 : Index := 1#32
  let c1_787 : Index := 1#32
  let c64_788 : Index := 64#32
  let c0_789 : Index := 0#32
  ![v1583.toNat, 1, 1, 64, 0]
def k0_off108 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1587 : Index := Scalar.indexCast v9
  let c1_790 : Index := 1#32
  let c1_791 : Index := 1#32
  let c64_792 : Index := 64#32
  let c0_793 : Index := 0#32
  ![v1587.toNat, 1, 1, 64, 0]
def k0_off109 (i : grid0.Coords) : Fin 5 → Nat :=
  let c1_i32_804 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1605 : BitVec 32 := Scalar.subi c1_i32_804 v9
  let v1606 : Index := Scalar.indexCast v1605
  let c0_805 : Index := 0#32
  let c0_806 : Index := 0#32
  let c96_807 : Index := 96#32
  let c0_808 : Index := 0#32
  ![v1606.toNat, 0, 0, 96, 0]
def k0_off110 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1610 : Index := Scalar.indexCast v9
  let c0_809 : Index := 0#32
  let c0_810 : Index := 0#32
  let c96_811 : Index := 96#32
  let c0_812 : Index := 0#32
  ![v1610.toNat, 0, 0, 96, 0]
def k0_off111 (i : grid0.Coords) : Fin 5 → Nat :=
  let c1_i32_813 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1615 : BitVec 32 := Scalar.subi c1_i32_813 v9
  let v1616 : Index := Scalar.indexCast v1615
  let c0_814 : Index := 0#32
  let c1_815 : Index := 1#32
  let c96_816 : Index := 96#32
  let c0_817 : Index := 0#32
  ![v1616.toNat, 0, 1, 96, 0]
def k0_off112 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1620 : Index := Scalar.indexCast v9
  let c0_818 : Index := 0#32
  let c1_819 : Index := 1#32
  let c96_820 : Index := 96#32
  let c0_821 : Index := 0#32
  ![v1620.toNat, 0, 1, 96, 0]
def k0_off113 (i : grid0.Coords) : Fin 5 → Nat :=
  let c1_i32_831 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1638 : BitVec 32 := Scalar.subi c1_i32_831 v9
  let v1639 : Index := Scalar.indexCast v1638
  let c1_832 : Index := 1#32
  let c0_833 : Index := 0#32
  let c96_834 : Index := 96#32
  let c0_835 : Index := 0#32
  ![v1639.toNat, 1, 0, 96, 0]
def k0_off114 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1643 : Index := Scalar.indexCast v9
  let c1_836 : Index := 1#32
  let c0_837 : Index := 0#32
  let c96_838 : Index := 96#32
  let c0_839 : Index := 0#32
  ![v1643.toNat, 1, 0, 96, 0]
def k0_off115 (i : grid0.Coords) : Fin 5 → Nat :=
  let c1_i32_840 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1648 : BitVec 32 := Scalar.subi c1_i32_840 v9
  let v1649 : Index := Scalar.indexCast v1648
  let c1_841 : Index := 1#32
  let c1_842 : Index := 1#32
  let c96_843 : Index := 96#32
  let c0_844 : Index := 0#32
  ![v1649.toNat, 1, 1, 96, 0]
def k0_off116 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1653 : Index := Scalar.indexCast v9
  let c1_845 : Index := 1#32
  let c1_846 : Index := 1#32
  let c96_847 : Index := 96#32
  let c0_848 : Index := 0#32
  ![v1653.toNat, 1, 1, 96, 0]
def k0_off117 (i : grid0.Coords) : Fin 5 → Nat :=
  let c1_i32_859 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1671 : BitVec 32 := Scalar.subi c1_i32_859 v9
  let v1672 : Index := Scalar.indexCast v1671
  let c0_860 : Index := 0#32
  let c0_861 : Index := 0#32
  let c128_862 : Index := 128#32
  let c0_863 : Index := 0#32
  ![v1672.toNat, 0, 0, 128, 0]
def k0_off118 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1676 : Index := Scalar.indexCast v9
  let c0_864 : Index := 0#32
  let c0_865 : Index := 0#32
  let c128_866 : Index := 128#32
  let c0_867 : Index := 0#32
  ![v1676.toNat, 0, 0, 128, 0]
def k0_off119 (i : grid0.Coords) : Fin 5 → Nat :=
  let c1_i32_868 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1681 : BitVec 32 := Scalar.subi c1_i32_868 v9
  let v1682 : Index := Scalar.indexCast v1681
  let c0_869 : Index := 0#32
  let c1_870 : Index := 1#32
  let c128_871 : Index := 128#32
  let c0_872 : Index := 0#32
  ![v1682.toNat, 0, 1, 128, 0]
def k0_off120 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1686 : Index := Scalar.indexCast v9
  let c0_873 : Index := 0#32
  let c1_874 : Index := 1#32
  let c128_875 : Index := 128#32
  let c0_876 : Index := 0#32
  ![v1686.toNat, 0, 1, 128, 0]
def k0_off121 (i : grid0.Coords) : Fin 5 → Nat :=
  let c1_i32_886 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1704 : BitVec 32 := Scalar.subi c1_i32_886 v9
  let v1705 : Index := Scalar.indexCast v1704
  let c1_887 : Index := 1#32
  let c0_888 : Index := 0#32
  let c128_889 : Index := 128#32
  let c0_890 : Index := 0#32
  ![v1705.toNat, 1, 0, 128, 0]
def k0_off122 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1709 : Index := Scalar.indexCast v9
  let c1_891 : Index := 1#32
  let c0_892 : Index := 0#32
  let c128_893 : Index := 128#32
  let c0_894 : Index := 0#32
  ![v1709.toNat, 1, 0, 128, 0]
def k0_off123 (i : grid0.Coords) : Fin 5 → Nat :=
  let c1_i32_895 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1714 : BitVec 32 := Scalar.subi c1_i32_895 v9
  let v1715 : Index := Scalar.indexCast v1714
  let c1_896 : Index := 1#32
  let c1_897 : Index := 1#32
  let c128_898 : Index := 128#32
  let c0_899 : Index := 0#32
  ![v1715.toNat, 1, 1, 128, 0]
def k0_off124 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1719 : Index := Scalar.indexCast v9
  let c1_900 : Index := 1#32
  let c1_901 : Index := 1#32
  let c128_902 : Index := 128#32
  let c0_903 : Index := 0#32
  ![v1719.toNat, 1, 1, 128, 0]
def k0_off125 (i : grid0.Coords) : Fin 5 → Nat :=
  let c1_i32_914 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1737 : BitVec 32 := Scalar.subi c1_i32_914 v9
  let v1738 : Index := Scalar.indexCast v1737
  let c0_915 : Index := 0#32
  let c0_916 : Index := 0#32
  let c160_917 : Index := 160#32
  let c0_918 : Index := 0#32
  ![v1738.toNat, 0, 0, 160, 0]
def k0_off126 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1742 : Index := Scalar.indexCast v9
  let c0_919 : Index := 0#32
  let c0_920 : Index := 0#32
  let c160_921 : Index := 160#32
  let c0_922 : Index := 0#32
  ![v1742.toNat, 0, 0, 160, 0]
def k0_off127 (i : grid0.Coords) : Fin 5 → Nat :=
  let c1_i32_923 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1747 : BitVec 32 := Scalar.subi c1_i32_923 v9
  let v1748 : Index := Scalar.indexCast v1747
  let c0_924 : Index := 0#32
  let c1_925 : Index := 1#32
  let c160_926 : Index := 160#32
  let c0_927 : Index := 0#32
  ![v1748.toNat, 0, 1, 160, 0]
def k0_off128 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1752 : Index := Scalar.indexCast v9
  let c0_928 : Index := 0#32
  let c1_929 : Index := 1#32
  let c160_930 : Index := 160#32
  let c0_931 : Index := 0#32
  ![v1752.toNat, 0, 1, 160, 0]
def k0_off129 (i : grid0.Coords) : Fin 5 → Nat :=
  let c1_i32_941 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1770 : BitVec 32 := Scalar.subi c1_i32_941 v9
  let v1771 : Index := Scalar.indexCast v1770
  let c1_942 : Index := 1#32
  let c0_943 : Index := 0#32
  let c160_944 : Index := 160#32
  let c0_945 : Index := 0#32
  ![v1771.toNat, 1, 0, 160, 0]
def k0_off130 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1775 : Index := Scalar.indexCast v9
  let c1_946 : Index := 1#32
  let c0_947 : Index := 0#32
  let c160_948 : Index := 160#32
  let c0_949 : Index := 0#32
  ![v1775.toNat, 1, 0, 160, 0]
def k0_off131 (i : grid0.Coords) : Fin 5 → Nat :=
  let c1_i32_950 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1780 : BitVec 32 := Scalar.subi c1_i32_950 v9
  let v1781 : Index := Scalar.indexCast v1780
  let c1_951 : Index := 1#32
  let c1_952 : Index := 1#32
  let c160_953 : Index := 160#32
  let c0_954 : Index := 0#32
  ![v1781.toNat, 1, 1, 160, 0]
def k0_off132 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1785 : Index := Scalar.indexCast v9
  let c1_955 : Index := 1#32
  let c1_956 : Index := 1#32
  let c160_957 : Index := 160#32
  let c0_958 : Index := 0#32
  ![v1785.toNat, 1, 1, 160, 0]
def k0_off133 (i : grid0.Coords) : Fin 5 → Nat :=
  let c1_i32_969 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1803 : BitVec 32 := Scalar.subi c1_i32_969 v9
  let v1804 : Index := Scalar.indexCast v1803
  let c0_970 : Index := 0#32
  let c0_971 : Index := 0#32
  let c192_972 : Index := 192#32
  let c0_973 : Index := 0#32
  ![v1804.toNat, 0, 0, 192, 0]
def k0_off134 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1808 : Index := Scalar.indexCast v9
  let c0_974 : Index := 0#32
  let c0_975 : Index := 0#32
  let c192_976 : Index := 192#32
  let c0_977 : Index := 0#32
  ![v1808.toNat, 0, 0, 192, 0]
def k0_off135 (i : grid0.Coords) : Fin 5 → Nat :=
  let c1_i32_978 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1813 : BitVec 32 := Scalar.subi c1_i32_978 v9
  let v1814 : Index := Scalar.indexCast v1813
  let c0_979 : Index := 0#32
  let c1_980 : Index := 1#32
  let c192_981 : Index := 192#32
  let c0_982 : Index := 0#32
  ![v1814.toNat, 0, 1, 192, 0]
def k0_off136 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1818 : Index := Scalar.indexCast v9
  let c0_983 : Index := 0#32
  let c1_984 : Index := 1#32
  let c192_985 : Index := 192#32
  let c0_986 : Index := 0#32
  ![v1818.toNat, 0, 1, 192, 0]
def k0_off137 (i : grid0.Coords) : Fin 5 → Nat :=
  let c1_i32_996 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1836 : BitVec 32 := Scalar.subi c1_i32_996 v9
  let v1837 : Index := Scalar.indexCast v1836
  let c1_997 : Index := 1#32
  let c0_998 : Index := 0#32
  let c192_999 : Index := 192#32
  let c0_1000 : Index := 0#32
  ![v1837.toNat, 1, 0, 192, 0]
def k0_off138 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1841 : Index := Scalar.indexCast v9
  let c1_1001 : Index := 1#32
  let c0_1002 : Index := 0#32
  let c192_1003 : Index := 192#32
  let c0_1004 : Index := 0#32
  ![v1841.toNat, 1, 0, 192, 0]
def k0_off139 (i : grid0.Coords) : Fin 5 → Nat :=
  let c1_i32_1005 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1846 : BitVec 32 := Scalar.subi c1_i32_1005 v9
  let v1847 : Index := Scalar.indexCast v1846
  let c1_1006 : Index := 1#32
  let c1_1007 : Index := 1#32
  let c192_1008 : Index := 192#32
  let c0_1009 : Index := 0#32
  ![v1847.toNat, 1, 1, 192, 0]
def k0_off140 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1851 : Index := Scalar.indexCast v9
  let c1_1010 : Index := 1#32
  let c1_1011 : Index := 1#32
  let c192_1012 : Index := 192#32
  let c0_1013 : Index := 0#32
  ![v1851.toNat, 1, 1, 192, 0]
def k0_off141 (i : grid0.Coords) : Fin 5 → Nat :=
  let c1_i32_1024 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1869 : BitVec 32 := Scalar.subi c1_i32_1024 v9
  let v1870 : Index := Scalar.indexCast v1869
  let c0_1025 : Index := 0#32
  let c0_1026 : Index := 0#32
  let c224_1027 : Index := 224#32
  let c0_1028 : Index := 0#32
  ![v1870.toNat, 0, 0, 224, 0]
def k0_off142 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1874 : Index := Scalar.indexCast v9
  let c0_1029 : Index := 0#32
  let c0_1030 : Index := 0#32
  let c224_1031 : Index := 224#32
  let c0_1032 : Index := 0#32
  ![v1874.toNat, 0, 0, 224, 0]
def k0_off143 (i : grid0.Coords) : Fin 5 → Nat :=
  let c1_i32_1033 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1879 : BitVec 32 := Scalar.subi c1_i32_1033 v9
  let v1880 : Index := Scalar.indexCast v1879
  let c0_1034 : Index := 0#32
  let c1_1035 : Index := 1#32
  let c224_1036 : Index := 224#32
  let c0_1037 : Index := 0#32
  ![v1880.toNat, 0, 1, 224, 0]
def k0_off144 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1884 : Index := Scalar.indexCast v9
  let c0_1038 : Index := 0#32
  let c1_1039 : Index := 1#32
  let c224_1040 : Index := 224#32
  let c0_1041 : Index := 0#32
  ![v1884.toNat, 0, 1, 224, 0]
def k0_off145 (i : grid0.Coords) : Fin 5 → Nat :=
  let c1_i32_1051 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1902 : BitVec 32 := Scalar.subi c1_i32_1051 v9
  let v1903 : Index := Scalar.indexCast v1902
  let c1_1052 : Index := 1#32
  let c0_1053 : Index := 0#32
  let c224_1054 : Index := 224#32
  let c0_1055 : Index := 0#32
  ![v1903.toNat, 1, 0, 224, 0]
def k0_off146 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1907 : Index := Scalar.indexCast v9
  let c1_1056 : Index := 1#32
  let c0_1057 : Index := 0#32
  let c224_1058 : Index := 224#32
  let c0_1059 : Index := 0#32
  ![v1907.toNat, 1, 0, 224, 0]
def k0_off147 (i : grid0.Coords) : Fin 5 → Nat :=
  let c1_i32_1060 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1912 : BitVec 32 := Scalar.subi c1_i32_1060 v9
  let v1913 : Index := Scalar.indexCast v1912
  let c1_1061 : Index := 1#32
  let c1_1062 : Index := 1#32
  let c224_1063 : Index := 224#32
  let c0_1064 : Index := 0#32
  ![v1913.toNat, 1, 1, 224, 0]
def k0_off148 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1917 : Index := Scalar.indexCast v9
  let c1_1065 : Index := 1#32
  let c1_1066 : Index := 1#32
  let c224_1067 : Index := 224#32
  let c0_1068 : Index := 0#32
  ![v1917.toNat, 1, 1, 224, 0]
def k0_off149 (i : grid0.Coords) : Fin 5 → Nat :=
  let c1_i32_1079 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1935 : BitVec 32 := Scalar.subi c1_i32_1079 v9
  let v1936 : Index := Scalar.indexCast v1935
  let c0_1080 : Index := 0#32
  let c0_1081 : Index := 0#32
  let c256_1082 : Index := 256#32
  let c0_1083 : Index := 0#32
  ![v1936.toNat, 0, 0, 256, 0]
def k0_off150 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1940 : Index := Scalar.indexCast v9
  let c0_1084 : Index := 0#32
  let c0_1085 : Index := 0#32
  let c256_1086 : Index := 256#32
  let c0_1087 : Index := 0#32
  ![v1940.toNat, 0, 0, 256, 0]
def k0_off151 (i : grid0.Coords) : Fin 5 → Nat :=
  let c1_i32_1088 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1945 : BitVec 32 := Scalar.subi c1_i32_1088 v9
  let v1946 : Index := Scalar.indexCast v1945
  let c0_1089 : Index := 0#32
  let c1_1090 : Index := 1#32
  let c256_1091 : Index := 256#32
  let c0_1092 : Index := 0#32
  ![v1946.toNat, 0, 1, 256, 0]
def k0_off152 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1950 : Index := Scalar.indexCast v9
  let c0_1093 : Index := 0#32
  let c1_1094 : Index := 1#32
  let c256_1095 : Index := 256#32
  let c0_1096 : Index := 0#32
  ![v1950.toNat, 0, 1, 256, 0]
def k0_off153 (i : grid0.Coords) : Fin 5 → Nat :=
  let c1_i32_1107 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1968 : BitVec 32 := Scalar.subi c1_i32_1107 v9
  let v1969 : Index := Scalar.indexCast v1968
  let c1_1108 : Index := 1#32
  let c0_1109 : Index := 0#32
  let c256_1110 : Index := 256#32
  let c0_1111 : Index := 0#32
  ![v1969.toNat, 1, 0, 256, 0]
def k0_off154 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1973 : Index := Scalar.indexCast v9
  let c1_1112 : Index := 1#32
  let c0_1113 : Index := 0#32
  let c256_1114 : Index := 256#32
  let c0_1115 : Index := 0#32
  ![v1973.toNat, 1, 0, 256, 0]
def k0_off155 (i : grid0.Coords) : Fin 5 → Nat :=
  let c1_i32_1116 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1978 : BitVec 32 := Scalar.subi c1_i32_1116 v9
  let v1979 : Index := Scalar.indexCast v1978
  let c1_1117 : Index := 1#32
  let c1_1118 : Index := 1#32
  let c256_1119 : Index := 256#32
  let c0_1120 : Index := 0#32
  ![v1979.toNat, 1, 1, 256, 0]
def k0_off156 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1983 : Index := Scalar.indexCast v9
  let c1_1121 : Index := 1#32
  let c1_1122 : Index := 1#32
  let c256_1123 : Index := 256#32
  let c0_1124 : Index := 0#32
  ![v1983.toNat, 1, 1, 256, 0]
def k0_off157 (i : grid0.Coords) : Fin 5 → Nat :=
  let c1_i32_1135 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2001 : BitVec 32 := Scalar.subi c1_i32_1135 v9
  let v2002 : Index := Scalar.indexCast v2001
  let c0_1136 : Index := 0#32
  let c0_1137 : Index := 0#32
  let c288_1138 : Index := 288#32
  let c0_1139 : Index := 0#32
  ![v2002.toNat, 0, 0, 288, 0]
def k0_off158 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2006 : Index := Scalar.indexCast v9
  let c0_1140 : Index := 0#32
  let c0_1141 : Index := 0#32
  let c288_1142 : Index := 288#32
  let c0_1143 : Index := 0#32
  ![v2006.toNat, 0, 0, 288, 0]
def k0_off159 (i : grid0.Coords) : Fin 5 → Nat :=
  let c1_i32_1144 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2011 : BitVec 32 := Scalar.subi c1_i32_1144 v9
  let v2012 : Index := Scalar.indexCast v2011
  let c0_1145 : Index := 0#32
  let c1_1146 : Index := 1#32
  let c288_1147 : Index := 288#32
  let c0_1148 : Index := 0#32
  ![v2012.toNat, 0, 1, 288, 0]
def k0_off160 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2016 : Index := Scalar.indexCast v9
  let c0_1149 : Index := 0#32
  let c1_1150 : Index := 1#32
  let c288_1151 : Index := 288#32
  let c0_1152 : Index := 0#32
  ![v2016.toNat, 0, 1, 288, 0]
def k0_off161 (i : grid0.Coords) : Fin 5 → Nat :=
  let c1_i32_1162 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2034 : BitVec 32 := Scalar.subi c1_i32_1162 v9
  let v2035 : Index := Scalar.indexCast v2034
  let c1_1163 : Index := 1#32
  let c0_1164 : Index := 0#32
  let c288_1165 : Index := 288#32
  let c0_1166 : Index := 0#32
  ![v2035.toNat, 1, 0, 288, 0]
def k0_off162 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2039 : Index := Scalar.indexCast v9
  let c1_1167 : Index := 1#32
  let c0_1168 : Index := 0#32
  let c288_1169 : Index := 288#32
  let c0_1170 : Index := 0#32
  ![v2039.toNat, 1, 0, 288, 0]
def k0_off163 (i : grid0.Coords) : Fin 5 → Nat :=
  let c1_i32_1171 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2044 : BitVec 32 := Scalar.subi c1_i32_1171 v9
  let v2045 : Index := Scalar.indexCast v2044
  let c1_1172 : Index := 1#32
  let c1_1173 : Index := 1#32
  let c288_1174 : Index := 288#32
  let c0_1175 : Index := 0#32
  ![v2045.toNat, 1, 1, 288, 0]
def k0_off164 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2049 : Index := Scalar.indexCast v9
  let c1_1176 : Index := 1#32
  let c1_1177 : Index := 1#32
  let c288_1178 : Index := 288#32
  let c0_1179 : Index := 0#32
  ![v2049.toNat, 1, 1, 288, 0]
def k0_off165 (i : grid0.Coords) : Fin 5 → Nat :=
  let c1_i32_1190 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2067 : BitVec 32 := Scalar.subi c1_i32_1190 v9
  let v2068 : Index := Scalar.indexCast v2067
  let c0_1191 : Index := 0#32
  let c0_1192 : Index := 0#32
  let c320_1193 : Index := 320#32
  let c0_1194 : Index := 0#32
  ![v2068.toNat, 0, 0, 320, 0]
def k0_off166 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2072 : Index := Scalar.indexCast v9
  let c0_1195 : Index := 0#32
  let c0_1196 : Index := 0#32
  let c320_1197 : Index := 320#32
  let c0_1198 : Index := 0#32
  ![v2072.toNat, 0, 0, 320, 0]
def k0_off167 (i : grid0.Coords) : Fin 5 → Nat :=
  let c1_i32_1199 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2077 : BitVec 32 := Scalar.subi c1_i32_1199 v9
  let v2078 : Index := Scalar.indexCast v2077
  let c0_1200 : Index := 0#32
  let c1_1201 : Index := 1#32
  let c320_1202 : Index := 320#32
  let c0_1203 : Index := 0#32
  ![v2078.toNat, 0, 1, 320, 0]
def k0_off168 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2082 : Index := Scalar.indexCast v9
  let c0_1204 : Index := 0#32
  let c1_1205 : Index := 1#32
  let c320_1206 : Index := 320#32
  let c0_1207 : Index := 0#32
  ![v2082.toNat, 0, 1, 320, 0]
def k0_off169 (i : grid0.Coords) : Fin 5 → Nat :=
  let c1_i32_1217 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2100 : BitVec 32 := Scalar.subi c1_i32_1217 v9
  let v2101 : Index := Scalar.indexCast v2100
  let c1_1218 : Index := 1#32
  let c0_1219 : Index := 0#32
  let c320_1220 : Index := 320#32
  let c0_1221 : Index := 0#32
  ![v2101.toNat, 1, 0, 320, 0]
def k0_off170 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2105 : Index := Scalar.indexCast v9
  let c1_1222 : Index := 1#32
  let c0_1223 : Index := 0#32
  let c320_1224 : Index := 320#32
  let c0_1225 : Index := 0#32
  ![v2105.toNat, 1, 0, 320, 0]
def k0_off171 (i : grid0.Coords) : Fin 5 → Nat :=
  let c1_i32_1226 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2110 : BitVec 32 := Scalar.subi c1_i32_1226 v9
  let v2111 : Index := Scalar.indexCast v2110
  let c1_1227 : Index := 1#32
  let c1_1228 : Index := 1#32
  let c320_1229 : Index := 320#32
  let c0_1230 : Index := 0#32
  ![v2111.toNat, 1, 1, 320, 0]
def k0_off172 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2115 : Index := Scalar.indexCast v9
  let c1_1231 : Index := 1#32
  let c1_1232 : Index := 1#32
  let c320_1233 : Index := 320#32
  let c0_1234 : Index := 0#32
  ![v2115.toNat, 1, 1, 320, 0]
def k0_off173 (i : grid0.Coords) : Fin 5 → Nat :=
  let c1_i32_1245 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2133 : BitVec 32 := Scalar.subi c1_i32_1245 v9
  let v2134 : Index := Scalar.indexCast v2133
  let c0_1246 : Index := 0#32
  let c0_1247 : Index := 0#32
  let c352_1248 : Index := 352#32
  let c0_1249 : Index := 0#32
  ![v2134.toNat, 0, 0, 352, 0]
def k0_off174 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2138 : Index := Scalar.indexCast v9
  let c0_1250 : Index := 0#32
  let c0_1251 : Index := 0#32
  let c352_1252 : Index := 352#32
  let c0_1253 : Index := 0#32
  ![v2138.toNat, 0, 0, 352, 0]
def k0_off175 (i : grid0.Coords) : Fin 5 → Nat :=
  let c1_i32_1254 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2143 : BitVec 32 := Scalar.subi c1_i32_1254 v9
  let v2144 : Index := Scalar.indexCast v2143
  let c0_1255 : Index := 0#32
  let c1_1256 : Index := 1#32
  let c352_1257 : Index := 352#32
  let c0_1258 : Index := 0#32
  ![v2144.toNat, 0, 1, 352, 0]
def k0_off176 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2148 : Index := Scalar.indexCast v9
  let c0_1259 : Index := 0#32
  let c1_1260 : Index := 1#32
  let c352_1261 : Index := 352#32
  let c0_1262 : Index := 0#32
  ![v2148.toNat, 0, 1, 352, 0]
def k0_off177 (i : grid0.Coords) : Fin 5 → Nat :=
  let c1_i32_1272 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2166 : BitVec 32 := Scalar.subi c1_i32_1272 v9
  let v2167 : Index := Scalar.indexCast v2166
  let c1_1273 : Index := 1#32
  let c0_1274 : Index := 0#32
  let c352_1275 : Index := 352#32
  let c0_1276 : Index := 0#32
  ![v2167.toNat, 1, 0, 352, 0]
def k0_off178 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2171 : Index := Scalar.indexCast v9
  let c1_1277 : Index := 1#32
  let c0_1278 : Index := 0#32
  let c352_1279 : Index := 352#32
  let c0_1280 : Index := 0#32
  ![v2171.toNat, 1, 0, 352, 0]
def k0_off179 (i : grid0.Coords) : Fin 5 → Nat :=
  let c1_i32_1281 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2176 : BitVec 32 := Scalar.subi c1_i32_1281 v9
  let v2177 : Index := Scalar.indexCast v2176
  let c1_1282 : Index := 1#32
  let c1_1283 : Index := 1#32
  let c352_1284 : Index := 352#32
  let c0_1285 : Index := 0#32
  ![v2177.toNat, 1, 1, 352, 0]
def k0_off180 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2181 : Index := Scalar.indexCast v9
  let c1_1286 : Index := 1#32
  let c1_1287 : Index := 1#32
  let c352_1288 : Index := 352#32
  let c0_1289 : Index := 0#32
  ![v2181.toNat, 1, 1, 352, 0]
def k0_off181 (i : grid0.Coords) : Fin 5 → Nat :=
  let c1_i32_1300 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2199 : BitVec 32 := Scalar.subi c1_i32_1300 v9
  let v2200 : Index := Scalar.indexCast v2199
  let c0_1301 : Index := 0#32
  let c0_1302 : Index := 0#32
  let c384_1303 : Index := 384#32
  let c0_1304 : Index := 0#32
  ![v2200.toNat, 0, 0, 384, 0]
def k0_off182 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2204 : Index := Scalar.indexCast v9
  let c0_1305 : Index := 0#32
  let c0_1306 : Index := 0#32
  let c384_1307 : Index := 384#32
  let c0_1308 : Index := 0#32
  ![v2204.toNat, 0, 0, 384, 0]
def k0_off183 (i : grid0.Coords) : Fin 5 → Nat :=
  let c1_i32_1309 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2209 : BitVec 32 := Scalar.subi c1_i32_1309 v9
  let v2210 : Index := Scalar.indexCast v2209
  let c0_1310 : Index := 0#32
  let c1_1311 : Index := 1#32
  let c384_1312 : Index := 384#32
  let c0_1313 : Index := 0#32
  ![v2210.toNat, 0, 1, 384, 0]
def k0_off184 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2214 : Index := Scalar.indexCast v9
  let c0_1314 : Index := 0#32
  let c1_1315 : Index := 1#32
  let c384_1316 : Index := 384#32
  let c0_1317 : Index := 0#32
  ![v2214.toNat, 0, 1, 384, 0]
def k0_off185 (i : grid0.Coords) : Fin 5 → Nat :=
  let c1_i32_1327 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2232 : BitVec 32 := Scalar.subi c1_i32_1327 v9
  let v2233 : Index := Scalar.indexCast v2232
  let c1_1328 : Index := 1#32
  let c0_1329 : Index := 0#32
  let c384_1330 : Index := 384#32
  let c0_1331 : Index := 0#32
  ![v2233.toNat, 1, 0, 384, 0]
def k0_off186 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2237 : Index := Scalar.indexCast v9
  let c1_1332 : Index := 1#32
  let c0_1333 : Index := 0#32
  let c384_1334 : Index := 384#32
  let c0_1335 : Index := 0#32
  ![v2237.toNat, 1, 0, 384, 0]
def k0_off187 (i : grid0.Coords) : Fin 5 → Nat :=
  let c1_i32_1336 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2242 : BitVec 32 := Scalar.subi c1_i32_1336 v9
  let v2243 : Index := Scalar.indexCast v2242
  let c1_1337 : Index := 1#32
  let c1_1338 : Index := 1#32
  let c384_1339 : Index := 384#32
  let c0_1340 : Index := 0#32
  ![v2243.toNat, 1, 1, 384, 0]
def k0_off188 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2247 : Index := Scalar.indexCast v9
  let c1_1341 : Index := 1#32
  let c1_1342 : Index := 1#32
  let c384_1343 : Index := 384#32
  let c0_1344 : Index := 0#32
  ![v2247.toNat, 1, 1, 384, 0]
def k0_off189 (i : grid0.Coords) : Fin 5 → Nat :=
  let c1_i32_1355 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2265 : BitVec 32 := Scalar.subi c1_i32_1355 v9
  let v2266 : Index := Scalar.indexCast v2265
  let c0_1356 : Index := 0#32
  let c0_1357 : Index := 0#32
  let c416_1358 : Index := 416#32
  let c0_1359 : Index := 0#32
  ![v2266.toNat, 0, 0, 416, 0]
def k0_off190 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2270 : Index := Scalar.indexCast v9
  let c0_1360 : Index := 0#32
  let c0_1361 : Index := 0#32
  let c416_1362 : Index := 416#32
  let c0_1363 : Index := 0#32
  ![v2270.toNat, 0, 0, 416, 0]
def k0_off191 (i : grid0.Coords) : Fin 5 → Nat :=
  let c1_i32_1364 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2275 : BitVec 32 := Scalar.subi c1_i32_1364 v9
  let v2276 : Index := Scalar.indexCast v2275
  let c0_1365 : Index := 0#32
  let c1_1366 : Index := 1#32
  let c416_1367 : Index := 416#32
  let c0_1368 : Index := 0#32
  ![v2276.toNat, 0, 1, 416, 0]
def k0_off192 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2280 : Index := Scalar.indexCast v9
  let c0_1369 : Index := 0#32
  let c1_1370 : Index := 1#32
  let c416_1371 : Index := 416#32
  let c0_1372 : Index := 0#32
  ![v2280.toNat, 0, 1, 416, 0]
def k0_off193 (i : grid0.Coords) : Fin 5 → Nat :=
  let c1_i32_1382 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2298 : BitVec 32 := Scalar.subi c1_i32_1382 v9
  let v2299 : Index := Scalar.indexCast v2298
  let c1_1383 : Index := 1#32
  let c0_1384 : Index := 0#32
  let c416_1385 : Index := 416#32
  let c0_1386 : Index := 0#32
  ![v2299.toNat, 1, 0, 416, 0]
def k0_off194 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2303 : Index := Scalar.indexCast v9
  let c1_1387 : Index := 1#32
  let c0_1388 : Index := 0#32
  let c416_1389 : Index := 416#32
  let c0_1390 : Index := 0#32
  ![v2303.toNat, 1, 0, 416, 0]
def k0_off195 (i : grid0.Coords) : Fin 5 → Nat :=
  let c1_i32_1391 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2308 : BitVec 32 := Scalar.subi c1_i32_1391 v9
  let v2309 : Index := Scalar.indexCast v2308
  let c1_1392 : Index := 1#32
  let c1_1393 : Index := 1#32
  let c416_1394 : Index := 416#32
  let c0_1395 : Index := 0#32
  ![v2309.toNat, 1, 1, 416, 0]
def k0_off196 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2313 : Index := Scalar.indexCast v9
  let c1_1396 : Index := 1#32
  let c1_1397 : Index := 1#32
  let c416_1398 : Index := 416#32
  let c0_1399 : Index := 0#32
  ![v2313.toNat, 1, 1, 416, 0]
def k0_off197 (i : grid0.Coords) : Fin 5 → Nat :=
  let c1_i32_1410 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2331 : BitVec 32 := Scalar.subi c1_i32_1410 v9
  let v2332 : Index := Scalar.indexCast v2331
  let c0_1411 : Index := 0#32
  let c0_1412 : Index := 0#32
  let c448_1413 : Index := 448#32
  let c0_1414 : Index := 0#32
  ![v2332.toNat, 0, 0, 448, 0]
def k0_off198 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2336 : Index := Scalar.indexCast v9
  let c0_1415 : Index := 0#32
  let c0_1416 : Index := 0#32
  let c448_1417 : Index := 448#32
  let c0_1418 : Index := 0#32
  ![v2336.toNat, 0, 0, 448, 0]
def k0_off199 (i : grid0.Coords) : Fin 5 → Nat :=
  let c1_i32_1419 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2341 : BitVec 32 := Scalar.subi c1_i32_1419 v9
  let v2342 : Index := Scalar.indexCast v2341
  let c0_1420 : Index := 0#32
  let c1_1421 : Index := 1#32
  let c448_1422 : Index := 448#32
  let c0_1423 : Index := 0#32
  ![v2342.toNat, 0, 1, 448, 0]
def k0_off200 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2346 : Index := Scalar.indexCast v9
  let c0_1424 : Index := 0#32
  let c1_1425 : Index := 1#32
  let c448_1426 : Index := 448#32
  let c0_1427 : Index := 0#32
  ![v2346.toNat, 0, 1, 448, 0]
def k0_off201 (i : grid0.Coords) : Fin 5 → Nat :=
  let c1_i32_1437 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2364 : BitVec 32 := Scalar.subi c1_i32_1437 v9
  let v2365 : Index := Scalar.indexCast v2364
  let c1_1438 : Index := 1#32
  let c0_1439 : Index := 0#32
  let c448_1440 : Index := 448#32
  let c0_1441 : Index := 0#32
  ![v2365.toNat, 1, 0, 448, 0]
def k0_off202 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2369 : Index := Scalar.indexCast v9
  let c1_1442 : Index := 1#32
  let c0_1443 : Index := 0#32
  let c448_1444 : Index := 448#32
  let c0_1445 : Index := 0#32
  ![v2369.toNat, 1, 0, 448, 0]
def k0_off203 (i : grid0.Coords) : Fin 5 → Nat :=
  let c1_i32_1446 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2374 : BitVec 32 := Scalar.subi c1_i32_1446 v9
  let v2375 : Index := Scalar.indexCast v2374
  let c1_1447 : Index := 1#32
  let c1_1448 : Index := 1#32
  let c448_1449 : Index := 448#32
  let c0_1450 : Index := 0#32
  ![v2375.toNat, 1, 1, 448, 0]
def k0_off204 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2379 : Index := Scalar.indexCast v9
  let c1_1451 : Index := 1#32
  let c1_1452 : Index := 1#32
  let c448_1453 : Index := 448#32
  let c0_1454 : Index := 0#32
  ![v2379.toNat, 1, 1, 448, 0]
def k0_off205 (i : grid0.Coords) : Fin 5 → Nat :=
  let c1_i32_1465 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2397 : BitVec 32 := Scalar.subi c1_i32_1465 v9
  let v2398 : Index := Scalar.indexCast v2397
  let c0_1466 : Index := 0#32
  let c0_1467 : Index := 0#32
  let c480_1468 : Index := 480#32
  let c0_1469 : Index := 0#32
  ![v2398.toNat, 0, 0, 480, 0]
def k0_off206 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2402 : Index := Scalar.indexCast v9
  let c0_1470 : Index := 0#32
  let c0_1471 : Index := 0#32
  let c480_1472 : Index := 480#32
  let c0_1473 : Index := 0#32
  ![v2402.toNat, 0, 0, 480, 0]
def k0_off207 (i : grid0.Coords) : Fin 5 → Nat :=
  let c1_i32_1474 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2407 : BitVec 32 := Scalar.subi c1_i32_1474 v9
  let v2408 : Index := Scalar.indexCast v2407
  let c0_1475 : Index := 0#32
  let c1_1476 : Index := 1#32
  let c480_1477 : Index := 480#32
  let c0_1478 : Index := 0#32
  ![v2408.toNat, 0, 1, 480, 0]
def k0_off208 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2412 : Index := Scalar.indexCast v9
  let c0_1479 : Index := 0#32
  let c1_1480 : Index := 1#32
  let c480_1481 : Index := 480#32
  let c0_1482 : Index := 0#32
  ![v2412.toNat, 0, 1, 480, 0]
def k0_off209 (i : grid0.Coords) : Fin 5 → Nat :=
  let c1_i32_1492 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2430 : BitVec 32 := Scalar.subi c1_i32_1492 v9
  let v2431 : Index := Scalar.indexCast v2430
  let c1_1493 : Index := 1#32
  let c0_1494 : Index := 0#32
  let c480_1495 : Index := 480#32
  let c0_1496 : Index := 0#32
  ![v2431.toNat, 1, 0, 480, 0]
def k0_off210 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2435 : Index := Scalar.indexCast v9
  let c1_1497 : Index := 1#32
  let c0_1498 : Index := 0#32
  let c480_1499 : Index := 480#32
  let c0_1500 : Index := 0#32
  ![v2435.toNat, 1, 0, 480, 0]
def k0_off211 (i : grid0.Coords) : Fin 5 → Nat :=
  let c1_i32_1501 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2440 : BitVec 32 := Scalar.subi c1_i32_1501 v9
  let v2441 : Index := Scalar.indexCast v2440
  let c1_1502 : Index := 1#32
  let c1_1503 : Index := 1#32
  let c480_1504 : Index := 480#32
  let c0_1505 : Index := 0#32
  ![v2441.toNat, 1, 1, 480, 0]
def k0_off212 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2445 : Index := Scalar.indexCast v9
  let c1_1506 : Index := 1#32
  let c1_1507 : Index := 1#32
  let c480_1508 : Index := 480#32
  let c0_1509 : Index := 0#32
  ![v2445.toNat, 1, 1, 480, 0]
def k0_off213 (i : grid0.Coords) : Fin 5 → Nat :=
  let c1_i32_1520 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2463 : BitVec 32 := Scalar.subi c1_i32_1520 v9
  let v2464 : Index := Scalar.indexCast v2463
  let c0_1521 : Index := 0#32
  let c0_1522 : Index := 0#32
  let c512_1523 : Index := 512#32
  let c0_1524 : Index := 0#32
  ![v2464.toNat, 0, 0, 512, 0]
def k0_off214 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2468 : Index := Scalar.indexCast v9
  let c0_1525 : Index := 0#32
  let c0_1526 : Index := 0#32
  let c512_1527 : Index := 512#32
  let c0_1528 : Index := 0#32
  ![v2468.toNat, 0, 0, 512, 0]
def k0_off215 (i : grid0.Coords) : Fin 5 → Nat :=
  let c1_i32_1529 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2473 : BitVec 32 := Scalar.subi c1_i32_1529 v9
  let v2474 : Index := Scalar.indexCast v2473
  let c0_1530 : Index := 0#32
  let c1_1531 : Index := 1#32
  let c512_1532 : Index := 512#32
  let c0_1533 : Index := 0#32
  ![v2474.toNat, 0, 1, 512, 0]
def k0_off216 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2478 : Index := Scalar.indexCast v9
  let c0_1534 : Index := 0#32
  let c1_1535 : Index := 1#32
  let c512_1536 : Index := 512#32
  let c0_1537 : Index := 0#32
  ![v2478.toNat, 0, 1, 512, 0]
def k0_off217 (i : grid0.Coords) : Fin 5 → Nat :=
  let c1_i32_1548 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2496 : BitVec 32 := Scalar.subi c1_i32_1548 v9
  let v2497 : Index := Scalar.indexCast v2496
  let c1_1549 : Index := 1#32
  let c0_1550 : Index := 0#32
  let c512_1551 : Index := 512#32
  let c0_1552 : Index := 0#32
  ![v2497.toNat, 1, 0, 512, 0]
def k0_off218 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2501 : Index := Scalar.indexCast v9
  let c1_1553 : Index := 1#32
  let c0_1554 : Index := 0#32
  let c512_1555 : Index := 512#32
  let c0_1556 : Index := 0#32
  ![v2501.toNat, 1, 0, 512, 0]
def k0_off219 (i : grid0.Coords) : Fin 5 → Nat :=
  let c1_i32_1557 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2506 : BitVec 32 := Scalar.subi c1_i32_1557 v9
  let v2507 : Index := Scalar.indexCast v2506
  let c1_1558 : Index := 1#32
  let c1_1559 : Index := 1#32
  let c512_1560 : Index := 512#32
  let c0_1561 : Index := 0#32
  ![v2507.toNat, 1, 1, 512, 0]
def k0_off220 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2511 : Index := Scalar.indexCast v9
  let c1_1562 : Index := 1#32
  let c1_1563 : Index := 1#32
  let c512_1564 : Index := 512#32
  let c0_1565 : Index := 0#32
  ![v2511.toNat, 1, 1, 512, 0]
def k0_off221 (i : grid0.Coords) : Fin 5 → Nat :=
  let c1_i32_1576 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2529 : BitVec 32 := Scalar.subi c1_i32_1576 v9
  let v2530 : Index := Scalar.indexCast v2529
  let c0_1577 : Index := 0#32
  let c0_1578 : Index := 0#32
  let c544_1579 : Index := 544#32
  let c0_1580 : Index := 0#32
  ![v2530.toNat, 0, 0, 544, 0]
def k0_off222 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2534 : Index := Scalar.indexCast v9
  let c0_1581 : Index := 0#32
  let c0_1582 : Index := 0#32
  let c544_1583 : Index := 544#32
  let c0_1584 : Index := 0#32
  ![v2534.toNat, 0, 0, 544, 0]
def k0_off223 (i : grid0.Coords) : Fin 5 → Nat :=
  let c1_i32_1585 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2539 : BitVec 32 := Scalar.subi c1_i32_1585 v9
  let v2540 : Index := Scalar.indexCast v2539
  let c0_1586 : Index := 0#32
  let c1_1587 : Index := 1#32
  let c544_1588 : Index := 544#32
  let c0_1589 : Index := 0#32
  ![v2540.toNat, 0, 1, 544, 0]
def k0_off224 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2544 : Index := Scalar.indexCast v9
  let c0_1590 : Index := 0#32
  let c1_1591 : Index := 1#32
  let c544_1592 : Index := 544#32
  let c0_1593 : Index := 0#32
  ![v2544.toNat, 0, 1, 544, 0]
def k0_off225 (i : grid0.Coords) : Fin 5 → Nat :=
  let c1_i32_1603 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2562 : BitVec 32 := Scalar.subi c1_i32_1603 v9
  let v2563 : Index := Scalar.indexCast v2562
  let c1_1604 : Index := 1#32
  let c0_1605 : Index := 0#32
  let c544_1606 : Index := 544#32
  let c0_1607 : Index := 0#32
  ![v2563.toNat, 1, 0, 544, 0]
def k0_off226 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2567 : Index := Scalar.indexCast v9
  let c1_1608 : Index := 1#32
  let c0_1609 : Index := 0#32
  let c544_1610 : Index := 544#32
  let c0_1611 : Index := 0#32
  ![v2567.toNat, 1, 0, 544, 0]
def k0_off227 (i : grid0.Coords) : Fin 5 → Nat :=
  let c1_i32_1612 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2572 : BitVec 32 := Scalar.subi c1_i32_1612 v9
  let v2573 : Index := Scalar.indexCast v2572
  let c1_1613 : Index := 1#32
  let c1_1614 : Index := 1#32
  let c544_1615 : Index := 544#32
  let c0_1616 : Index := 0#32
  ![v2573.toNat, 1, 1, 544, 0]
def k0_off228 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2577 : Index := Scalar.indexCast v9
  let c1_1617 : Index := 1#32
  let c1_1618 : Index := 1#32
  let c544_1619 : Index := 544#32
  let c0_1620 : Index := 0#32
  ![v2577.toNat, 1, 1, 544, 0]
def k0_off229 (i : grid0.Coords) : Fin 5 → Nat :=
  let c1_i32_1631 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2595 : BitVec 32 := Scalar.subi c1_i32_1631 v9
  let v2596 : Index := Scalar.indexCast v2595
  let c0_1632 : Index := 0#32
  let c0_1633 : Index := 0#32
  let c576_1634 : Index := 576#32
  let c0_1635 : Index := 0#32
  ![v2596.toNat, 0, 0, 576, 0]
def k0_off230 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2600 : Index := Scalar.indexCast v9
  let c0_1636 : Index := 0#32
  let c0_1637 : Index := 0#32
  let c576_1638 : Index := 576#32
  let c0_1639 : Index := 0#32
  ![v2600.toNat, 0, 0, 576, 0]
def k0_off231 (i : grid0.Coords) : Fin 5 → Nat :=
  let c1_i32_1640 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2605 : BitVec 32 := Scalar.subi c1_i32_1640 v9
  let v2606 : Index := Scalar.indexCast v2605
  let c0_1641 : Index := 0#32
  let c1_1642 : Index := 1#32
  let c576_1643 : Index := 576#32
  let c0_1644 : Index := 0#32
  ![v2606.toNat, 0, 1, 576, 0]
def k0_off232 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2610 : Index := Scalar.indexCast v9
  let c0_1645 : Index := 0#32
  let c1_1646 : Index := 1#32
  let c576_1647 : Index := 576#32
  let c0_1648 : Index := 0#32
  ![v2610.toNat, 0, 1, 576, 0]
def k0_off233 (i : grid0.Coords) : Fin 5 → Nat :=
  let c1_i32_1658 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2628 : BitVec 32 := Scalar.subi c1_i32_1658 v9
  let v2629 : Index := Scalar.indexCast v2628
  let c1_1659 : Index := 1#32
  let c0_1660 : Index := 0#32
  let c576_1661 : Index := 576#32
  let c0_1662 : Index := 0#32
  ![v2629.toNat, 1, 0, 576, 0]
def k0_off234 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2633 : Index := Scalar.indexCast v9
  let c1_1663 : Index := 1#32
  let c0_1664 : Index := 0#32
  let c576_1665 : Index := 576#32
  let c0_1666 : Index := 0#32
  ![v2633.toNat, 1, 0, 576, 0]
def k0_off235 (i : grid0.Coords) : Fin 5 → Nat :=
  let c1_i32_1667 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2638 : BitVec 32 := Scalar.subi c1_i32_1667 v9
  let v2639 : Index := Scalar.indexCast v2638
  let c1_1668 : Index := 1#32
  let c1_1669 : Index := 1#32
  let c576_1670 : Index := 576#32
  let c0_1671 : Index := 0#32
  ![v2639.toNat, 1, 1, 576, 0]
def k0_off236 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2643 : Index := Scalar.indexCast v9
  let c1_1672 : Index := 1#32
  let c1_1673 : Index := 1#32
  let c576_1674 : Index := 576#32
  let c0_1675 : Index := 0#32
  ![v2643.toNat, 1, 1, 576, 0]
def k0_off237 (i : grid0.Coords) : Fin 5 → Nat :=
  let c1_i32_1686 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2661 : BitVec 32 := Scalar.subi c1_i32_1686 v9
  let v2662 : Index := Scalar.indexCast v2661
  let c0_1687 : Index := 0#32
  let c0_1688 : Index := 0#32
  let c608_1689 : Index := 608#32
  let c0_1690 : Index := 0#32
  ![v2662.toNat, 0, 0, 608, 0]
def k0_off238 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2666 : Index := Scalar.indexCast v9
  let c0_1691 : Index := 0#32
  let c0_1692 : Index := 0#32
  let c608_1693 : Index := 608#32
  let c0_1694 : Index := 0#32
  ![v2666.toNat, 0, 0, 608, 0]
def k0_off239 (i : grid0.Coords) : Fin 5 → Nat :=
  let c1_i32_1695 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2671 : BitVec 32 := Scalar.subi c1_i32_1695 v9
  let v2672 : Index := Scalar.indexCast v2671
  let c0_1696 : Index := 0#32
  let c1_1697 : Index := 1#32
  let c608_1698 : Index := 608#32
  let c0_1699 : Index := 0#32
  ![v2672.toNat, 0, 1, 608, 0]
def k0_off240 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2676 : Index := Scalar.indexCast v9
  let c0_1700 : Index := 0#32
  let c1_1701 : Index := 1#32
  let c608_1702 : Index := 608#32
  let c0_1703 : Index := 0#32
  ![v2676.toNat, 0, 1, 608, 0]
def k0_off241 (i : grid0.Coords) : Fin 5 → Nat :=
  let c1_i32_1713 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2694 : BitVec 32 := Scalar.subi c1_i32_1713 v9
  let v2695 : Index := Scalar.indexCast v2694
  let c1_1714 : Index := 1#32
  let c0_1715 : Index := 0#32
  let c608_1716 : Index := 608#32
  let c0_1717 : Index := 0#32
  ![v2695.toNat, 1, 0, 608, 0]
def k0_off242 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2699 : Index := Scalar.indexCast v9
  let c1_1718 : Index := 1#32
  let c0_1719 : Index := 0#32
  let c608_1720 : Index := 608#32
  let c0_1721 : Index := 0#32
  ![v2699.toNat, 1, 0, 608, 0]
def k0_off243 (i : grid0.Coords) : Fin 5 → Nat :=
  let c1_i32_1722 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2704 : BitVec 32 := Scalar.subi c1_i32_1722 v9
  let v2705 : Index := Scalar.indexCast v2704
  let c1_1723 : Index := 1#32
  let c1_1724 : Index := 1#32
  let c608_1725 : Index := 608#32
  let c0_1726 : Index := 0#32
  ![v2705.toNat, 1, 1, 608, 0]
def k0_off244 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2709 : Index := Scalar.indexCast v9
  let c1_1727 : Index := 1#32
  let c1_1728 : Index := 1#32
  let c608_1729 : Index := 608#32
  let c0_1730 : Index := 0#32
  ![v2709.toNat, 1, 1, 608, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  let c0_i32_3 : BitVec 32 := 0#32
  ![v1.toNat, c0_i32_0.toNat, c0_i32_1.toNat, c0_i32_2.toNat]

def cc0_transform_5 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  let c0_i32_3 : BitVec 32 := 0#32
  ![v1.toNat, c0_i32_0.toNat, c0_i32_1.toNat, c0_i32_2.toNat]

abbrev stage0_0 : Fin 2 → Memref sig .tc .vmem S1x1008x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x96x256 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x96x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S96x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x20x96x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x20x96x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
abbrev S2709504 : Shape := ⟨1, ![2709504]⟩
abbrev S8x8x4x96 : Shape := ⟨4, ![8, 8, 4, 96]⟩
abbrev S4x96 : Shape := ⟨2, ![4, 96]⟩
abbrev S96 : Shape := ⟨1, ![96]⟩
abbrev S21x1008x128 : Shape := ⟨3, ![21, 1008, 128]⟩
abbrev S2x4x2x4x4x96 : Shape := ⟨6, ![2, 4, 2, 4, 4, 96]⟩
abbrev S96x2x2x4x4x4 : Shape := ⟨6, ![96, 2, 2, 4, 4, 4]⟩
abbrev S96x2x2x1x4x4 : Shape := ⟨6, ![96, 2, 2, 1, 4, 4]⟩
abbrev S96x2x2x3x4x4 : Shape := ⟨6, ![96, 2, 2, 3, 4, 4]⟩
abbrev S1x96x2x2x4x4x4 : Shape := ⟨7, ![1, 96, 2, 2, 4, 4, 4]⟩
abbrev S2x96x2x2x4x4x4 : Shape := ⟨7, ![2, 96, 2, 2, 4, 4, 4]⟩
abbrev S2x96x256 : Shape := ⟨3, ![2, 96, 256]⟩
abbrev S96x1 : Shape := ⟨2, ![96, 1]⟩
abbrev S20x20x96x256 : Shape := ⟨4, ![20, 20, 96, 256]⟩
abbrev S1x1008x128 : Shape := ⟨3, ![1, 1008, 128]⟩
abbrev S1x20x96x256 : Shape := ⟨4, ![1, 20, 96, 256]⟩
abbrev S96x128 : Shape := ⟨2, ![96, 128]⟩
abbrev S2x2x2x672x128 : Shape := ⟨5, ![2, 2, 2, 672, 128]⟩
abbrev S2x2x2x672x2x128 : Shape := ⟨6, ![2, 2, 2, 672, 2, 128]⟩
abbrev S2x2x2x672x1x128 : Shape := ⟨6, ![2, 2, 2, 672, 1, 128]⟩
abbrev S8x128 : Shape := ⟨2, ![8, 128]⟩
abbrev S1x8x128 : Shape := ⟨3, ![1, 8, 128]⟩
abbrev S32x128 : Shape := ⟨2, ![32, 128]⟩
abbrev S16x128 : Shape := ⟨2, ![16, 128]⟩
abbrev S1x1x1x32x128 : Shape := ⟨5, ![1, 1, 1, 32, 128]⟩
abbrev S1x1x1x32x2x128 : Shape := ⟨6, ![1, 1, 1, 32, 2, 128]⟩
abbrev S1x1x1x32x1x128 : Shape := ⟨6, ![1, 1, 1, 32, 1, 128]⟩
abbrev S96x256 : Shape := ⟨2, ![96, 256]⟩
abbrev S1x1x1x64x128 : Shape := ⟨5, ![1, 1, 1, 64, 128]⟩
abbrev S1x1x1x64x2x128 : Shape := ⟨6, ![1, 1, 1, 64, 2, 128]⟩
abbrev S1x1x1x64x1x128 : Shape := ⟨6, ![1, 1, 1, 64, 1, 128]⟩
abbrev S64x128 : Shape := ⟨2, ![64, 128]⟩
abbrev S128x128 : Shape := ⟨2, ![128, 128]⟩
abbrev S256x128 : Shape := ⟨2, ![256, 128]⟩
abbrev S256x256 : Shape := ⟨2, ![256, 256]⟩
abbrev S1x96x256 : Shape := ⟨3, ![1, 96, 256]⟩
abbrev S1x1x96x256 : Shape := ⟨4, ![1, 1, 96, 256]⟩
abbrev S256x20x20x96 : Shape := ⟨4, ![256, 20, 20, 96]⟩

abbrev nBuf : Space → Nat
  | .hbm => 29
  | .vmem => 12
  | .smem => 0
  | _ => 0

abbrev bufTy : (tb : Table) → Fin (tcTables nBuf tb) → BufTy
  | .hbm, ⟨0, _⟩ => ⟨S2709504, .i32⟩
  | .hbm, ⟨1, _⟩ => ⟨S8x8x4x96, .fp8e4m3⟩
  | .hbm, ⟨2, _⟩ => ⟨S4x96, .f32⟩
  | .hbm, ⟨3, _⟩ => ⟨S96, .f32⟩
  | .hbm, ⟨4, _⟩ => ⟨S8x8x4x96, .f32⟩
  | .hbm, ⟨5, _⟩ => ⟨S21x1008x128, .i32⟩
  | .hbm, ⟨6, _⟩ => ⟨S2x4x2x4x4x96, .fp8e4m3⟩
  | .hbm, ⟨7, _⟩ => ⟨S96x2x2x4x4x4, .fp8e4m3⟩
  | .hbm, ⟨8, _⟩ => ⟨S96x2x2x1x4x4, .fp8e4m3⟩
  | .hbm, ⟨9, _⟩ => ⟨S96x2x2x3x4x4, .fp8e4m3⟩
  | .hbm, ⟨10, _⟩ => ⟨S96x2x2x4x4x4, .fp8e4m3⟩
  | .hbm, ⟨11, _⟩ => ⟨S1x96x2x2x4x4x4, .fp8e4m3⟩
  | .hbm, ⟨12, _⟩ => ⟨S1x96x2x2x4x4x4, .fp8e4m3⟩
  | .hbm, ⟨13, _⟩ => ⟨S2x96x2x2x4x4x4, .fp8e4m3⟩
  | .hbm, ⟨14, _⟩ => ⟨S2x96x256, .fp8e4m3⟩
  | .hbm, ⟨15, _⟩ => ⟨S2x4x2x4x4x96, .f32⟩
  | .hbm, ⟨16, _⟩ => ⟨S96x2x2x4x4x4, .f32⟩
  | .hbm, ⟨17, _⟩ => ⟨S96x2x2x1x4x4, .f32⟩
  | .hbm, ⟨18, _⟩ => ⟨S96x2x2x3x4x4, .f32⟩
  | .hbm, ⟨19, _⟩ => ⟨S96x2x2x4x4x4, .f32⟩
  | .hbm, ⟨20, _⟩ => ⟨S1x96x2x2x4x4x4, .f32⟩
  | .hbm, ⟨21, _⟩ => ⟨S1x96x2x2x4x4x4, .f32⟩
  | .hbm, ⟨22, _⟩ => ⟨S2x96x2x2x4x4x4, .f32⟩
  | .hbm, ⟨23, _⟩ => ⟨S2x96x256, .f32⟩
  | .hbm, ⟨24, _⟩ => ⟨S96x1, .f32⟩
  | .hbm, ⟨25, _⟩ => ⟨S20x20x96x256, .bf16⟩
  | .hbm, ⟨26, _⟩ => ⟨S20x20x96x256, .bf16⟩
  | .hbm, ⟨27, _⟩ => ⟨S256x20x20x96, .bf16⟩
  | .hbm, ⟨28, _⟩ => ⟨S256x20x20x96, .bf16⟩
  | .local _ .vmem, ⟨0, _⟩ => ⟨S1x1008x128, .i32⟩
  | .local _ .vmem, ⟨1, _⟩ => ⟨S1x1008x128, .i32⟩
  | .local _ .vmem, ⟨2, _⟩ => ⟨S2x96x256, .fp8e4m3⟩
  | .local _ .vmem, ⟨3, _⟩ => ⟨S2x96x256, .f32⟩
  | .local _ .vmem, ⟨4, _⟩ => ⟨S96x1, .f32⟩
  | .local _ .vmem, ⟨5, _⟩ => ⟨S1x20x96x256, .bf16⟩
  | .local _ .vmem, ⟨6, _⟩ => ⟨S1x20x96x256, .bf16⟩
  | .local _ .vmem, ⟨7, _⟩ => ⟨S1x20x96x256, .bf16⟩
  | .local _ .vmem, ⟨8, _⟩ => ⟨S1x20x96x256, .bf16⟩
  | .local _ .vmem, ⟨9, _⟩ => ⟨S2x96x256, .bf16⟩
  | .local _ .vmem, ⟨10, _⟩ => ⟨S96x128, .f32⟩
  | .local _ .vmem, ⟨11, _⟩ => ⟨S2x2x2x672x2x128, .bf16⟩
  | _, _ => ⟨S2709504, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21_0 : Ref sig .tc := ⟨.hbm, 25, rfl⟩
abbrev main_v21_1 : Ref sig .tc := ⟨.hbm, 26, rfl⟩
abbrev main_v22 : Ref sig .tc := ⟨.hbm, 27, rfl⟩
abbrev main_v23 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![21], ![false]⟩

def k0_off1 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v33 : Index := Scalar.indexCast v9
  let c0_12 : Index := 0#32
  let c0_13 : Index := 0#32
  let c0_14 : Index := 0#32
  let c0_15 : Index := 0#32
  ![v33.toNat, 0, 0, 0, 0, 0]
def k0_off2 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v45 : Index := Scalar.indexCast v9
  let c1 : Index := 1#32
  let c0_16 : Index := 0#32
  let c0_17 : Index := 0#32
  let c0_18 : Index := 0#32
  ![v45.toNat, 1, 0, 0, 0, 0]
def k0_off3 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v66 : Index := Scalar.indexCast v9
  let c0_26 : Index := 0#32
  let c1_27 : Index := 1#32
  let c0_28 : Index := 0#32
  let c0_29 : Index := 0#32
  ![v66.toNat, 0, 1, 0, 0, 0]
def k0_off4 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v78 : Index := Scalar.indexCast v9
  let c1_30 : Index := 1#32
  let c1_31 : Index := 1#32
  let c0_32 : Index := 0#32
  let c0_33 : Index := 0#32
  ![v78.toNat, 1, 1, 0, 0, 0]
def k0_off5 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v99 : Index := Scalar.indexCast v9
  let c0_41 : Index := 0#32
  let c0_42 : Index := 0#32
  let c32_43 : Index := 32#32
  let c0_44 : Index := 0#32
  ![v99.toNat, 0, 0, 32, 0, 0]
def k0_off6 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v111 : Index := Scalar.indexCast v9
  let c1_45 : Index := 1#32
  let c0_46 : Index := 0#32
  let c32_47 : Index := 32#32
  let c0_48 : Index := 0#32
  ![v111.toNat, 1, 0, 32, 0, 0]
def k0_off7 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v132 : Index := Scalar.indexCast v9
  let c0_56 : Index := 0#32
  let c1_57 : Index := 1#32
  let c32_58 : Index := 32#32
  let c0_59 : Index := 0#32
  ![v132.toNat, 0, 1, 32, 0, 0]
def k0_off8 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v144 : Index := Scalar.indexCast v9
  let c1_60 : Index := 1#32
  let c1_61 : Index := 1#32
  let c32_62 : Index := 32#32
  let c0_63 : Index := 0#32
  ![v144.toNat, 1, 1, 32, 0, 0]
def k0_off9 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v165 : Index := Scalar.indexCast v9
  let c0_71 : Index := 0#32
  let c0_72 : Index := 0#32
  let c64_73 : Index := 64#32
  let c0_74 : Index := 0#32
  ![v165.toNat, 0, 0, 64, 0, 0]
def k0_off10 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v177 : Index := Scalar.indexCast v9
  let c1_75 : Index := 1#32
  let c0_76 : Index := 0#32
  let c64_77 : Index := 64#32
  let c0_78 : Index := 0#32
  ![v177.toNat, 1, 0, 64, 0, 0]
def k0_off11 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v198 : Index := Scalar.indexCast v9
  let c0_86 : Index := 0#32
  let c1_87 : Index := 1#32
  let c64_88 : Index := 64#32
  let c0_89 : Index := 0#32
  ![v198.toNat, 0, 1, 64, 0, 0]
def k0_off12 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v210 : Index := Scalar.indexCast v9
  let c1_90 : Index := 1#32
  let c1_91 : Index := 1#32
  let c64_92 : Index := 64#32
  let c0_93 : Index := 0#32
  ![v210.toNat, 1, 1, 64, 0, 0]
def k0_off13 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v231 : Index := Scalar.indexCast v9
  let c0_101 : Index := 0#32
  let c0_102 : Index := 0#32
  let c96_103 : Index := 96#32
  let c0_104 : Index := 0#32
  ![v231.toNat, 0, 0, 96, 0, 0]
def k0_off14 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v243 : Index := Scalar.indexCast v9
  let c1_105 : Index := 1#32
  let c0_106 : Index := 0#32
  let c96_107 : Index := 96#32
  let c0_108 : Index := 0#32
  ![v243.toNat, 1, 0, 96, 0, 0]
def k0_off15 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v264 : Index := Scalar.indexCast v9
  let c0_116 : Index := 0#32
  let c1_117 : Index := 1#32
  let c96_118 : Index := 96#32
  let c0_119 : Index := 0#32
  ![v264.toNat, 0, 1, 96, 0, 0]
def k0_off16 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v276 : Index := Scalar.indexCast v9
  let c1_120 : Index := 1#32
  let c1_121 : Index := 1#32
  let c96_122 : Index := 96#32
  let c0_123 : Index := 0#32
  ![v276.toNat, 1, 1, 96, 0, 0]
def k0_off17 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v297 : Index := Scalar.indexCast v9
  let c0_131 : Index := 0#32
  let c0_132 : Index := 0#32
  let c128_133 : Index := 128#32
  let c0_134 : Index := 0#32
  ![v297.toNat, 0, 0, 128, 0, 0]
def k0_off18 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v309 : Index := Scalar.indexCast v9
  let c1_135 : Index := 1#32
  let c0_136 : Index := 0#32
  let c128_137 : Index := 128#32
  let c0_138 : Index := 0#32
  ![v309.toNat, 1, 0, 128, 0, 0]
def k0_off19 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v330 : Index := Scalar.indexCast v9
  let c0_146 : Index := 0#32
  let c1_147 : Index := 1#32
  let c128_148 : Index := 128#32
  let c0_149 : Index := 0#32
  ![v330.toNat, 0, 1, 128, 0, 0]
def k0_off20 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v342 : Index := Scalar.indexCast v9
  let c1_150 : Index := 1#32
  let c1_151 : Index := 1#32
  let c128_152 : Index := 128#32
  let c0_153 : Index := 0#32
  ![v342.toNat, 1, 1, 128, 0, 0]
def k0_off21 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v363 : Index := Scalar.indexCast v9
  let c0_161 : Index := 0#32
  let c0_162 : Index := 0#32
  let c160_163 : Index := 160#32
  let c0_164 : Index := 0#32
  ![v363.toNat, 0, 0, 160, 0, 0]
def k0_off22 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v375 : Index := Scalar.indexCast v9
  let c1_165 : Index := 1#32
  let c0_166 : Index := 0#32
  let c160_167 : Index := 160#32
  let c0_168 : Index := 0#32
  ![v375.toNat, 1, 0, 160, 0, 0]
def k0_off23 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v396 : Index := Scalar.indexCast v9
  let c0_176 : Index := 0#32
  let c1_177 : Index := 1#32
  let c160_178 : Index := 160#32
  let c0_179 : Index := 0#32
  ![v396.toNat, 0, 1, 160, 0, 0]
def k0_off24 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v408 : Index := Scalar.indexCast v9
  let c1_180 : Index := 1#32
  let c1_181 : Index := 1#32
  let c160_182 : Index := 160#32
  let c0_183 : Index := 0#32
  ![v408.toNat, 1, 1, 160, 0, 0]
def k0_off25 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v429 : Index := Scalar.indexCast v9
  let c0_191 : Index := 0#32
  let c0_192 : Index := 0#32
  let c192_193 : Index := 192#32
  let c0_194 : Index := 0#32
  ![v429.toNat, 0, 0, 192, 0, 0]
def k0_off26 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v441 : Index := Scalar.indexCast v9
  let c1_195 : Index := 1#32
  let c0_196 : Index := 0#32
  let c192_197 : Index := 192#32
  let c0_198 : Index := 0#32
  ![v441.toNat, 1, 0, 192, 0, 0]
def k0_off27 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v462 : Index := Scalar.indexCast v9
  let c0_206 : Index := 0#32
  let c1_207 : Index := 1#32
  let c192_208 : Index := 192#32
  let c0_209 : Index := 0#32
  ![v462.toNat, 0, 1, 192, 0, 0]
def k0_off28 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v474 : Index := Scalar.indexCast v9
  let c1_210 : Index := 1#32
  let c1_211 : Index := 1#32
  let c192_212 : Index := 192#32
  let c0_213 : Index := 0#32
  ![v474.toNat, 1, 1, 192, 0, 0]
def k0_off29 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v495 : Index := Scalar.indexCast v9
  let c0_221 : Index := 0#32
  let c0_222 : Index := 0#32
  let c224_223 : Index := 224#32
  let c0_224 : Index := 0#32
  ![v495.toNat, 0, 0, 224, 0, 0]
def k0_off30 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v507 : Index := Scalar.indexCast v9
  let c1_225 : Index := 1#32
  let c0_226 : Index := 0#32
  let c224_227 : Index := 224#32
  let c0_228 : Index := 0#32
  ![v507.toNat, 1, 0, 224, 0, 0]
def k0_off31 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v528 : Index := Scalar.indexCast v9
  let c0_236 : Index := 0#32
  let c1_237 : Index := 1#32
  let c224_238 : Index := 224#32
  let c0_239 : Index := 0#32
  ![v528.toNat, 0, 1, 224, 0, 0]
def k0_off32 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v540 : Index := Scalar.indexCast v9
  let c1_240 : Index := 1#32
  let c1_241 : Index := 1#32
  let c224_242 : Index := 224#32
  let c0_243 : Index := 0#32
  ![v540.toNat, 1, 1, 224, 0, 0]
def k0_off33 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v561 : Index := Scalar.indexCast v9
  let c0_251 : Index := 0#32
  let c0_252 : Index := 0#32
  let c256_253 : Index := 256#32
  let c0_254 : Index := 0#32
  ![v561.toNat, 0, 0, 256, 0, 0]
def k0_off34 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v573 : Index := Scalar.indexCast v9
  let c1_255 : Index := 1#32
  let c0_256 : Index := 0#32
  let c256_257 : Index := 256#32
  let c0_258 : Index := 0#32
  ![v573.toNat, 1, 0, 256, 0, 0]
def k0_off35 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v594 : Index := Scalar.indexCast v9
  let c0_266 : Index := 0#32
  let c1_267 : Index := 1#32
  let c256_268 : Index := 256#32
  let c0_269 : Index := 0#32
  ![v594.toNat, 0, 1, 256, 0, 0]
def k0_off36 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v606 : Index := Scalar.indexCast v9
  let c1_270 : Index := 1#32
  let c1_271 : Index := 1#32
  let c256_272 : Index := 256#32
  let c0_273 : Index := 0#32
  ![v606.toNat, 1, 1, 256, 0, 0]
def k0_off37 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v627 : Index := Scalar.indexCast v9
  let c0_281 : Index := 0#32
  let c0_282 : Index := 0#32
  let c288_283 : Index := 288#32
  let c0_284 : Index := 0#32
  ![v627.toNat, 0, 0, 288, 0, 0]
def k0_off38 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v639 : Index := Scalar.indexCast v9
  let c1_285 : Index := 1#32
  let c0_286 : Index := 0#32
  let c288_287 : Index := 288#32
  let c0_288 : Index := 0#32
  ![v639.toNat, 1, 0, 288, 0, 0]
def k0_off39 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v660 : Index := Scalar.indexCast v9
  let c0_296 : Index := 0#32
  let c1_297 : Index := 1#32
  let c288_298 : Index := 288#32
  let c0_299 : Index := 0#32
  ![v660.toNat, 0, 1, 288, 0, 0]
def k0_off40 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v672 : Index := Scalar.indexCast v9
  let c1_300 : Index := 1#32
  let c1_301 : Index := 1#32
  let c288_302 : Index := 288#32
  let c0_303 : Index := 0#32
  ![v672.toNat, 1, 1, 288, 0, 0]
def k0_off41 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v693 : Index := Scalar.indexCast v9
  let c0_311 : Index := 0#32
  let c0_312 : Index := 0#32
  let c320_313 : Index := 320#32
  let c0_314 : Index := 0#32
  ![v693.toNat, 0, 0, 320, 0, 0]
def k0_off42 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v705 : Index := Scalar.indexCast v9
  let c1_315 : Index := 1#32
  let c0_316 : Index := 0#32
  let c320_317 : Index := 320#32
  let c0_318 : Index := 0#32
  ![v705.toNat, 1, 0, 320, 0, 0]
def k0_off43 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v726 : Index := Scalar.indexCast v9
  let c0_326 : Index := 0#32
  let c1_327 : Index := 1#32
  let c320_328 : Index := 320#32
  let c0_329 : Index := 0#32
  ![v726.toNat, 0, 1, 320, 0, 0]
def k0_off44 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v738 : Index := Scalar.indexCast v9
  let c1_330 : Index := 1#32
  let c1_331 : Index := 1#32
  let c320_332 : Index := 320#32
  let c0_333 : Index := 0#32
  ![v738.toNat, 1, 1, 320, 0, 0]
def k0_off45 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v759 : Index := Scalar.indexCast v9
  let c0_341 : Index := 0#32
  let c0_342 : Index := 0#32
  let c352_343 : Index := 352#32
  let c0_344 : Index := 0#32
  ![v759.toNat, 0, 0, 352, 0, 0]
def k0_off46 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v771 : Index := Scalar.indexCast v9
  let c1_345 : Index := 1#32
  let c0_346 : Index := 0#32
  let c352_347 : Index := 352#32
  let c0_348 : Index := 0#32
  ![v771.toNat, 1, 0, 352, 0, 0]
def k0_off47 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v792 : Index := Scalar.indexCast v9
  let c0_356 : Index := 0#32
  let c1_357 : Index := 1#32
  let c352_358 : Index := 352#32
  let c0_359 : Index := 0#32
  ![v792.toNat, 0, 1, 352, 0, 0]
def k0_off48 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v804 : Index := Scalar.indexCast v9
  let c1_360 : Index := 1#32
  let c1_361 : Index := 1#32
  let c352_362 : Index := 352#32
  let c0_363 : Index := 0#32
  ![v804.toNat, 1, 1, 352, 0, 0]
def k0_off49 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v825 : Index := Scalar.indexCast v9
  let c0_371 : Index := 0#32
  let c0_372 : Index := 0#32
  let c384_373 : Index := 384#32
  let c0_374 : Index := 0#32
  ![v825.toNat, 0, 0, 384, 0, 0]
def k0_off50 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v837 : Index := Scalar.indexCast v9
  let c1_375 : Index := 1#32
  let c0_376 : Index := 0#32
  let c384_377 : Index := 384#32
  let c0_378 : Index := 0#32
  ![v837.toNat, 1, 0, 384, 0, 0]
def k0_off51 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v858 : Index := Scalar.indexCast v9
  let c0_386 : Index := 0#32
  let c1_387 : Index := 1#32
  let c384_388 : Index := 384#32
  let c0_389 : Index := 0#32
  ![v858.toNat, 0, 1, 384, 0, 0]
def k0_off52 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v870 : Index := Scalar.indexCast v9
  let c1_390 : Index := 1#32
  let c1_391 : Index := 1#32
  let c384_392 : Index := 384#32
  let c0_393 : Index := 0#32
  ![v870.toNat, 1, 1, 384, 0, 0]
def k0_off53 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v891 : Index := Scalar.indexCast v9
  let c0_401 : Index := 0#32
  let c0_402 : Index := 0#32
  let c416_403 : Index := 416#32
  let c0_404 : Index := 0#32
  ![v891.toNat, 0, 0, 416, 0, 0]
def k0_off54 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v903 : Index := Scalar.indexCast v9
  let c1_405 : Index := 1#32
  let c0_406 : Index := 0#32
  let c416_407 : Index := 416#32
  let c0_408 : Index := 0#32
  ![v903.toNat, 1, 0, 416, 0, 0]
def k0_off55 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v924 : Index := Scalar.indexCast v9
  let c0_416 : Index := 0#32
  let c1_417 : Index := 1#32
  let c416_418 : Index := 416#32
  let c0_419 : Index := 0#32
  ![v924.toNat, 0, 1, 416, 0, 0]
def k0_off56 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v936 : Index := Scalar.indexCast v9
  let c1_420 : Index := 1#32
  let c1_421 : Index := 1#32
  let c416_422 : Index := 416#32
  let c0_423 : Index := 0#32
  ![v936.toNat, 1, 1, 416, 0, 0]
def k0_off57 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v957 : Index := Scalar.indexCast v9
  let c0_431 : Index := 0#32
  let c0_432 : Index := 0#32
  let c448_433 : Index := 448#32
  let c0_434 : Index := 0#32
  ![v957.toNat, 0, 0, 448, 0, 0]
def k0_off58 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v969 : Index := Scalar.indexCast v9
  let c1_435 : Index := 1#32
  let c0_436 : Index := 0#32
  let c448_437 : Index := 448#32
  let c0_438 : Index := 0#32
  ![v969.toNat, 1, 0, 448, 0, 0]
def k0_off59 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v990 : Index := Scalar.indexCast v9
  let c0_446 : Index := 0#32
  let c1_447 : Index := 1#32
  let c448_448 : Index := 448#32
  let c0_449 : Index := 0#32
  ![v990.toNat, 0, 1, 448, 0, 0]
def k0_off60 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1002 : Index := Scalar.indexCast v9
  let c1_450 : Index := 1#32
  let c1_451 : Index := 1#32
  let c448_452 : Index := 448#32
  let c0_453 : Index := 0#32
  ![v1002.toNat, 1, 1, 448, 0, 0]
def k0_off61 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1023 : Index := Scalar.indexCast v9
  let c0_461 : Index := 0#32
  let c0_462 : Index := 0#32
  let c480_463 : Index := 480#32
  let c0_464 : Index := 0#32
  ![v1023.toNat, 0, 0, 480, 0, 0]
def k0_off62 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1035 : Index := Scalar.indexCast v9
  let c1_465 : Index := 1#32
  let c0_466 : Index := 0#32
  let c480_467 : Index := 480#32
  let c0_468 : Index := 0#32
  ![v1035.toNat, 1, 0, 480, 0, 0]
def k0_off63 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1056 : Index := Scalar.indexCast v9
  let c0_476 : Index := 0#32
  let c1_477 : Index := 1#32
  let c480_478 : Index := 480#32
  let c0_479 : Index := 0#32
  ![v1056.toNat, 0, 1, 480, 0, 0]
def k0_off64 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1068 : Index := Scalar.indexCast v9
  let c1_480 : Index := 1#32
  let c1_481 : Index := 1#32
  let c480_482 : Index := 480#32
  let c0_483 : Index := 0#32
  ![v1068.toNat, 1, 1, 480, 0, 0]
def k0_off65 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1089 : Index := Scalar.indexCast v9
  let c0_491 : Index := 0#32
  let c0_492 : Index := 0#32
  let c512_493 : Index := 512#32
  let c0_494 : Index := 0#32
  ![v1089.toNat, 0, 0, 512, 0, 0]
def k0_off66 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1101 : Index := Scalar.indexCast v9
  let c1_495 : Index := 1#32
  let c0_496 : Index := 0#32
  let c512_497 : Index := 512#32
  let c0_498 : Index := 0#32
  ![v1101.toNat, 1, 0, 512, 0, 0]
def k0_off67 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1122 : Index := Scalar.indexCast v9
  let c0_506 : Index := 0#32
  let c1_507 : Index := 1#32
  let c512_508 : Index := 512#32
  let c0_509 : Index := 0#32
  ![v1122.toNat, 0, 1, 512, 0, 0]
def k0_off68 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1134 : Index := Scalar.indexCast v9
  let c1_510 : Index := 1#32
  let c1_511 : Index := 1#32
  let c512_512 : Index := 512#32
  let c0_513 : Index := 0#32
  ![v1134.toNat, 1, 1, 512, 0, 0]
def k0_off69 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1155 : Index := Scalar.indexCast v9
  let c0_521 : Index := 0#32
  let c0_522 : Index := 0#32
  let c544_523 : Index := 544#32
  let c0_524 : Index := 0#32
  ![v1155.toNat, 0, 0, 544, 0, 0]
def k0_off70 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1167 : Index := Scalar.indexCast v9
  let c1_525 : Index := 1#32
  let c0_526 : Index := 0#32
  let c544_527 : Index := 544#32
  let c0_528 : Index := 0#32
  ![v1167.toNat, 1, 0, 544, 0, 0]
def k0_off71 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1188 : Index := Scalar.indexCast v9
  let c0_536 : Index := 0#32
  let c1_537 : Index := 1#32
  let c544_538 : Index := 544#32
  let c0_539 : Index := 0#32
  ![v1188.toNat, 0, 1, 544, 0, 0]
def k0_off72 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1200 : Index := Scalar.indexCast v9
  let c1_540 : Index := 1#32
  let c1_541 : Index := 1#32
  let c544_542 : Index := 544#32
  let c0_543 : Index := 0#32
  ![v1200.toNat, 1, 1, 544, 0, 0]
def k0_off73 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1221 : Index := Scalar.indexCast v9
  let c0_551 : Index := 0#32
  let c0_552 : Index := 0#32
  let c576_553 : Index := 576#32
  let c0_554 : Index := 0#32
  ![v1221.toNat, 0, 0, 576, 0, 0]
def k0_off74 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1233 : Index := Scalar.indexCast v9
  let c1_555 : Index := 1#32
  let c0_556 : Index := 0#32
  let c576_557 : Index := 576#32
  let c0_558 : Index := 0#32
  ![v1233.toNat, 1, 0, 576, 0, 0]
def k0_off75 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1254 : Index := Scalar.indexCast v9
  let c0_566 : Index := 0#32
  let c1_567 : Index := 1#32
  let c576_568 : Index := 576#32
  let c0_569 : Index := 0#32
  ![v1254.toNat, 0, 1, 576, 0, 0]
def k0_off76 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1266 : Index := Scalar.indexCast v9
  let c1_570 : Index := 1#32
  let c1_571 : Index := 1#32
  let c576_572 : Index := 576#32
  let c0_573 : Index := 0#32
  ![v1266.toNat, 1, 1, 576, 0, 0]
def k0_off77 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1287 : Index := Scalar.indexCast v9
  let c0_581 : Index := 0#32
  let c0_582 : Index := 0#32
  let c608_583 : Index := 608#32
  let c0_584 : Index := 0#32
  ![v1287.toNat, 0, 0, 608, 0, 0]
def k0_off78 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1299 : Index := Scalar.indexCast v9
  let c1_585 : Index := 1#32
  let c0_586 : Index := 0#32
  let c608_587 : Index := 608#32
  let c0_588 : Index := 0#32
  ![v1299.toNat, 1, 0, 608, 0, 0]
def k0_off79 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1320 : Index := Scalar.indexCast v9
  let c0_596 : Index := 0#32
  let c1_597 : Index := 1#32
  let c608_598 : Index := 608#32
  let c0_599 : Index := 0#32
  ![v1320.toNat, 0, 1, 608, 0, 0]
def k0_off80 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1332 : Index := Scalar.indexCast v9
  let c1_600 : Index := 1#32
  let c1_601 : Index := 1#32
  let c608_602 : Index := 608#32
  let c0_603 : Index := 0#32
  ![v1332.toNat, 1, 1, 608, 0, 0]
def k0_off81 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1353 : Index := Scalar.indexCast v9
  let c0_611 : Index := 0#32
  let c0_612 : Index := 0#32
  let c640_613 : Index := 640#32
  let c0_614 : Index := 0#32
  ![v1353.toNat, 0, 0, 640, 0, 0]
def k0_off82 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1365 : Index := Scalar.indexCast v9
  let c1_615 : Index := 1#32
  let c0_616 : Index := 0#32
  let c640_617 : Index := 640#32
  let c0_618 : Index := 0#32
  ![v1365.toNat, 1, 0, 640, 0, 0]
def k0_off83 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1386 : Index := Scalar.indexCast v9
  let c0_626 : Index := 0#32
  let c1_627 : Index := 1#32
  let c640_628 : Index := 640#32
  let c0_629 : Index := 0#32
  ![v1386.toNat, 0, 1, 640, 0, 0]
def k0_off84 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1398 : Index := Scalar.indexCast v9
  let c1_630 : Index := 1#32
  let c1_631 : Index := 1#32
  let c640_632 : Index := 640#32
  let c0_633 : Index := 0#32
  ![v1398.toNat, 1, 1, 640, 0, 0]
def k0_cond2 (i : grid0.Coords) : BitVec 1 :=
  let arg0 : BitVec 32 := BitVec.ofNat 32 (i 0).val
  let c0_i32_634 : BitVec 32 := 0#32
  let v1402 : BitVec 1 := Scalar.cmpi .sgt arg0 c0_i32_634
  let v1403 : BitVec 32 := Scalar.extui v1402
  let c0_i32_635 : BitVec 32 := 0#32
  let v1404 : BitVec 1 := Scalar.cmpi .ne v1403 c0_i32_635
  v1404

def k0_off85 (i : grid0.Coords) : Fin 6 → Nat :=
  let c1_i32_638 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1407 : BitVec 32 := Scalar.subi c1_i32_638 v9
  let v1408 : Index := Scalar.indexCast v1407
  let c0_639 : Index := 0#32
  let c0_640 : Index := 0#32
  let c0_641 : Index := 0#32
  let c0_642 : Index := 0#32
  ![v1408.toNat, 0, 0, 0, 0, 0]
def k0_off86 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1412 : Index := Scalar.indexCast v9
  let c0_643 : Index := 0#32
  let c0_644 : Index := 0#32
  let c0_645 : Index := 0#32
  let c0_646 : Index := 0#32
  ![v1412.toNat, 0, 0, 0, 0, 0]
def k0_off87 (i : grid0.Coords) : Fin 6 → Nat :=
  let c1_i32_647 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1417 : BitVec 32 := Scalar.subi c1_i32_647 v9
  let v1418 : Index := Scalar.indexCast v1417
  let c0_648 : Index := 0#32
  let c1_649 : Index := 1#32
  let c0_650 : Index := 0#32
  let c0_651 : Index := 0#32
  ![v1418.toNat, 0, 1, 0, 0, 0]
def k0_off88 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1422 : Index := Scalar.indexCast v9
  let c0_652 : Index := 0#32
  let c1_653 : Index := 1#32
  let c0_654 : Index := 0#32
  let c0_655 : Index := 0#32
  ![v1422.toNat, 0, 1, 0, 0, 0]
def k0_off89 (i : grid0.Coords) : Fin 6 → Nat :=
  let c1_i32_665 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1440 : BitVec 32 := Scalar.subi c1_i32_665 v9
  let v1441 : Index := Scalar.indexCast v1440
  let c1_666 : Index := 1#32
  let c0_667 : Index := 0#32
  let c0_668 : Index := 0#32
  let c0_669 : Index := 0#32
  ![v1441.toNat, 1, 0, 0, 0, 0]
def k0_off90 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1445 : Index := Scalar.indexCast v9
  let c1_670 : Index := 1#32
  let c0_671 : Index := 0#32
  let c0_672 : Index := 0#32
  let c0_673 : Index := 0#32
  ![v1445.toNat, 1, 0, 0, 0, 0]
def k0_off91 (i : grid0.Coords) : Fin 6 → Nat :=
  let c1_i32_674 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1450 : BitVec 32 := Scalar.subi c1_i32_674 v9
  let v1451 : Index := Scalar.indexCast v1450
  let c1_675 : Index := 1#32
  let c1_676 : Index := 1#32
  let c0_677 : Index := 0#32
  let c0_678 : Index := 0#32
  ![v1451.toNat, 1, 1, 0, 0, 0]
def k0_off92 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1455 : Index := Scalar.indexCast v9
  let c1_679 : Index := 1#32
  let c1_680 : Index := 1#32
  let c0_681 : Index := 0#32
  let c0_682 : Index := 0#32
  ![v1455.toNat, 1, 1, 0, 0, 0]
def k0_off93 (i : grid0.Coords) : Fin 6 → Nat :=
  let c1_i32_693 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1473 : BitVec 32 := Scalar.subi c1_i32_693 v9
  let v1474 : Index := Scalar.indexCast v1473
  let c0_694 : Index := 0#32
  let c0_695 : Index := 0#32
  let c32_696 : Index := 32#32
  let c0_697 : Index := 0#32
  ![v1474.toNat, 0, 0, 32, 0, 0]
def k0_off94 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1478 : Index := Scalar.indexCast v9
  let c0_698 : Index := 0#32
  let c0_699 : Index := 0#32
  let c32_700 : Index := 32#32
  let c0_701 : Index := 0#32
  ![v1478.toNat, 0, 0, 32, 0, 0]
def k0_off95 (i : grid0.Coords) : Fin 6 → Nat :=
  let c1_i32_702 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1483 : BitVec 32 := Scalar.subi c1_i32_702 v9
  let v1484 : Index := Scalar.indexCast v1483
  let c0_703 : Index := 0#32
  let c1_704 : Index := 1#32
  let c32_705 : Index := 32#32
  let c0_706 : Index := 0#32
  ![v1484.toNat, 0, 1, 32, 0, 0]
def k0_off96 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1488 : Index := Scalar.indexCast v9
  let c0_707 : Index := 0#32
  let c1_708 : Index := 1#32
  let c32_709 : Index := 32#32
  let c0_710 : Index := 0#32
  ![v1488.toNat, 0, 1, 32, 0, 0]
def k0_off97 (i : grid0.Coords) : Fin 6 → Nat :=
  let c1_i32_721 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1506 : BitVec 32 := Scalar.subi c1_i32_721 v9
  let v1507 : Index := Scalar.indexCast v1506
  let c1_722 : Index := 1#32
  let c0_723 : Index := 0#32
  let c32_724 : Index := 32#32
  let c0_725 : Index := 0#32
  ![v1507.toNat, 1, 0, 32, 0, 0]
def k0_off98 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1511 : Index := Scalar.indexCast v9
  let c1_726 : Index := 1#32
  let c0_727 : Index := 0#32
  let c32_728 : Index := 32#32
  let c0_729 : Index := 0#32
  ![v1511.toNat, 1, 0, 32, 0, 0]
def k0_off99 (i : grid0.Coords) : Fin 6 → Nat :=
  let c1_i32_730 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1516 : BitVec 32 := Scalar.subi c1_i32_730 v9
  let v1517 : Index := Scalar.indexCast v1516
  let c1_731 : Index := 1#32
  let c1_732 : Index := 1#32
  let c32_733 : Index := 32#32
  let c0_734 : Index := 0#32
  ![v1517.toNat, 1, 1, 32, 0, 0]
def k0_off100 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1521 : Index := Scalar.indexCast v9
  let c1_735 : Index := 1#32
  let c1_736 : Index := 1#32
  let c32_737 : Index := 32#32
  let c0_738 : Index := 0#32
  ![v1521.toNat, 1, 1, 32, 0, 0]
def k0_off101 (i : grid0.Coords) : Fin 6 → Nat :=
  let c1_i32_749 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1539 : BitVec 32 := Scalar.subi c1_i32_749 v9
  let v1540 : Index := Scalar.indexCast v1539
  let c0_750 : Index := 0#32
  let c0_751 : Index := 0#32
  let c64_752 : Index := 64#32
  let c0_753 : Index := 0#32
  ![v1540.toNat, 0, 0, 64, 0, 0]
def k0_off102 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1544 : Index := Scalar.indexCast v9
  let c0_754 : Index := 0#32
  let c0_755 : Index := 0#32
  let c64_756 : Index := 64#32
  let c0_757 : Index := 0#32
  ![v1544.toNat, 0, 0, 64, 0, 0]
def k0_off103 (i : grid0.Coords) : Fin 6 → Nat :=
  let c1_i32_758 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1549 : BitVec 32 := Scalar.subi c1_i32_758 v9
  let v1550 : Index := Scalar.indexCast v1549
  let c0_759 : Index := 0#32
  let c1_760 : Index := 1#32
  let c64_761 : Index := 64#32
  let c0_762 : Index := 0#32
  ![v1550.toNat, 0, 1, 64, 0, 0]
def k0_off104 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1554 : Index := Scalar.indexCast v9
  let c0_763 : Index := 0#32
  let c1_764 : Index := 1#32
  let c64_765 : Index := 64#32
  let c0_766 : Index := 0#32
  ![v1554.toNat, 0, 1, 64, 0, 0]
def k0_off105 (i : grid0.Coords) : Fin 6 → Nat :=
  let c1_i32_776 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1572 : BitVec 32 := Scalar.subi c1_i32_776 v9
  let v1573 : Index := Scalar.indexCast v1572
  let c1_777 : Index := 1#32
  let c0_778 : Index := 0#32
  let c64_779 : Index := 64#32
  let c0_780 : Index := 0#32
  ![v1573.toNat, 1, 0, 64, 0, 0]
def k0_off106 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1577 : Index := Scalar.indexCast v9
  let c1_781 : Index := 1#32
  let c0_782 : Index := 0#32
  let c64_783 : Index := 64#32
  let c0_784 : Index := 0#32
  ![v1577.toNat, 1, 0, 64, 0, 0]
def k0_off107 (i : grid0.Coords) : Fin 6 → Nat :=
  let c1_i32_785 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1582 : BitVec 32 := Scalar.subi c1_i32_785 v9
  let v1583 : Index := Scalar.indexCast v1582
  let c1_786 : Index := 1#32
  let c1_787 : Index := 1#32
  let c64_788 : Index := 64#32
  let c0_789 : Index := 0#32
  ![v1583.toNat, 1, 1, 64, 0, 0]
def k0_off108 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1587 : Index := Scalar.indexCast v9
  let c1_790 : Index := 1#32
  let c1_791 : Index := 1#32
  let c64_792 : Index := 64#32
  let c0_793 : Index := 0#32
  ![v1587.toNat, 1, 1, 64, 0, 0]
def k0_off109 (i : grid0.Coords) : Fin 6 → Nat :=
  let c1_i32_804 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1605 : BitVec 32 := Scalar.subi c1_i32_804 v9
  let v1606 : Index := Scalar.indexCast v1605
  let c0_805 : Index := 0#32
  let c0_806 : Index := 0#32
  let c96_807 : Index := 96#32
  let c0_808 : Index := 0#32
  ![v1606.toNat, 0, 0, 96, 0, 0]
def k0_off110 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1610 : Index := Scalar.indexCast v9
  let c0_809 : Index := 0#32
  let c0_810 : Index := 0#32
  let c96_811 : Index := 96#32
  let c0_812 : Index := 0#32
  ![v1610.toNat, 0, 0, 96, 0, 0]
def k0_off111 (i : grid0.Coords) : Fin 6 → Nat :=
  let c1_i32_813 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1615 : BitVec 32 := Scalar.subi c1_i32_813 v9
  let v1616 : Index := Scalar.indexCast v1615
  let c0_814 : Index := 0#32
  let c1_815 : Index := 1#32
  let c96_816 : Index := 96#32
  let c0_817 : Index := 0#32
  ![v1616.toNat, 0, 1, 96, 0, 0]
def k0_off112 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1620 : Index := Scalar.indexCast v9
  let c0_818 : Index := 0#32
  let c1_819 : Index := 1#32
  let c96_820 : Index := 96#32
  let c0_821 : Index := 0#32
  ![v1620.toNat, 0, 1, 96, 0, 0]
def k0_off113 (i : grid0.Coords) : Fin 6 → Nat :=
  let c1_i32_831 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1638 : BitVec 32 := Scalar.subi c1_i32_831 v9
  let v1639 : Index := Scalar.indexCast v1638
  let c1_832 : Index := 1#32
  let c0_833 : Index := 0#32
  let c96_834 : Index := 96#32
  let c0_835 : Index := 0#32
  ![v1639.toNat, 1, 0, 96, 0, 0]
def k0_off114 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1643 : Index := Scalar.indexCast v9
  let c1_836 : Index := 1#32
  let c0_837 : Index := 0#32
  let c96_838 : Index := 96#32
  let c0_839 : Index := 0#32
  ![v1643.toNat, 1, 0, 96, 0, 0]
def k0_off115 (i : grid0.Coords) : Fin 6 → Nat :=
  let c1_i32_840 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1648 : BitVec 32 := Scalar.subi c1_i32_840 v9
  let v1649 : Index := Scalar.indexCast v1648
  let c1_841 : Index := 1#32
  let c1_842 : Index := 1#32
  let c96_843 : Index := 96#32
  let c0_844 : Index := 0#32
  ![v1649.toNat, 1, 1, 96, 0, 0]
def k0_off116 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1653 : Index := Scalar.indexCast v9
  let c1_845 : Index := 1#32
  let c1_846 : Index := 1#32
  let c96_847 : Index := 96#32
  let c0_848 : Index := 0#32
  ![v1653.toNat, 1, 1, 96, 0, 0]
def k0_off117 (i : grid0.Coords) : Fin 6 → Nat :=
  let c1_i32_859 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1671 : BitVec 32 := Scalar.subi c1_i32_859 v9
  let v1672 : Index := Scalar.indexCast v1671
  let c0_860 : Index := 0#32
  let c0_861 : Index := 0#32
  let c128_862 : Index := 128#32
  let c0_863 : Index := 0#32
  ![v1672.toNat, 0, 0, 128, 0, 0]
def k0_off118 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1676 : Index := Scalar.indexCast v9
  let c0_864 : Index := 0#32
  let c0_865 : Index := 0#32
  let c128_866 : Index := 128#32
  let c0_867 : Index := 0#32
  ![v1676.toNat, 0, 0, 128, 0, 0]
def k0_off119 (i : grid0.Coords) : Fin 6 → Nat :=
  let c1_i32_868 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1681 : BitVec 32 := Scalar.subi c1_i32_868 v9
  let v1682 : Index := Scalar.indexCast v1681
  let c0_869 : Index := 0#32
  let c1_870 : Index := 1#32
  let c128_871 : Index := 128#32
  let c0_872 : Index := 0#32
  ![v1682.toNat, 0, 1, 128, 0, 0]
def k0_off120 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1686 : Index := Scalar.indexCast v9
  let c0_873 : Index := 0#32
  let c1_874 : Index := 1#32
  let c128_875 : Index := 128#32
  let c0_876 : Index := 0#32
  ![v1686.toNat, 0, 1, 128, 0, 0]
def k0_off121 (i : grid0.Coords) : Fin 6 → Nat :=
  let c1_i32_886 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1704 : BitVec 32 := Scalar.subi c1_i32_886 v9
  let v1705 : Index := Scalar.indexCast v1704
  let c1_887 : Index := 1#32
  let c0_888 : Index := 0#32
  let c128_889 : Index := 128#32
  let c0_890 : Index := 0#32
  ![v1705.toNat, 1, 0, 128, 0, 0]
def k0_off122 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1709 : Index := Scalar.indexCast v9
  let c1_891 : Index := 1#32
  let c0_892 : Index := 0#32
  let c128_893 : Index := 128#32
  let c0_894 : Index := 0#32
  ![v1709.toNat, 1, 0, 128, 0, 0]
def k0_off123 (i : grid0.Coords) : Fin 6 → Nat :=
  let c1_i32_895 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1714 : BitVec 32 := Scalar.subi c1_i32_895 v9
  let v1715 : Index := Scalar.indexCast v1714
  let c1_896 : Index := 1#32
  let c1_897 : Index := 1#32
  let c128_898 : Index := 128#32
  let c0_899 : Index := 0#32
  ![v1715.toNat, 1, 1, 128, 0, 0]
def k0_off124 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1719 : Index := Scalar.indexCast v9
  let c1_900 : Index := 1#32
  let c1_901 : Index := 1#32
  let c128_902 : Index := 128#32
  let c0_903 : Index := 0#32
  ![v1719.toNat, 1, 1, 128, 0, 0]
def k0_off125 (i : grid0.Coords) : Fin 6 → Nat :=
  let c1_i32_914 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1737 : BitVec 32 := Scalar.subi c1_i32_914 v9
  let v1738 : Index := Scalar.indexCast v1737
  let c0_915 : Index := 0#32
  let c0_916 : Index := 0#32
  let c160_917 : Index := 160#32
  let c0_918 : Index := 0#32
  ![v1738.toNat, 0, 0, 160, 0, 0]
def k0_off126 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1742 : Index := Scalar.indexCast v9
  let c0_919 : Index := 0#32
  let c0_920 : Index := 0#32
  let c160_921 : Index := 160#32
  let c0_922 : Index := 0#32
  ![v1742.toNat, 0, 0, 160, 0, 0]
def k0_off127 (i : grid0.Coords) : Fin 6 → Nat :=
  let c1_i32_923 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1747 : BitVec 32 := Scalar.subi c1_i32_923 v9
  let v1748 : Index := Scalar.indexCast v1747
  let c0_924 : Index := 0#32
  let c1_925 : Index := 1#32
  let c160_926 : Index := 160#32
  let c0_927 : Index := 0#32
  ![v1748.toNat, 0, 1, 160, 0, 0]
def k0_off128 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1752 : Index := Scalar.indexCast v9
  let c0_928 : Index := 0#32
  let c1_929 : Index := 1#32
  let c160_930 : Index := 160#32
  let c0_931 : Index := 0#32
  ![v1752.toNat, 0, 1, 160, 0, 0]
def k0_off129 (i : grid0.Coords) : Fin 6 → Nat :=
  let c1_i32_941 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1770 : BitVec 32 := Scalar.subi c1_i32_941 v9
  let v1771 : Index := Scalar.indexCast v1770
  let c1_942 : Index := 1#32
  let c0_943 : Index := 0#32
  let c160_944 : Index := 160#32
  let c0_945 : Index := 0#32
  ![v1771.toNat, 1, 0, 160, 0, 0]
def k0_off130 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1775 : Index := Scalar.indexCast v9
  let c1_946 : Index := 1#32
  let c0_947 : Index := 0#32
  let c160_948 : Index := 160#32
  let c0_949 : Index := 0#32
  ![v1775.toNat, 1, 0, 160, 0, 0]
def k0_off131 (i : grid0.Coords) : Fin 6 → Nat :=
  let c1_i32_950 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1780 : BitVec 32 := Scalar.subi c1_i32_950 v9
  let v1781 : Index := Scalar.indexCast v1780
  let c1_951 : Index := 1#32
  let c1_952 : Index := 1#32
  let c160_953 : Index := 160#32
  let c0_954 : Index := 0#32
  ![v1781.toNat, 1, 1, 160, 0, 0]
def k0_off132 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1785 : Index := Scalar.indexCast v9
  let c1_955 : Index := 1#32
  let c1_956 : Index := 1#32
  let c160_957 : Index := 160#32
  let c0_958 : Index := 0#32
  ![v1785.toNat, 1, 1, 160, 0, 0]
def k0_off133 (i : grid0.Coords) : Fin 6 → Nat :=
  let c1_i32_969 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1803 : BitVec 32 := Scalar.subi c1_i32_969 v9
  let v1804 : Index := Scalar.indexCast v1803
  let c0_970 : Index := 0#32
  let c0_971 : Index := 0#32
  let c192_972 : Index := 192#32
  let c0_973 : Index := 0#32
  ![v1804.toNat, 0, 0, 192, 0, 0]
def k0_off134 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1808 : Index := Scalar.indexCast v9
  let c0_974 : Index := 0#32
  let c0_975 : Index := 0#32
  let c192_976 : Index := 192#32
  let c0_977 : Index := 0#32
  ![v1808.toNat, 0, 0, 192, 0, 0]
def k0_off135 (i : grid0.Coords) : Fin 6 → Nat :=
  let c1_i32_978 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1813 : BitVec 32 := Scalar.subi c1_i32_978 v9
  let v1814 : Index := Scalar.indexCast v1813
  let c0_979 : Index := 0#32
  let c1_980 : Index := 1#32
  let c192_981 : Index := 192#32
  let c0_982 : Index := 0#32
  ![v1814.toNat, 0, 1, 192, 0, 0]
def k0_off136 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1818 : Index := Scalar.indexCast v9
  let c0_983 : Index := 0#32
  let c1_984 : Index := 1#32
  let c192_985 : Index := 192#32
  let c0_986 : Index := 0#32
  ![v1818.toNat, 0, 1, 192, 0, 0]
def k0_off137 (i : grid0.Coords) : Fin 6 → Nat :=
  let c1_i32_996 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1836 : BitVec 32 := Scalar.subi c1_i32_996 v9
  let v1837 : Index := Scalar.indexCast v1836
  let c1_997 : Index := 1#32
  let c0_998 : Index := 0#32
  let c192_999 : Index := 192#32
  let c0_1000 : Index := 0#32
  ![v1837.toNat, 1, 0, 192, 0, 0]
def k0_off138 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1841 : Index := Scalar.indexCast v9
  let c1_1001 : Index := 1#32
  let c0_1002 : Index := 0#32
  let c192_1003 : Index := 192#32
  let c0_1004 : Index := 0#32
  ![v1841.toNat, 1, 0, 192, 0, 0]
def k0_off139 (i : grid0.Coords) : Fin 6 → Nat :=
  let c1_i32_1005 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1846 : BitVec 32 := Scalar.subi c1_i32_1005 v9
  let v1847 : Index := Scalar.indexCast v1846
  let c1_1006 : Index := 1#32
  let c1_1007 : Index := 1#32
  let c192_1008 : Index := 192#32
  let c0_1009 : Index := 0#32
  ![v1847.toNat, 1, 1, 192, 0, 0]
def k0_off140 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1851 : Index := Scalar.indexCast v9
  let c1_1010 : Index := 1#32
  let c1_1011 : Index := 1#32
  let c192_1012 : Index := 192#32
  let c0_1013 : Index := 0#32
  ![v1851.toNat, 1, 1, 192, 0, 0]
def k0_off141 (i : grid0.Coords) : Fin 6 → Nat :=
  let c1_i32_1024 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1869 : BitVec 32 := Scalar.subi c1_i32_1024 v9
  let v1870 : Index := Scalar.indexCast v1869
  let c0_1025 : Index := 0#32
  let c0_1026 : Index := 0#32
  let c224_1027 : Index := 224#32
  let c0_1028 : Index := 0#32
  ![v1870.toNat, 0, 0, 224, 0, 0]
def k0_off142 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1874 : Index := Scalar.indexCast v9
  let c0_1029 : Index := 0#32
  let c0_1030 : Index := 0#32
  let c224_1031 : Index := 224#32
  let c0_1032 : Index := 0#32
  ![v1874.toNat, 0, 0, 224, 0, 0]
def k0_off143 (i : grid0.Coords) : Fin 6 → Nat :=
  let c1_i32_1033 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1879 : BitVec 32 := Scalar.subi c1_i32_1033 v9
  let v1880 : Index := Scalar.indexCast v1879
  let c0_1034 : Index := 0#32
  let c1_1035 : Index := 1#32
  let c224_1036 : Index := 224#32
  let c0_1037 : Index := 0#32
  ![v1880.toNat, 0, 1, 224, 0, 0]
def k0_off144 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1884 : Index := Scalar.indexCast v9
  let c0_1038 : Index := 0#32
  let c1_1039 : Index := 1#32
  let c224_1040 : Index := 224#32
  let c0_1041 : Index := 0#32
  ![v1884.toNat, 0, 1, 224, 0, 0]
def k0_off145 (i : grid0.Coords) : Fin 6 → Nat :=
  let c1_i32_1051 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1902 : BitVec 32 := Scalar.subi c1_i32_1051 v9
  let v1903 : Index := Scalar.indexCast v1902
  let c1_1052 : Index := 1#32
  let c0_1053 : Index := 0#32
  let c224_1054 : Index := 224#32
  let c0_1055 : Index := 0#32
  ![v1903.toNat, 1, 0, 224, 0, 0]
def k0_off146 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1907 : Index := Scalar.indexCast v9
  let c1_1056 : Index := 1#32
  let c0_1057 : Index := 0#32
  let c224_1058 : Index := 224#32
  let c0_1059 : Index := 0#32
  ![v1907.toNat, 1, 0, 224, 0, 0]
def k0_off147 (i : grid0.Coords) : Fin 6 → Nat :=
  let c1_i32_1060 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1912 : BitVec 32 := Scalar.subi c1_i32_1060 v9
  let v1913 : Index := Scalar.indexCast v1912
  let c1_1061 : Index := 1#32
  let c1_1062 : Index := 1#32
  let c224_1063 : Index := 224#32
  let c0_1064 : Index := 0#32
  ![v1913.toNat, 1, 1, 224, 0, 0]
def k0_off148 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1917 : Index := Scalar.indexCast v9
  let c1_1065 : Index := 1#32
  let c1_1066 : Index := 1#32
  let c224_1067 : Index := 224#32
  let c0_1068 : Index := 0#32
  ![v1917.toNat, 1, 1, 224, 0, 0]
def k0_off149 (i : grid0.Coords) : Fin 6 → Nat :=
  let c1_i32_1079 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1935 : BitVec 32 := Scalar.subi c1_i32_1079 v9
  let v1936 : Index := Scalar.indexCast v1935
  let c0_1080 : Index := 0#32
  let c0_1081 : Index := 0#32
  let c256_1082 : Index := 256#32
  let c0_1083 : Index := 0#32
  ![v1936.toNat, 0, 0, 256, 0, 0]
def k0_off150 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1940 : Index := Scalar.indexCast v9
  let c0_1084 : Index := 0#32
  let c0_1085 : Index := 0#32
  let c256_1086 : Index := 256#32
  let c0_1087 : Index := 0#32
  ![v1940.toNat, 0, 0, 256, 0, 0]
def k0_off151 (i : grid0.Coords) : Fin 6 → Nat :=
  let c1_i32_1088 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1945 : BitVec 32 := Scalar.subi c1_i32_1088 v9
  let v1946 : Index := Scalar.indexCast v1945
  let c0_1089 : Index := 0#32
  let c1_1090 : Index := 1#32
  let c256_1091 : Index := 256#32
  let c0_1092 : Index := 0#32
  ![v1946.toNat, 0, 1, 256, 0, 0]
def k0_off152 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1950 : Index := Scalar.indexCast v9
  let c0_1093 : Index := 0#32
  let c1_1094 : Index := 1#32
  let c256_1095 : Index := 256#32
  let c0_1096 : Index := 0#32
  ![v1950.toNat, 0, 1, 256, 0, 0]
def k0_off153 (i : grid0.Coords) : Fin 6 → Nat :=
  let c1_i32_1107 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1968 : BitVec 32 := Scalar.subi c1_i32_1107 v9
  let v1969 : Index := Scalar.indexCast v1968
  let c1_1108 : Index := 1#32
  let c0_1109 : Index := 0#32
  let c256_1110 : Index := 256#32
  let c0_1111 : Index := 0#32
  ![v1969.toNat, 1, 0, 256, 0, 0]
def k0_off154 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1973 : Index := Scalar.indexCast v9
  let c1_1112 : Index := 1#32
  let c0_1113 : Index := 0#32
  let c256_1114 : Index := 256#32
  let c0_1115 : Index := 0#32
  ![v1973.toNat, 1, 0, 256, 0, 0]
def k0_off155 (i : grid0.Coords) : Fin 6 → Nat :=
  let c1_i32_1116 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1978 : BitVec 32 := Scalar.subi c1_i32_1116 v9
  let v1979 : Index := Scalar.indexCast v1978
  let c1_1117 : Index := 1#32
  let c1_1118 : Index := 1#32
  let c256_1119 : Index := 256#32
  let c0_1120 : Index := 0#32
  ![v1979.toNat, 1, 1, 256, 0, 0]
def k0_off156 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1983 : Index := Scalar.indexCast v9
  let c1_1121 : Index := 1#32
  let c1_1122 : Index := 1#32
  let c256_1123 : Index := 256#32
  let c0_1124 : Index := 0#32
  ![v1983.toNat, 1, 1, 256, 0, 0]
def k0_off157 (i : grid0.Coords) : Fin 6 → Nat :=
  let c1_i32_1135 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2001 : BitVec 32 := Scalar.subi c1_i32_1135 v9
  let v2002 : Index := Scalar.indexCast v2001
  let c0_1136 : Index := 0#32
  let c0_1137 : Index := 0#32
  let c288_1138 : Index := 288#32
  let c0_1139 : Index := 0#32
  ![v2002.toNat, 0, 0, 288, 0, 0]
def k0_off158 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2006 : Index := Scalar.indexCast v9
  let c0_1140 : Index := 0#32
  let c0_1141 : Index := 0#32
  let c288_1142 : Index := 288#32
  let c0_1143 : Index := 0#32
  ![v2006.toNat, 0, 0, 288, 0, 0]
def k0_off159 (i : grid0.Coords) : Fin 6 → Nat :=
  let c1_i32_1144 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2011 : BitVec 32 := Scalar.subi c1_i32_1144 v9
  let v2012 : Index := Scalar.indexCast v2011
  let c0_1145 : Index := 0#32
  let c1_1146 : Index := 1#32
  let c288_1147 : Index := 288#32
  let c0_1148 : Index := 0#32
  ![v2012.toNat, 0, 1, 288, 0, 0]
def k0_off160 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2016 : Index := Scalar.indexCast v9
  let c0_1149 : Index := 0#32
  let c1_1150 : Index := 1#32
  let c288_1151 : Index := 288#32
  let c0_1152 : Index := 0#32
  ![v2016.toNat, 0, 1, 288, 0, 0]
def k0_off161 (i : grid0.Coords) : Fin 6 → Nat :=
  let c1_i32_1162 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2034 : BitVec 32 := Scalar.subi c1_i32_1162 v9
  let v2035 : Index := Scalar.indexCast v2034
  let c1_1163 : Index := 1#32
  let c0_1164 : Index := 0#32
  let c288_1165 : Index := 288#32
  let c0_1166 : Index := 0#32
  ![v2035.toNat, 1, 0, 288, 0, 0]
def k0_off162 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2039 : Index := Scalar.indexCast v9
  let c1_1167 : Index := 1#32
  let c0_1168 : Index := 0#32
  let c288_1169 : Index := 288#32
  let c0_1170 : Index := 0#32
  ![v2039.toNat, 1, 0, 288, 0, 0]
def k0_off163 (i : grid0.Coords) : Fin 6 → Nat :=
  let c1_i32_1171 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2044 : BitVec 32 := Scalar.subi c1_i32_1171 v9
  let v2045 : Index := Scalar.indexCast v2044
  let c1_1172 : Index := 1#32
  let c1_1173 : Index := 1#32
  let c288_1174 : Index := 288#32
  let c0_1175 : Index := 0#32
  ![v2045.toNat, 1, 1, 288, 0, 0]
def k0_off164 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2049 : Index := Scalar.indexCast v9
  let c1_1176 : Index := 1#32
  let c1_1177 : Index := 1#32
  let c288_1178 : Index := 288#32
  let c0_1179 : Index := 0#32
  ![v2049.toNat, 1, 1, 288, 0, 0]
def k0_off165 (i : grid0.Coords) : Fin 6 → Nat :=
  let c1_i32_1190 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2067 : BitVec 32 := Scalar.subi c1_i32_1190 v9
  let v2068 : Index := Scalar.indexCast v2067
  let c0_1191 : Index := 0#32
  let c0_1192 : Index := 0#32
  let c320_1193 : Index := 320#32
  let c0_1194 : Index := 0#32
  ![v2068.toNat, 0, 0, 320, 0, 0]
def k0_off166 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2072 : Index := Scalar.indexCast v9
  let c0_1195 : Index := 0#32
  let c0_1196 : Index := 0#32
  let c320_1197 : Index := 320#32
  let c0_1198 : Index := 0#32
  ![v2072.toNat, 0, 0, 320, 0, 0]
def k0_off167 (i : grid0.Coords) : Fin 6 → Nat :=
  let c1_i32_1199 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2077 : BitVec 32 := Scalar.subi c1_i32_1199 v9
  let v2078 : Index := Scalar.indexCast v2077
  let c0_1200 : Index := 0#32
  let c1_1201 : Index := 1#32
  let c320_1202 : Index := 320#32
  let c0_1203 : Index := 0#32
  ![v2078.toNat, 0, 1, 320, 0, 0]
def k0_off168 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2082 : Index := Scalar.indexCast v9
  let c0_1204 : Index := 0#32
  let c1_1205 : Index := 1#32
  let c320_1206 : Index := 320#32
  let c0_1207 : Index := 0#32
  ![v2082.toNat, 0, 1, 320, 0, 0]
def k0_off169 (i : grid0.Coords) : Fin 6 → Nat :=
  let c1_i32_1217 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2100 : BitVec 32 := Scalar.subi c1_i32_1217 v9
  let v2101 : Index := Scalar.indexCast v2100
  let c1_1218 : Index := 1#32
  let c0_1219 : Index := 0#32
  let c320_1220 : Index := 320#32
  let c0_1221 : Index := 0#32
  ![v2101.toNat, 1, 0, 320, 0, 0]
def k0_off170 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2105 : Index := Scalar.indexCast v9
  let c1_1222 : Index := 1#32
  let c0_1223 : Index := 0#32
  let c320_1224 : Index := 320#32
  let c0_1225 : Index := 0#32
  ![v2105.toNat, 1, 0, 320, 0, 0]
def k0_off171 (i : grid0.Coords) : Fin 6 → Nat :=
  let c1_i32_1226 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2110 : BitVec 32 := Scalar.subi c1_i32_1226 v9
  let v2111 : Index := Scalar.indexCast v2110
  let c1_1227 : Index := 1#32
  let c1_1228 : Index := 1#32
  let c320_1229 : Index := 320#32
  let c0_1230 : Index := 0#32
  ![v2111.toNat, 1, 1, 320, 0, 0]
def k0_off172 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2115 : Index := Scalar.indexCast v9
  let c1_1231 : Index := 1#32
  let c1_1232 : Index := 1#32
  let c320_1233 : Index := 320#32
  let c0_1234 : Index := 0#32
  ![v2115.toNat, 1, 1, 320, 0, 0]
def k0_off173 (i : grid0.Coords) : Fin 6 → Nat :=
  let c1_i32_1245 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2133 : BitVec 32 := Scalar.subi c1_i32_1245 v9
  let v2134 : Index := Scalar.indexCast v2133
  let c0_1246 : Index := 0#32
  let c0_1247 : Index := 0#32
  let c352_1248 : Index := 352#32
  let c0_1249 : Index := 0#32
  ![v2134.toNat, 0, 0, 352, 0, 0]
def k0_off174 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2138 : Index := Scalar.indexCast v9
  let c0_1250 : Index := 0#32
  let c0_1251 : Index := 0#32
  let c352_1252 : Index := 352#32
  let c0_1253 : Index := 0#32
  ![v2138.toNat, 0, 0, 352, 0, 0]
def k0_off175 (i : grid0.Coords) : Fin 6 → Nat :=
  let c1_i32_1254 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2143 : BitVec 32 := Scalar.subi c1_i32_1254 v9
  let v2144 : Index := Scalar.indexCast v2143
  let c0_1255 : Index := 0#32
  let c1_1256 : Index := 1#32
  let c352_1257 : Index := 352#32
  let c0_1258 : Index := 0#32
  ![v2144.toNat, 0, 1, 352, 0, 0]
def k0_off176 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2148 : Index := Scalar.indexCast v9
  let c0_1259 : Index := 0#32
  let c1_1260 : Index := 1#32
  let c352_1261 : Index := 352#32
  let c0_1262 : Index := 0#32
  ![v2148.toNat, 0, 1, 352, 0, 0]
def k0_off177 (i : grid0.Coords) : Fin 6 → Nat :=
  let c1_i32_1272 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2166 : BitVec 32 := Scalar.subi c1_i32_1272 v9
  let v2167 : Index := Scalar.indexCast v2166
  let c1_1273 : Index := 1#32
  let c0_1274 : Index := 0#32
  let c352_1275 : Index := 352#32
  let c0_1276 : Index := 0#32
  ![v2167.toNat, 1, 0, 352, 0, 0]
def k0_off178 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2171 : Index := Scalar.indexCast v9
  let c1_1277 : Index := 1#32
  let c0_1278 : Index := 0#32
  let c352_1279 : Index := 352#32
  let c0_1280 : Index := 0#32
  ![v2171.toNat, 1, 0, 352, 0, 0]
def k0_off179 (i : grid0.Coords) : Fin 6 → Nat :=
  let c1_i32_1281 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2176 : BitVec 32 := Scalar.subi c1_i32_1281 v9
  let v2177 : Index := Scalar.indexCast v2176
  let c1_1282 : Index := 1#32
  let c1_1283 : Index := 1#32
  let c352_1284 : Index := 352#32
  let c0_1285 : Index := 0#32
  ![v2177.toNat, 1, 1, 352, 0, 0]
def k0_off180 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2181 : Index := Scalar.indexCast v9
  let c1_1286 : Index := 1#32
  let c1_1287 : Index := 1#32
  let c352_1288 : Index := 352#32
  let c0_1289 : Index := 0#32
  ![v2181.toNat, 1, 1, 352, 0, 0]
def k0_off181 (i : grid0.Coords) : Fin 6 → Nat :=
  let c1_i32_1300 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2199 : BitVec 32 := Scalar.subi c1_i32_1300 v9
  let v2200 : Index := Scalar.indexCast v2199
  let c0_1301 : Index := 0#32
  let c0_1302 : Index := 0#32
  let c384_1303 : Index := 384#32
  let c0_1304 : Index := 0#32
  ![v2200.toNat, 0, 0, 384, 0, 0]
def k0_off182 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2204 : Index := Scalar.indexCast v9
  let c0_1305 : Index := 0#32
  let c0_1306 : Index := 0#32
  let c384_1307 : Index := 384#32
  let c0_1308 : Index := 0#32
  ![v2204.toNat, 0, 0, 384, 0, 0]
def k0_off183 (i : grid0.Coords) : Fin 6 → Nat :=
  let c1_i32_1309 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2209 : BitVec 32 := Scalar.subi c1_i32_1309 v9
  let v2210 : Index := Scalar.indexCast v2209
  let c0_1310 : Index := 0#32
  let c1_1311 : Index := 1#32
  let c384_1312 : Index := 384#32
  let c0_1313 : Index := 0#32
  ![v2210.toNat, 0, 1, 384, 0, 0]
def k0_off184 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2214 : Index := Scalar.indexCast v9
  let c0_1314 : Index := 0#32
  let c1_1315 : Index := 1#32
  let c384_1316 : Index := 384#32
  let c0_1317 : Index := 0#32
  ![v2214.toNat, 0, 1, 384, 0, 0]
def k0_off185 (i : grid0.Coords) : Fin 6 → Nat :=
  let c1_i32_1327 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2232 : BitVec 32 := Scalar.subi c1_i32_1327 v9
  let v2233 : Index := Scalar.indexCast v2232
  let c1_1328 : Index := 1#32
  let c0_1329 : Index := 0#32
  let c384_1330 : Index := 384#32
  let c0_1331 : Index := 0#32
  ![v2233.toNat, 1, 0, 384, 0, 0]
def k0_off186 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2237 : Index := Scalar.indexCast v9
  let c1_1332 : Index := 1#32
  let c0_1333 : Index := 0#32
  let c384_1334 : Index := 384#32
  let c0_1335 : Index := 0#32
  ![v2237.toNat, 1, 0, 384, 0, 0]
def k0_off187 (i : grid0.Coords) : Fin 6 → Nat :=
  let c1_i32_1336 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2242 : BitVec 32 := Scalar.subi c1_i32_1336 v9
  let v2243 : Index := Scalar.indexCast v2242
  let c1_1337 : Index := 1#32
  let c1_1338 : Index := 1#32
  let c384_1339 : Index := 384#32
  let c0_1340 : Index := 0#32
  ![v2243.toNat, 1, 1, 384, 0, 0]
def k0_off188 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2247 : Index := Scalar.indexCast v9
  let c1_1341 : Index := 1#32
  let c1_1342 : Index := 1#32
  let c384_1343 : Index := 384#32
  let c0_1344 : Index := 0#32
  ![v2247.toNat, 1, 1, 384, 0, 0]
def k0_off189 (i : grid0.Coords) : Fin 6 → Nat :=
  let c1_i32_1355 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2265 : BitVec 32 := Scalar.subi c1_i32_1355 v9
  let v2266 : Index := Scalar.indexCast v2265
  let c0_1356 : Index := 0#32
  let c0_1357 : Index := 0#32
  let c416_1358 : Index := 416#32
  let c0_1359 : Index := 0#32
  ![v2266.toNat, 0, 0, 416, 0, 0]
def k0_off190 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2270 : Index := Scalar.indexCast v9
  let c0_1360 : Index := 0#32
  let c0_1361 : Index := 0#32
  let c416_1362 : Index := 416#32
  let c0_1363 : Index := 0#32
  ![v2270.toNat, 0, 0, 416, 0, 0]
def k0_off191 (i : grid0.Coords) : Fin 6 → Nat :=
  let c1_i32_1364 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2275 : BitVec 32 := Scalar.subi c1_i32_1364 v9
  let v2276 : Index := Scalar.indexCast v2275
  let c0_1365 : Index := 0#32
  let c1_1366 : Index := 1#32
  let c416_1367 : Index := 416#32
  let c0_1368 : Index := 0#32
  ![v2276.toNat, 0, 1, 416, 0, 0]
def k0_off192 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2280 : Index := Scalar.indexCast v9
  let c0_1369 : Index := 0#32
  let c1_1370 : Index := 1#32
  let c416_1371 : Index := 416#32
  let c0_1372 : Index := 0#32
  ![v2280.toNat, 0, 1, 416, 0, 0]
def k0_off193 (i : grid0.Coords) : Fin 6 → Nat :=
  let c1_i32_1382 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2298 : BitVec 32 := Scalar.subi c1_i32_1382 v9
  let v2299 : Index := Scalar.indexCast v2298
  let c1_1383 : Index := 1#32
  let c0_1384 : Index := 0#32
  let c416_1385 : Index := 416#32
  let c0_1386 : Index := 0#32
  ![v2299.toNat, 1, 0, 416, 0, 0]
def k0_off194 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2303 : Index := Scalar.indexCast v9
  let c1_1387 : Index := 1#32
  let c0_1388 : Index := 0#32
  let c416_1389 : Index := 416#32
  let c0_1390 : Index := 0#32
  ![v2303.toNat, 1, 0, 416, 0, 0]
def k0_off195 (i : grid0.Coords) : Fin 6 → Nat :=
  let c1_i32_1391 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2308 : BitVec 32 := Scalar.subi c1_i32_1391 v9
  let v2309 : Index := Scalar.indexCast v2308
  let c1_1392 : Index := 1#32
  let c1_1393 : Index := 1#32
  let c416_1394 : Index := 416#32
  let c0_1395 : Index := 0#32
  ![v2309.toNat, 1, 1, 416, 0, 0]
def k0_off196 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2313 : Index := Scalar.indexCast v9
  let c1_1396 : Index := 1#32
  let c1_1397 : Index := 1#32
  let c416_1398 : Index := 416#32
  let c0_1399 : Index := 0#32
  ![v2313.toNat, 1, 1, 416, 0, 0]
def k0_off197 (i : grid0.Coords) : Fin 6 → Nat :=
  let c1_i32_1410 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2331 : BitVec 32 := Scalar.subi c1_i32_1410 v9
  let v2332 : Index := Scalar.indexCast v2331
  let c0_1411 : Index := 0#32
  let c0_1412 : Index := 0#32
  let c448_1413 : Index := 448#32
  let c0_1414 : Index := 0#32
  ![v2332.toNat, 0, 0, 448, 0, 0]
def k0_off198 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2336 : Index := Scalar.indexCast v9
  let c0_1415 : Index := 0#32
  let c0_1416 : Index := 0#32
  let c448_1417 : Index := 448#32
  let c0_1418 : Index := 0#32
  ![v2336.toNat, 0, 0, 448, 0, 0]
def k0_off199 (i : grid0.Coords) : Fin 6 → Nat :=
  let c1_i32_1419 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2341 : BitVec 32 := Scalar.subi c1_i32_1419 v9
  let v2342 : Index := Scalar.indexCast v2341
  let c0_1420 : Index := 0#32
  let c1_1421 : Index := 1#32
  let c448_1422 : Index := 448#32
  let c0_1423 : Index := 0#32
  ![v2342.toNat, 0, 1, 448, 0, 0]
def k0_off200 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2346 : Index := Scalar.indexCast v9
  let c0_1424 : Index := 0#32
  let c1_1425 : Index := 1#32
  let c448_1426 : Index := 448#32
  let c0_1427 : Index := 0#32
  ![v2346.toNat, 0, 1, 448, 0, 0]
def k0_off201 (i : grid0.Coords) : Fin 6 → Nat :=
  let c1_i32_1437 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2364 : BitVec 32 := Scalar.subi c1_i32_1437 v9
  let v2365 : Index := Scalar.indexCast v2364
  let c1_1438 : Index := 1#32
  let c0_1439 : Index := 0#32
  let c448_1440 : Index := 448#32
  let c0_1441 : Index := 0#32
  ![v2365.toNat, 1, 0, 448, 0, 0]
def k0_off202 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2369 : Index := Scalar.indexCast v9
  let c1_1442 : Index := 1#32
  let c0_1443 : Index := 0#32
  let c448_1444 : Index := 448#32
  let c0_1445 : Index := 0#32
  ![v2369.toNat, 1, 0, 448, 0, 0]
def k0_off203 (i : grid0.Coords) : Fin 6 → Nat :=
  let c1_i32_1446 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2374 : BitVec 32 := Scalar.subi c1_i32_1446 v9
  let v2375 : Index := Scalar.indexCast v2374
  let c1_1447 : Index := 1#32
  let c1_1448 : Index := 1#32
  let c448_1449 : Index := 448#32
  let c0_1450 : Index := 0#32
  ![v2375.toNat, 1, 1, 448, 0, 0]
def k0_off204 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2379 : Index := Scalar.indexCast v9
  let c1_1451 : Index := 1#32
  let c1_1452 : Index := 1#32
  let c448_1453 : Index := 448#32
  let c0_1454 : Index := 0#32
  ![v2379.toNat, 1, 1, 448, 0, 0]
def k0_off205 (i : grid0.Coords) : Fin 6 → Nat :=
  let c1_i32_1465 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2397 : BitVec 32 := Scalar.subi c1_i32_1465 v9
  let v2398 : Index := Scalar.indexCast v2397
  let c0_1466 : Index := 0#32
  let c0_1467 : Index := 0#32
  let c480_1468 : Index := 480#32
  let c0_1469 : Index := 0#32
  ![v2398.toNat, 0, 0, 480, 0, 0]
def k0_off206 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2402 : Index := Scalar.indexCast v9
  let c0_1470 : Index := 0#32
  let c0_1471 : Index := 0#32
  let c480_1472 : Index := 480#32
  let c0_1473 : Index := 0#32
  ![v2402.toNat, 0, 0, 480, 0, 0]
def k0_off207 (i : grid0.Coords) : Fin 6 → Nat :=
  let c1_i32_1474 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2407 : BitVec 32 := Scalar.subi c1_i32_1474 v9
  let v2408 : Index := Scalar.indexCast v2407
  let c0_1475 : Index := 0#32
  let c1_1476 : Index := 1#32
  let c480_1477 : Index := 480#32
  let c0_1478 : Index := 0#32
  ![v2408.toNat, 0, 1, 480, 0, 0]
def k0_off208 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2412 : Index := Scalar.indexCast v9
  let c0_1479 : Index := 0#32
  let c1_1480 : Index := 1#32
  let c480_1481 : Index := 480#32
  let c0_1482 : Index := 0#32
  ![v2412.toNat, 0, 1, 480, 0, 0]
def k0_off209 (i : grid0.Coords) : Fin 6 → Nat :=
  let c1_i32_1492 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2430 : BitVec 32 := Scalar.subi c1_i32_1492 v9
  let v2431 : Index := Scalar.indexCast v2430
  let c1_1493 : Index := 1#32
  let c0_1494 : Index := 0#32
  let c480_1495 : Index := 480#32
  let c0_1496 : Index := 0#32
  ![v2431.toNat, 1, 0, 480, 0, 0]
def k0_off210 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2435 : Index := Scalar.indexCast v9
  let c1_1497 : Index := 1#32
  let c0_1498 : Index := 0#32
  let c480_1499 : Index := 480#32
  let c0_1500 : Index := 0#32
  ![v2435.toNat, 1, 0, 480, 0, 0]
def k0_off211 (i : grid0.Coords) : Fin 6 → Nat :=
  let c1_i32_1501 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2440 : BitVec 32 := Scalar.subi c1_i32_1501 v9
  let v2441 : Index := Scalar.indexCast v2440
  let c1_1502 : Index := 1#32
  let c1_1503 : Index := 1#32
  let c480_1504 : Index := 480#32
  let c0_1505 : Index := 0#32
  ![v2441.toNat, 1, 1, 480, 0, 0]
def k0_off212 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2445 : Index := Scalar.indexCast v9
  let c1_1506 : Index := 1#32
  let c1_1507 : Index := 1#32
  let c480_1508 : Index := 480#32
  let c0_1509 : Index := 0#32
  ![v2445.toNat, 1, 1, 480, 0, 0]
def k0_off213 (i : grid0.Coords) : Fin 6 → Nat :=
  let c1_i32_1520 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2463 : BitVec 32 := Scalar.subi c1_i32_1520 v9
  let v2464 : Index := Scalar.indexCast v2463
  let c0_1521 : Index := 0#32
  let c0_1522 : Index := 0#32
  let c512_1523 : Index := 512#32
  let c0_1524 : Index := 0#32
  ![v2464.toNat, 0, 0, 512, 0, 0]
def k0_off214 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2468 : Index := Scalar.indexCast v9
  let c0_1525 : Index := 0#32
  let c0_1526 : Index := 0#32
  let c512_1527 : Index := 512#32
  let c0_1528 : Index := 0#32
  ![v2468.toNat, 0, 0, 512, 0, 0]
def k0_off215 (i : grid0.Coords) : Fin 6 → Nat :=
  let c1_i32_1529 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2473 : BitVec 32 := Scalar.subi c1_i32_1529 v9
  let v2474 : Index := Scalar.indexCast v2473
  let c0_1530 : Index := 0#32
  let c1_1531 : Index := 1#32
  let c512_1532 : Index := 512#32
  let c0_1533 : Index := 0#32
  ![v2474.toNat, 0, 1, 512, 0, 0]
def k0_off216 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2478 : Index := Scalar.indexCast v9
  let c0_1534 : Index := 0#32
  let c1_1535 : Index := 1#32
  let c512_1536 : Index := 512#32
  let c0_1537 : Index := 0#32
  ![v2478.toNat, 0, 1, 512, 0, 0]
def k0_off217 (i : grid0.Coords) : Fin 6 → Nat :=
  let c1_i32_1548 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2496 : BitVec 32 := Scalar.subi c1_i32_1548 v9
  let v2497 : Index := Scalar.indexCast v2496
  let c1_1549 : Index := 1#32
  let c0_1550 : Index := 0#32
  let c512_1551 : Index := 512#32
  let c0_1552 : Index := 0#32
  ![v2497.toNat, 1, 0, 512, 0, 0]
def k0_off218 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2501 : Index := Scalar.indexCast v9
  let c1_1553 : Index := 1#32
  let c0_1554 : Index := 0#32
  let c512_1555 : Index := 512#32
  let c0_1556 : Index := 0#32
  ![v2501.toNat, 1, 0, 512, 0, 0]
def k0_off219 (i : grid0.Coords) : Fin 6 → Nat :=
  let c1_i32_1557 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2506 : BitVec 32 := Scalar.subi c1_i32_1557 v9
  let v2507 : Index := Scalar.indexCast v2506
  let c1_1558 : Index := 1#32
  let c1_1559 : Index := 1#32
  let c512_1560 : Index := 512#32
  let c0_1561 : Index := 0#32
  ![v2507.toNat, 1, 1, 512, 0, 0]
def k0_off220 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2511 : Index := Scalar.indexCast v9
  let c1_1562 : Index := 1#32
  let c1_1563 : Index := 1#32
  let c512_1564 : Index := 512#32
  let c0_1565 : Index := 0#32
  ![v2511.toNat, 1, 1, 512, 0, 0]
def k0_off221 (i : grid0.Coords) : Fin 6 → Nat :=
  let c1_i32_1576 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2529 : BitVec 32 := Scalar.subi c1_i32_1576 v9
  let v2530 : Index := Scalar.indexCast v2529
  let c0_1577 : Index := 0#32
  let c0_1578 : Index := 0#32
  let c544_1579 : Index := 544#32
  let c0_1580 : Index := 0#32
  ![v2530.toNat, 0, 0, 544, 0, 0]
def k0_off222 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2534 : Index := Scalar.indexCast v9
  let c0_1581 : Index := 0#32
  let c0_1582 : Index := 0#32
  let c544_1583 : Index := 544#32
  let c0_1584 : Index := 0#32
  ![v2534.toNat, 0, 0, 544, 0, 0]
def k0_off223 (i : grid0.Coords) : Fin 6 → Nat :=
  let c1_i32_1585 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2539 : BitVec 32 := Scalar.subi c1_i32_1585 v9
  let v2540 : Index := Scalar.indexCast v2539
  let c0_1586 : Index := 0#32
  let c1_1587 : Index := 1#32
  let c544_1588 : Index := 544#32
  let c0_1589 : Index := 0#32
  ![v2540.toNat, 0, 1, 544, 0, 0]
def k0_off224 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2544 : Index := Scalar.indexCast v9
  let c0_1590 : Index := 0#32
  let c1_1591 : Index := 1#32
  let c544_1592 : Index := 544#32
  let c0_1593 : Index := 0#32
  ![v2544.toNat, 0, 1, 544, 0, 0]
def k0_off225 (i : grid0.Coords) : Fin 6 → Nat :=
  let c1_i32_1603 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2562 : BitVec 32 := Scalar.subi c1_i32_1603 v9
  let v2563 : Index := Scalar.indexCast v2562
  let c1_1604 : Index := 1#32
  let c0_1605 : Index := 0#32
  let c544_1606 : Index := 544#32
  let c0_1607 : Index := 0#32
  ![v2563.toNat, 1, 0, 544, 0, 0]
def k0_off226 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2567 : Index := Scalar.indexCast v9
  let c1_1608 : Index := 1#32
  let c0_1609 : Index := 0#32
  let c544_1610 : Index := 544#32
  let c0_1611 : Index := 0#32
  ![v2567.toNat, 1, 0, 544, 0, 0]
def k0_off227 (i : grid0.Coords) : Fin 6 → Nat :=
  let c1_i32_1612 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2572 : BitVec 32 := Scalar.subi c1_i32_1612 v9
  let v2573 : Index := Scalar.indexCast v2572
  let c1_1613 : Index := 1#32
  let c1_1614 : Index := 1#32
  let c544_1615 : Index := 544#32
  let c0_1616 : Index := 0#32
  ![v2573.toNat, 1, 1, 544, 0, 0]
def k0_off228 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2577 : Index := Scalar.indexCast v9
  let c1_1617 : Index := 1#32
  let c1_1618 : Index := 1#32
  let c544_1619 : Index := 544#32
  let c0_1620 : Index := 0#32
  ![v2577.toNat, 1, 1, 544, 0, 0]
def k0_off229 (i : grid0.Coords) : Fin 6 → Nat :=
  let c1_i32_1631 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2595 : BitVec 32 := Scalar.subi c1_i32_1631 v9
  let v2596 : Index := Scalar.indexCast v2595
  let c0_1632 : Index := 0#32
  let c0_1633 : Index := 0#32
  let c576_1634 : Index := 576#32
  let c0_1635 : Index := 0#32
  ![v2596.toNat, 0, 0, 576, 0, 0]
def k0_off230 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2600 : Index := Scalar.indexCast v9
  let c0_1636 : Index := 0#32
  let c0_1637 : Index := 0#32
  let c576_1638 : Index := 576#32
  let c0_1639 : Index := 0#32
  ![v2600.toNat, 0, 0, 576, 0, 0]
def k0_off231 (i : grid0.Coords) : Fin 6 → Nat :=
  let c1_i32_1640 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2605 : BitVec 32 := Scalar.subi c1_i32_1640 v9
  let v2606 : Index := Scalar.indexCast v2605
  let c0_1641 : Index := 0#32
  let c1_1642 : Index := 1#32
  let c576_1643 : Index := 576#32
  let c0_1644 : Index := 0#32
  ![v2606.toNat, 0, 1, 576, 0, 0]
def k0_off232 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2610 : Index := Scalar.indexCast v9
  let c0_1645 : Index := 0#32
  let c1_1646 : Index := 1#32
  let c576_1647 : Index := 576#32
  let c0_1648 : Index := 0#32
  ![v2610.toNat, 0, 1, 576, 0, 0]
def k0_off233 (i : grid0.Coords) : Fin 6 → Nat :=
  let c1_i32_1658 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2628 : BitVec 32 := Scalar.subi c1_i32_1658 v9
  let v2629 : Index := Scalar.indexCast v2628
  let c1_1659 : Index := 1#32
  let c0_1660 : Index := 0#32
  let c576_1661 : Index := 576#32
  let c0_1662 : Index := 0#32
  ![v2629.toNat, 1, 0, 576, 0, 0]
def k0_off234 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2633 : Index := Scalar.indexCast v9
  let c1_1663 : Index := 1#32
  let c0_1664 : Index := 0#32
  let c576_1665 : Index := 576#32
  let c0_1666 : Index := 0#32
  ![v2633.toNat, 1, 0, 576, 0, 0]
def k0_off235 (i : grid0.Coords) : Fin 6 → Nat :=
  let c1_i32_1667 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2638 : BitVec 32 := Scalar.subi c1_i32_1667 v9
  let v2639 : Index := Scalar.indexCast v2638
  let c1_1668 : Index := 1#32
  let c1_1669 : Index := 1#32
  let c576_1670 : Index := 576#32
  let c0_1671 : Index := 0#32
  ![v2639.toNat, 1, 1, 576, 0, 0]
def k0_off236 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2643 : Index := Scalar.indexCast v9
  let c1_1672 : Index := 1#32
  let c1_1673 : Index := 1#32
  let c576_1674 : Index := 576#32
  let c0_1675 : Index := 0#32
  ![v2643.toNat, 1, 1, 576, 0, 0]
def k0_off237 (i : grid0.Coords) : Fin 6 → Nat :=
  let c1_i32_1686 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2661 : BitVec 32 := Scalar.subi c1_i32_1686 v9
  let v2662 : Index := Scalar.indexCast v2661
  let c0_1687 : Index := 0#32
  let c0_1688 : Index := 0#32
  let c608_1689 : Index := 608#32
  let c0_1690 : Index := 0#32
  ![v2662.toNat, 0, 0, 608, 0, 0]
def k0_off238 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2666 : Index := Scalar.indexCast v9
  let c0_1691 : Index := 0#32
  let c0_1692 : Index := 0#32
  let c608_1693 : Index := 608#32
  let c0_1694 : Index := 0#32
  ![v2666.toNat, 0, 0, 608, 0, 0]
def k0_off239 (i : grid0.Coords) : Fin 6 → Nat :=
  let c1_i32_1695 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2671 : BitVec 32 := Scalar.subi c1_i32_1695 v9
  let v2672 : Index := Scalar.indexCast v2671
  let c0_1696 : Index := 0#32
  let c1_1697 : Index := 1#32
  let c608_1698 : Index := 608#32
  let c0_1699 : Index := 0#32
  ![v2672.toNat, 0, 1, 608, 0, 0]
def k0_off240 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2676 : Index := Scalar.indexCast v9
  let c0_1700 : Index := 0#32
  let c1_1701 : Index := 1#32
  let c608_1702 : Index := 608#32
  let c0_1703 : Index := 0#32
  ![v2676.toNat, 0, 1, 608, 0, 0]
def k0_off241 (i : grid0.Coords) : Fin 6 → Nat :=
  let c1_i32_1713 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2694 : BitVec 32 := Scalar.subi c1_i32_1713 v9
  let v2695 : Index := Scalar.indexCast v2694
  let c1_1714 : Index := 1#32
  let c0_1715 : Index := 0#32
  let c608_1716 : Index := 608#32
  let c0_1717 : Index := 0#32
  ![v2695.toNat, 1, 0, 608, 0, 0]
def k0_off242 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2699 : Index := Scalar.indexCast v9
  let c1_1718 : Index := 1#32
  let c0_1719 : Index := 0#32
  let c608_1720 : Index := 608#32
  let c0_1721 : Index := 0#32
  ![v2699.toNat, 1, 0, 608, 0, 0]
def k0_off243 (i : grid0.Coords) : Fin 6 → Nat :=
  let c1_i32_1722 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2704 : BitVec 32 := Scalar.subi c1_i32_1722 v9
  let v2705 : Index := Scalar.indexCast v2704
  let c1_1723 : Index := 1#32
  let c1_1724 : Index := 1#32
  let c608_1725 : Index := 608#32
  let c0_1726 : Index := 0#32
  ![v2705.toNat, 1, 1, 608, 0, 0]
def k0_off244 (i : grid0.Coords) : Fin 6 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2709 : Index := Scalar.indexCast v9
  let c1_1727 : Index := 1#32
  let c1_1728 : Index := 1#32
  let c608_1729 : Index := 608#32
  let c0_1730 : Index := 0#32
  ![v2709.toNat, 1, 1, 608, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  let c0_i32_3 : BitVec 32 := 0#32
  ![v1.toNat, c0_i32_0.toNat, c0_i32_1.toNat, c0_i32_2.toNat]

def cc0_transform_5 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  let c0_i32_3 : BitVec 32 := 0#32
  ![v1.toNat, c0_i32_0.toNat, c0_i32_1.toNat, c0_i32_2.toNat]

abbrev stage0_0 : Fin 2 → Memref sig .tc .vmem S1x1008x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x96x256 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x96x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S96x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x20x96x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x20x96x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S2709504 : Shape := ⟨1, ![2709504]⟩
abbrev S8x8x4x96 : Shape := ⟨4, ![8, 8, 4, 96]⟩
abbrev S4x96 : Shape := ⟨2, ![4, 96]⟩
abbrev S96 : Shape := ⟨1, ![96]⟩
abbrev S1x1x4x96 : Shape := ⟨4, ![1, 1, 4, 96]⟩
abbrev S21x21x2x6x4x128 : Shape := ⟨6, ![21, 21, 2, 6, 4, 128]⟩
abbrev S21x21x2x5x4x128 : Shape := ⟨6, ![21, 21, 2, 5, 4, 128]⟩
abbrev S21x21x2x1x4x128 : Shape := ⟨6, ![21, 21, 2, 1, 4, 128]⟩
abbrev S21x21x2x4x4x128 : Shape := ⟨6, ![21, 21, 2, 4, 4, 128]⟩
abbrev S21x21x2x3x4x128 : Shape := ⟨6, ![21, 21, 2, 3, 4, 128]⟩
abbrev S21x21x2x4x4x128x1 : Shape := ⟨7, ![21, 21, 2, 4, 4, 128, 1]⟩
abbrev S4 : Shape := ⟨1, ![4]⟩
abbrev S_ : Shape := ⟨0, ![]⟩
abbrev S1x1x1x1x1x1x4 : Shape := ⟨7, ![1, 1, 1, 1, 1, 1, 4]⟩
abbrev S21x21x2x4x4x128x4 : Shape := ⟨7, ![21, 21, 2, 4, 4, 128, 4]⟩
abbrev S2x128x21x4x21x4x4 : Shape := ⟨7, ![2, 128, 21, 4, 21, 4, 4]⟩
abbrev S256x84x84x4 : Shape := ⟨4, ![256, 84, 84, 4]⟩
abbrev S256x20x84x4 : Shape := ⟨4, ![256, 20, 84, 4]⟩
abbrev S256x20x1x84x4 : Shape := ⟨5, ![256, 20, 1, 84, 4]⟩
abbrev S256x20x8x84x4 : Shape := ⟨5, ![256, 20, 8, 84, 4]⟩
abbrev S256x20x8x20x4 : Shape := ⟨5, ![256, 20, 8, 20, 4]⟩
abbrev S256x20x8x20x1x4 : Shape := ⟨6, ![256, 20, 8, 20, 1, 4]⟩
abbrev S256x20x8x20x8x4 : Shape := ⟨6, ![256, 20, 8, 20, 8, 4]⟩
abbrev S256x20x20x96 : Shape := ⟨4, ![256, 20, 20, 96]⟩
abbrev S1x1x1x96 : Shape := ⟨4, ![1, 1, 1, 96]⟩

abbrev nBuf : Space → Nat
  | .hbm => 134
  | .vmem => 3
  | .smem => 0
  | _ => 0

abbrev hbmTy0_0 (i : Nat) : BufTy := match i % 128 with
  | 0 => ⟨S2709504, .i32⟩
  | 1 => ⟨S8x8x4x96, .fp8e4m3⟩
  | 2 => ⟨S4x96, .f32⟩
  | 3 => ⟨S96, .f32⟩
  | 4 => ⟨S8x8x4x96, .bf16⟩
  | 5 => ⟨S21x21x2x6x4x128, .i32⟩
  | 6 => ⟨S21x21x2x5x4x128, .i32⟩
  | 7 => ⟨S21x21x2x1x4x128, .i32⟩
  | 8 => ⟨S21x21x2x4x4x128, .i32⟩
  | 9 => ⟨S21x21x2x3x4x128, .i32⟩
  | 10 => ⟨S21x21x2x3x4x128, .i32⟩
  | 11 => ⟨S21x21x2x3x4x128, .i32⟩
  | 12 => ⟨S21x21x2x1x4x128, .i32⟩
  | 13 => ⟨S21x21x2x4x4x128, .i32⟩
  | 14 => ⟨S21x21x2x4x4x128x1, .i32⟩
  | 15 => ⟨S4, .i32⟩
  | 16 => ⟨S_, .i32⟩
  | 17 => ⟨S4, .i32⟩
  | 18 => ⟨S4, .i32⟩
  | 19 => ⟨S1x1x1x1x1x1x4, .i32⟩
  | 20 => ⟨S21x21x2x4x4x128x4, .i32⟩
  | 21 => ⟨S21x21x2x4x4x128x4, .i32⟩
  | 22 => ⟨S21x21x2x4x4x128x4, .i32⟩
  | 23 => ⟨S_, .i32⟩
  | 24 => ⟨S21x21x2x4x4x128x4, .i32⟩
  | 25 => ⟨S21x21x2x4x4x128x4, .i32⟩
  | 26 => ⟨S2x128x21x4x21x4x4, .i32⟩
  | 27 => ⟨S256x84x84x4, .i32⟩
  | 28 => ⟨S256x84x84x4, .bf16⟩
  | 29 => ⟨S256x20x84x4, .bf16⟩
  | 30 => ⟨S256x20x84x4, .bf16⟩
  | 31 => ⟨S256x20x84x4, .bf16⟩
  | 32 => ⟨S256x20x84x4, .bf16⟩
  | 33 => ⟨S256x20x84x4, .bf16⟩
  | 34 => ⟨S256x20x84x4, .bf16⟩
  | 35 => ⟨S256x20x84x4, .bf16⟩
  | 36 => ⟨S256x20x84x4, .bf16⟩
  | 37 => ⟨S256x20x1x84x4, .bf16⟩
  | 38 => ⟨S256x20x1x84x4, .bf16⟩
  | 39 => ⟨S256x20x1x84x4, .bf16⟩
  | 40 => ⟨S256x20x1x84x4, .bf16⟩
  | 41 => ⟨S256x20x1x84x4, .bf16⟩
  | 42 => ⟨S256x20x1x84x4, .bf16⟩
  | 43 => ⟨S256x20x1x84x4, .bf16⟩
  | 44 => ⟨S256x20x1x84x4, .bf16⟩
  | 45 => ⟨S256x20x8x84x4, .bf16⟩
  | 46 => ⟨S256x20x8x20x4, .bf16⟩
  | 47 => ⟨S256x20x8x20x4, .bf16⟩
  | 48 => ⟨S256x20x8x20x4, .bf16⟩
  | 49 => ⟨S256x20x8x20x4, .bf16⟩
  | 50 => ⟨S256x20x8x20x4, .bf16⟩
  | 51 => ⟨S256x20x8x20x4, .bf16⟩
  | 52 => ⟨S256x20x8x20x4, .bf16⟩
  | 53 => ⟨S256x20x8x20x4, .bf16⟩
  | 54 => ⟨S256x20x8x20x1x4, .bf16⟩
  | 55 => ⟨S256x20x8x20x1x4, .bf16⟩
  | 56 => ⟨S256x20x8x20x1x4, .bf16⟩
  | 57 => ⟨S256x20x8x20x1x4, .bf16⟩
  | 58 => ⟨S256x20x8x20x1x4, .bf16⟩
  | 59 => ⟨S256x20x8x20x1x4, .bf16⟩
  | 60 => ⟨S256x20x8x20x1x4, .bf16⟩
  | 61 => ⟨S256x20x8x20x1x4, .bf16⟩
  | 62 => ⟨S256x20x8x20x8x4, .bf16⟩
  | 63 => ⟨S256x20x20x96, .f32⟩
  | 64 => ⟨S_, .f32⟩
  | 65 => ⟨S256x20x20x96, .f32⟩
  | 66 => ⟨S256x20x20x96, .f32⟩
  | 67 => ⟨S1x1x1x96, .f32⟩
  | 68 => ⟨S256x20x20x96, .f32⟩
  | 69 => ⟨S256x20x20x96, .f32⟩
  | 70 => ⟨S_, .f32⟩
  | 71 => ⟨S256x20x20x96, .f32⟩
  | 72 => ⟨S256x20x20x96, .f32⟩
  | 73 => ⟨S256x20x20x96, .bf16⟩
  | 74 => ⟨S21x21x2x4x4x128x1, .i32⟩
  | 75 => ⟨S4, .i32⟩
  | 76 => ⟨S_, .i32⟩
  | 77 => ⟨S4, .i32⟩
  | 78 => ⟨S4, .i32⟩
  | 79 => ⟨S1x1x1x1x1x1x4, .i32⟩
  | 80 => ⟨S21x21x2x4x4x128x4, .i32⟩
  | 81 => ⟨S21x21x2x4x4x128x4, .i32⟩
  | 82 => ⟨S21x21x2x4x4x128x4, .i32⟩
  | 83 => ⟨S_, .i32⟩
  | 84 => ⟨S21x21x2x4x4x128x4, .i32⟩
  | 85 => ⟨S21x21x2x4x4x128x4, .i32⟩
  | 86 => ⟨S2x128x21x4x21x4x4, .i32⟩
  | 87 => ⟨S256x84x84x4, .i32⟩
  | 88 => ⟨S256x84x84x4, .bf16⟩
  | 89 => ⟨S256x20x84x4, .bf16⟩
  | 90 => ⟨S256x20x84x4, .bf16⟩
  | 91 => ⟨S256x20x84x4, .bf16⟩
  | 92 => ⟨S256x20x84x4, .bf16⟩
  | 93 => ⟨S256x20x84x4, .bf16⟩
  | 94 => ⟨S256x20x84x4, .bf16⟩
  | 95 => ⟨S256x20x84x4, .bf16⟩
  | 96 => ⟨S256x20x84x4, .bf16⟩
  | 97 => ⟨S256x20x1x84x4, .bf16⟩
  | 98 => ⟨S256x20x1x84x4, .bf16⟩
  | 99 => ⟨S256x20x1x84x4, .bf16⟩
  | 100 => ⟨S256x20x1x84x4, .bf16⟩
  | 101 => ⟨S256x20x1x84x4, .bf16⟩
  | 102 => ⟨S256x20x1x84x4, .bf16⟩
  | 103 => ⟨S256x20x1x84x4, .bf16⟩
  | 104 => ⟨S256x20x1x84x4, .bf16⟩
  | 105 => ⟨S256x20x8x84x4, .bf16⟩
  | 106 => ⟨S256x20x8x20x4, .bf16⟩
  | 107 => ⟨S256x20x8x20x4, .bf16⟩
  | 108 => ⟨S256x20x8x20x4, .bf16⟩
  | 109 => ⟨S256x20x8x20x4, .bf16⟩
  | 110 => ⟨S256x20x8x20x4, .bf16⟩
  | 111 => ⟨S256x20x8x20x4, .bf16⟩
  | 112 => ⟨S256x20x8x20x4, .bf16⟩
  | 113 => ⟨S256x20x8x20x4, .bf16⟩
  | 114 => ⟨S256x20x8x20x1x4, .bf16⟩
  | 115 => ⟨S256x20x8x20x1x4, .bf16⟩
  | 116 => ⟨S256x20x8x20x1x4, .bf16⟩
  | 117 => ⟨S256x20x8x20x1x4, .bf16⟩
  | 118 => ⟨S256x20x8x20x1x4, .bf16⟩
  | 119 => ⟨S256x20x8x20x1x4, .bf16⟩
  | 120 => ⟨S256x20x8x20x1x4, .bf16⟩
  | 121 => ⟨S256x20x8x20x1x4, .bf16⟩
  | 122 => ⟨S256x20x8x20x8x4, .bf16⟩
  | 123 => ⟨S256x20x20x96, .f32⟩
  | 124 => ⟨S_, .f32⟩
  | 125 => ⟨S256x20x20x96, .f32⟩
  | 126 => ⟨S256x20x20x96, .f32⟩
  | 127 => ⟨S1x1x1x96, .f32⟩
  | _ => ⟨S2709504, .i32⟩

abbrev hbmTy0_1 (i : Nat) : BufTy := match i % 128 with
  | 0 => ⟨S256x20x20x96, .f32⟩
  | 1 => ⟨S256x20x20x96, .f32⟩
  | 2 => ⟨S_, .f32⟩
  | 3 => ⟨S256x20x20x96, .f32⟩
  | 4 => ⟨S256x20x20x96, .f32⟩
  | 5 => ⟨S256x20x20x96, .bf16⟩
  | _ => ⟨S2709504, .i32⟩

abbrev hbmTy (i : Nat) : BufTy := match i / 128 with
  | 0 => hbmTy0_0 i
  | 1 => hbmTy0_1 i
  | _ => ⟨S2709504, .i32⟩

abbrev bufTy : (tb : Table) → Fin (tcTables nBuf tb) → BufTy
  | .hbm, ⟨i, _⟩ => hbmTy i
  | .local _ .vmem, ⟨0, _⟩ => ⟨S8x8x4x96, .fp8e4m3⟩
  | .local _ .vmem, ⟨1, _⟩ => ⟨S4x96, .f32⟩
  | .local _ .vmem, ⟨2, _⟩ => ⟨S8x8x4x96, .bf16⟩
  | _, _ => ⟨S2709504, .i32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_c_0 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_cst : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_cst_1 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_c_2 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_c_3 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_cst_4 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_cst_5 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S8x8x4x96 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x8x4x96 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Steps.lean ====
/- Programs that load from and store to a fixed set of buffers, whatever those hold: a program is `Safe` for an assertion
   when it runs from the assertion to the assertion. Loads and stores of a buffer the assertion owns are safe, and safety
   goes through sequencing and branching. -/
module

public import Idealize.ShloMosaic.Lib.VecWindow
public import Idealize.ShloMosaic.Lib.Pipeline.FrameBody
public import Idealize.ShloMosaic.Lib.Tactic

@[expose] public section

noncomputable section

namespace Steps

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {U : Type} [URA U] {Λ : Labels}

local notation "𝕄" => MT nD τ sig Unit Val ℕ U ℕ

variable (defs : Defs nD τ sig Val Λ) (c : Thread nD τ)

/-- The assertion `A` owns the memref `m` whole, at some contents, and is restored from it at any contents. -/
def Has {sp : Space} {s : Shape} {e : EltTy} (A : sProp 𝕄) (m : Memref sig c.2.kind sp s e) : Prop :=
  A ⊢ iprop((∃ d, owns c m fullShare d) ∗ ((∃ d, owns c m fullShare d) -∗ A))

/-- The assertion `A` owns the memref `m` whole, and is restored from it at the contents it was lent at. -/
def Reads {sp : Space} {s : Shape} {e : EltTy} (A : sProp 𝕄) (m : Memref sig c.2.kind sp s e) : Prop :=
  A ⊢ iprop(∃ d, owns c m fullShare d ∗ (owns c m fullShare d -∗ A))

/-- The program `p` runs from `A` to `A`, whatever it returns. -/
def Safe (A : sProp 𝕄) {α : Type} (p : Prog (TpuEff nD τ sig Val Λ c.2) α) : Prop :=
  ∀ Q : α → sProp 𝕄, (∀ r, A ⊢ Q r) → A ⊢ wp frame (wpE defs Variants.none c none) Set.univ p Q

variable {defs c}
variable {α β : Type}

/-- Returning is safe. -/
theorem Safe.pure {P : sProp 𝕄} (a : α) : Safe (U := U) defs c P (pure a : Prog (TpuEff nD τ sig Val Λ c.2) α) :=
  fun _ h => (h a).trans (le_wp_ret (M := 𝕄) _ _ _ a _)

/-- Sequencing keeps safety. -/
theorem Safe.bind {P : sProp 𝕄} {p : Prog (TpuEff nD τ sig Val Λ c.2) α} {k : α → Prog (TpuEff nD τ sig Val Λ c.2) β}
    (hp : Safe (U := U) defs c P p) (hk : ∀ r, Safe (U := U) defs c P (k r)) : Safe (U := U) defs c P (p >>= k) := fun Q h => by
  rw [wp_bind]
  exact hp _ fun r => hk r Q h

/-- What may be stored to may be loaded from. -/
theorem Has.reads {P : sProp 𝕄} {sp : Space} {s : Shape} {e : EltTy} {m : Memref sig c.2.kind sp s e} (hm : Has (U := U) c P m) : Reads (U := U) c P m := by
  refine hm.trans ?_
  iintro ⟨⟨%d, H⟩, Hw⟩
  iexists d
  isplitl [H]; · iexact H
  iintro H
  iapply Hw
  iexists d; iexact H

/-- A load of an owned memref is safe. -/
theorem Safe.load {P : sProp 𝕄} {cs : CoreSpace} {s : Shape} {e : EltTy} {m : Memref sig c.2.kind cs s e} (hm : Reads (U := U) c P m) {r : LoadRect s} {hl : m.view.LoadsAt r} :
    Safe (U := U) defs c P (Prog.lift (.load m r hl)) := fun Q h => by
  refine hm.trans ?_
  unfold owns
  iintro ⟨%d, ⟨%f, %hf, H⟩, Hw⟩
  iapply (wp_load (defs := defs) Variants.none c none Set.univ (m.view.setOn_subset_set r.set)) $$ [H]
  · iexact H
  iintro H
  iapply (le_wp_ret _ _ _ _ _)
  iapply (h _)
  iapply Hw
  iexists f; isplitr; · ipureintro; exact hf
  iexact H

/-- An unmasked store to an owned memref is safe. -/
theorem Safe.store {P : sProp 𝕄} {cs : CoreSpace} {s : Shape} {e : EltTy} {m : Memref sig c.2.kind cs s e} (hm : Has (U := U) c P m) {r : Rect s}
    {w : r.shape.Idx → Val e} {hx : (m.access r).Stores Finset.univ} {hu : Finset.univ = Finset.univ ∨ ∀ a, r.stride a = 1} :
    Safe (U := U) defs c P (Prog.lift (.store m r w Finset.univ hx hu)) := fun Q h => by
  refine hm.trans ?_
  unfold owns
  iintro ⟨⟨%d, %f, %hf, H⟩, Hw⟩
  iapply (wp_store (defs := defs) Variants.none c none Set.univ (m := m) (r := r) (w := w) (hx := hx) (hm := hu) (Mk := Finset.univ) (f := f) (m.view.set_slice_subset r)) $$ [H]
  · iexact H
  iintro H
  iapply (le_wp_ret _ _ _ _ _)
  iapply (h _)
  iapply Hw
  iexists (m.view.read Val ((m.access r).write Val f w Finset.univ)); iexists ((m.access r).write Val f w Finset.univ); isplitr; · ipureintro; rfl
  iexact H

/-- A branch is safe when both arms are. -/
theorem Safe.dite {P : sProp 𝕄} {p : Prop} [Decidable p] {a : p → Prog (TpuEff nD τ sig Val Λ c.2) α} {b : ¬ p → Prog (TpuEff nD τ sig Val Λ c.2) α}
    (ha : ∀ h, Safe (U := U) defs c P (a h)) (hb : ∀ h, Safe (U := U) defs c P (b h)) : Safe (U := U) defs c P (if h : p then a h else b h) := by
  by_cases h : p
  · rw [dif_pos h]; exact ha h
  · rw [dif_neg h]; exact hb h

end Steps
-- ==== Proof.KernelSafe.lean ====
/- The kernel body of `Kernel` runs from any assertion that owns its nine buffers to the same assertion. -/
module

public import proofs.«01_k».proof.Proof.Gen.Kernel.Skeleton
public import proofs.«01_k».proof.Proof.Gen.Kernel.Launch
public import proofs.«01_k».proof.Proof.Steps

@[expose] public section

set_option maxRecDepth 16384

noncomputable section

namespace Cert.Kernel.Body

open Idealize.ShloMosaic Idealize.ShloMosaic.TcCoe
open Idealize.SL Idealize.SL.RA Idealize.SL.BI Idealize.SL.Sem
open Cert.Kernel Cert.Kernel.Gen Steps

variable {F : FTy → Type} [BitOps F] {U : Type} [URA U]

local notation "𝕄" => MT nD τ sig Unit (Elt F) ℕ U ℕ

/-- The body is safe for an assertion that lends its four input windows to read and the other five buffers to read and write. -/
theorem safe_body (c : Dev nD) (P : sProp 𝕄) (i : grid0.Coords)
    (arg1 : Memref sig .tc .vmem S1x1008x128 .i32) (harg1 : arg1.IsWhole)
    (arg2 : Memref sig .tc .vmem S2x96x256 .fp8e4m3) (harg2 : arg2.IsWhole)
    (arg3 : Memref sig .tc .vmem S2x96x256 .f32) (harg3 : arg3.IsWhole)
    (arg4 : Memref sig .tc .vmem S96x1 .f32) (harg4 : arg4.IsWhole)
    (arg5 : Memref sig .tc .vmem S1x20x96x256 .bf16) (harg5 : arg5.IsWhole)
    (arg6 : Memref sig .tc .vmem S1x20x96x256 .bf16) (harg6 : arg6.IsWhole)
    (arg7 : Memref sig .tc .vmem S2x96x256 .bf16) (harg7 : arg7.IsWhole)
    (arg8 : Memref sig .tc .vmem S96x128 .f32) (harg8 : arg8.IsWhole)
    (arg9 : Memref sig .tc .vmem S2x2x2x672x128 .i32) (harg9 : arg9.IsWhole)
    (r1 : Reads (U := U) (c : Thread nD τ) P arg1) (r2 : Reads (U := U) (c : Thread nD τ) P arg2) (r3 : Reads (U := U) (c : Thread nD τ) P arg3) (r4 : Reads (U := U) (c : Thread nD τ) P arg4)
    (h5 : Has (U := U) (c : Thread nD τ) P arg5) (h6 : Has (U := U) (c : Thread nD τ) P arg6) (h7 : Has (U := U) (c : Thread nD τ) P arg7) (h8 : Has (U := U) (c : Thread nD τ) P arg8) (h9 : Has (U := U) (c : Thread nD τ) P arg9) :
    Safe (U := U) (defs₀ (F := F)) (c : Thread nD τ) P (cc0_conv i arg1 harg1 arg2 harg2 arg3 harg3 arg4 harg4 arg5 harg5 arg6 harg6 arg7 harg7 arg8 harg8 arg9 harg9) := by
  rw [cc0_conv_eq_skeleton]; unfold cc0_conv_skel
  refine Safe.bind ?_ fun r => ?_
  · rw [k0_part80_eq_skeleton]; unfold k0_part80_skel
    refine Safe.bind ?_ fun r => ?_
    · rw [k0_part43_eq_skeleton]; unfold k0_part43_skel
      dsimp only
      refine Safe.dite (fun _ => ?_) (fun _ => ?_)
      ·
        refine Safe.bind (Safe.load r2) fun _ => ?_
        refine Safe.bind (Safe.load r3) fun _ => ?_
        refine Safe.bind (Safe.load h7.reads) fun _ => ?_
        refine Safe.bind (Safe.store h7) fun _ => ?_
        refine Safe.bind (Safe.load r4) fun _ => ?_
        refine Safe.bind (Safe.load h8.reads) fun _ => ?_
        refine Safe.bind (Safe.store h8) fun _ => ?_
        refine Safe.bind (Safe.load r1) fun _ => ?_
        refine Safe.bind (Safe.load r1) fun _ => ?_
        refine Safe.bind (Safe.load r1) fun _ => ?_
        refine Safe.bind (Safe.load h9.reads) fun _ => ?_
        exact Safe.pure _
      ·
        refine Safe.bind (Safe.load r1) fun _ => ?_
        refine Safe.bind (Safe.load r1) fun _ => ?_
        refine Safe.bind (Safe.load r1) fun _ => ?_
        refine Safe.bind (Safe.load h9.reads) fun _ => ?_
        exact Safe.pure _
    obtain ⟨_, _, _, _, _, _, _, _⟩ := r
    refine Safe.bind ?_ fun r => ?_
    · rw [k0_part44_eq_skeleton]; unfold k0_part44_skel
      refine Safe.bind (Safe.store h9) fun _ => ?_
      refine Safe.bind (Safe.load h9.reads) fun _ => ?_
      refine Safe.bind (Safe.store h9) fun _ => ?_
      refine Safe.bind (Safe.load r1) fun _ => ?_
      refine Safe.bind (Safe.load r1) fun _ => ?_
      refine Safe.bind (Safe.load r1) fun _ => ?_
      refine Safe.bind (Safe.load h9.reads) fun _ => ?_
      refine Safe.bind (Safe.store h9) fun _ => ?_
      exact Safe.pure _
    obtain ⟨_, _⟩ := r
    refine Safe.bind ?_ fun r => ?_
    · rw [k0_part45_eq_skeleton]; unfold k0_part45_skel
      refine Safe.bind (Safe.load h9.reads) fun _ => ?_
      refine Safe.bind (Safe.store h9) fun _ => ?_
      refine Safe.bind (Safe.load r1) fun _ => ?_
      refine Safe.bind (Safe.load r1) fun _ => ?_
      refine Safe.bind (Safe.load r1) fun _ => ?_
      refine Safe.bind (Safe.load h9.reads) fun _ => ?_
      refine Safe.bind (Safe.store h9) fun _ => ?_
      exact Safe.pure _
    refine Safe.bind ?_ fun r => ?_
    · rw [k0_part46_eq_skeleton]; unfold k0_part46_skel
      refine Safe.bind (Safe.load h9.reads) fun _ => ?_
      refine Safe.bind (Safe.store h9) fun _ => ?_
      refine Safe.bind (Safe.load r1) fun _ => ?_
      refine Safe.bind (Safe.load r1) fun _ => ?_
      refine Safe.bind (Safe.load r1) fun _ => ?_
      refine Safe.bind (Safe.load h9.reads) fun _ => ?_
      refine Safe.bind (Safe.store h9) fun _ => ?_
      refine Safe.bind (Safe.load h9.reads) fun _ => ?_
      refine Safe.bind (Safe.store h9) fun _ => ?_
      exact Safe.pure _
    refine Safe.bind ?_ fun r => ?_
    · rw [k0_part47_eq_skeleton]; unfold k0_part47_skel
      refine Safe.bind (Safe.load r1) fun _ => ?_
      refine Safe.bind (Safe.load r1) fun _ => ?_
      refine Safe.bind (Safe.load r1) fun _ => ?_
      refine Safe.bind (Safe.load h9.reads) fun _ => ?_
      refine Safe.bind (Safe.store h9) fun _ => ?_
      refine Safe.bind (Safe.load h9.reads) fun _ => ?_
      refine Safe.bind (Safe.store h9) fun _ => ?_
      refine Safe.bind (Safe.load r1) fun _ => ?_
      exact Safe.pure _
    refine Safe.bind ?_ fun r => ?_
    · rw [k0_part48_eq_skeleton]; unfold k0_part48_skel
      refine Safe.bind (Safe.load r1) fun _ => ?_
      refine Safe.bind (Safe.load r1) fun _ => ?_
      refine Safe.bind (Safe.load h9.reads) fun _ => ?_
      refine Safe.bind (Safe.store h9) fun _ => ?_
      refine Safe.bind (Safe.load h9.reads) fun _ => ?_
      refine Safe.bind (Safe.store h9) fun _ => ?_
      refine Safe.bind (Safe.load r1) fun _ => ?_
      refine Safe.bind (Safe.load r1) fun _ => ?_
      refine Safe.bind (Safe.load r1) fun _ => ?_
      exact Safe.pure _
    obtain ⟨_, _, _⟩ := r
    refine Safe.bind ?_ fun r => ?_
    · rw [k0_part49_eq_skeleton]; unfold k0_part49_skel
      refine Safe.bind (Safe.load h9.reads) fun _ => ?_
      refine Safe.bind (Safe.store h9) fun _ => ?_
      refine Safe.bind (Safe.load h9.reads) fun _ => ?_
      refine Safe.bind (Safe.store h9) fun _ => ?_
      refine Safe.bind (Safe.load r1) fun _ => ?_
      refine Safe.bind (Safe.load r1) fun _ => ?_
      refine Safe.bind (Safe.load r1) fun _ => ?_
      exact Safe.pure _
    obtain ⟨_, _, _, _⟩ := r
    refine Safe.bind ?_ fun r => ?_
    · rw [k0_part50_eq_skeleton]; unfold k0_part50_skel
      refine Safe.bind (Safe.load h9.reads) fun _ => ?_
      refine Safe.bind (Safe.store h9) fun _ => ?_
      refine Safe.bind (Safe.load h9.reads) fun _ => ?_
      refine Safe.bind (Safe.store h9) fun _ => ?_
      refine Safe.bind (Safe.load r1) fun _ => ?_
      refine Safe.bind (Safe.load r1) fun _ => ?_
      refine Safe.bind (Safe.load r1) fun _ => ?_
      exact Safe.pure _
    obtain ⟨_, _, _, _⟩ := r
    refine Safe.bind ?_ fun r => ?_
    · rw [k0_part51_eq_skeleton]; unfold k0_part51_skel
      refine Safe.bind (Safe.load h9.reads) fun _ => ?_
      refine Safe.bind (Safe.store h9) fun _ => ?_
      refine Safe.bind (Safe.load h9.reads) fun _ => ?_
      refine Safe.bind (Safe.store h9) fun _ => ?_
      refine Safe.bind (Safe.load r1) fun _ => ?_
      refine Safe.bind (Safe.load r1) fun _ => ?_
      refine Safe.bind (Safe.load r1) fun _ => ?_
      refine Safe.bind (Safe.load h9.reads) fun _ => ?_
      refine Safe.bind (Safe.store h9) fun _ => ?_
      exact Safe.pure _
    obtain ⟨_, _, _⟩ := r
    refine Safe.bind ?_ fun r => ?_
    · rw [k0_part52_eq_skeleton]; unfold k0_part52_skel
      refine Safe.bind (Safe.load h9.reads) fun _ => ?_
      refine Safe.bind (Safe.store h9) fun _ => ?_
      refine Safe.bind (Safe.load r1) fun _ => ?_
      refine Safe.bind (Safe.load r1) fun _ => ?_
      refine Safe.bind (Safe.load r1) fun _ => ?_
      refine Safe.bind (Safe.load h9.reads) fun _ => ?_
      refine Safe.bind (Safe.store h9) fun _ => ?_
      exact Safe.pure _
    obtain ⟨_, _⟩ := r
    refine Safe.bind ?_ fun r => ?_
    · rw [k0_part53_eq_skeleton]; unfold k0_part53_skel
      refine Safe.bind (Safe.load h9.reads) fun _ => ?_
      refine Safe.bind (Safe.store h9) fun _ => ?_
      refine Safe.bind (Safe.load r1) fun _ => ?_
      refine Safe.bind (Safe.load r1) fun _ => ?_
      refine Safe.bind (Safe.load r1) fun _ => ?_
      refine Safe.bind (Safe.load h9.reads) fun _ => ?_
      refine Safe.bind (Safe.store h9) fun _ => ?_
      refine Safe.bind (Safe.load h9.reads) fun _ => ?_
      exact Safe.pure _
    obtain ⟨_, _⟩ := r
    refine Safe.bind ?_ fun r => ?_
    · rw [k0_part54_eq_skeleton]; unfold k0_part54_skel
      refine Safe.bind (Safe.store h9) fun _ => ?_
      refine Safe.bind (Safe.load r1) fun _ => ?_
      refine Safe.bind (Safe.load r1) fun _ => ?_
      refine Safe.bind (Safe.load r1) fun _ => ?_
      refine Safe.bind (Safe.load h9.reads) fun _ => ?_
      refine Safe.bind (Safe.store h9) fun _ => ?_
      refine Safe.bind (Safe.load h9.reads) fun _ => ?_
      refine Safe.bind (Safe.store h9) fun _ => ?_
      refine Safe.bind (Safe.load r1) fun _ => ?_
      exact Safe.pure _
    refine Safe.bind ?_ fun r => ?_
    · rw [k0_part55_eq_skeleton]; unfold k0_part55_skel
      refine Safe.bind (Safe.load r1) fun _ => ?_
      refine Safe.bind (Safe.load r1) fun _ => ?_
      refine Safe.bind (Safe.load h9.reads) fun _ => ?_
      refine Safe.bind (Safe.store h9) fun _ => ?_
      refine Safe.bind (Safe.load h9.reads) fun _ => ?_
      refine Safe.bind (Safe.store h9) fun _ => ?_
      refine Safe.bind (Safe.load r1) fun _ => ?_
      refine Safe.bind (Safe.load r1) fun _ => ?_
      exact Safe.pure _
    obtain ⟨_, _⟩ := r
    refine Safe.bind ?_ fun r => ?_
    · rw [k0_part56_eq_skeleton]; unfold k0_part56_skel
      refine Safe.bind (Safe.load r1) fun _ => ?_
      refine Safe.bind (Safe.load h9.reads) fun _ => ?_
      refine Safe.bind (Safe.store h9) fun _ => ?_
      refine Safe.bind (Safe.load h9.reads) fun _ => ?_
      refine Safe.bind (Safe.store h9) fun _ => ?_
      refine Safe.bind (Safe.load r1) fun _ => ?_
      refine Safe.bind (Safe.load r1) fun _ => ?_
      refine Safe.bind (Safe.load r1) fun _ => ?_
      exact Safe.pure _
    obtain ⟨_, _, _, _⟩ := r
    refine Safe.bind ?_ fun r => ?_
    · rw [k0_part57_eq_skeleton]; unfold k0_part57_skel
      refine Safe.bind (Safe.load h9.reads) fun _ => ?_
      refine Safe.bind (Safe.store h9) fun _ => ?_
      refine Safe.bind (Safe.load h9.reads) fun _ => ?_
      refine Safe.bind (Safe.store h9) fun _ => ?_
      refine Safe.bind (Safe.load r1) fun _ => ?_
      refine Safe.bind (Safe.load r1) fun _ => ?_
      refine Safe.bind (Safe.load r1) fun _ => ?_
      exact Safe.pure _
    obtain ⟨_, _, _, _, _⟩ := r
    refine Safe.bind ?_ fun r => ?_
    · rw [k0_part58_eq_skeleton]; unfold k0_part58_skel
      refine Safe.bind (Safe.load h9.reads) fun _ => ?_
      refine Safe.bind (Safe.store h9) fun _ => ?_
      refine Safe.bind (Safe.load h9.reads) fun _ => ?_
      refine Safe.bind (Safe.store h9) fun _ => ?_
      refine Safe.bind (Safe.load r1) fun _ => ?_
      refine Safe.bind (Safe.load r1) fun _ => ?_
      refine Safe.bind (Safe.load r1) fun _ => ?_
      exact Safe.pure _
    obtain ⟨_, _, _, _⟩ := r
    refine Safe.bind ?_ fun r => ?_
    · rw [k0_part59_eq_skeleton]; unfold k0_part59_skel
      refine Safe.bind (Safe.load h9.reads) fun _ => ?_
      refine Safe.bind (Safe.store h9) fun _ => ?_
      refine Safe.bind (Safe.load h9.reads) fun _ => ?_
      refine Safe.bind (Safe.store h9) fun _ => ?_
      refine Safe.bind (Safe.load r1) fun _ => ?_
      refine Safe.bind (Safe.load r1) fun _ => ?_
      refine Safe.bind (Safe.load r1) fun _ => ?_
      refine Safe.bind (Safe.load h9.reads) fun _ => ?_
      refine Safe.bind (Safe.store h9) fun _ => ?_
      exact Safe.pure _
    obtain ⟨_, _, _⟩ := r
    refine Safe.bind ?_ fun r => ?_
    · rw [k0_part60_eq_skeleton]; unfold k0_part60_skel
      refine Safe.bind (Safe.load h9.reads) fun _ => ?_
      refine Safe.bind (Safe.store h9) fun _ => ?_
      refine Safe.bind (Safe.load r1) fun _ => ?_
      refine Safe.bind (Safe.load r1) fun _ => ?_
      refine Safe.bind (Safe.load r1) fun _ => ?_
      refine Safe.bind (Safe.load h9.reads) fun _ => ?_
      refine Safe.bind (Safe.store h9) fun _ => ?_
      exact Safe.pure _
    refine Safe.bind ?_ fun r => ?_
    · rw [k0_part61_eq_skeleton]; unfold k0_part61_skel
      refine Safe.bind (Safe.load h9.reads) fun _ => ?_
      refine Safe.bind (Safe.store h9) fun _ => ?_
      refine Safe.bind (Safe.load r1) fun _ => ?_
      refine Safe.bind (Safe.load r1) fun _ => ?_
      refine Safe.bind (Safe.load r1) fun _ => ?_
      refine Safe.bind (Safe.load h9.reads) fun _ => ?_
      refine Safe.bind (Safe.store h9) fun _ => ?_
      refine Safe.bind (Safe.load h9.reads) fun _ => ?_
      refine Safe.bind (Safe.store h9) fun _ => ?_
      exact Safe.pure _
    refine Safe.bind ?_ fun r => ?_
    · rw [k0_part62_eq_skeleton]; unfold k0_part62_skel
      refine Safe.bind (Safe.load r1) fun _ => ?_
      refine Safe.bind (Safe.load r1) fun _ => ?_
      refine Safe.bind (Safe.load r1) fun _ => ?_
      refine Safe.bind (Safe.load h9.reads) fun _ => ?_
      refine Safe.bind (Safe.store h9) fun _ => ?_
      refine Safe.bind (Safe.load h9.reads) fun _ => ?_
      refine Safe.bind (Safe.store h9) fun _ => ?_
      refine Safe.bind (Safe.load r1) fun _ => ?_
      exact Safe.pure _
    refine Safe.bind ?_ fun r => ?_
    · rw [k0_part63_eq_skeleton]; unfold k0_part63_skel
      refine Safe.bind (Safe.load r1) fun _ => ?_
      refine Safe.bind (Safe.load r1) fun _ => ?_
      refine Safe.bind (Safe.load h9.reads) fun _ => ?_
      refine Safe.bind (Safe.store h9) fun _ => ?_
      refine Safe.bind (Safe.load h9.reads) fun _ => ?_
      refine Safe.bind (Safe.store h9) fun _ => ?_
      refine Safe.bind (Safe.load r1) fun _ => ?_
      refine Safe.bind (Safe.load r1) fun _ => ?_
      refine Safe.bind (Safe.load r1) fun _ => ?_
      exact Safe.pure _
    obtain ⟨_, _, _⟩ := r
    refine Safe.bind ?_ fun r => ?_
    · rw [k0_part64_eq_skeleton]; unfold k0_part64_skel
      refine Safe.bind (Safe.load h9.reads) fun _ => ?_
      refine Safe.bind (Safe.store h9) fun _ => ?_
      refine Safe.bind (Safe.load h9.reads) fun _ => ?_
      refine Safe.bind (Safe.store h9) fun _ => ?_
      refine Safe.bind (Safe.load r1) fun _ => ?_
      refine Safe.bind (Safe.load r1) fun _ => ?_
      refine Safe.bind (Safe.load r1) fun _ => ?_
      exact Safe.pure _
    obtain ⟨_, _, _, _⟩ := r
    refine Safe.bind ?_ fun r => ?_
    · rw [k0_part65_eq_skeleton]; unfold k0_part65_skel
      refine Safe.bind (Safe.load h9.reads) fun _ => ?_
      refine Safe.bind (Safe.store h9) fun _ => ?_
      refine Safe.bind (Safe.load h9.reads) fun _ => ?_
      refine Safe.bind (Safe.store h9) fun _ => ?_
      refine Safe.bind (Safe.load r1) fun _ => ?_
      refine Safe.bind (Safe.load r1) fun _ => ?_
      refine Safe.bind (Safe.load r1) fun _ => ?_
      exact Safe.pure _
    obtain ⟨_, _, _, _⟩ := r
    refine Safe.bind ?_ fun r => ?_
    · rw [k0_part66_eq_skeleton]; unfold k0_part66_skel
      refine Safe.bind (Safe.load h9.reads) fun _ => ?_
      refine Safe.bind (Safe.store h9) fun _ => ?_
      refine Safe.bind (Safe.load h9.reads) fun _ => ?_
      refine Safe.bind (Safe.store h9) fun _ => ?_
      refine Safe.bind (Safe.load r1) fun _ => ?_
      refine Safe.bind (Safe.load r1) fun _ => ?_
      refine Safe.bind (Safe.load r1) fun _ => ?_
      refine Safe.bind (Safe.load h9.reads) fun _ => ?_
      exact Safe.pure _
    obtain ⟨_, _, _, _⟩ := r
    refine Safe.bind ?_ fun r => ?_
    · rw [k0_part67_eq_skeleton]; unfold k0_part67_skel
      refine Safe.bind (Safe.store h9) fun _ => ?_
      refine Safe.bind (Safe.load h9.reads) fun _ => ?_
      refine Safe.bind (Safe.store h9) fun _ => ?_
      refine Safe.bind (Safe.load r1) fun _ => ?_
      refine Safe.bind (Safe.load r1) fun _ => ?_
      refine Safe.bind (Safe.load r1) fun _ => ?_
      refine Safe.bind (Safe.load h9.reads) fun _ => ?_
      refine Safe.bind (Safe.store h9) fun _ => ?_
      exact Safe.pure _
    obtain ⟨_, _⟩ := r
    refine Safe.bind ?_ fun r => ?_
    · rw [k0_part68_eq_skeleton]; unfold k0_part68_skel
      refine Safe.bind (Safe.load h9.reads) fun _ => ?_
      refine Safe.bind (Safe.store h9) fun _ => ?_
      refine Safe.bind (Safe.load r1) fun _ => ?_
      refine Safe.bind (Safe.load r1) fun _ => ?_
      refine Safe.bind (Safe.load r1) fun _ => ?_
      refine Safe.bind (Safe.load h9.reads) fun _ => ?_
      refine Safe.bind (Safe.store h9) fun _ => ?_
      exact Safe.pure _
    refine Safe.bind ?_ fun r => ?_
    · rw [k0_part69_eq_skeleton]; unfold k0_part69_skel
      refine Safe.bind (Safe.load h9.reads) fun _ => ?_
      refine Safe.bind (Safe.store h9) fun _ => ?_
      refine Safe.bind (Safe.load r1) fun _ => ?_
      refine Safe.bind (Safe.load r1) fun _ => ?_
      refine Safe.bind (Safe.load r1) fun _ => ?_
      refine Safe.bind (Safe.load h9.reads) fun _ => ?_
      refine Safe.bind (Safe.store h9) fun _ => ?_
      refine Safe.bind (Safe.load h9.reads) fun _ => ?_
      refine Safe.bind (Safe.store h9) fun _ => ?_
      exact Safe.pure _
    refine Safe.bind ?_ fun r => ?_
    · rw [k0_part70_eq_skeleton]; unfold k0_part70_skel
      refine Safe.bind (Safe.load r1) fun _ => ?_
      refine Safe.bind (Safe.load r1) fun _ => ?_
      refine Safe.bind (Safe.load r1) fun _ => ?_
      refine Safe.bind (Safe.load h9.reads) fun _ => ?_
      refine Safe.bind (Safe.store h9) fun _ => ?_
      refine Safe.bind (Safe.load h9.reads) fun _ => ?_
      refine Safe.bind (Safe.store h9) fun _ => ?_
      refine Safe.bind (Safe.load r1) fun _ => ?_
      refine Safe.bind (Safe.load r1) fun _ => ?_
      exact Safe.pure _
    obtain ⟨_, _⟩ := r
    refine Safe.bind ?_ fun r => ?_
    · rw [k0_part71_eq_skeleton]; unfold k0_part71_skel
      refine Safe.bind (Safe.load r1) fun _ => ?_
      refine Safe.bind (Safe.load h9.reads) fun _ => ?_
      refine Safe.bind (Safe.store h9) fun _ => ?_
      refine Safe.bind (Safe.load h9.reads) fun _ => ?_
      refine Safe.bind (Safe.store h9) fun _ => ?_
      refine Safe.bind (Safe.load r1) fun _ => ?_
      refine Safe.bind (Safe.load r1) fun _ => ?_
      refine Safe.bind (Safe.load r1) fun _ => ?_
      exact Safe.pure _
    obtain ⟨_, _, _, _⟩ := r
    refine Safe.bind ?_ fun r => ?_
    · rw [k0_part72_eq_skeleton]; unfold k0_part72_skel
      refine Safe.bind (Safe.load h9.reads) fun _ => ?_
      refine Safe.bind (Safe.store h9) fun _ => ?_
      refine Safe.bind (Safe.load h9.reads) fun _ => ?_
      refine Safe.bind (Safe.store h9) fun _ => ?_
      refine Safe.bind (Safe.load r1) fun _ => ?_
      refine Safe.bind (Safe.load r1) fun _ => ?_
      refine Safe.bind (Safe.load r1) fun _ => ?_
      exact Safe.pure _
    obtain ⟨_, _, _, _, _⟩ := r
    refine Safe.bind ?_ fun r => ?_
    · rw [k0_part73_eq_skeleton]; unfold k0_part73_skel
      refine Safe.bind (Safe.load h9.reads) fun _ => ?_
      refine Safe.bind (Safe.store h9) fun _ => ?_
      refine Safe.bind (Safe.load h9.reads) fun _ => ?_
      refine Safe.bind (Safe.store h9) fun _ => ?_
      refine Safe.bind (Safe.load r1) fun _ => ?_
      refine Safe.bind (Safe.load r1) fun _ => ?_
      refine Safe.bind (Safe.load r1) fun _ => ?_
      exact Safe.pure _
    obtain ⟨_, _, _, _⟩ := r
    refine Safe.bind ?_ fun r => ?_
    · rw [k0_part74_eq_skeleton]; unfold k0_part74_skel
      refine Safe.bind (Safe.load h9.reads) fun _ => ?_
      refine Safe.bind (Safe.store h9) fun _ => ?_
      refine Safe.bind (Safe.load h9.reads) fun _ => ?_
      refine Safe.bind (Safe.store h9) fun _ => ?_
      refine Safe.bind (Safe.load r1) fun _ => ?_
      refine Safe.bind (Safe.load r1) fun _ => ?_
      refine Safe.bind (Safe.load r1) fun _ => ?_
      refine Safe.bind (Safe.load h9.reads) fun _ => ?_
      refine Safe.bind (Safe.store h9) fun _ => ?_
      exact Safe.pure _
    obtain ⟨_, _, _⟩ := r
    refine Safe.bind ?_ fun r => ?_
    · rw [k0_part75_eq_skeleton]; unfold k0_part75_skel
      refine Safe.bind (Safe.load h9.reads) fun _ => ?_
      refine Safe.bind (Safe.store h9) fun _ => ?_
      refine Safe.bind (Safe.load r1) fun _ => ?_
      refine Safe.bind (Safe.load r1) fun _ => ?_
      refine Safe.bind (Safe.load r1) fun _ => ?_
      refine Safe.bind (Safe.load h9.reads) fun _ => ?_
      refine Safe.bind (Safe.store h9) fun _ => ?_
      exact Safe.pure _
    refine Safe.bind ?_ fun r => ?_
    · rw [k0_part76_eq_skeleton]; unfold k0_part76_skel
      refine Safe.bind (Safe.load h9.reads) fun _ => ?_
      refine Safe.bind (Safe.store h9) fun _ => ?_
      refine Safe.bind (Safe.load r1) fun _ => ?_
      refine Safe.bind (Safe.load r1) fun _ => ?_
      refine Safe.bind (Safe.load r1) fun _ => ?_
      refine Safe.bind (Safe.load h9.reads) fun _ => ?_
      refine Safe.bind (Safe.store h9) fun _ => ?_
      refine Safe.bind (Safe.load h9.reads) fun _ => ?_
      exact Safe.pure _
    refine Safe.bind ?_ fun r => ?_
    · rw [k0_part77_eq_skeleton]; unfold k0_part77_skel
      refine Safe.bind (Safe.store h9) fun _ => ?_
      refine Safe.bind (Safe.load r1) fun _ => ?_
      refine Safe.bind (Safe.load r1) fun _ => ?_
      refine Safe.bind (Safe.load r1) fun _ => ?_
      refine Safe.bind (Safe.load h9.reads) fun _ => ?_
      refine Safe.bind (Safe.store h9) fun _ => ?_
      refine Safe.bind (Safe.load h9.reads) fun _ => ?_
      refine Safe.bind (Safe.store h9) fun _ => ?_
      refine Safe.bind (Safe.load r1) fun _ => ?_
      exact Safe.pure _
    refine Safe.bind ?_ fun r => ?_
    · rw [k0_part78_eq_skeleton]; unfold k0_part78_skel
      refine Safe.bind (Safe.load r1) fun _ => ?_
      refine Safe.bind (Safe.load r1) fun _ => ?_
      refine Safe.bind (Safe.load h9.reads) fun _ => ?_
      refine Safe.bind (Safe.store h9) fun _ => ?_
      refine Safe.bind (Safe.load h9.reads) fun _ => ?_
      refine Safe.bind (Safe.store h9) fun _ => ?_
      refine Safe.bind (Safe.load r1) fun _ => ?_
      refine Safe.bind (Safe.load r1) fun _ => ?_
      exact Safe.pure _
    obtain ⟨_, _⟩ := r
    refine Safe.bind ?_ fun r => ?_
    · rw [k0_part79_eq_skeleton]; unfold k0_part79_skel
      refine Safe.bind (Safe.load r1) fun _ => ?_
      refine Safe.bind (Safe.load h9.reads) fun _ => ?_
      refine Safe.bind (Safe.store h9) fun _ => ?_
      refine Safe.bind (Safe.load h9.reads) fun _ => ?_
      refine Safe.bind (Safe.store h9) fun _ => ?_
      refine Safe.bind (Safe.load r1) fun _ => ?_
      refine Safe.bind (Safe.load r1) fun _ => ?_
      refine Safe.bind (Safe.load r1) fun _ => ?_
      exact Safe.pure _
    obtain ⟨_, _, _, _⟩ := r
    refine Safe.bind (Safe.load h9.reads) fun _ => ?_
    refine Safe.bind (Safe.store h9) fun _ => ?_
    exact Safe.pure _
  obtain ⟨_, _, _, _⟩ := r
  refine Safe.bind (Safe.load h9.reads) fun _ => ?_
  refine Safe.bind (Safe.store h9) fun _ => ?_
  dsimp only
  refine Safe.dite (fun _ => ?_) (fun _ => ?_)
  ·
    refine Safe.bind ?_ fun r => ?_
    · rw [k0_part42_eq_skeleton]; unfold k0_part42_skel
      refine Safe.bind ?_ fun r => ?_
      · rw [k0_part1_eq_skeleton]; unfold k0_part1_skel
        refine Safe.bind (Safe.load h8.reads) fun _ => ?_
        refine Safe.bind (Safe.load h9.reads) fun _ => ?_
        refine Safe.bind (Safe.load h9.reads) fun _ => ?_
        refine Safe.bind (Safe.load h9.reads) fun _ => ?_
        refine Safe.bind (Safe.load h9.reads) fun _ => ?_
        refine Safe.bind (Safe.load h7.reads) fun _ => ?_
        exact Safe.pure _
      obtain ⟨_, _⟩ := r
      refine Safe.bind ?_ fun r => ?_
      · rw [k0_part2_eq_skeleton]; unfold k0_part2_skel
        refine Safe.bind (Safe.load h5.reads) fun _ => ?_
        refine Safe.bind (Safe.store h5) fun _ => ?_
        refine Safe.bind (Safe.load h9.reads) fun _ => ?_
        refine Safe.bind (Safe.load h9.reads) fun _ => ?_
        refine Safe.bind (Safe.load h9.reads) fun _ => ?_
        refine Safe.bind (Safe.load h9.reads) fun _ => ?_
        refine Safe.bind (Safe.load h7.reads) fun _ => ?_
        exact Safe.pure _
      refine Safe.bind ?_ fun r => ?_
      · rw [k0_part3_eq_skeleton]; unfold k0_part3_skel
        refine Safe.bind (Safe.load h6.reads) fun _ => ?_
        refine Safe.bind (Safe.store h6) fun _ => ?_
        refine Safe.bind (Safe.load h9.reads) fun _ => ?_
        refine Safe.bind (Safe.load h9.reads) fun _ => ?_
        refine Safe.bind (Safe.load h9.reads) fun _ => ?_
        refine Safe.bind (Safe.load h9.reads) fun _ => ?_
        refine Safe.bind (Safe.load h7.reads) fun _ => ?_
        exact Safe.pure _
      obtain ⟨_, _⟩ := r
      refine Safe.bind ?_ fun r => ?_
      · rw [k0_part4_eq_skeleton]; unfold k0_part4_skel
        refine Safe.bind (Safe.load h5.reads) fun _ => ?_
        refine Safe.bind (Safe.store h5) fun _ => ?_
        refine Safe.bind (Safe.load h9.reads) fun _ => ?_
        refine Safe.bind (Safe.load h9.reads) fun _ => ?_
        refine Safe.bind (Safe.load h9.reads) fun _ => ?_
        refine Safe.bind (Safe.load h9.reads) fun _ => ?_
        refine Safe.bind (Safe.load h7.reads) fun _ => ?_
        exact Safe.pure _
      refine Safe.bind ?_ fun r => ?_
      · rw [k0_part5_eq_skeleton]; unfold k0_part5_skel
        refine Safe.bind (Safe.load h6.reads) fun _ => ?_
        refine Safe.bind (Safe.store h6) fun _ => ?_
        refine Safe.bind (Safe.load h9.reads) fun _ => ?_
        refine Safe.bind (Safe.load h9.reads) fun _ => ?_
        refine Safe.bind (Safe.load h9.reads) fun _ => ?_
        refine Safe.bind (Safe.load h9.reads) fun _ => ?_
        refine Safe.bind (Safe.load h7.reads) fun _ => ?_
        exact Safe.pure _
      obtain ⟨_, _⟩ := r
      refine Safe.bind ?_ fun r => ?_
      · rw [k0_part6_eq_skeleton]; unfold k0_part6_skel
        refine Safe.bind (Safe.load h5.reads) fun _ => ?_
        refine Safe.bind (Safe.store h5) fun _ => ?_
        refine Safe.bind (Safe.load h9.reads) fun _ => ?_
        refine Safe.bind (Safe.load h9.reads) fun _ => ?_
        refine Safe.bind (Safe.load h9.reads) fun _ => ?_
        refine Safe.bind (Safe.load h9.reads) fun _ => ?_
        refine Safe.bind (Safe.load h7.reads) fun _ => ?_
        exact Safe.pure _
      refine Safe.bind ?_ fun r => ?_
      · rw [k0_part7_eq_skeleton]; unfold k0_part7_skel
        refine Safe.bind (Safe.load h6.reads) fun _ => ?_
        refine Safe.bind (Safe.store h6) fun _ => ?_
        refine Safe.bind (Safe.load h9.reads) fun _ => ?_
        refine Safe.bind (Safe.load h9.reads) fun _ => ?_
        refine Safe.bind (Safe.load h9.reads) fun _ => ?_
        refine Safe.bind (Safe.load h9.reads) fun _ => ?_
        refine Safe.bind (Safe.load h7.reads) fun _ => ?_
        exact Safe.pure _
      obtain ⟨_, _⟩ := r
      refine Safe.bind ?_ fun r => ?_
      · rw [k0_part8_eq_skeleton]; unfold k0_part8_skel
        refine Safe.bind (Safe.load h5.reads) fun _ => ?_
        refine Safe.bind (Safe.store h5) fun _ => ?_
        refine Safe.bind (Safe.load h9.reads) fun _ => ?_
        refine Safe.bind (Safe.load h9.reads) fun _ => ?_
        refine Safe.bind (Safe.load h9.reads) fun _ => ?_
        refine Safe.bind (Safe.load h9.reads) fun _ => ?_
        exact Safe.pure _
      refine Safe.bind ?_ fun r => ?_
      · rw [k0_part9_eq_skeleton]; unfold k0_part9_skel
        refine Safe.bind (Safe.load h7.reads) fun _ => ?_
        refine Safe.bind (Safe.load h6.reads) fun _ => ?_
        refine Safe.bind (Safe.store h6) fun _ => ?_
        refine Safe.bind (Safe.load h9.reads) fun _ => ?_
        refine Safe.bind (Safe.load h9.reads) fun _ => ?_
        refine Safe.bind (Safe.load h9.reads) fun _ => ?_
        refine Safe.bind (Safe.load h9.reads) fun _ => ?_
        exact Safe.pure _
      refine Safe.bind ?_ fun r => ?_
      · rw [k0_part10_eq_skeleton]; unfold k0_part10_skel
        refine Safe.bind (Safe.load h7.reads) fun _ => ?_
        refine Safe.bind (Safe.load h5.reads) fun _ => ?_
        refine Safe.bind (Safe.store h5) fun _ => ?_
        refine Safe.bind (Safe.load h9.reads) fun _ => ?_
        refine Safe.bind (Safe.load h9.reads) fun _ => ?_
        refine Safe.bind (Safe.load h9.reads) fun _ => ?_
        refine Safe.bind (Safe.load h9.reads) fun _ => ?_
        exact Safe.pure _
      obtain ⟨_, _⟩ := r
      refine Safe.bind ?_ fun r => ?_
      · rw [k0_part11_eq_skeleton]; unfold k0_part11_skel
        refine Safe.bind (Safe.load h7.reads) fun _ => ?_
        refine Safe.bind (Safe.load h6.reads) fun _ => ?_
        refine Safe.bind (Safe.store h6) fun _ => ?_
        refine Safe.bind (Safe.load h9.reads) fun _ => ?_
        refine Safe.bind (Safe.load h9.reads) fun _ => ?_
        refine Safe.bind (Safe.load h9.reads) fun _ => ?_
        refine Safe.bind (Safe.load h9.reads) fun _ => ?_
        exact Safe.pure _
      obtain ⟨_, _, _⟩ := r
      refine Safe.bind ?_ fun r => ?_
      · rw [k0_part12_eq_skeleton]; unfold k0_part12_skel
        refine Safe.bind (Safe.load h7.reads) fun _ => ?_
        refine Safe.bind (Safe.load h5.reads) fun _ => ?_
        refine Safe.bind (Safe.store h5) fun _ => ?_
        refine Safe.bind (Safe.load h9.reads) fun _ => ?_
        refine Safe.bind (Safe.load h9.reads) fun _ => ?_
        refine Safe.bind (Safe.load h9.reads) fun _ => ?_
        exact Safe.pure _
      obtain ⟨_, _⟩ := r
      refine Safe.bind ?_ fun r => ?_
      · rw [k0_part13_eq_skeleton]; unfold k0_part13_skel
        refine Safe.bind (Safe.load h9.reads) fun _ => ?_
        refine Safe.bind (Safe.load h7.reads) fun _ => ?_
        refine Safe.bind (Safe.load h6.reads) fun _ => ?_
        refine Safe.bind (Safe.store h6) fun _ => ?_
        refine Safe.bind (Safe.load h9.reads) fun _ => ?_
        refine Safe.bind (Safe.load h9.reads) fun _ => ?_
        refine Safe.bind (Safe.load h9.reads) fun _ => ?_
        exact Safe.pure _
      obtain ⟨_, _⟩ := r
      refine Safe.bind ?_ fun r => ?_
      · rw [k0_part14_eq_skeleton]; unfold k0_part14_skel
        refine Safe.bind (Safe.load h9.reads) fun _ => ?_
        refine Safe.bind (Safe.load h7.reads) fun _ => ?_
        refine Safe.bind (Safe.load h5.reads) fun _ => ?_
        refine Safe.bind (Safe.store h5) fun _ => ?_
        refine Safe.bind (Safe.load h9.reads) fun _ => ?_
        refine Safe.bind (Safe.load h9.reads) fun _ => ?_
        refine Safe.bind (Safe.load h9.reads) fun _ => ?_
        exact Safe.pure _
      obtain ⟨_, _⟩ := r
      refine Safe.bind ?_ fun r => ?_
      · rw [k0_part15_eq_skeleton]; unfold k0_part15_skel
        refine Safe.bind (Safe.load h9.reads) fun _ => ?_
        refine Safe.bind (Safe.load h7.reads) fun _ => ?_
        refine Safe.bind (Safe.load h6.reads) fun _ => ?_
        refine Safe.bind (Safe.store h6) fun _ => ?_
        refine Safe.bind (Safe.load h9.reads) fun _ => ?_
        refine Safe.bind (Safe.load h9.reads) fun _ => ?_
        refine Safe.bind (Safe.load h9.reads) fun _ => ?_
        exact Safe.pure _
      obtain ⟨_, _⟩ := r
      refine Safe.bind ?_ fun r => ?_
      · rw [k0_part16_eq_skeleton]; unfold k0_part16_skel
        refine Safe.bind (Safe.load h9.reads) fun _ => ?_
        refine Safe.bind (Safe.load h7.reads) fun _ => ?_
        refine Safe.bind (Safe.load h5.reads) fun _ => ?_
        refine Safe.bind (Safe.store h5) fun _ => ?_
        refine Safe.bind (Safe.load h9.reads) fun _ => ?_
        refine Safe.bind (Safe.load h9.reads) fun _ => ?_
        exact Safe.pure _
      refine Safe.bind ?_ fun r => ?_
      · rw [k0_part17_eq_skeleton]; unfold k0_part17_skel
        refine Safe.bind (Safe.load h9.reads) fun _ => ?_
        refine Safe.bind (Safe.load h9.reads) fun _ => ?_
        refine Safe.bind (Safe.load h7.reads) fun _ => ?_
        refine Safe.bind (Safe.load h6.reads) fun _ => ?_
        refine Safe.bind (Safe.store h6) fun _ => ?_
        refine Safe.bind (Safe.load h9.reads) fun _ => ?_
        refine Safe.bind (Safe.load h9.reads) fun _ => ?_
        exact Safe.pure _
      refine Safe.bind ?_ fun r => ?_
      · rw [k0_part18_eq_skeleton]; unfold k0_part18_skel
        refine Safe.bind (Safe.load h9.reads) fun _ => ?_
        refine Safe.bind (Safe.load h9.reads) fun _ => ?_
        refine Safe.bind (Safe.load h7.reads) fun _ => ?_
        refine Safe.bind (Safe.load h5.reads) fun _ => ?_
        refine Safe.bind (Safe.store h5) fun _ => ?_
        refine Safe.bind (Safe.load h9.reads) fun _ => ?_
        refine Safe.bind (Safe.load h9.reads) fun _ => ?_
        exact Safe.pure _
      refine Safe.bind ?_ fun r => ?_
      · rw [k0_part19_eq_skeleton]; unfold k0_part19_skel
        refine Safe.bind (Safe.load h9.reads) fun _ => ?_
        refine Safe.bind (Safe.load h9.reads) fun _ => ?_
        refine Safe.bind (Safe.load h7.reads) fun _ => ?_
        refine Safe.bind (Safe.load h6.reads) fun _ => ?_
        refine Safe.bind (Safe.store h6) fun _ => ?_
        refine Safe.bind (Safe.load h9.reads) fun _ => ?_
        refine Safe.bind (Safe.load h9.reads) fun _ => ?_
        exact Safe.pure _
      obtain ⟨_, _⟩ := r
      refine Safe.bind ?_ fun r => ?_
      · rw [k0_part20_eq_skeleton]; unfold k0_part20_skel
        refine Safe.bind (Safe.load h9.reads) fun _ => ?_
        refine Safe.bind (Safe.load h9.reads) fun _ => ?_
        refine Safe.bind (Safe.load h7.reads) fun _ => ?_
        refine Safe.bind (Safe.load h5.reads) fun _ => ?_
        refine Safe.bind (Safe.store h5) fun _ => ?_
        refine Safe.bind (Safe.load h9.reads) fun _ => ?_
        refine Safe.bind (Safe.load h9.reads) fun _ => ?_
        exact Safe.pure _
      obtain ⟨_, _⟩ := r
      refine Safe.bind ?_ fun r => ?_
      · rw [k0_part21_eq_skeleton]; unfold k0_part21_skel
        refine Safe.bind (Safe.load h9.reads) fun _ => ?_
        refine Safe.bind (Safe.load h9.reads) fun _ => ?_
        refine Safe.bind (Safe.load h7.reads) fun _ => ?_
        refine Safe.bind (Safe.load h6.reads) fun _ => ?_
        refine Safe.bind (Safe.store h6) fun _ => ?_
        refine Safe.bind (Safe.load h9.reads) fun _ => ?_
        refine Safe.bind (Safe.load h9.reads) fun _ => ?_
        exact Safe.pure _
      obtain ⟨_, _⟩ := r
      refine Safe.bind ?_ fun r => ?_
      · rw [k0_part22_eq_skeleton]; unfold k0_part22_skel
        refine Safe.bind (Safe.load h9.reads) fun _ => ?_
        refine Safe.bind (Safe.load h9.reads) fun _ => ?_
        refine Safe.bind (Safe.load h7.reads) fun _ => ?_
        refine Safe.bind (Safe.load h5.reads) fun _ => ?_
        refine Safe.bind (Safe.store h5) fun _ => ?_
        refine Safe.bind (Safe.load h9.reads) fun _ => ?_
        exact Safe.pure _
      refine Safe.bind ?_ fun r => ?_
      · rw [k0_part23_eq_skeleton]; unfold k0_part23_skel
        refine Safe.bind (Safe.load h9.reads) fun _ => ?_
        refine Safe.bind (Safe.load h9.reads) fun _ => ?_
        refine Safe.bind (Safe.load h9.reads) fun _ => ?_
        refine Safe.bind (Safe.load h7.reads) fun _ => ?_
        refine Safe.bind (Safe.load h6.reads) fun _ => ?_
        refine Safe.bind (Safe.store h6) fun _ => ?_
        refine Safe.bind (Safe.load h9.reads) fun _ => ?_
        exact Safe.pure _
      refine Safe.bind ?_ fun r => ?_
      · rw [k0_part24_eq_skeleton]; unfold k0_part24_skel
        refine Safe.bind (Safe.load h9.reads) fun _ => ?_
        refine Safe.bind (Safe.load h9.reads) fun _ => ?_
        refine Safe.bind (Safe.load h9.reads) fun _ => ?_
        refine Safe.bind (Safe.load h7.reads) fun _ => ?_
        refine Safe.bind (Safe.load h5.reads) fun _ => ?_
        refine Safe.bind (Safe.store h5) fun _ => ?_
        refine Safe.bind (Safe.load h9.reads) fun _ => ?_
        exact Safe.pure _
      refine Safe.bind ?_ fun r => ?_
      · rw [k0_part25_eq_skeleton]; unfold k0_part25_skel
        refine Safe.bind (Safe.load h9.reads) fun _ => ?_
        refine Safe.bind (Safe.load h9.reads) fun _ => ?_
        refine Safe.bind (Safe.load h9.reads) fun _ => ?_
        refine Safe.bind (Safe.load h7.reads) fun _ => ?_
        refine Safe.bind (Safe.load h6.reads) fun _ => ?_
        refine Safe.bind (Safe.store h6) fun _ => ?_
        refine Safe.bind (Safe.load h9.reads) fun _ => ?_
        exact Safe.pure _
      refine Safe.bind ?_ fun r => ?_
      · rw [k0_part26_eq_skeleton]; unfold k0_part26_skel
        refine Safe.bind (Safe.load h9.reads) fun _ => ?_
        refine Safe.bind (Safe.load h9.reads) fun _ => ?_
        refine Safe.bind (Safe.load h9.reads) fun _ => ?_
        refine Safe.bind (Safe.load h7.reads) fun _ => ?_
        refine Safe.bind (Safe.load h5.reads) fun _ => ?_
        refine Safe.bind (Safe.store h5) fun _ => ?_
        exact Safe.pure _
      refine Safe.bind ?_ fun r => ?_
      · rw [k0_part27_eq_skeleton]; unfold k0_part27_skel
        refine Safe.bind (Safe.load h9.reads) fun _ => ?_
        refine Safe.bind (Safe.load h9.reads) fun _ => ?_
        refine Safe.bind (Safe.load h9.reads) fun _ => ?_
        refine Safe.bind (Safe.load h9.reads) fun _ => ?_
        refine Safe.bind (Safe.load h7.reads) fun _ => ?_
        refine Safe.bind (Safe.load h6.reads) fun _ => ?_
        refine Safe.bind (Safe.store h6) fun _ => ?_
        exact Safe.pure _
      refine Safe.bind ?_ fun r => ?_
      · rw [k0_part28_eq_skeleton]; unfold k0_part28_skel
        refine Safe.bind (Safe.load h9.reads) fun _ => ?_
        refine Safe.bind (Safe.load h9.reads) fun _ => ?_
        refine Safe.bind (Safe.load h9.reads) fun _ => ?_
        refine Safe.bind (Safe.load h9.reads) fun _ => ?_
        refine Safe.bind (Safe.load h7.reads) fun _ => ?_
        refine Safe.bind (Safe.load h5.reads) fun _ => ?_
        refine Safe.bind (Safe.store h5) fun _ => ?_
        exact Safe.pure _
      refine Safe.bind ?_ fun r => ?_
      · rw [k0_part29_eq_skeleton]; unfold k0_part29_skel
        refine Safe.bind (Safe.load h9.reads) fun _ => ?_
        refine Safe.bind (Safe.load h9.reads) fun _ => ?_
        refine Safe.bind (Safe.load h9.reads) fun _ => ?_
        refine Safe.bind (Safe.load h9.reads) fun _ => ?_
        refine Safe.bind (Safe.load h7.reads) fun _ => ?_
        refine Safe.bind (Safe.load h6.reads) fun _ => ?_
        refine Safe.bind (Safe.store h6) fun _ => ?_
        exact Safe.pure _
      refine Safe.bind ?_ fun r => ?_
      · rw [k0_part30_eq_skeleton]; unfold k0_part30_skel
        refine Safe.bind (Safe.load h9.reads) fun _ => ?_
        refine Safe.bind (Safe.load h9.reads) fun _ => ?_
        refine Safe.bind (Safe.load h9.reads) fun _ => ?_
        refine Safe.bind (Safe.load h9.reads) fun _ => ?_
        refine Safe.bind (Safe.load h7.reads) fun _ => ?_
        refine Safe.bind (Safe.load h5.reads) fun _ => ?_
        exact Safe.pure _
      refine Safe.bind ?_ fun r => ?_
      · rw [k0_part31_eq_skeleton]; unfold k0_part31_skel
        refine Safe.bind (Safe.store h5) fun _ => ?_
        refine Safe.bind (Safe.load h9.reads) fun _ => ?_
        refine Safe.bind (Safe.load h9.reads) fun _ => ?_
        refine Safe.bind (Safe.load h9.reads) fun _ => ?_
        refine Safe.bind (Safe.load h9.reads) fun _ => ?_
        refine Safe.bind (Safe.load h7.reads) fun _ => ?_
        exact Safe.pure _
      refine Safe.bind ?_ fun r => ?_
      · rw [k0_part32_eq_skeleton]; unfold k0_part32_skel
        refine Safe.bind (Safe.load h6.reads) fun _ => ?_
        refine Safe.bind (Safe.store h6) fun _ => ?_
        refine Safe.bind (Safe.load h9.reads) fun _ => ?_
        refine Safe.bind (Safe.load h9.reads) fun _ => ?_
        refine Safe.bind (Safe.load h9.reads) fun _ => ?_
        refine Safe.bind (Safe.load h9.reads) fun _ => ?_
        refine Safe.bind (Safe.load h7.reads) fun _ => ?_
        exact Safe.pure _
      refine Safe.bind ?_ fun r => ?_
      · rw [k0_part33_eq_skeleton]; unfold k0_part33_skel
        refine Safe.bind (Safe.load h5.reads) fun _ => ?_
        refine Safe.bind (Safe.store h5) fun _ => ?_
        refine Safe.bind (Safe.load h9.reads) fun _ => ?_
        refine Safe.bind (Safe.load h9.reads) fun _ => ?_
        refine Safe.bind (Safe.load h9.reads) fun _ => ?_
        refine Safe.bind (Safe.load h9.reads) fun _ => ?_
        refine Safe.bind (Safe.load h7.reads) fun _ => ?_
        exact Safe.pure _
      refine Safe.bind ?_ fun r => ?_
      · rw [k0_part34_eq_skeleton]; unfold k0_part34_skel
        refine Safe.bind (Safe.load h6.reads) fun _ => ?_
        refine Safe.bind (Safe.store h6) fun _ => ?_
        refine Safe.bind (Safe.load h9.reads) fun _ => ?_
        refine Safe.bind (Safe.load h9.reads) fun _ => ?_
        refine Safe.bind (Safe.load h9.reads) fun _ => ?_
        refine Safe.bind (Safe.load h9.reads) fun _ => ?_
        refine Safe.bind (Safe.load h7.reads) fun _ => ?_
        exact Safe.pure _
      obtain ⟨_, _⟩ := r
      refine Safe.bind ?_ fun r => ?_
      · rw [k0_part35_eq_skeleton]; unfold k0_part35_skel
        refine Safe.bind (Safe.load h5.reads) fun _ => ?_
        refine Safe.bind (Safe.store h5) fun _ => ?_
        refine Safe.bind (Safe.load h9.reads) fun _ => ?_
        refine Safe.bind (Safe.load h9.reads) fun _ => ?_
        refine Safe.bind (Safe.load h9.reads) fun _ => ?_
        refine Safe.bind (Safe.load h9.reads) fun _ => ?_
        refine Safe.bind (Safe.load h7.reads) fun _ => ?_
        exact Safe.pure _
      refine Safe.bind ?_ fun r => ?_
      · rw [k0_part36_eq_skeleton]; unfold k0_part36_skel
        refine Safe.bind (Safe.load h6.reads) fun _ => ?_
        refine Safe.bind (Safe.store h6) fun _ => ?_
        refine Safe.bind (Safe.load h9.reads) fun _ => ?_
        refine Safe.bind (Safe.load h9.reads) fun _ => ?_
        refine Safe.bind (Safe.load h9.reads) fun _ => ?_
        refine Safe.bind (Safe.load h9.reads) fun _ => ?_
        refine Safe.bind (Safe.load h7.reads) fun _ => ?_
        exact Safe.pure _
      obtain ⟨_, _⟩ := r
      refine Safe.bind ?_ fun r => ?_
      · rw [k0_part37_eq_skeleton]; unfold k0_part37_skel
        refine Safe.bind (Safe.load h5.reads) fun _ => ?_
        refine Safe.bind (Safe.store h5) fun _ => ?_
        refine Safe.bind (Safe.load h9.reads) fun _ => ?_
        refine Safe.bind (Safe.load h9.reads) fun _ => ?_
        refine Safe.bind (Safe.load h9.reads) fun _ => ?_
        refine Safe.bind (Safe.load h9.reads) fun _ => ?_
        refine Safe.bind (Safe.load h7.reads) fun _ => ?_
        exact Safe.pure _
      refine Safe.bind ?_ fun r => ?_
      · rw [k0_part38_eq_skeleton]; unfold k0_part38_skel
        refine Safe.bind (Safe.load h6.reads) fun _ => ?_
        refine Safe.bind (Safe.store h6) fun _ => ?_
        refine Safe.bind (Safe.load h9.reads) fun _ => ?_
        refine Safe.bind (Safe.load h9.reads) fun _ => ?_
        refine Safe.bind (Safe.load h9.reads) fun _ => ?_
        refine Safe.bind (Safe.load h9.reads) fun _ => ?_
        refine Safe.bind (Safe.load h7.reads) fun _ => ?_
        exact Safe.pure _
      obtain ⟨_, _⟩ := r
      refine Safe.bind ?_ fun r => ?_
      · rw [k0_part39_eq_skeleton]; unfold k0_part39_skel
        refine Safe.bind (Safe.load h5.reads) fun _ => ?_
        refine Safe.bind (Safe.store h5) fun _ => ?_
        refine Safe.bind (Safe.load h9.reads) fun _ => ?_
        refine Safe.bind (Safe.load h9.reads) fun _ => ?_
        refine Safe.bind (Safe.load h9.reads) fun _ => ?_
        refine Safe.bind (Safe.load h9.reads) fun _ => ?_
        exact Safe.pure _
      refine Safe.bind ?_ fun r => ?_
      · rw [k0_part40_eq_skeleton]; unfold k0_part40_skel
        refine Safe.bind (Safe.load h7.reads) fun _ => ?_
        refine Safe.bind (Safe.load h6.reads) fun _ => ?_
        refine Safe.bind (Safe.store h6) fun _ => ?_
        refine Safe.bind (Safe.load h9.reads) fun _ => ?_
        refine Safe.bind (Safe.load h9.reads) fun _ => ?_
        refine Safe.bind (Safe.load h9.reads) fun _ => ?_
        refine Safe.bind (Safe.load h9.reads) fun _ => ?_
        exact Safe.pure _
      refine Safe.bind ?_ fun r => ?_
      · rw [k0_part41_eq_skeleton]; unfold k0_part41_skel
        refine Safe.bind (Safe.load h7.reads) fun _ => ?_
        refine Safe.bind (Safe.load h5.reads) fun _ => ?_
        refine Safe.bind (Safe.store h5) fun _ => ?_
        refine Safe.bind (Safe.load h9.reads) fun _ => ?_
        refine Safe.bind (Safe.load h9.reads) fun _ => ?_
        refine Safe.bind (Safe.load h9.reads) fun _ => ?_
        refine Safe.bind (Safe.load h9.reads) fun _ => ?_
        exact Safe.pure _
      obtain ⟨_, _⟩ := r
      refine Safe.bind (Safe.load h7.reads) fun _ => ?_
      exact Safe.pure _
    refine Safe.bind (Safe.load h6.reads) fun _ => ?_
    refine Safe.bind (Safe.store h6) fun _ => ?_
    exact Safe.pure _
  ·
    exact Safe.pure _

end Cert.Kernel.Body
-- ==== Proof.KernelFrame.lean ====
/- The frame of `Kernel`: it terminates, leaves its arguments as they were and every semaphore at zero. What the body leaves in
   the two output windows and in the scratch buffers is not tracked here. -/
module

public import proofs.«01_k».proof.Proof.Gen.Kernel.Frame
public import proofs.«01_k».proof.Proof.Gen.Kernel.Points
public import proofs.«01_k».proof.Proof.KernelSafe

@[expose] public section

set_option maxRecDepth 16384

noncomputable section

namespace Cert.Kernel.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Steps

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The proof data of the frame: the arrays as the region finds them, each input's buffer left at its block, the scratch
    buffers at anything. -/
def datsF (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => fun _ => Classical.arbitrary _
    | ⟨5, _⟩ => fun _ => Classical.arbitrary _
  Φ _ := Pipeline.ΦA spec0 c
  q _ := fullShare
  owed _ := 0

/-- The two output windows are those whose contents are not tracked. -/
def fgt : Fin cfg0.W → Bool := fun w => match w with
  | ⟨0, _⟩ => false
  | ⟨1, _⟩ => false
  | ⟨2, _⟩ => false
  | ⟨3, _⟩ => false
  | ⟨4, _⟩ => true
  | ⟨5, _⟩ => true

/-- The proof data's arrays are the region-entry contents. -/
theorem A_eqF (c : Dev nD) (w : Fin cfg0.W) : (datsF m 0 c).A w = V m c (Pipeline.arrRef spec0 w) := by
  dsimp only [datsF]

/-- What the body holds at a point: the invariant's buffers one by one and the windows' current buffers. -/
def held (c : Dev nD) (t : Fin cfg0.N) : sProp 𝕄 :=
  iprop((datsF m 0 c).owesAt () t.castSucc ∗ (∃ r, prngReg c r)
    ∗ owns (c : Thread nD τ) (st0_0 t) fullShare (iblk m c 0 t) ∗ owns (c : Thread nD τ) (st0_1 t) fullShare (iblk m c 1 t)
    ∗ owns (c : Thread nD τ) (st0_2 t) fullShare (iblk m c 2 t) ∗ owns (c : Thread nD τ) (st0_3 t) fullShare (iblk m c 3 t)
    ∗ (∃ X, owns (c : Thread nD τ) (st0_4 t) fullShare X) ∗ (∃ X, owns (c : Thread nD τ) (st0_5 t) fullShare X)
    ∗ (∃ X, owns (c : Thread nD τ) (Memref.whole cc0_scratch0) fullShare X)
    ∗ (∃ X, owns (c : Thread nD τ) (Memref.whole cc0_scratch1) fullShare X)
    ∗ (∃ X, owns (c : Thread nD τ) (Memref.whole cc0_scratch2) fullShare X))

/-- The body at any point runs from what it holds to what it holds. -/
theorem sound_held (c : Dev nD) (t : Fin cfg0.N) :
    held m c t ⊢ wp frame (wpE (defs₀ (F := F)) Variants.none c none) Set.univ (bodyAt0 t) (fun _ => held m c t) := by
  unfold bodyAt0
  refine safe_body c (held m c t) (grid0.coords t) _ _ _ _ _ _ _ _ _ _ _ _ _ _ _ _ _ _ ?_ ?_ ?_ ?_ ?_ ?_ ?_ ?_ ?_ _ (fun _ => .rfl)
  all_goals unfold held; first | unfold Reads | unfold Has
  · iintro ⟨Ho, Hp, H1, H2, H3, H4, H5, H6, H7, H8, H9⟩
    iexists (iblk m c 0 t); isplitl [H1]; · iexact H1
    iintro H1; iframe
  · iintro ⟨Ho, Hp, H1, H2, H3, H4, H5, H6, H7, H8, H9⟩
    iexists (iblk m c 1 t); isplitl [H2]; · iexact H2
    iintro H2; iframe
  · iintro ⟨Ho, Hp, H1, H2, H3, H4, H5, H6, H7, H8, H9⟩
    iexists (iblk m c 2 t); isplitl [H3]; · iexact H3
    iintro H3; iframe
  · iintro ⟨Ho, Hp, H1, H2, H3, H4, H5, H6, H7, H8, H9⟩
    iexists (iblk m c 3 t); isplitl [H4]; · iexact H4
    iintro H4; iframe
  · iintro ⟨Ho, Hp, H1, H2, H3, H4, H5, H6, H7, H8, H9⟩
    isplitl [H5]; · iexact H5
    iintro H5; iframe
  · iintro ⟨Ho, Hp, H1, H2, H3, H4, H5, H6, H7, H8, H9⟩
    isplitl [H6]; · iexact H6
    iintro H6; iframe
  · iintro ⟨Ho, Hp, H1, H2, H3, H4, H5, H6, H7, H8, H9⟩
    isplitl [H7]; · iexact H7
    iintro H7; iframe
  · iintro ⟨Ho, Hp, H1, H2, H3, H4, H5, H6, H7, H8, H9⟩
    isplitl [H8]; · iexact H8
    iintro H8; iframe
  · iintro ⟨Ho, Hp, H1, H2, H3, H4, H5, H6, H7, H8, H9⟩
    isplitl [H9]; · iexact H9
    iintro H9; iframe

/-- Each input's current staging buffer holds its block at every point. -/
theorem before0F (c : Dev nD) (t : Fin cfg0.N) (d) : (datsF m 0 c).before 0 t d = iblk m c 0 t :=
  before0_0_of m (datsF m 0 c) (A_eqF m c 0) (fun _ => by dsimp only [datsF]) t d
/-- Before the body, input window 1's buffer holds its block. -/
theorem before1F (c : Dev nD) (t : Fin cfg0.N) (d) : (datsF m 0 c).before 1 t d = iblk m c 1 t :=
  before0_1_of m (datsF m 0 c) (A_eqF m c 1) (fun _ => by dsimp only [datsF]) t d
/-- Before the body, input window 2's buffer holds its block. -/
theorem before2F (c : Dev nD) (t : Fin cfg0.N) (d) : (datsF m 0 c).before 2 t d = iblk m c 2 t :=
  before0_2_of m (datsF m 0 c) (A_eqF m c 2) (fun _ => by dsimp only [datsF]) t d
/-- Before the body, input window 3's buffer holds its block. -/
theorem before3F (c : Dev nD) (t : Fin cfg0.N) (d) : (datsF m 0 c).before 3 t d = iblk m c 3 t :=
  before0_3_of m (datsF m 0 c) (A_eqF m c 3) (fun _ => by dsimp only [datsF]) t d
/-- After the body, window 0's buffer holds its block. -/
theorem after0F (c : Dev nD) (t : Fin cfg0.N) : (datsF m 0 c).after 0 t = iblk m c 0 t := by dsimp only [datsF]
/-- After the body, window 1's buffer holds its block. -/
theorem after1F (c : Dev nD) (t : Fin cfg0.N) : (datsF m 0 c).after 1 t = iblk m c 1 t := by dsimp only [datsF]
/-- After the body, window 2's buffer holds its block. -/
theorem after2F (c : Dev nD) (t : Fin cfg0.N) : (datsF m 0 c).after 2 t = iblk m c 2 t := by dsimp only [datsF]
/-- After the body, window 3's buffer holds its block. -/
theorem after3F (c : Dev nD) (t : Fin cfg0.N) : (datsF m 0 c).after 3 t = iblk m c 3 t := by dsimp only [datsF]

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The invariant's scratch buffers, each held whole at some contents. -/
theorem phi_eq (c : Dev nD) : (Pipeline.ΦA spec0 c : sProp 𝕄)
    = iprop(((∃ X, owns (c : Thread nD τ) (Memref.whole cc0_scratch0) fullShare X)
      ∗ (∃ X, owns (c : Thread nD τ) (Memref.whole cc0_scratch1) fullShare X)
      ∗ (∃ X, owns (c : Thread nD τ) (Memref.whole cc0_scratch2) fullShare X)) ∗ (∃ r, prngReg c r)) := by
  unfold Pipeline.ΦA
  rw [scopedRest0_eq]
  simp only [owns_whole]

/-- The library's body obligation with the two output windows' contents not tracked. -/
theorem body_obligationF (c : Dev nD) : BodyObligation (datsF (F := F) m 0 c) (defs₀ (F := F)) Variants.none () Set.univ fgt := fun t => by
  rw [bigSep_W0, bigSep_W0, defs₀_row]
  refine triple_restated (sound_held m c t) rfl ?_ fun _ => ?_
  · dsimp only [fgt]
    simp only [before0F, before1F, before2F, before3F]
    rw [show (datsF m 0 c).Φ t.castSucc = Pipeline.ΦA spec0 c from rfl, phi_eq]
    unfold held
    iintro ⟨⟨⟨H7, H8, H9⟩, Hp⟩, Ho, ⟨%d0, H1⟩, ⟨%d1, H2⟩, ⟨%d2, H3⟩, ⟨%d3, H4⟩, H5, H6⟩
    iframe
  · dsimp only [fgt]
    rw [show (datsF m 0 c).Φ t.succ = Pipeline.ΦA spec0 c from rfl, phi_eq,
      show (datsF m 0 c).owesAt () t.succ = (datsF m 0 c).owesAt () t.castSucc from rfl]
    unfold held
    iintro ⟨Ho, Hp, H1, H2, H3, H4, H5, H6, H7, H8, H9⟩
    isplitl [H7 H8 H9 Hp]
    · iframe
    isplitl [Ho]; · iexact Ho
    isplitl [H1]; · iexact H1
    isplitl [H2]; · iexact H2
    isplitl [H3]; · iexact H3
    isplitl [H4]; · iexact H4
    isplitl [H5]; · iexact H5
    iexact H6

/-- What the host lines after the region write. -/
abbrev tailW : Finset (Ref sig .tc) := {main_v22, main_v23}

/-- The host operations after the region write only the buffers of `tailW`. -/
theorem tail_writes : ∀ ops ∈ ([hostOps1] : List (List (HloOp τ sig (Elt F)))), ∀ op ∈ ops,
    ∀ b : Ref sig .tc, Proc.devRef .tc b ∈ op.writes → b ∈ tailW := by
  intro ops hops op hop b hb
  simp only [List.mem_cons, List.mem_nil_iff, or_false] at hops
  rcases hops with rfl
  simp only [hostOps1, List.mem_cons, List.mem_nil_iff, or_false] at hop
  rcases hop with rfl | rfl
  · rw [Proc.devRef_injective _ (Finset.mem_singleton.mp hb)]; decide
  · rw [Proc.devRef_injective _ (Finset.mem_singleton.mp hb)]; decide

set_option backward.isDefEq.respectTransparency.types false in
set_option maxHeartbeats 800000 in
/-- The launch: every buffer that is no array and that no later host line writes ends as the region found it, and every
    semaphore counter is zero. -/
theorem run_frame : θ_run defs (onTc (τ := τ) (main (F := F))) (s₀ m ρ) (fun r =>
    Pipeline.RDat.FramePostR cfg0 (fun c => (datsF m 0 c).toRForget fgt) tailW (fun c b => V m c b) r ∧ r.2.sem = fun _ => 0) :=
  Pipeline.θ_run_frame_around_T_forget (Q' := _) cfgs (datsF m) (0 : Fin 1) launch0 defs₀ Variants.none fgt tailW m ρ main
    (hbody := fun c => (body_obligationF m c).loose) (hshare := fun c => (datsF m 0 c).share_full fun _ => rfl)
    (howed := fun _ _ => rfl) (V₀ := V0 m) (opss := [hostOps1]) (hsub := sfx_sub) (hfresh := sfx_fresh) (hkeep := sfx_keeps)
    (hT := tail_writes) (hmain := hmain m Variants.none) (hA := A_eqF m) (hΦ := fun _ _ => rfl)

/-- The frame: the arguments end as they began and every semaphore is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
    ⟨((h.1 c).2 main_arg0 (Finset.mem_sdiff.mpr ⟨Pipeline.mem_restRefs_of main_arg0 (by decide) (by decide), by decide⟩)).trans (V_main_arg0 m c),
      ((h.1 c).2 main_arg1 (Finset.mem_sdiff.mpr ⟨Pipeline.mem_restRefs_of main_arg1 (by decide) (by decide), by decide⟩)).trans (V_main_arg1 m c),
      ((h.1 c).2 main_arg2 (Finset.mem_sdiff.mpr ⟨Pipeline.mem_restRefs_of main_arg2 (by decide) (by decide), by decide⟩)).trans (V_main_arg2 m c),
      ((h.1 c).2 main_arg3 (Finset.mem_sdiff.mpr ⟨Pipeline.mem_restRefs_of main_arg3 (by decide) (by decide), by decide⟩)).trans (V_main_arg3 m c)⟩, h.2⟩) (run_frame m ρ)

end Cert.Kernel.Body
-- ==== Proof.KernelIdealSafe.lean ====
/- The kernel body of `KernelIdeal` runs from any assertion that owns its nine buffers to the same assertion. -/
module

public import proofs.«01_k».proof.Proof.Gen.KernelIdeal.Skeleton
public import proofs.«01_k».proof.Proof.Gen.KernelIdeal.Launch
public import proofs.«01_k».proof.Proof.Steps

@[expose] public section

set_option maxRecDepth 16384

noncomputable section

namespace Cert.KernelIdeal.Body

open Idealize.ShloMosaic Idealize.ShloMosaic.TcCoe
open Idealize.SL Idealize.SL.RA Idealize.SL.BI Idealize.SL.Sem
open Cert.KernelIdeal Cert.KernelIdeal.Gen Steps

variable {F : FTy → Type} [FloatOps F] {U : Type} [URA U]

local notation "𝕄" => MT nD τ sig Unit (Elt F) ℕ U ℕ

/-- The body is safe for an assertion that lends its four input windows to read and the other five buffers to read and write. -/
theorem safe_body (c : Dev nD) (P : sProp 𝕄) (i : grid0.Coords)
    (arg1 : Memref sig .tc .vmem S1x1008x128 .i32) (harg1 : arg1.IsWhole)
    (arg2 : Memref sig .tc .vmem S2x96x256 .fp8e4m3) (harg2 : arg2.IsWhole)
    (arg3 : Memref sig .tc .vmem S2x96x256 .f32) (harg3 : arg3.IsWhole)
    (arg4 : Memref sig .tc .vmem S96x1 .f32) (harg4 : arg4.IsWhole)
    (arg5 : Memref sig .tc .vmem S1x20x96x256 .bf16) (harg5 : arg5.IsWhole)
    (arg6 : Memref sig .tc .vmem S1x20x96x256 .bf16) (harg6 : arg6.IsWhole)
    (arg7 : Memref sig .tc .vmem S2x96x256 .bf16) (harg7 : arg7.IsWhole)
    (arg8 : Memref sig .tc .vmem S96x128 .f32) (harg8 : arg8.IsWhole)
    (arg9 : Memref sig .tc .vmem S2x2x2x672x2x128 .bf16) (harg9 : arg9.IsWhole)
    (r1 : Reads (U := U) (c : Thread nD τ) P arg1) (r2 : Reads (U := U) (c : Thread nD τ) P arg2) (r3 : Reads (U := U) (c : Thread nD τ) P arg3) (r4 : Reads (U := U) (c : Thread nD τ) P arg4)
    (h5 : Has (U := U) (c : Thread nD τ) P arg5) (h6 : Has (U := U) (c : Thread nD τ) P arg6) (h7 : Has (U := U) (c : Thread nD τ) P arg7) (h8 : Has (U := U) (c : Thread nD τ) P arg8) (h9 : Has (U := U) (c : Thread nD τ) P arg9) :
    Safe (U := U) (defs₀ (F := F)) (c : Thread nD τ) P (cc0_conv i arg1 harg1 arg2 harg2 arg3 harg3 arg4 harg4 arg5 harg5 arg6 harg6 arg7 harg7 arg8 harg8 arg9 harg9) := by
  rw [cc0_conv_eq_skeleton]; unfold cc0_conv_skel
  refine Safe.bind ?_ fun r => ?_
  · rw [k0_part99_eq_skeleton]; unfold k0_part99_skel
    refine Safe.bind ?_ fun r => ?_
    · rw [k0_part51_eq_skeleton]; unfold k0_part51_skel
      dsimp only
      refine Safe.dite (fun _ => ?_) (fun _ => ?_)
      ·
        refine Safe.bind (Safe.load r2) fun _ => ?_
        refine Safe.bind (Safe.load r3) fun _ => ?_
        refine Safe.bind (Safe.load h7.reads) fun _ => ?_
        refine Safe.bind (Safe.store h7) fun _ => ?_
        refine Safe.bind (Safe.load r4) fun _ => ?_
        refine Safe.bind (Safe.load h8.reads) fun _ => ?_
        refine Safe.bind (Safe.store h8) fun _ => ?_
        refine Safe.bind (Safe.load r1) fun _ => ?_
        refine Safe.bind (Safe.load r1) fun _ => ?_
        refine Safe.bind (Safe.load r1) fun _ => ?_
        exact Safe.pure _
      ·
        refine Safe.bind (Safe.load r1) fun _ => ?_
        refine Safe.bind (Safe.load r1) fun _ => ?_
        refine Safe.bind (Safe.load r1) fun _ => ?_
        exact Safe.pure _
    obtain ⟨_, _, _, _, _, _, _, _⟩ := r
    refine Safe.bind ?_ fun r => ?_
    · rw [k0_part52_eq_skeleton]; unfold k0_part52_skel
      refine Safe.bind (Safe.load h9.reads) fun _ => ?_
      refine Safe.bind (Safe.store h9) fun _ => ?_
      refine Safe.bind (Safe.load h9.reads) fun _ => ?_
      refine Safe.bind (Safe.store h9) fun _ => ?_
      refine Safe.bind (Safe.load r1) fun _ => ?_
      refine Safe.bind (Safe.load r1) fun _ => ?_
      refine Safe.bind (Safe.load r1) fun _ => ?_
      exact Safe.pure _
    obtain ⟨_, _, _, _, _⟩ := r
    refine Safe.bind ?_ fun r => ?_
    · rw [k0_part53_eq_skeleton]; unfold k0_part53_skel
      refine Safe.bind (Safe.load h9.reads) fun _ => ?_
      refine Safe.bind (Safe.store h9) fun _ => ?_
      refine Safe.bind (Safe.load h9.reads) fun _ => ?_
      refine Safe.bind (Safe.store h9) fun _ => ?_
      refine Safe.bind (Safe.load r1) fun _ => ?_
      refine Safe.bind (Safe.load r1) fun _ => ?_
      refine Safe.bind (Safe.load r1) fun _ => ?_
      exact Safe.pure _
    obtain ⟨_, _, _⟩ := r
    refine Safe.bind ?_ fun r => ?_
    · rw [k0_part54_eq_skeleton]; unfold k0_part54_skel
      refine Safe.bind (Safe.load h9.reads) fun _ => ?_
      refine Safe.bind (Safe.store h9) fun _ => ?_
      refine Safe.bind (Safe.load h9.reads) fun _ => ?_
      refine Safe.bind (Safe.store h9) fun _ => ?_
      refine Safe.bind (Safe.load r1) fun _ => ?_
      exact Safe.pure _
    refine Safe.bind ?_ fun r => ?_
    · rw [k0_part55_eq_skeleton]; unfold k0_part55_skel
      refine Safe.bind (Safe.load r1) fun _ => ?_
      refine Safe.bind (Safe.load r1) fun _ => ?_
      refine Safe.bind (Safe.load h9.reads) fun _ => ?_
      refine Safe.bind (Safe.store h9) fun _ => ?_
      refine Safe.bind (Safe.load h9.reads) fun _ => ?_
      exact Safe.pure _
    obtain ⟨_, _⟩ := r
    refine Safe.bind ?_ fun r => ?_
    · rw [k0_part56_eq_skeleton]; unfold k0_part56_skel
      refine Safe.bind (Safe.store h9) fun _ => ?_
      refine Safe.bind (Safe.load r1) fun _ => ?_
      refine Safe.bind (Safe.load r1) fun _ => ?_
      refine Safe.bind (Safe.load r1) fun _ => ?_
      refine Safe.bind (Safe.load h9.reads) fun _ => ?_
      refine Safe.bind (Safe.store h9) fun _ => ?_
      exact Safe.pure _
    obtain ⟨_, _⟩ := r
    refine Safe.bind ?_ fun r => ?_
    · rw [k0_part57_eq_skeleton]; unfold k0_part57_skel
      refine Safe.bind (Safe.load h9.reads) fun _ => ?_
      refine Safe.bind (Safe.store h9) fun _ => ?_
      refine Safe.bind (Safe.load r1) fun _ => ?_
      refine Safe.bind (Safe.load r1) fun _ => ?_
      refine Safe.bind (Safe.load r1) fun _ => ?_
      refine Safe.bind (Safe.load h9.reads) fun _ => ?_
      refine Safe.bind (Safe.store h9) fun _ => ?_
      exact Safe.pure _
    obtain ⟨_, _, _, _⟩ := r
    refine Safe.bind ?_ fun r => ?_
    · rw [k0_part58_eq_skeleton]; unfold k0_part58_skel
      refine Safe.bind (Safe.load h9.reads) fun _ => ?_
      refine Safe.bind (Safe.store h9) fun _ => ?_
      refine Safe.bind (Safe.load r1) fun _ => ?_
      refine Safe.bind (Safe.load r1) fun _ => ?_
      refine Safe.bind (Safe.load r1) fun _ => ?_
      refine Safe.bind (Safe.load h9.reads) fun _ => ?_
      exact Safe.pure _
    obtain ⟨_, _, _, _, _, _⟩ := r
    refine Safe.bind ?_ fun r => ?_
    · rw [k0_part59_eq_skeleton]; unfold k0_part59_skel
      refine Safe.bind (Safe.store h9) fun _ => ?_
      refine Safe.bind (Safe.load h9.reads) fun _ => ?_
      refine Safe.bind (Safe.store h9) fun _ => ?_
      refine Safe.bind (Safe.load r1) fun _ => ?_
      refine Safe.bind (Safe.load r1) fun _ => ?_
      refine Safe.bind (Safe.load r1) fun _ => ?_
      exact Safe.pure _
    obtain ⟨_, _, _, _, _⟩ := r
    refine Safe.bind ?_ fun r => ?_
    · rw [k0_part60_eq_skeleton]; unfold k0_part60_skel
      refine Safe.bind (Safe.load h9.reads) fun _ => ?_
      refine Safe.bind (Safe.store h9) fun _ => ?_
      refine Safe.bind (Safe.load h9.reads) fun _ => ?_
      refine Safe.bind (Safe.store h9) fun _ => ?_
      refine Safe.bind (Safe.load r1) fun _ => ?_
      refine Safe.bind (Safe.load r1) fun _ => ?_
      refine Safe.bind (Safe.load r1) fun _ => ?_
      exact Safe.pure _
    obtain ⟨_, _, _, _⟩ := r
    refine Safe.bind ?_ fun r => ?_
    · rw [k0_part61_eq_skeleton]; unfold k0_part61_skel
      refine Safe.bind (Safe.load h9.reads) fun _ => ?_
      refine Safe.bind (Safe.store h9) fun _ => ?_
      refine Safe.bind (Safe.load h9.reads) fun _ => ?_
      refine Safe.bind (Safe.store h9) fun _ => ?_
      refine Safe.bind (Safe.load r1) fun _ => ?_
      refine Safe.bind (Safe.load r1) fun _ => ?_
      exact Safe.pure _
    obtain ⟨_, _⟩ := r
    refine Safe.bind ?_ fun r => ?_
    · rw [k0_part62_eq_skeleton]; unfold k0_part62_skel
      refine Safe.bind (Safe.load r1) fun _ => ?_
      refine Safe.bind (Safe.load h9.reads) fun _ => ?_
      refine Safe.bind (Safe.store h9) fun _ => ?_
      refine Safe.bind (Safe.load h9.reads) fun _ => ?_
      refine Safe.bind (Safe.store h9) fun _ => ?_
      exact Safe.pure _
    refine Safe.bind ?_ fun r => ?_
    · rw [k0_part63_eq_skeleton]; unfold k0_part63_skel
      refine Safe.bind (Safe.load r1) fun _ => ?_
      refine Safe.bind (Safe.load r1) fun _ => ?_
      refine Safe.bind (Safe.load r1) fun _ => ?_
      refine Safe.bind (Safe.load h9.reads) fun _ => ?_
      refine Safe.bind (Safe.store h9) fun _ => ?_
      refine Safe.bind (Safe.load h9.reads) fun _ => ?_
      exact Safe.pure _
    obtain ⟨_, _, _, _⟩ := r
    refine Safe.bind ?_ fun r => ?_
    · rw [k0_part64_eq_skeleton]; unfold k0_part64_skel
      refine Safe.bind (Safe.store h9) fun _ => ?_
      refine Safe.bind (Safe.load r1) fun _ => ?_
      refine Safe.bind (Safe.load r1) fun _ => ?_
      refine Safe.bind (Safe.load r1) fun _ => ?_
      refine Safe.bind (Safe.load h9.reads) fun _ => ?_
      refine Safe.bind (Safe.store h9) fun _ => ?_
      exact Safe.pure _
    obtain ⟨_, _, _⟩ := r
    refine Safe.bind ?_ fun r => ?_
    · rw [k0_part65_eq_skeleton]; unfold k0_part65_skel
      refine Safe.bind (Safe.load h9.reads) fun _ => ?_
      refine Safe.bind (Safe.store h9) fun _ => ?_
      refine Safe.bind (Safe.load r1) fun _ => ?_
      refine Safe.bind (Safe.load r1) fun _ => ?_
      refine Safe.bind (Safe.load r1) fun _ => ?_
      refine Safe.bind (Safe.load h9.reads) fun _ => ?_
      refine Safe.bind (Safe.store h9) fun _ => ?_
      exact Safe.pure _
    obtain ⟨_, _, _⟩ := r
    refine Safe.bind ?_ fun r => ?_
    · rw [k0_part66_eq_skeleton]; unfold k0_part66_skel
      refine Safe.bind (Safe.load h9.reads) fun _ => ?_
      refine Safe.bind (Safe.store h9) fun _ => ?_
      refine Safe.bind (Safe.load r1) fun _ => ?_
      refine Safe.bind (Safe.load r1) fun _ => ?_
      refine Safe.bind (Safe.load r1) fun _ => ?_
      refine Safe.bind (Safe.load h9.reads) fun _ => ?_
      exact Safe.pure _
    obtain ⟨_, _, _, _, _, _⟩ := r
    refine Safe.bind ?_ fun r => ?_
    · rw [k0_part67_eq_skeleton]; unfold k0_part67_skel
      refine Safe.bind (Safe.store h9) fun _ => ?_
      refine Safe.bind (Safe.load h9.reads) fun _ => ?_
      refine Safe.bind (Safe.store h9) fun _ => ?_
      refine Safe.bind (Safe.load r1) fun _ => ?_
      refine Safe.bind (Safe.load r1) fun _ => ?_
      refine Safe.bind (Safe.load r1) fun _ => ?_
      exact Safe.pure _
    obtain ⟨_, _, _, _, _, _, _⟩ := r
    refine Safe.bind ?_ fun r => ?_
    · rw [k0_part68_eq_skeleton]; unfold k0_part68_skel
      refine Safe.bind (Safe.load h9.reads) fun _ => ?_
      refine Safe.bind (Safe.store h9) fun _ => ?_
      refine Safe.bind (Safe.load h9.reads) fun _ => ?_
      refine Safe.bind (Safe.store h9) fun _ => ?_
      refine Safe.bind (Safe.load r1) fun _ => ?_
      refine Safe.bind (Safe.load r1) fun _ => ?_
      refine Safe.bind (Safe.load r1) fun _ => ?_
      exact Safe.pure _
    obtain ⟨_, _, _, _⟩ := r
    refine Safe.bind ?_ fun r => ?_
    · rw [k0_part69_eq_skeleton]; unfold k0_part69_skel
      refine Safe.bind (Safe.load h9.reads) fun _ => ?_
      refine Safe.bind (Safe.store h9) fun _ => ?_
      refine Safe.bind (Safe.load h9.reads) fun _ => ?_
      refine Safe.bind (Safe.store h9) fun _ => ?_
      refine Safe.bind (Safe.load r1) fun _ => ?_
      refine Safe.bind (Safe.load r1) fun _ => ?_
      exact Safe.pure _
    obtain ⟨_, _⟩ := r
    refine Safe.bind ?_ fun r => ?_
    · rw [k0_part70_eq_skeleton]; unfold k0_part70_skel
      refine Safe.bind (Safe.load r1) fun _ => ?_
      refine Safe.bind (Safe.load h9.reads) fun _ => ?_
      refine Safe.bind (Safe.store h9) fun _ => ?_
      refine Safe.bind (Safe.load h9.reads) fun _ => ?_
      refine Safe.bind (Safe.store h9) fun _ => ?_
      exact Safe.pure _
    refine Safe.bind ?_ fun r => ?_
    · rw [k0_part71_eq_skeleton]; unfold k0_part71_skel
      refine Safe.bind (Safe.load r1) fun _ => ?_
      refine Safe.bind (Safe.load r1) fun _ => ?_
      refine Safe.bind (Safe.load r1) fun _ => ?_
      refine Safe.bind (Safe.load h9.reads) fun _ => ?_
      refine Safe.bind (Safe.store h9) fun _ => ?_
      exact Safe.pure _
    obtain ⟨_, _⟩ := r
    refine Safe.bind ?_ fun r => ?_
    · rw [k0_part72_eq_skeleton]; unfold k0_part72_skel
      refine Safe.bind (Safe.load h9.reads) fun _ => ?_
      refine Safe.bind (Safe.store h9) fun _ => ?_
      refine Safe.bind (Safe.load r1) fun _ => ?_
      refine Safe.bind (Safe.load r1) fun _ => ?_
      refine Safe.bind (Safe.load r1) fun _ => ?_
      refine Safe.bind (Safe.load h9.reads) fun _ => ?_
      refine Safe.bind (Safe.store h9) fun _ => ?_
      exact Safe.pure _
    obtain ⟨_, _, _⟩ := r
    refine Safe.bind ?_ fun r => ?_
    · rw [k0_part73_eq_skeleton]; unfold k0_part73_skel
      refine Safe.bind (Safe.load h9.reads) fun _ => ?_
      refine Safe.bind (Safe.store h9) fun _ => ?_
      refine Safe.bind (Safe.load r1) fun _ => ?_
      refine Safe.bind (Safe.load r1) fun _ => ?_
      refine Safe.bind (Safe.load r1) fun _ => ?_
      refine Safe.bind (Safe.load h9.reads) fun _ => ?_
      exact Safe.pure _
    obtain ⟨_, _, _, _, _⟩ := r
    refine Safe.bind ?_ fun r => ?_
    · rw [k0_part74_eq_skeleton]; unfold k0_part74_skel
      refine Safe.bind (Safe.store h9) fun _ => ?_
      refine Safe.bind (Safe.load h9.reads) fun _ => ?_
      refine Safe.bind (Safe.store h9) fun _ => ?_
      refine Safe.bind (Safe.load r1) fun _ => ?_
      refine Safe.bind (Safe.load r1) fun _ => ?_
      refine Safe.bind (Safe.load r1) fun _ => ?_
      exact Safe.pure _
    obtain ⟨_, _, _, _, _⟩ := r
    refine Safe.bind ?_ fun r => ?_
    · rw [k0_part75_eq_skeleton]; unfold k0_part75_skel
      refine Safe.bind (Safe.load h9.reads) fun _ => ?_
      refine Safe.bind (Safe.store h9) fun _ => ?_
      refine Safe.bind (Safe.load h9.reads) fun _ => ?_
      refine Safe.bind (Safe.store h9) fun _ => ?_
      refine Safe.bind (Safe.load r1) fun _ => ?_
      refine Safe.bind (Safe.load r1) fun _ => ?_
      refine Safe.bind (Safe.load r1) fun _ => ?_
      exact Safe.pure _
    obtain ⟨_, _, _, _, _⟩ := r
    refine Safe.bind ?_ fun r => ?_
    · rw [k0_part76_eq_skeleton]; unfold k0_part76_skel
      refine Safe.bind (Safe.load h9.reads) fun _ => ?_
      refine Safe.bind (Safe.store h9) fun _ => ?_
      refine Safe.bind (Safe.load h9.reads) fun _ => ?_
      refine Safe.bind (Safe.store h9) fun _ => ?_
      refine Safe.bind (Safe.load r1) fun _ => ?_
      refine Safe.bind (Safe.load r1) fun _ => ?_
      refine Safe.bind (Safe.load r1) fun _ => ?_
      exact Safe.pure _
    obtain ⟨_, _, _⟩ := r
    refine Safe.bind ?_ fun r => ?_
    · rw [k0_part77_eq_skeleton]; unfold k0_part77_skel
      refine Safe.bind (Safe.load h9.reads) fun _ => ?_
      refine Safe.bind (Safe.store h9) fun _ => ?_
      refine Safe.bind (Safe.load h9.reads) fun _ => ?_
      refine Safe.bind (Safe.store h9) fun _ => ?_
      refine Safe.bind (Safe.load r1) fun _ => ?_
      exact Safe.pure _
    refine Safe.bind ?_ fun r => ?_
    · rw [k0_part78_eq_skeleton]; unfold k0_part78_skel
      refine Safe.bind (Safe.load r1) fun _ => ?_
      refine Safe.bind (Safe.load r1) fun _ => ?_
      refine Safe.bind (Safe.load h9.reads) fun _ => ?_
      refine Safe.bind (Safe.store h9) fun _ => ?_
      refine Safe.bind (Safe.load h9.reads) fun _ => ?_
      exact Safe.pure _
    obtain ⟨_, _⟩ := r
    refine Safe.bind ?_ fun r => ?_
    · rw [k0_part79_eq_skeleton]; unfold k0_part79_skel
      refine Safe.bind (Safe.store h9) fun _ => ?_
      refine Safe.bind (Safe.load r1) fun _ => ?_
      refine Safe.bind (Safe.load r1) fun _ => ?_
      refine Safe.bind (Safe.load r1) fun _ => ?_
      refine Safe.bind (Safe.load h9.reads) fun _ => ?_
      refine Safe.bind (Safe.store h9) fun _ => ?_
      exact Safe.pure _
    obtain ⟨_, _⟩ := r
    refine Safe.bind ?_ fun r => ?_
    · rw [k0_part80_eq_skeleton]; unfold k0_part80_skel
      refine Safe.bind (Safe.load h9.reads) fun _ => ?_
      refine Safe.bind (Safe.store h9) fun _ => ?_
      refine Safe.bind (Safe.load r1) fun _ => ?_
      refine Safe.bind (Safe.load r1) fun _ => ?_
      refine Safe.bind (Safe.load r1) fun _ => ?_
      refine Safe.bind (Safe.load h9.reads) fun _ => ?_
      refine Safe.bind (Safe.store h9) fun _ => ?_
      exact Safe.pure _
    obtain ⟨_, _, _, _⟩ := r
    refine Safe.bind ?_ fun r => ?_
    · rw [k0_part81_eq_skeleton]; unfold k0_part81_skel
      refine Safe.bind (Safe.load h9.reads) fun _ => ?_
      refine Safe.bind (Safe.store h9) fun _ => ?_
      refine Safe.bind (Safe.load r1) fun _ => ?_
      refine Safe.bind (Safe.load r1) fun _ => ?_
      refine Safe.bind (Safe.load r1) fun _ => ?_
      refine Safe.bind (Safe.load h9.reads) fun _ => ?_
      exact Safe.pure _
    obtain ⟨_, _, _, _, _, _⟩ := r
    refine Safe.bind ?_ fun r => ?_
    · rw [k0_part82_eq_skeleton]; unfold k0_part82_skel
      refine Safe.bind (Safe.store h9) fun _ => ?_
      refine Safe.bind (Safe.load h9.reads) fun _ => ?_
      refine Safe.bind (Safe.store h9) fun _ => ?_
      refine Safe.bind (Safe.load r1) fun _ => ?_
      refine Safe.bind (Safe.load r1) fun _ => ?_
      refine Safe.bind (Safe.load r1) fun _ => ?_
      exact Safe.pure _
    obtain ⟨_, _, _, _, _⟩ := r
    refine Safe.bind ?_ fun r => ?_
    · rw [k0_part83_eq_skeleton]; unfold k0_part83_skel
      refine Safe.bind (Safe.load h9.reads) fun _ => ?_
      refine Safe.bind (Safe.store h9) fun _ => ?_
      refine Safe.bind (Safe.load h9.reads) fun _ => ?_
      refine Safe.bind (Safe.store h9) fun _ => ?_
      refine Safe.bind (Safe.load r1) fun _ => ?_
      refine Safe.bind (Safe.load r1) fun _ => ?_
      refine Safe.bind (Safe.load r1) fun _ => ?_
      exact Safe.pure _
    obtain ⟨_, _, _, _⟩ := r
    refine Safe.bind ?_ fun r => ?_
    · rw [k0_part84_eq_skeleton]; unfold k0_part84_skel
      refine Safe.bind (Safe.load h9.reads) fun _ => ?_
      refine Safe.bind (Safe.store h9) fun _ => ?_
      refine Safe.bind (Safe.load h9.reads) fun _ => ?_
      refine Safe.bind (Safe.store h9) fun _ => ?_
      refine Safe.bind (Safe.load r1) fun _ => ?_
      refine Safe.bind (Safe.load r1) fun _ => ?_
      exact Safe.pure _
    obtain ⟨_, _⟩ := r
    refine Safe.bind ?_ fun r => ?_
    · rw [k0_part85_eq_skeleton]; unfold k0_part85_skel
      refine Safe.bind (Safe.load r1) fun _ => ?_
      refine Safe.bind (Safe.load h9.reads) fun _ => ?_
      refine Safe.bind (Safe.store h9) fun _ => ?_
      refine Safe.bind (Safe.load h9.reads) fun _ => ?_
      refine Safe.bind (Safe.store h9) fun _ => ?_
      exact Safe.pure _
    refine Safe.bind ?_ fun r => ?_
    · rw [k0_part86_eq_skeleton]; unfold k0_part86_skel
      refine Safe.bind (Safe.load r1) fun _ => ?_
      refine Safe.bind (Safe.load r1) fun _ => ?_
      refine Safe.bind (Safe.load r1) fun _ => ?_
      refine Safe.bind (Safe.load h9.reads) fun _ => ?_
      refine Safe.bind (Safe.store h9) fun _ => ?_
      refine Safe.bind (Safe.load h9.reads) fun _ => ?_
      exact Safe.pure _
    obtain ⟨_, _, _, _⟩ := r
    refine Safe.bind ?_ fun r => ?_
    · rw [k0_part87_eq_skeleton]; unfold k0_part87_skel
      refine Safe.bind (Safe.store h9) fun _ => ?_
      refine Safe.bind (Safe.load r1) fun _ => ?_
      refine Safe.bind (Safe.load r1) fun _ => ?_
      refine Safe.bind (Safe.load r1) fun _ => ?_
      refine Safe.bind (Safe.load h9.reads) fun _ => ?_
      refine Safe.bind (Safe.store h9) fun _ => ?_
      exact Safe.pure _
    obtain ⟨_, _, _⟩ := r
    refine Safe.bind ?_ fun r => ?_
    · rw [k0_part88_eq_skeleton]; unfold k0_part88_skel
      refine Safe.bind (Safe.load h9.reads) fun _ => ?_
      refine Safe.bind (Safe.store h9) fun _ => ?_
      refine Safe.bind (Safe.load r1) fun _ => ?_
      refine Safe.bind (Safe.load r1) fun _ => ?_
      refine Safe.bind (Safe.load r1) fun _ => ?_
      refine Safe.bind (Safe.load h9.reads) fun _ => ?_
      refine Safe.bind (Safe.store h9) fun _ => ?_
      exact Safe.pure _
    obtain ⟨_, _, _⟩ := r
    refine Safe.bind ?_ fun r => ?_
    · rw [k0_part89_eq_skeleton]; unfold k0_part89_skel
      refine Safe.bind (Safe.load h9.reads) fun _ => ?_
      refine Safe.bind (Safe.store h9) fun _ => ?_
      refine Safe.bind (Safe.load r1) fun _ => ?_
      refine Safe.bind (Safe.load r1) fun _ => ?_
      refine Safe.bind (Safe.load r1) fun _ => ?_
      refine Safe.bind (Safe.load h9.reads) fun _ => ?_
      exact Safe.pure _
    obtain ⟨_, _, _, _, _, _⟩ := r
    refine Safe.bind ?_ fun r => ?_
    · rw [k0_part90_eq_skeleton]; unfold k0_part90_skel
      refine Safe.bind (Safe.store h9) fun _ => ?_
      refine Safe.bind (Safe.load h9.reads) fun _ => ?_
      refine Safe.bind (Safe.store h9) fun _ => ?_
      refine Safe.bind (Safe.load r1) fun _ => ?_
      refine Safe.bind (Safe.load r1) fun _ => ?_
      refine Safe.bind (Safe.load r1) fun _ => ?_
      exact Safe.pure _
    obtain ⟨_, _, _, _, _, _, _⟩ := r
    refine Safe.bind ?_ fun r => ?_
    · rw [k0_part91_eq_skeleton]; unfold k0_part91_skel
      refine Safe.bind (Safe.load h9.reads) fun _ => ?_
      refine Safe.bind (Safe.store h9) fun _ => ?_
      refine Safe.bind (Safe.load h9.reads) fun _ => ?_
      refine Safe.bind (Safe.store h9) fun _ => ?_
      refine Safe.bind (Safe.load r1) fun _ => ?_
      refine Safe.bind (Safe.load r1) fun _ => ?_
      refine Safe.bind (Safe.load r1) fun _ => ?_
      exact Safe.pure _
    obtain ⟨_, _, _, _⟩ := r
    refine Safe.bind ?_ fun r => ?_
    · rw [k0_part92_eq_skeleton]; unfold k0_part92_skel
      refine Safe.bind (Safe.load h9.reads) fun _ => ?_
      refine Safe.bind (Safe.store h9) fun _ => ?_
      refine Safe.bind (Safe.load h9.reads) fun _ => ?_
      refine Safe.bind (Safe.store h9) fun _ => ?_
      refine Safe.bind (Safe.load r1) fun _ => ?_
      refine Safe.bind (Safe.load r1) fun _ => ?_
      exact Safe.pure _
    obtain ⟨_, _⟩ := r
    refine Safe.bind ?_ fun r => ?_
    · rw [k0_part93_eq_skeleton]; unfold k0_part93_skel
      refine Safe.bind (Safe.load r1) fun _ => ?_
      refine Safe.bind (Safe.load h9.reads) fun _ => ?_
      refine Safe.bind (Safe.store h9) fun _ => ?_
      refine Safe.bind (Safe.load h9.reads) fun _ => ?_
      refine Safe.bind (Safe.store h9) fun _ => ?_
      exact Safe.pure _
    refine Safe.bind ?_ fun r => ?_
    · rw [k0_part94_eq_skeleton]; unfold k0_part94_skel
      refine Safe.bind (Safe.load r1) fun _ => ?_
      refine Safe.bind (Safe.load r1) fun _ => ?_
      refine Safe.bind (Safe.load r1) fun _ => ?_
      refine Safe.bind (Safe.load h9.reads) fun _ => ?_
      refine Safe.bind (Safe.store h9) fun _ => ?_
      exact Safe.pure _
    obtain ⟨_, _⟩ := r
    refine Safe.bind ?_ fun r => ?_
    · rw [k0_part95_eq_skeleton]; unfold k0_part95_skel
      refine Safe.bind (Safe.load h9.reads) fun _ => ?_
      refine Safe.bind (Safe.store h9) fun _ => ?_
      refine Safe.bind (Safe.load r1) fun _ => ?_
      refine Safe.bind (Safe.load r1) fun _ => ?_
      refine Safe.bind (Safe.load r1) fun _ => ?_
      refine Safe.bind (Safe.load h9.reads) fun _ => ?_
      refine Safe.bind (Safe.store h9) fun _ => ?_
      exact Safe.pure _
    obtain ⟨_, _, _⟩ := r
    refine Safe.bind ?_ fun r => ?_
    · rw [k0_part96_eq_skeleton]; unfold k0_part96_skel
      refine Safe.bind (Safe.load h9.reads) fun _ => ?_
      refine Safe.bind (Safe.store h9) fun _ => ?_
      refine Safe.bind (Safe.load r1) fun _ => ?_
      refine Safe.bind (Safe.load r1) fun _ => ?_
      refine Safe.bind (Safe.load r1) fun _ => ?_
      refine Safe.bind (Safe.load h9.reads) fun _ => ?_
      exact Safe.pure _
    obtain ⟨_, _, _, _, _⟩ := r
    refine Safe.bind ?_ fun r => ?_
    · rw [k0_part97_eq_skeleton]; unfold k0_part97_skel
      refine Safe.bind (Safe.store h9) fun _ => ?_
      refine Safe.bind (Safe.load h9.reads) fun _ => ?_
      refine Safe.bind (Safe.store h9) fun _ => ?_
      refine Safe.bind (Safe.load r1) fun _ => ?_
      refine Safe.bind (Safe.load r1) fun _ => ?_
      refine Safe.bind (Safe.load r1) fun _ => ?_
      exact Safe.pure _
    obtain ⟨_, _, _, _, _⟩ := r
    refine Safe.bind ?_ fun r => ?_
    · rw [k0_part98_eq_skeleton]; unfold k0_part98_skel
      refine Safe.bind (Safe.load h9.reads) fun _ => ?_
      refine Safe.bind (Safe.store h9) fun _ => ?_
      refine Safe.bind (Safe.load h9.reads) fun _ => ?_
      refine Safe.bind (Safe.store h9) fun _ => ?_
      refine Safe.bind (Safe.load r1) fun _ => ?_
      refine Safe.bind (Safe.load r1) fun _ => ?_
      refine Safe.bind (Safe.load r1) fun _ => ?_
      exact Safe.pure _
    obtain ⟨_, _, _, _, _⟩ := r
    refine Safe.bind (Safe.load h9.reads) fun _ => ?_
    exact Safe.pure _
  obtain ⟨_, _, _, _, _, _, _, _⟩ := r
  refine Safe.bind (Safe.store h9) fun _ => ?_
  refine Safe.bind (Safe.load h9.reads) fun _ => ?_
  refine Safe.bind (Safe.store h9) fun _ => ?_
  dsimp only
  refine Safe.dite (fun _ => ?_) (fun _ => ?_)
  ·
    refine Safe.bind ?_ fun r => ?_
    · rw [k0_part50_eq_skeleton]; unfold k0_part50_skel
      refine Safe.bind ?_ fun r => ?_
      · rw [k0_part1_eq_skeleton]; unfold k0_part1_skel
        refine Safe.bind (Safe.load h8.reads) fun _ => ?_
        refine Safe.bind (Safe.load h9.reads) fun _ => ?_
        refine Safe.bind (Safe.load h9.reads) fun _ => ?_
        refine Safe.bind (Safe.load h9.reads) fun _ => ?_
        refine Safe.bind (Safe.load h9.reads) fun _ => ?_
        refine Safe.bind (Safe.load h7.reads) fun _ => ?_
        exact Safe.pure _
      obtain ⟨_, _, _⟩ := r
      refine Safe.bind ?_ fun r => ?_
      · rw [k0_part2_eq_skeleton]; unfold k0_part2_skel
        refine Safe.bind (Safe.load h5.reads) fun _ => ?_
        refine Safe.bind (Safe.store h5) fun _ => ?_
        refine Safe.bind (Safe.load h9.reads) fun _ => ?_
        refine Safe.bind (Safe.load h9.reads) fun _ => ?_
        refine Safe.bind (Safe.load h9.reads) fun _ => ?_
        exact Safe.pure _
      obtain ⟨_, _⟩ := r
      refine Safe.bind ?_ fun r => ?_
      · rw [k0_part3_eq_skeleton]; unfold k0_part3_skel
        refine Safe.bind (Safe.load h9.reads) fun _ => ?_
        refine Safe.bind (Safe.load h7.reads) fun _ => ?_
        refine Safe.bind (Safe.load h6.reads) fun _ => ?_
        refine Safe.bind (Safe.store h6) fun _ => ?_
        refine Safe.bind (Safe.load h9.reads) fun _ => ?_
        refine Safe.bind (Safe.load h9.reads) fun _ => ?_
        exact Safe.pure _
      refine Safe.bind ?_ fun r => ?_
      · rw [k0_part4_eq_skeleton]; unfold k0_part4_skel
        refine Safe.bind (Safe.load h9.reads) fun _ => ?_
        refine Safe.bind (Safe.load h9.reads) fun _ => ?_
        refine Safe.bind (Safe.load h7.reads) fun _ => ?_
        refine Safe.bind (Safe.load h5.reads) fun _ => ?_
        refine Safe.bind (Safe.store h5) fun _ => ?_
        refine Safe.bind (Safe.load h9.reads) fun _ => ?_
        exact Safe.pure _
      refine Safe.bind ?_ fun r => ?_
      · rw [k0_part5_eq_skeleton]; unfold k0_part5_skel
        refine Safe.bind (Safe.load h9.reads) fun _ => ?_
        refine Safe.bind (Safe.load h9.reads) fun _ => ?_
        refine Safe.bind (Safe.load h9.reads) fun _ => ?_
        refine Safe.bind (Safe.load h7.reads) fun _ => ?_
        refine Safe.bind (Safe.load h6.reads) fun _ => ?_
        refine Safe.bind (Safe.store h6) fun _ => ?_
        exact Safe.pure _
      refine Safe.bind ?_ fun r => ?_
      · rw [k0_part6_eq_skeleton]; unfold k0_part6_skel
        refine Safe.bind (Safe.load h9.reads) fun _ => ?_
        refine Safe.bind (Safe.load h9.reads) fun _ => ?_
        refine Safe.bind (Safe.load h9.reads) fun _ => ?_
        refine Safe.bind (Safe.load h9.reads) fun _ => ?_
        refine Safe.bind (Safe.load h7.reads) fun _ => ?_
        exact Safe.pure _
      obtain ⟨_, _⟩ := r
      refine Safe.bind ?_ fun r => ?_
      · rw [k0_part7_eq_skeleton]; unfold k0_part7_skel
        refine Safe.bind (Safe.load h5.reads) fun _ => ?_
        refine Safe.bind (Safe.store h5) fun _ => ?_
        refine Safe.bind (Safe.load h9.reads) fun _ => ?_
        refine Safe.bind (Safe.load h9.reads) fun _ => ?_
        refine Safe.bind (Safe.load h9.reads) fun _ => ?_
        refine Safe.bind (Safe.load h9.reads) fun _ => ?_
        exact Safe.pure _
      obtain ⟨_, _, _, _⟩ := r
      refine Safe.bind ?_ fun r => ?_
      · rw [k0_part8_eq_skeleton]; unfold k0_part8_skel
        refine Safe.bind (Safe.load h7.reads) fun _ => ?_
        refine Safe.bind (Safe.load h6.reads) fun _ => ?_
        refine Safe.bind (Safe.store h6) fun _ => ?_
        refine Safe.bind (Safe.load h9.reads) fun _ => ?_
        refine Safe.bind (Safe.load h9.reads) fun _ => ?_
        exact Safe.pure _
      refine Safe.bind ?_ fun r => ?_
      · rw [k0_part9_eq_skeleton]; unfold k0_part9_skel
        refine Safe.bind (Safe.load h9.reads) fun _ => ?_
        refine Safe.bind (Safe.load h9.reads) fun _ => ?_
        refine Safe.bind (Safe.load h7.reads) fun _ => ?_
        refine Safe.bind (Safe.load h5.reads) fun _ => ?_
        refine Safe.bind (Safe.store h5) fun _ => ?_
        refine Safe.bind (Safe.load h9.reads) fun _ => ?_
        exact Safe.pure _
      refine Safe.bind ?_ fun r => ?_
      · rw [k0_part10_eq_skeleton]; unfold k0_part10_skel
        refine Safe.bind (Safe.load h9.reads) fun _ => ?_
        refine Safe.bind (Safe.load h9.reads) fun _ => ?_
        refine Safe.bind (Safe.load h9.reads) fun _ => ?_
        refine Safe.bind (Safe.load h7.reads) fun _ => ?_
        refine Safe.bind (Safe.load h6.reads) fun _ => ?_
        refine Safe.bind (Safe.store h6) fun _ => ?_
        exact Safe.pure _
      refine Safe.bind ?_ fun r => ?_
      · rw [k0_part11_eq_skeleton]; unfold k0_part11_skel
        refine Safe.bind (Safe.load h9.reads) fun _ => ?_
        refine Safe.bind (Safe.load h9.reads) fun _ => ?_
        refine Safe.bind (Safe.load h9.reads) fun _ => ?_
        refine Safe.bind (Safe.load h9.reads) fun _ => ?_
        refine Safe.bind (Safe.load h7.reads) fun _ => ?_
        exact Safe.pure _
      obtain ⟨_, _⟩ := r
      refine Safe.bind ?_ fun r => ?_
      · rw [k0_part12_eq_skeleton]; unfold k0_part12_skel
        refine Safe.bind (Safe.load h5.reads) fun _ => ?_
        refine Safe.bind (Safe.store h5) fun _ => ?_
        refine Safe.bind (Safe.load h9.reads) fun _ => ?_
        refine Safe.bind (Safe.load h9.reads) fun _ => ?_
        refine Safe.bind (Safe.load h9.reads) fun _ => ?_
        refine Safe.bind (Safe.load h9.reads) fun _ => ?_
        exact Safe.pure _
      obtain ⟨_, _⟩ := r
      refine Safe.bind ?_ fun r => ?_
      · rw [k0_part13_eq_skeleton]; unfold k0_part13_skel
        refine Safe.bind (Safe.load h7.reads) fun _ => ?_
        refine Safe.bind (Safe.load h6.reads) fun _ => ?_
        refine Safe.bind (Safe.store h6) fun _ => ?_
        refine Safe.bind (Safe.load h9.reads) fun _ => ?_
        refine Safe.bind (Safe.load h9.reads) fun _ => ?_
        refine Safe.bind (Safe.load h9.reads) fun _ => ?_
        exact Safe.pure _
      obtain ⟨_, _, _⟩ := r
      refine Safe.bind ?_ fun r => ?_
      · rw [k0_part14_eq_skeleton]; unfold k0_part14_skel
        refine Safe.bind (Safe.load h9.reads) fun _ => ?_
        refine Safe.bind (Safe.load h7.reads) fun _ => ?_
        refine Safe.bind (Safe.load h5.reads) fun _ => ?_
        refine Safe.bind (Safe.store h5) fun _ => ?_
        refine Safe.bind (Safe.load h9.reads) fun _ => ?_
        refine Safe.bind (Safe.load h9.reads) fun _ => ?_
        exact Safe.pure _
      obtain ⟨_, _, _⟩ := r
      refine Safe.bind ?_ fun r => ?_
      · rw [k0_part15_eq_skeleton]; unfold k0_part15_skel
        refine Safe.bind (Safe.load h9.reads) fun _ => ?_
        refine Safe.bind (Safe.load h9.reads) fun _ => ?_
        refine Safe.bind (Safe.load h7.reads) fun _ => ?_
        refine Safe.bind (Safe.load h6.reads) fun _ => ?_
        refine Safe.bind (Safe.store h6) fun _ => ?_
        refine Safe.bind (Safe.load h9.reads) fun _ => ?_
        exact Safe.pure _
      refine Safe.bind ?_ fun r => ?_
      · rw [k0_part16_eq_skeleton]; unfold k0_part16_skel
        refine Safe.bind (Safe.load h9.reads) fun _ => ?_
        refine Safe.bind (Safe.load h9.reads) fun _ => ?_
        refine Safe.bind (Safe.load h9.reads) fun _ => ?_
        refine Safe.bind (Safe.load h7.reads) fun _ => ?_
        exact Safe.pure _
      refine Safe.bind ?_ fun r => ?_
      · rw [k0_part17_eq_skeleton]; unfold k0_part17_skel
        refine Safe.bind (Safe.load h5.reads) fun _ => ?_
        refine Safe.bind (Safe.store h5) fun _ => ?_
        refine Safe.bind (Safe.load h9.reads) fun _ => ?_
        refine Safe.bind (Safe.load h9.reads) fun _ => ?_
        refine Safe.bind (Safe.load h9.reads) fun _ => ?_
        refine Safe.bind (Safe.load h9.reads) fun _ => ?_
        exact Safe.pure _
      refine Safe.bind ?_ fun r => ?_
      · rw [k0_part18_eq_skeleton]; unfold k0_part18_skel
        refine Safe.bind (Safe.load h7.reads) fun _ => ?_
        refine Safe.bind (Safe.load h6.reads) fun _ => ?_
        refine Safe.bind (Safe.store h6) fun _ => ?_
        refine Safe.bind (Safe.load h9.reads) fun _ => ?_
        refine Safe.bind (Safe.load h9.reads) fun _ => ?_
        refine Safe.bind (Safe.load h9.reads) fun _ => ?_
        exact Safe.pure _
      obtain ⟨_, _⟩ := r
      refine Safe.bind ?_ fun r => ?_
      · rw [k0_part19_eq_skeleton]; unfold k0_part19_skel
        refine Safe.bind (Safe.load h9.reads) fun _ => ?_
        refine Safe.bind (Safe.load h7.reads) fun _ => ?_
        refine Safe.bind (Safe.load h5.reads) fun _ => ?_
        refine Safe.bind (Safe.store h5) fun _ => ?_
        refine Safe.bind (Safe.load h9.reads) fun _ => ?_
        refine Safe.bind (Safe.load h9.reads) fun _ => ?_
        exact Safe.pure _
      obtain ⟨_, _⟩ := r
      refine Safe.bind ?_ fun r => ?_
      · rw [k0_part20_eq_skeleton]; unfold k0_part20_skel
        refine Safe.bind (Safe.load h9.reads) fun _ => ?_
        refine Safe.bind (Safe.load h9.reads) fun _ => ?_
        refine Safe.bind (Safe.load h7.reads) fun _ => ?_
        refine Safe.bind (Safe.load h6.reads) fun _ => ?_
        refine Safe.bind (Safe.store h6) fun _ => ?_
        refine Safe.bind (Safe.load h9.reads) fun _ => ?_
        exact Safe.pure _
      obtain ⟨_, _⟩ := r
      refine Safe.bind ?_ fun r => ?_
      · rw [k0_part21_eq_skeleton]; unfold k0_part21_skel
        refine Safe.bind (Safe.load h9.reads) fun _ => ?_
        refine Safe.bind (Safe.load h9.reads) fun _ => ?_
        refine Safe.bind (Safe.load h9.reads) fun _ => ?_
        refine Safe.bind (Safe.load h7.reads) fun _ => ?_
        refine Safe.bind (Safe.load h5.reads) fun _ => ?_
        exact Safe.pure _
      refine Safe.bind ?_ fun r => ?_
      · rw [k0_part22_eq_skeleton]; unfold k0_part22_skel
        refine Safe.bind (Safe.store h5) fun _ => ?_
        refine Safe.bind (Safe.load h9.reads) fun _ => ?_
        refine Safe.bind (Safe.load h9.reads) fun _ => ?_
        refine Safe.bind (Safe.load h9.reads) fun _ => ?_
        refine Safe.bind (Safe.load h9.reads) fun _ => ?_
        refine Safe.bind (Safe.load h7.reads) fun _ => ?_
        exact Safe.pure _
      refine Safe.bind ?_ fun r => ?_
      · rw [k0_part23_eq_skeleton]; unfold k0_part23_skel
        refine Safe.bind (Safe.load h6.reads) fun _ => ?_
        refine Safe.bind (Safe.store h6) fun _ => ?_
        refine Safe.bind (Safe.load h9.reads) fun _ => ?_
        refine Safe.bind (Safe.load h9.reads) fun _ => ?_
        refine Safe.bind (Safe.load h9.reads) fun _ => ?_
        refine Safe.bind (Safe.load h9.reads) fun _ => ?_
        exact Safe.pure _
      obtain ⟨_, _, _⟩ := r
      refine Safe.bind ?_ fun r => ?_
      · rw [k0_part24_eq_skeleton]; unfold k0_part24_skel
        refine Safe.bind (Safe.load h7.reads) fun _ => ?_
        refine Safe.bind (Safe.load h5.reads) fun _ => ?_
        refine Safe.bind (Safe.store h5) fun _ => ?_
        refine Safe.bind (Safe.load h9.reads) fun _ => ?_
        refine Safe.bind (Safe.load h9.reads) fun _ => ?_
        exact Safe.pure _
      refine Safe.bind ?_ fun r => ?_
      · rw [k0_part25_eq_skeleton]; unfold k0_part25_skel
        refine Safe.bind (Safe.load h9.reads) fun _ => ?_
        refine Safe.bind (Safe.load h9.reads) fun _ => ?_
        refine Safe.bind (Safe.load h7.reads) fun _ => ?_
        refine Safe.bind (Safe.load h6.reads) fun _ => ?_
        refine Safe.bind (Safe.store h6) fun _ => ?_
        refine Safe.bind (Safe.load h9.reads) fun _ => ?_
        exact Safe.pure _
      refine Safe.bind ?_ fun r => ?_
      · rw [k0_part26_eq_skeleton]; unfold k0_part26_skel
        refine Safe.bind (Safe.load h9.reads) fun _ => ?_
        refine Safe.bind (Safe.load h9.reads) fun _ => ?_
        refine Safe.bind (Safe.load h9.reads) fun _ => ?_
        refine Safe.bind (Safe.load h7.reads) fun _ => ?_
        refine Safe.bind (Safe.load h5.reads) fun _ => ?_
        refine Safe.bind (Safe.store h5) fun _ => ?_
        exact Safe.pure _
      refine Safe.bind ?_ fun r => ?_
      · rw [k0_part27_eq_skeleton]; unfold k0_part27_skel
        refine Safe.bind (Safe.load h9.reads) fun _ => ?_
        refine Safe.bind (Safe.load h9.reads) fun _ => ?_
        refine Safe.bind (Safe.load h9.reads) fun _ => ?_
        refine Safe.bind (Safe.load h9.reads) fun _ => ?_
        refine Safe.bind (Safe.load h7.reads) fun _ => ?_
        exact Safe.pure _
      refine Safe.bind ?_ fun r => ?_
      · rw [k0_part28_eq_skeleton]; unfold k0_part28_skel
        refine Safe.bind (Safe.load h6.reads) fun _ => ?_
        refine Safe.bind (Safe.store h6) fun _ => ?_
        refine Safe.bind (Safe.load h9.reads) fun _ => ?_
        refine Safe.bind (Safe.load h9.reads) fun _ => ?_
        refine Safe.bind (Safe.load h9.reads) fun _ => ?_
        refine Safe.bind (Safe.load h9.reads) fun _ => ?_
        exact Safe.pure _
      obtain ⟨_, _, _, _⟩ := r
      refine Safe.bind ?_ fun r => ?_
      · rw [k0_part29_eq_skeleton]; unfold k0_part29_skel
        refine Safe.bind (Safe.load h7.reads) fun _ => ?_
        refine Safe.bind (Safe.load h5.reads) fun _ => ?_
        refine Safe.bind (Safe.store h5) fun _ => ?_
        refine Safe.bind (Safe.load h9.reads) fun _ => ?_
        refine Safe.bind (Safe.load h9.reads) fun _ => ?_
        refine Safe.bind (Safe.load h9.reads) fun _ => ?_
        exact Safe.pure _
      obtain ⟨_, _, _⟩ := r
      refine Safe.bind ?_ fun r => ?_
      · rw [k0_part30_eq_skeleton]; unfold k0_part30_skel
        refine Safe.bind (Safe.load h9.reads) fun _ => ?_
        refine Safe.bind (Safe.load h7.reads) fun _ => ?_
        refine Safe.bind (Safe.load h6.reads) fun _ => ?_
        refine Safe.bind (Safe.store h6) fun _ => ?_
        refine Safe.bind (Safe.load h9.reads) fun _ => ?_
        refine Safe.bind (Safe.load h9.reads) fun _ => ?_
        exact Safe.pure _
      obtain ⟨_, _, _⟩ := r
      refine Safe.bind ?_ fun r => ?_
      · rw [k0_part31_eq_skeleton]; unfold k0_part31_skel
        refine Safe.bind (Safe.load h9.reads) fun _ => ?_
        refine Safe.bind (Safe.load h9.reads) fun _ => ?_
        refine Safe.bind (Safe.load h7.reads) fun _ => ?_
        refine Safe.bind (Safe.load h5.reads) fun _ => ?_
        refine Safe.bind (Safe.store h5) fun _ => ?_
        exact Safe.pure _
      refine Safe.bind ?_ fun r => ?_
      · rw [k0_part32_eq_skeleton]; unfold k0_part32_skel
        refine Safe.bind (Safe.load h9.reads) fun _ => ?_
        refine Safe.bind (Safe.load h9.reads) fun _ => ?_
        refine Safe.bind (Safe.load h9.reads) fun _ => ?_
        refine Safe.bind (Safe.load h9.reads) fun _ => ?_
        refine Safe.bind (Safe.load h7.reads) fun _ => ?_
        exact Safe.pure _
      refine Safe.bind ?_ fun r => ?_
      · rw [k0_part33_eq_skeleton]; unfold k0_part33_skel
        refine Safe.bind (Safe.load h6.reads) fun _ => ?_
        refine Safe.bind (Safe.store h6) fun _ => ?_
        refine Safe.bind (Safe.load h9.reads) fun _ => ?_
        refine Safe.bind (Safe.load h9.reads) fun _ => ?_
        refine Safe.bind (Safe.load h9.reads) fun _ => ?_
        refine Safe.bind (Safe.load h9.reads) fun _ => ?_
        exact Safe.pure _
      refine Safe.bind ?_ fun r => ?_
      · rw [k0_part34_eq_skeleton]; unfold k0_part34_skel
        refine Safe.bind (Safe.load h7.reads) fun _ => ?_
        refine Safe.bind (Safe.load h5.reads) fun _ => ?_
        refine Safe.bind (Safe.store h5) fun _ => ?_
        refine Safe.bind (Safe.load h9.reads) fun _ => ?_
        refine Safe.bind (Safe.load h9.reads) fun _ => ?_
        refine Safe.bind (Safe.load h9.reads) fun _ => ?_
        exact Safe.pure _
      obtain ⟨_, _⟩ := r
      refine Safe.bind ?_ fun r => ?_
      · rw [k0_part35_eq_skeleton]; unfold k0_part35_skel
        refine Safe.bind (Safe.load h9.reads) fun _ => ?_
        refine Safe.bind (Safe.load h7.reads) fun _ => ?_
        refine Safe.bind (Safe.load h6.reads) fun _ => ?_
        refine Safe.bind (Safe.store h6) fun _ => ?_
        refine Safe.bind (Safe.load h9.reads) fun _ => ?_
        refine Safe.bind (Safe.load h9.reads) fun _ => ?_
        exact Safe.pure _
      obtain ⟨_, _⟩ := r
      refine Safe.bind ?_ fun r => ?_
      · rw [k0_part36_eq_skeleton]; unfold k0_part36_skel
        refine Safe.bind (Safe.load h9.reads) fun _ => ?_
        refine Safe.bind (Safe.load h9.reads) fun _ => ?_
        refine Safe.bind (Safe.load h7.reads) fun _ => ?_
        refine Safe.bind (Safe.load h5.reads) fun _ => ?_
        refine Safe.bind (Safe.store h5) fun _ => ?_
        refine Safe.bind (Safe.load h9.reads) fun _ => ?_
        exact Safe.pure _
      obtain ⟨_, _⟩ := r
      refine Safe.bind ?_ fun r => ?_
      · rw [k0_part37_eq_skeleton]; unfold k0_part37_skel
        refine Safe.bind (Safe.load h9.reads) fun _ => ?_
        refine Safe.bind (Safe.load h9.reads) fun _ => ?_
        refine Safe.bind (Safe.load h9.reads) fun _ => ?_
        refine Safe.bind (Safe.load h7.reads) fun _ => ?_
        exact Safe.pure _
      refine Safe.bind ?_ fun r => ?_
      · rw [k0_part38_eq_skeleton]; unfold k0_part38_skel
        refine Safe.bind (Safe.load h6.reads) fun _ => ?_
        refine Safe.bind (Safe.store h6) fun _ => ?_
        refine Safe.bind (Safe.load h9.reads) fun _ => ?_
        refine Safe.bind (Safe.load h9.reads) fun _ => ?_
        refine Safe.bind (Safe.load h9.reads) fun _ => ?_
        refine Safe.bind (Safe.load h9.reads) fun _ => ?_
        refine Safe.bind (Safe.load h7.reads) fun _ => ?_
        exact Safe.pure _
      obtain ⟨_, _⟩ := r
      refine Safe.bind ?_ fun r => ?_
      · rw [k0_part39_eq_skeleton]; unfold k0_part39_skel
        refine Safe.bind (Safe.load h5.reads) fun _ => ?_
        refine Safe.bind (Safe.store h5) fun _ => ?_
        refine Safe.bind (Safe.load h9.reads) fun _ => ?_
        refine Safe.bind (Safe.load h9.reads) fun _ => ?_
        refine Safe.bind (Safe.load h9.reads) fun _ => ?_
        exact Safe.pure _
      obtain ⟨_, _⟩ := r
      refine Safe.bind ?_ fun r => ?_
      · rw [k0_part40_eq_skeleton]; unfold k0_part40_skel
        refine Safe.bind (Safe.load h9.reads) fun _ => ?_
        refine Safe.bind (Safe.load h7.reads) fun _ => ?_
        refine Safe.bind (Safe.load h6.reads) fun _ => ?_
        refine Safe.bind (Safe.store h6) fun _ => ?_
        refine Safe.bind (Safe.load h9.reads) fun _ => ?_
        refine Safe.bind (Safe.load h9.reads) fun _ => ?_
        exact Safe.pure _
      refine Safe.bind ?_ fun r => ?_
      · rw [k0_part41_eq_skeleton]; unfold k0_part41_skel
        refine Safe.bind (Safe.load h9.reads) fun _ => ?_
        refine Safe.bind (Safe.load h9.reads) fun _ => ?_
        refine Safe.bind (Safe.load h7.reads) fun _ => ?_
        refine Safe.bind (Safe.load h5.reads) fun _ => ?_
        refine Safe.bind (Safe.store h5) fun _ => ?_
        refine Safe.bind (Safe.load h9.reads) fun _ => ?_
        exact Safe.pure _
      refine Safe.bind ?_ fun r => ?_
      · rw [k0_part42_eq_skeleton]; unfold k0_part42_skel
        refine Safe.bind (Safe.load h9.reads) fun _ => ?_
        refine Safe.bind (Safe.load h9.reads) fun _ => ?_
        refine Safe.bind (Safe.load h9.reads) fun _ => ?_
        refine Safe.bind (Safe.load h7.reads) fun _ => ?_
        refine Safe.bind (Safe.load h6.reads) fun _ => ?_
        refine Safe.bind (Safe.store h6) fun _ => ?_
        exact Safe.pure _
      refine Safe.bind ?_ fun r => ?_
      · rw [k0_part43_eq_skeleton]; unfold k0_part43_skel
        refine Safe.bind (Safe.load h9.reads) fun _ => ?_
        refine Safe.bind (Safe.load h9.reads) fun _ => ?_
        refine Safe.bind (Safe.load h9.reads) fun _ => ?_
        refine Safe.bind (Safe.load h9.reads) fun _ => ?_
        refine Safe.bind (Safe.load h7.reads) fun _ => ?_
        exact Safe.pure _
      obtain ⟨_, _⟩ := r
      refine Safe.bind ?_ fun r => ?_
      · rw [k0_part44_eq_skeleton]; unfold k0_part44_skel
        refine Safe.bind (Safe.load h5.reads) fun _ => ?_
        refine Safe.bind (Safe.store h5) fun _ => ?_
        refine Safe.bind (Safe.load h9.reads) fun _ => ?_
        refine Safe.bind (Safe.load h9.reads) fun _ => ?_
        refine Safe.bind (Safe.load h9.reads) fun _ => ?_
        refine Safe.bind (Safe.load h9.reads) fun _ => ?_
        exact Safe.pure _
      obtain ⟨_, _, _, _⟩ := r
      refine Safe.bind ?_ fun r => ?_
      · rw [k0_part45_eq_skeleton]; unfold k0_part45_skel
        refine Safe.bind (Safe.load h7.reads) fun _ => ?_
        refine Safe.bind (Safe.load h6.reads) fun _ => ?_
        refine Safe.bind (Safe.store h6) fun _ => ?_
        refine Safe.bind (Safe.load h9.reads) fun _ => ?_
        refine Safe.bind (Safe.load h9.reads) fun _ => ?_
        exact Safe.pure _
      refine Safe.bind ?_ fun r => ?_
      · rw [k0_part46_eq_skeleton]; unfold k0_part46_skel
        refine Safe.bind (Safe.load h9.reads) fun _ => ?_
        refine Safe.bind (Safe.load h9.reads) fun _ => ?_
        refine Safe.bind (Safe.load h7.reads) fun _ => ?_
        refine Safe.bind (Safe.load h5.reads) fun _ => ?_
        refine Safe.bind (Safe.store h5) fun _ => ?_
        refine Safe.bind (Safe.load h9.reads) fun _ => ?_
        exact Safe.pure _
      refine Safe.bind ?_ fun r => ?_
      · rw [k0_part47_eq_skeleton]; unfold k0_part47_skel
        refine Safe.bind (Safe.load h9.reads) fun _ => ?_
        refine Safe.bind (Safe.load h9.reads) fun _ => ?_
        refine Safe.bind (Safe.load h9.reads) fun _ => ?_
        refine Safe.bind (Safe.load h7.reads) fun _ => ?_
        refine Safe.bind (Safe.load h6.reads) fun _ => ?_
        refine Safe.bind (Safe.store h6) fun _ => ?_
        exact Safe.pure _
      refine Safe.bind ?_ fun r => ?_
      · rw [k0_part48_eq_skeleton]; unfold k0_part48_skel
        refine Safe.bind (Safe.load h9.reads) fun _ => ?_
        refine Safe.bind (Safe.load h9.reads) fun _ => ?_
        refine Safe.bind (Safe.load h9.reads) fun _ => ?_
        refine Safe.bind (Safe.load h9.reads) fun _ => ?_
        refine Safe.bind (Safe.load h7.reads) fun _ => ?_
        exact Safe.pure _
      obtain ⟨_, _⟩ := r
      refine Safe.bind ?_ fun r => ?_
      · rw [k0_part49_eq_skeleton]; unfold k0_part49_skel
        refine Safe.bind (Safe.load h5.reads) fun _ => ?_
        refine Safe.bind (Safe.store h5) fun _ => ?_
        refine Safe.bind (Safe.load h9.reads) fun _ => ?_
        refine Safe.bind (Safe.load h9.reads) fun _ => ?_
        refine Safe.bind (Safe.load h9.reads) fun _ => ?_
        refine Safe.bind (Safe.load h9.reads) fun _ => ?_
        exact Safe.pure _
      obtain ⟨_, _⟩ := r
      refine Safe.bind (Safe.load h7.reads) fun _ => ?_
      exact Safe.pure _
    obtain ⟨_, _⟩ := r
    refine Safe.bind (Safe.load h6.reads) fun _ => ?_
    refine Safe.bind (Safe.store h6) fun _ => ?_
    exact Safe.pure _
  ·
    exact Safe.pure _

end Cert.KernelIdeal.Body
-- ==== Proof.KernelIdealFrame.lean ====
/- The frame of `KernelIdeal`: it terminates, leaves its arguments as they were and every semaphore at zero. What the body leaves in
   the two output windows and in the scratch buffers is not tracked here. -/
module

public import proofs.«01_k».proof.Proof.Gen.KernelIdeal.Frame
public import proofs.«01_k».proof.Proof.Gen.KernelIdeal.Points
public import proofs.«01_k».proof.Proof.KernelIdealSafe

@[expose] public section

set_option maxRecDepth 16384

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Steps

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data of the frame: the arrays as the region finds them, each input's buffer left at its block, the scratch
    buffers at anything. -/
def datsF (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => fun _ => Classical.arbitrary _
    | ⟨5, _⟩ => fun _ => Classical.arbitrary _
  Φ _ := Pipeline.ΦA spec0 c
  q _ := fullShare
  owed _ := 0

/-- The two output windows are those whose contents are not tracked. -/
def fgt : Fin cfg0.W → Bool := fun w => match w with
  | ⟨0, _⟩ => false
  | ⟨1, _⟩ => false
  | ⟨2, _⟩ => false
  | ⟨3, _⟩ => false
  | ⟨4, _⟩ => true
  | ⟨5, _⟩ => true

/-- The proof data's arrays are the region-entry contents. -/
theorem A_eqF (c : Dev nD) (w : Fin cfg0.W) : (datsF m 0 c).A w = V m c (Pipeline.arrRef spec0 w) := by
  dsimp only [datsF]

/-- What the body holds at a point: the invariant's buffers one by one and the windows' current buffers. -/
def held (c : Dev nD) (t : Fin cfg0.N) : sProp 𝕄 :=
  iprop((datsF m 0 c).owesAt () t.castSucc ∗ (∃ r, prngReg c r)
    ∗ owns (c : Thread nD τ) (st0_0 t) fullShare (iblk m c 0 t) ∗ owns (c : Thread nD τ) (st0_1 t) fullShare (iblk m c 1 t)
    ∗ owns (c : Thread nD τ) (st0_2 t) fullShare (iblk m c 2 t) ∗ owns (c : Thread nD τ) (st0_3 t) fullShare (iblk m c 3 t)
    ∗ (∃ X, owns (c : Thread nD τ) (st0_4 t) fullShare X) ∗ (∃ X, owns (c : Thread nD τ) (st0_5 t) fullShare X)
    ∗ (∃ X, owns (c : Thread nD τ) (Memref.whole cc0_scratch0) fullShare X)
    ∗ (∃ X, owns (c : Thread nD τ) (Memref.whole cc0_scratch1) fullShare X)
    ∗ (∃ X, owns (c : Thread nD τ) (Memref.whole cc0_scratch2) fullShare X))

/-- The body at any point runs from what it holds to what it holds. -/
theorem sound_held (c : Dev nD) (t : Fin cfg0.N) :
    held m c t ⊢ wp frame (wpE (defs₀ (F := F)) Variants.none c none) Set.univ (bodyAt0 t) (fun _ => held m c t) := by
  unfold bodyAt0
  refine safe_body c (held m c t) (grid0.coords t) _ _ _ _ _ _ _ _ _ _ _ _ _ _ _ _ _ _ ?_ ?_ ?_ ?_ ?_ ?_ ?_ ?_ ?_ _ (fun _ => .rfl)
  all_goals unfold held; first | unfold Reads | unfold Has
  · iintro ⟨Ho, Hp, H1, H2, H3, H4, H5, H6, H7, H8, H9⟩
    iexists (iblk m c 0 t); isplitl [H1]; · iexact H1
    iintro H1; iframe
  · iintro ⟨Ho, Hp, H1, H2, H3, H4, H5, H6, H7, H8, H9⟩
    iexists (iblk m c 1 t); isplitl [H2]; · iexact H2
    iintro H2; iframe
  · iintro ⟨Ho, Hp, H1, H2, H3, H4, H5, H6, H7, H8, H9⟩
    iexists (iblk m c 2 t); isplitl [H3]; · iexact H3
    iintro H3; iframe
  · iintro ⟨Ho, Hp, H1, H2, H3, H4, H5, H6, H7, H8, H9⟩
    iexists (iblk m c 3 t); isplitl [H4]; · iexact H4
    iintro H4; iframe
  · iintro ⟨Ho, Hp, H1, H2, H3, H4, H5, H6, H7, H8, H9⟩
    isplitl [H5]; · iexact H5
    iintro H5; iframe
  · iintro ⟨Ho, Hp, H1, H2, H3, H4, H5, H6, H7, H8, H9⟩
    isplitl [H6]; · iexact H6
    iintro H6; iframe
  · iintro ⟨Ho, Hp, H1, H2, H3, H4, H5, H6, H7, H8, H9⟩
    isplitl [H7]; · iexact H7
    iintro H7; iframe
  · iintro ⟨Ho, Hp, H1, H2, H3, H4, H5, H6, H7, H8, H9⟩
    isplitl [H8]; · iexact H8
    iintro H8; iframe
  · iintro ⟨Ho, Hp, H1, H2, H3, H4, H5, H6, H7, H8, H9⟩
    isplitl [H9]; · iexact H9
    iintro H9; iframe

/-- Each input's current staging buffer holds its block at every point. -/
theorem before0F (c : Dev nD) (t : Fin cfg0.N) (d) : (datsF m 0 c).before 0 t d = iblk m c 0 t :=
  before0_0_of m (datsF m 0 c) (A_eqF m c 0) (fun _ => by dsimp only [datsF]) t d
/-- Before the body, input window 1's buffer holds its block. -/
theorem before1F (c : Dev nD) (t : Fin cfg0.N) (d) : (datsF m 0 c).before 1 t d = iblk m c 1 t :=
  before0_1_of m (datsF m 0 c) (A_eqF m c 1) (fun _ => by dsimp only [datsF]) t d
/-- Before the body, input window 2's buffer holds its block. -/
theorem before2F (c : Dev nD) (t : Fin cfg0.N) (d) : (datsF m 0 c).before 2 t d = iblk m c 2 t :=
  before0_2_of m (datsF m 0 c) (A_eqF m c 2) (fun _ => by dsimp only [datsF]) t d
/-- Before the body, input window 3's buffer holds its block. -/
theorem before3F (c : Dev nD) (t : Fin cfg0.N) (d) : (datsF m 0 c).before 3 t d = iblk m c 3 t :=
  before0_3_of m (datsF m 0 c) (A_eqF m c 3) (fun _ => by dsimp only [datsF]) t d
/-- After the body, window 0's buffer holds its block. -/
theorem after0F (c : Dev nD) (t : Fin cfg0.N) : (datsF m 0 c).after 0 t = iblk m c 0 t := by dsimp only [datsF]
/-- After the body, window 1's buffer holds its block. -/
theorem after1F (c : Dev nD) (t : Fin cfg0.N) : (datsF m 0 c).after 1 t = iblk m c 1 t := by dsimp only [datsF]
/-- After the body, window 2's buffer holds its block. -/
theorem after2F (c : Dev nD) (t : Fin cfg0.N) : (datsF m 0 c).after 2 t = iblk m c 2 t := by dsimp only [datsF]
/-- After the body, window 3's buffer holds its block. -/
theorem after3F (c : Dev nD) (t : Fin cfg0.N) : (datsF m 0 c).after 3 t = iblk m c 3 t := by dsimp only [datsF]

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The invariant's scratch buffers, each held whole at some contents. -/
theorem phi_eq (c : Dev nD) : (Pipeline.ΦA spec0 c : sProp 𝕄)
    = iprop(((∃ X, owns (c : Thread nD τ) (Memref.whole cc0_scratch0) fullShare X)
      ∗ (∃ X, owns (c : Thread nD τ) (Memref.whole cc0_scratch1) fullShare X)
      ∗ (∃ X, owns (c : Thread nD τ) (Memref.whole cc0_scratch2) fullShare X)) ∗ (∃ r, prngReg c r)) := by
  unfold Pipeline.ΦA
  rw [scopedRest0_eq]
  simp only [owns_whole]

/-- The library's body obligation with the two output windows' contents not tracked. -/
theorem body_obligationF (c : Dev nD) : BodyObligation (datsF (F := F) m 0 c) (defs₀ (F := F)) Variants.none () Set.univ fgt := fun t => by
  rw [bigSep_W0, bigSep_W0, defs₀_row]
  refine triple_restated (sound_held m c t) rfl ?_ fun _ => ?_
  · dsimp only [fgt]
    simp only [before0F, before1F, before2F, before3F]
    rw [show (datsF m 0 c).Φ t.castSucc = Pipeline.ΦA spec0 c from rfl, phi_eq]
    unfold held
    iintro ⟨⟨⟨H7, H8, H9⟩, Hp⟩, Ho, ⟨%d0, H1⟩, ⟨%d1, H2⟩, ⟨%d2, H3⟩, ⟨%d3, H4⟩, H5, H6⟩
    iframe
  · dsimp only [fgt]
    rw [show (datsF m 0 c).Φ t.succ = Pipeline.ΦA spec0 c from rfl, phi_eq,
      show (datsF m 0 c).owesAt () t.succ = (datsF m 0 c).owesAt () t.castSucc from rfl]
    unfold held
    iintro ⟨Ho, Hp, H1, H2, H3, H4, H5, H6, H7, H8, H9⟩
    isplitl [H7 H8 H9 Hp]
    · iframe
    isplitl [Ho]; · iexact Ho
    isplitl [H1]; · iexact H1
    isplitl [H2]; · iexact H2
    isplitl [H3]; · iexact H3
    isplitl [H4]; · iexact H4
    isplitl [H5]; · iexact H5
    iexact H6

/-- What the host lines after the region write. -/
abbrev tailW : Finset (Ref sig .tc) := {main_v22, main_v23}

/-- The host operations after the region write only the buffers of `tailW`. -/
theorem tail_writes : ∀ ops ∈ ([hostOps1] : List (List (HloOp τ sig (Elt F)))), ∀ op ∈ ops,
    ∀ b : Ref sig .tc, Proc.devRef .tc b ∈ op.writes → b ∈ tailW := by
  intro ops hops op hop b hb
  simp only [List.mem_cons, List.mem_nil_iff, or_false] at hops
  rcases hops with rfl
  simp only [hostOps1, List.mem_cons, List.mem_nil_iff, or_false] at hop
  rcases hop with rfl | rfl
  · rw [Proc.devRef_injective _ (Finset.mem_singleton.mp hb)]; decide
  · rw [Proc.devRef_injective _ (Finset.mem_singleton.mp hb)]; decide

set_option backward.isDefEq.respectTransparency.types false in
set_option maxHeartbeats 800000 in
/-- The launch: every buffer that is no array and that no later host line writes ends as the region found it, and every
    semaphore counter is zero. -/
theorem run_frame : θ_run defs (onTc (τ := τ) (main (F := F))) (s₀ m ρ) (fun r =>
    Pipeline.RDat.FramePostR cfg0 (fun c => (datsF m 0 c).toRForget fgt) tailW (fun c b => V m c b) r ∧ r.2.sem = fun _ => 0) :=
  Pipeline.θ_run_frame_around_T_forget (Q' := _) cfgs (datsF m) (0 : Fin 1) launch0 defs₀ Variants.none fgt tailW m ρ main
    (hbody := fun c => (body_obligationF m c).loose) (hshare := fun c => (datsF m 0 c).share_full fun _ => rfl)
    (howed := fun _ _ => rfl) (V₀ := V0 m) (opss := [hostOps1]) (hsub := sfx_sub) (hfresh := sfx_fresh) (hkeep := sfx_keeps)
    (hT := tail_writes) (hmain := hmain m Variants.none) (hA := A_eqF m) (hΦ := fun _ _ => rfl)

/-- The frame: the arguments end as they began and every semaphore is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
    ⟨((h.1 c).2 main_arg0 (Finset.mem_sdiff.mpr ⟨Pipeline.mem_restRefs_of main_arg0 (by decide) (by decide), by decide⟩)).trans (V_main_arg0 m c),
      ((h.1 c).2 main_arg1 (Finset.mem_sdiff.mpr ⟨Pipeline.mem_restRefs_of main_arg1 (by decide) (by decide), by decide⟩)).trans (V_main_arg1 m c),
      ((h.1 c).2 main_arg2 (Finset.mem_sdiff.mpr ⟨Pipeline.mem_restRefs_of main_arg2 (by decide) (by decide), by decide⟩)).trans (V_main_arg2 m c),
      ((h.1 c).2 main_arg3 (Finset.mem_sdiff.mpr ⟨Pipeline.mem_restRefs_of main_arg3 (by decide) (by decide), by decide⟩)).trans (V_main_arg3 m c)⟩, h.2⟩) (run_frame m ρ)

end Cert.KernelIdeal.Body
-- ==== Proof.Hoare.lean ====
/- Programs that load from and store to buffers of known contents: from an assertion that owns a buffer at contents `x`, a
   load goes on with a window of `x`, and a store goes on from the assertion that owns the buffer with the payload put over
   that window. -/
module

public import proofs.«01_k».proof.Proof.Steps

@[expose] public section

noncomputable section

namespace Steps

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {U : Type} [URA U] {Λ : Labels}

local notation "𝕄" => MT nD τ sig Unit Val ℕ U ℕ

variable (defs : Defs nD τ sig Val Λ) (c : Thread nD τ)

/-- The program `p` runs from the assertion `A` to the postcondition `K`. -/
def Runs (A : sProp 𝕄) {α : Type} (p : Prog (TpuEff nD τ sig Val Λ c.2) α) (K : α → sProp 𝕄) : Prop :=
  A ⊢ wp frame (wpE defs Variants.none c none) Set.univ p K

/-- The assertion `A` owns the memref `m` whole at the contents `x`, and `A'` is `A` with the contents `x'`. -/
def Swap {sp : Space} {s : Shape} {e : EltTy} (A : sProp 𝕄) (m : Memref sig c.2.kind sp s e) (x : s.Idx → Val e)
    (A' : sProp 𝕄) (x' : s.Idx → Val e) : Prop :=
  A ⊢ iprop(owns c m fullShare x ∗ (owns c m fullShare x' -∗ A'))

variable {defs c}
variable {α β : Type}

/-- Returning. -/
theorem Runs.pure {A : sProp 𝕄} {a : α} {K : α → sProp 𝕄} (h : A ⊢ K a) :
    Runs (U := U) defs c A (pure a : Prog (TpuEff nD τ sig Val Λ c.2) α) K :=
  h.trans (le_wp_ret (M := 𝕄) _ _ _ a _)

/-- An entailment into the weakest precondition is a run. -/
theorem Runs.intro {A : sProp 𝕄} {p : Prog (TpuEff nD τ sig Val Λ c.2) α} {K : α → sProp 𝕄} (h : Runs (U := U) defs c A p K) :
    A ⊢ wp frame (wpE defs Variants.none c none) Set.univ p K := h

/-- Sequencing. -/
theorem Runs.bind {A : sProp 𝕄} {p : Prog (TpuEff nD τ sig Val Λ c.2) α} {k : α → Prog (TpuEff nD τ sig Val Λ c.2) β}
    {K : β → sProp 𝕄} (h : Runs (U := U) defs c A p (fun r => wp frame (wpE defs Variants.none c none) Set.univ (k r) K)) :
    Runs (U := U) defs c A (p >>= k) K := by
  unfold Runs
  rw [wp_bind]
  exact h

/-- A load of an owned memref at a unit-stride rectangle goes on with the window of its contents. -/
theorem Runs.load {A : sProp 𝕄} {cs : CoreSpace} {s : Shape} {e : EltTy} {m : Memref sig c.2.kind cs s e} {x : s.Idx → Val e}
    (hm : Swap (U := U) c A m x A x) {off size : Fin s.rank → ℕ} {inb : ∀ a, off a + size a ≤ s.size a}
    {hl : m.view.LoadsAt (Rect.unit off size inb).toLoadRect}
    {k : ((Rect.unit off size inb).toLoadRect.shape.Idx → Val e) → Prog (TpuEff nD τ sig Val Λ c.2) β} {K : β → sProp 𝕄}
    (h : Runs (U := U) defs c A (k (VecWindow.window x off size inb)) K) :
    Runs (U := U) defs c A (Prog.lift (.load m (Rect.unit off size inb).toLoadRect hl) >>= k) K := by
  refine Runs.bind ?_
  unfold Runs
  refine hm.trans ?_
  unfold owns
  iintro ⟨⟨%f, %hf, H⟩, Hw⟩
  iapply (wp_load (defs := defs) Variants.none c none Set.univ (m.view.setOn_subset_set (Rect.unit off size inb).toLoadRect.set)) $$ [H]
  · iexact H
  iintro H
  iapply (le_wp_ret _ _ _ _ _)
  rw [View.readAt_unit m.view f inb rfl inb, hf]
  iapply (show A ⊢ _ from h)
  iapply Hw
  iexists f; isplitr; · ipureintro; exact hf
  iexact H

/-- An unmasked store to an owned memref at a unit-stride rectangle goes on with the payload put over that window. -/
theorem Runs.store {A A' : sProp 𝕄} {cs : CoreSpace} {s : Shape} {e : EltTy} {m : Memref sig c.2.kind cs s e} {x x' : s.Idx → Val e}
    (hm : Swap (U := U) c A m x A' x') {off size : Fin s.rank → ℕ} {inb : ∀ a, off a + size a ≤ s.size a}
    {w : (Rect.unit off size inb).shape.Idx → Val e} {hx : (m.access (Rect.unit off size inb)).Stores Finset.univ}
    {hu : Finset.univ = Finset.univ ∨ ∀ a, (Rect.unit off size inb).stride a = 1}
    {k : Unit → Prog (TpuEff nD τ sig Val Λ c.2) β} {K : β → sProp 𝕄}
    (hx' : VecWindow.put x off size w = x')
    (h : Runs (U := U) defs c A' (k ()) K) :
    Runs (U := U) defs c A (Prog.lift (.store m (Rect.unit off size inb) w Finset.univ hx hu) >>= k) K := by
  refine Runs.bind ?_
  unfold Runs
  refine hm.trans ?_
  unfold owns
  iintro ⟨⟨%f, %hf, H⟩, Hw⟩
  iapply (wp_store (defs := defs) Variants.none c none Set.univ (m := m) (r := Rect.unit off size inb) (w := w) (hx := hx) (hm := hu) (Mk := Finset.univ) (f := f) (m.view.set_slice_subset (Rect.unit off size inb))) $$ [H]
  · iexact H
  iintro H
  iapply (le_wp_ret _ _ _ _ _)
  iapply (show A' ⊢ _ from h)
  iapply Hw
  iexists ((m.access (Rect.unit off size inb)).write Val f w Finset.univ); isplitr
  · ipureintro
    refine (View.read_writes_cons_put (Val := Val) m.view f inb w [] rfl).trans ?_
    rw [View.writes_nil, hf, hx']
  iexact H

/-- A branch. -/
theorem Runs.dite {A : sProp 𝕄} {p : Prop} [Decidable p] {a : p → Prog (TpuEff nD τ sig Val Λ c.2) α} {b : ¬ p → Prog (TpuEff nD τ sig Val Λ c.2) α}
    {K : α → sProp 𝕄} (ha : ∀ h, Runs (U := U) defs c A (a h) K) (hb : ∀ h, Runs (U := U) defs c A (b h) K) :
    Runs (U := U) defs c A (if h : p then a h else b h) K := by
  by_cases h : p
  · rw [dif_pos h]; exact ha h
  · rw [dif_neg h]; exact hb h

/-- A window of the whole buffer is its contents. -/
theorem window_whole {α : Type} {s : Shape} (x : s.Idx → α) (off : Fin s.rank → ℕ) (hoff : ∀ a, off a = 0) (inb : ∀ a, off a + s.size a ≤ s.size a) :
    VecWindow.window x off s.size inb = x := by
  funext y
  refine congrArg x (funext fun a => Fin.ext ?_)
  show off a + 1 * (y a).val = (y a).val
  rw [hoff a]; omega

/-- A put over the whole buffer leaves the payload. -/
theorem put_whole {α : Type} {s : Shape} (x : s.Idx → α) (off : Fin s.rank → ℕ) (hoff : ∀ a, off a = 0) (w : s.Idx → α) :
    VecWindow.put x off s.size w = w := by
  funext y
  unfold VecWindow.put
  rw [dif_pos (fun a => by rw [hoff a]; have := (y a).isLt; omega)]
  refine congrArg w (funext fun a => Fin.ext ?_)
  show (y a).val - off a = (y a).val
  rw [hoff a]; omega

/-- A load of a whole owned memref goes on with its contents. -/
theorem Runs.loadWhole {A : sProp 𝕄} {cs : CoreSpace} {s : Shape} {e : EltTy} {m : Memref sig c.2.kind cs s e} {x : s.Idx → Val e}
    (hm : Swap (U := U) c A m x A x) {off : Fin s.rank → ℕ} {inb : ∀ a, off a + s.size a ≤ s.size a} (hoff : ∀ a, off a = 0)
    {hl : m.view.LoadsAt (Rect.unit off s.size inb).toLoadRect}
    {k : (s.Idx → Val e) → Prog (TpuEff nD τ sig Val Λ c.2) β} {K : β → sProp 𝕄}
    (h : Runs (U := U) defs c A (k x) K) :
    Runs (U := U) defs c A (Prog.lift (.load m (Rect.unit off s.size inb).toLoadRect hl) >>= k) K := by
  refine Runs.load hm ?_
  rw [window_whole x off hoff inb]
  exact h

end Steps

section Fill

open Idealize.ShloMosaic

variable {α : Type} {s : Shape}

/-- The contents `B` with the elements of rank below `n` taken from the target `T`. -/
def fill (rank : s.Idx → ℕ) (T B : s.Idx → α) (n : ℕ) : s.Idx → α := fun y => if rank y < n then T y else B y

/-- Nothing filled. -/
theorem fill_zero (rank : s.Idx → ℕ) (T B : s.Idx → α) : fill rank T B 0 = B := by
  funext y; unfold fill; rw [if_neg (by omega)]

/-- Putting the target's window over the elements of rank `n` fills one rank more. -/
theorem put_fill {rank : s.Idx → ℕ} {T B : s.Idx → α} {n : ℕ} {off size : Fin s.rank → ℕ} (inb : ∀ a, off a + size a ≤ s.size a)
    {w : (Rect.unit off size inb).shape.Idx → α} (hT : w = VecWindow.window T off size inb)
    (hr : ∀ y : s.Idx, (∀ a, off a ≤ (y a).val ∧ (y a).val < off a + size a) ↔ rank y = n) :
    VecWindow.put (fill rank T B n) off size w = fill rank T B (n + 1) := by
  subst hT
  funext y
  unfold VecWindow.put fill
  by_cases h : ∀ a, off a ≤ (y a).val ∧ (y a).val < off a + size a
  · rw [dif_pos h, if_pos (by have := (hr y).mp h; omega)]
    unfold VecWindow.window
    refine congrArg T (funext fun a => Fin.ext ?_)
    show off a + 1 * ((y a).val - off a) = (y a).val
    have := h a; omega
  · rw [dif_neg h]
    have hn : rank y ≠ n := fun e => h ((hr y).mpr e)
    by_cases h2 : rank y < n
    · rw [if_pos h2, if_pos (by omega)]
    · rw [if_neg h2, if_neg (by omega)]

end Fill
-- ==== Proof.KernelIdealTile.lean ====
/- What the kernel body of `KernelIdeal` computes, as functions of what its buffers hold: the pieces of the pixel blocks its
   first half writes, the output rows its second half writes, and the assertion that owns its nine buffers at given contents. -/
module

public import proofs.«01_k».proof.Proof.Gen.KernelIdeal.Skeleton
public import proofs.«01_k».proof.Proof.Gen.KernelIdeal.Launch
public import proofs.«01_k».proof.Proof.Hoare

@[expose] public section

set_option maxRecDepth 16384

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Steps

section Own

variable {F : FTy → Type} [FloatOps F] {U : Type} [URA U]

local notation "𝕄" => MT nD τ sig Unit (Elt F) ℕ U ℕ

/-- The nine buffers of the body, each whole at the given contents, next to an assertion `R` the body leaves alone. -/
def St (c : Dev nD) (R : sProp 𝕄)
    (arg1 : Memref sig .tc .vmem S1x1008x128 .i32) (arg2 : Memref sig .tc .vmem S2x96x256 .fp8e4m3)
    (arg3 : Memref sig .tc .vmem S2x96x256 .f32) (arg4 : Memref sig .tc .vmem S96x1 .f32)
    (arg5 : Memref sig .tc .vmem S1x20x96x256 .bf16) (arg6 : Memref sig .tc .vmem S1x20x96x256 .bf16)
    (arg7 : Memref sig .tc .vmem S2x96x256 .bf16) (arg8 : Memref sig .tc .vmem S96x128 .f32)
    (arg9 : Memref sig .tc .vmem S2x2x2x672x2x128 .bf16)
    (x1 : Vec F S1x1008x128 .i32) (x2 : Vec F S2x96x256 .fp8e4m3) (x3 : Vec F S2x96x256 .f32) (x4 : Vec F S96x1 .f32)
    (x5 x6 : Vec F S1x20x96x256 .bf16) (x7 : Vec F S2x96x256 .bf16) (x8 : Vec F S96x128 .f32)
    (x9 : Vec F S2x2x2x672x2x128 .bf16) : sProp 𝕄 :=
  iprop(R ∗ owns (c : Thread nD τ) arg1 fullShare x1 ∗ owns (c : Thread nD τ) arg2 fullShare x2
    ∗ owns (c : Thread nD τ) arg3 fullShare x3 ∗ owns (c : Thread nD τ) arg4 fullShare x4
    ∗ owns (c : Thread nD τ) arg5 fullShare x5 ∗ owns (c : Thread nD τ) arg6 fullShare x6
    ∗ owns (c : Thread nD τ) arg7 fullShare x7 ∗ owns (c : Thread nD τ) arg8 fullShare x8
    ∗ owns (c : Thread nD τ) arg9 fullShare x9)

variable {c : Dev nD}
    {arg1 : Memref sig .tc .vmem S1x1008x128 .i32} {arg2 : Memref sig .tc .vmem S2x96x256 .fp8e4m3}
    {arg3 : Memref sig .tc .vmem S2x96x256 .f32} {arg4 : Memref sig .tc .vmem S96x1 .f32}
    {arg5 : Memref sig .tc .vmem S1x20x96x256 .bf16} {arg6 : Memref sig .tc .vmem S1x20x96x256 .bf16}
    {arg7 : Memref sig .tc .vmem S2x96x256 .bf16} {arg8 : Memref sig .tc .vmem S96x128 .f32}
    {arg9 : Memref sig .tc .vmem S2x2x2x672x2x128 .bf16}
    {x1 : Vec F S1x1008x128 .i32} {x2 : Vec F S2x96x256 .fp8e4m3} {x3 : Vec F S2x96x256 .f32} {x4 : Vec F S96x1 .f32}
    {x5 x6 : Vec F S1x20x96x256 .bf16} {x7 : Vec F S2x96x256 .bf16} {x8 : Vec F S96x128 .f32}
    {x9 : Vec F S2x2x2x672x2x128 .bf16}

/-- Buffer 1 is owned, and may be given back at other contents. -/
theorem swap1 {R : sProp 𝕄} (x' : Vec F S1x1008x128 .i32) : Swap (U := U) (Val := Elt F) (c : Thread nD τ) (St c R arg1 arg2 arg3 arg4 arg5 arg6 arg7 arg8 arg9 x1 x2 x3 x4 x5 x6 x7 x8 x9) arg1 x1 (St c R arg1 arg2 arg3 arg4 arg5 arg6 arg7 arg8 arg9 x' x2 x3 x4 x5 x6 x7 x8 x9) x' := by
  unfold Swap St
  iintro ⟨HR, H1, H2, H3, H4, H5, H6, H7, H8, H9⟩
  isplitl [H1]; · iexact H1
  iintro H1
  iframe

/-- Buffer 2 is owned, and may be given back at other contents. -/
theorem swap2 {R : sProp 𝕄} (x' : Vec F S2x96x256 .fp8e4m3) : Swap (U := U) (Val := Elt F) (c : Thread nD τ) (St c R arg1 arg2 arg3 arg4 arg5 arg6 arg7 arg8 arg9 x1 x2 x3 x4 x5 x6 x7 x8 x9) arg2 x2 (St c R arg1 arg2 arg3 arg4 arg5 arg6 arg7 arg8 arg9 x1 x' x3 x4 x5 x6 x7 x8 x9) x' := by
  unfold Swap St
  iintro ⟨HR, H1, H2, H3, H4, H5, H6, H7, H8, H9⟩
  isplitl [H2]; · iexact H2
  iintro H2
  iframe

/-- Buffer 3 is owned, and may be given back at other contents. -/
theorem swap3 {R : sProp 𝕄} (x' : Vec F S2x96x256 .f32) : Swap (U := U) (Val := Elt F) (c : Thread nD τ) (St c R arg1 arg2 arg3 arg4 arg5 arg6 arg7 arg8 arg9 x1 x2 x3 x4 x5 x6 x7 x8 x9) arg3 x3 (St c R arg1 arg2 arg3 arg4 arg5 arg6 arg7 arg8 arg9 x1 x2 x' x4 x5 x6 x7 x8 x9) x' := by
  unfold Swap St
  iintro ⟨HR, H1, H2, H3, H4, H5, H6, H7, H8, H9⟩
  isplitl [H3]; · iexact H3
  iintro H3
  iframe

/-- Buffer 4 is owned, and may be given back at other contents. -/
theorem swap4 {R : sProp 𝕄} (x' : Vec F S96x1 .f32) : Swap (U := U) (Val := Elt F) (c : Thread nD τ) (St c R arg1 arg2 arg3 arg4 arg5 arg6 arg7 arg8 arg9 x1 x2 x3 x4 x5 x6 x7 x8 x9) arg4 x4 (St c R arg1 arg2 arg3 arg4 arg5 arg6 arg7 arg8 arg9 x1 x2 x3 x' x5 x6 x7 x8 x9) x' := by
  unfold Swap St
  iintro ⟨HR, H1, H2, H3, H4, H5, H6, H7, H8, H9⟩
  isplitl [H4]; · iexact H4
  iintro H4
  iframe

/-- Buffer 5 is owned, and may be given back at other contents. -/
theorem swap5 {R : sProp 𝕄} (x' : Vec F S1x20x96x256 .bf16) : Swap (U := U) (Val := Elt F) (c : Thread nD τ) (St c R arg1 arg2 arg3 arg4 arg5 arg6 arg7 arg8 arg9 x1 x2 x3 x4 x5 x6 x7 x8 x9) arg5 x5 (St c R arg1 arg2 arg3 arg4 arg5 arg6 arg7 arg8 arg9 x1 x2 x3 x4 x' x6 x7 x8 x9) x' := by
  unfold Swap St
  iintro ⟨HR, H1, H2, H3, H4, H5, H6, H7, H8, H9⟩
  isplitl [H5]; · iexact H5
  iintro H5
  iframe

/-- Buffer 6 is owned, and may be given back at other contents. -/
theorem swap6 {R : sProp 𝕄} (x' : Vec F S1x20x96x256 .bf16) : Swap (U := U) (Val := Elt F) (c : Thread nD τ) (St c R arg1 arg2 arg3 arg4 arg5 arg6 arg7 arg8 arg9 x1 x2 x3 x4 x5 x6 x7 x8 x9) arg6 x6 (St c R arg1 arg2 arg3 arg4 arg5 arg6 arg7 arg8 arg9 x1 x2 x3 x4 x5 x' x7 x8 x9) x' := by
  unfold Swap St
  iintro ⟨HR, H1, H2, H3, H4, H5, H6, H7, H8, H9⟩
  isplitl [H6]; · iexact H6
  iintro H6
  iframe

/-- Buffer 7 is owned, and may be given back at other contents. -/
theorem swap7 {R : sProp 𝕄} (x' : Vec F S2x96x256 .bf16) : Swap (U := U) (Val := Elt F) (c : Thread nD τ) (St c R arg1 arg2 arg3 arg4 arg5 arg6 arg7 arg8 arg9 x1 x2 x3 x4 x5 x6 x7 x8 x9) arg7 x7 (St c R arg1 arg2 arg3 arg4 arg5 arg6 arg7 arg8 arg9 x1 x2 x3 x4 x5 x6 x' x8 x9) x' := by
  unfold Swap St
  iintro ⟨HR, H1, H2, H3, H4, H5, H6, H7, H8, H9⟩
  isplitl [H7]; · iexact H7
  iintro H7
  iframe

/-- Buffer 8 is owned, and may be given back at other contents. -/
theorem swap8 {R : sProp 𝕄} (x' : Vec F S96x128 .f32) : Swap (U := U) (Val := Elt F) (c : Thread nD τ) (St c R arg1 arg2 arg3 arg4 arg5 arg6 arg7 arg8 arg9 x1 x2 x3 x4 x5 x6 x7 x8 x9) arg8 x8 (St c R arg1 arg2 arg3 arg4 arg5 arg6 arg7 arg8 arg9 x1 x2 x3 x4 x5 x6 x7 x' x9) x' := by
  unfold Swap St
  iintro ⟨HR, H1, H2, H3, H4, H5, H6, H7, H8, H9⟩
  isplitl [H8]; · iexact H8
  iintro H8
  iframe

/-- Buffer 9 is owned, and may be given back at other contents. -/
theorem swap9 {R : sProp 𝕄} (x' : Vec F S2x2x2x672x2x128 .bf16) : Swap (U := U) (Val := Elt F) (c : Thread nD τ) (St c R arg1 arg2 arg3 arg4 arg5 arg6 arg7 arg8 arg9 x1 x2 x3 x4 x5 x6 x7 x8 x9) arg9 x9 (St c R arg1 arg2 arg3 arg4 arg5 arg6 arg7 arg8 arg9 x1 x2 x3 x4 x5 x6 x7 x8 x') x' := by
  unfold Swap St
  iintro ⟨HR, H1, H2, H3, H4, H5, H6, H7, H8, H9⟩
  isplitl [H9]; · iexact H9
  iintro H9
  iframe

end Own

section Tiles

variable {F : FTy → Type} [FloatOps F]

/-- Eight consecutive rows of a block row's words, from row `8 n` on. -/
def octet (x1 : Vec F S1x1008x128 .i32) (n : ℕ) (hn : n < 126) : Vec F S1x8x128 .i32 :=
  VecWindow.window x1 ![0, 8 * n, 0] S1x8x128.size (fun a => match a with
    | ⟨0, _⟩ => by show 0 + 1 ≤ 1; omega
    | ⟨1, _⟩ => by show 8 * n + 8 ≤ 1008; omega
    | ⟨2, _⟩ => by show 0 + 128 ≤ 128; omega)

/-- The 32 rows of pixel pairs of one image block for the output of kind `k`, from the block's three octets of words. -/
def piece (k : ℕ) (a b d : Vec F S1x8x128 .i32) : Vec F S1x1x1x32x2x128 .bf16 :=
  if k = 0 then k0_pay130 (k0_pay128 a b) (k0_pay129 a b) else k0_pay131 (k0_pay122 b) (k0_pay124 d) (k0_pay125 a d)

/-- The piece of kind `k` of block `bx` in half `h` of the batch. -/
def pieceAt (x1 : Vec F S1x1008x128 .i32) (k : ℕ) (bx h : ℕ) (hb : bx < 21) (hh : h < 2) : Vec F S1x1x1x32x2x128 .bf16 :=
  piece k (octet x1 (3 * (2 * bx + h)) (by omega)) (octet x1 (3 * (2 * bx + h) + 1) (by omega)) (octet x1 (3 * (2 * bx + h) + 2) (by omega))

/-- An index of a piece. -/
def pix (r : Fin 32) (p : Fin 2) (l : Fin 128) : S1x1x1x32x2x128.Idx := fun a => match a with
  | ⟨0, _⟩ => (0 : Fin 1) | ⟨1, _⟩ => (0 : Fin 1) | ⟨2, _⟩ => (0 : Fin 1) | ⟨3, _⟩ => r | ⟨4, _⟩ => p | ⟨5, _⟩ => l

/-- An index of a piece is `pix` of its coordinates. -/
theorem pix_eta (z : S1x1x1x32x2x128.Idx) : pix (z 3) (z 4) (z 5) = z := by
  funext a
  match a with
  | ⟨0, _⟩ => exact Subsingleton.elim (α := Fin 1) _ _
  | ⟨1, _⟩ => exact Subsingleton.elim (α := Fin 1) _ _
  | ⟨2, _⟩ => exact Subsingleton.elim (α := Fin 1) _ _
  | ⟨3, _⟩ => rfl
  | ⟨4, _⟩ => rfl
  | ⟨5, _⟩ => rfl

/-- All the pieces of one block row of words: what a slot of the block buffer holds after the first half of the body. -/
def blocks (x1 : Vec F S1x1008x128 .i32) : Vec F S2x2x2x672x2x128 .bf16 := fun y =>
  pieceAt x1 (y 1).val ((y 3).val / 32) (y 2).val
    (by have : (y 3).val < 672 := (y 3).isLt; omega) (y 2).isLt (pix ⟨(y 3).val % 32, Nat.mod_lt _ (by decide)⟩ (y 4) (y 5))

/-- The slot the body fills at grid point `i`. -/
def cur (i : grid0.Coords) : ℕ := k0_off1 i 0

/-- The slot the body filled at the grid point before `i`. -/
def prev (i : grid0.Coords) : ℕ := k0_off85 i 0

set_option maxRecDepth 65536 in
/-- The current slot. -/
theorem cur_eq : ∀ i : grid0.Coords, cur i = (i 0).val % 2 := by decide +kernel
set_option maxRecDepth 65536 in
/-- The previous slot. -/
theorem prev_eq : ∀ i : grid0.Coords, prev i = 1 - (i 0).val % 2 := by decide +kernel

/-- The current slot is below two. -/
theorem cur_lt (i : grid0.Coords) : cur i < 2 := by rw [cur_eq]; omega
/-- The previous slot is below two. -/
theorem prev_lt (i : grid0.Coords) : prev i < 2 := by rw [prev_eq]; omega

/-- The order in which the first half of the body at `i` fills the elements of its slot. -/
def rank9 (i : grid0.Coords) (y : S2x2x2x672x2x128.Idx) : ℕ :=
  if (y 0).val = cur i then ((y 3).val / 32 * 2 + (y 2).val) * 2 + (y 1).val else 84

/-- The sizes of a piece. -/
theorem size_piece (a : Fin 6) : S1x1x1x32x2x128.size a = (![1, 1, 1, 32, 2, 128] : Fin 6 → ℕ) a := by
  match a with
  | ⟨0, _⟩ => rfl | ⟨1, _⟩ => rfl | ⟨2, _⟩ => rfl | ⟨3, _⟩ => rfl | ⟨4, _⟩ => rfl | ⟨5, _⟩ => rfl

/-- One store of the first half. -/
theorem put_piece {i : grid0.Coords} {x1 : Vec F S1x1008x128 .i32} {B : Vec F S2x2x2x672x2x128 .bf16} {off : Fin 6 → ℕ}
    (k h bx : ℕ) (hk : k < 2) (hh : h < 2) (hb : bx < 21) {n : ℕ} (hn : n = (bx * 2 + h) * 2 + k)
    {w : Vec F S1x1x1x32x2x128 .bf16}
    (hoff : off = ![cur i, k, h, 32 * bx, 0, 0]) (hw : w = pieceAt x1 k bx h hb hh) :
    VecWindow.put (s := S2x2x2x672x2x128) (fill (rank9 i) (blocks x1) B n) off S1x1x1x32x2x128.size w
      = fill (rank9 i) (blocks x1) B (n + 1) := by
  subst hoff hw hn
  have hc := cur_lt i
  have inb : ∀ a, (![cur i, k, h, 32 * bx, 0, 0] : Fin 6 → ℕ) a + S1x1x1x32x2x128.size a ≤ S2x2x2x672x2x128.size a := fun a => by
    match a with
    | ⟨0, _⟩ => show cur i + 1 ≤ 2; omega
    | ⟨1, _⟩ => show k + 1 ≤ 2; omega
    | ⟨2, _⟩ => show h + 1 ≤ 2; omega
    | ⟨3, _⟩ => show 32 * bx + 32 ≤ 672; omega
    | ⟨4, _⟩ => show 0 + 2 ≤ 2; omega
    | ⟨5, _⟩ => show 0 + 128 ≤ 128; omega
  refine put_fill inb ?_ fun y => ?_
  · funext z
    have hz : (z 3).val < 32 := (z 3).isLt
    have e0 : ∀ (k' bx' h' : ℕ) (hb' : bx' < 21) (hh' : h' < 2) (p : S1x1x1x32x2x128.Idx), k' = k → bx' = bx → h' = h → p = z →
        pieceAt x1 k bx h hb hh z = pieceAt x1 k' bx' h' hb' hh' p := by
      intro k' bx' h' hb' hh' p h1 h2 h3 h4; subst h1 h2 h3 h4; rfl
    have q2 : ((Rect.unit (s := S2x2x2x672x2x128) _ _ inb).emb z 2).val < 2 := ((Rect.unit (s := S2x2x2x672x2x128) _ _ inb).emb z 2).isLt
    have q3 : ((Rect.unit (s := S2x2x2x672x2x128) _ _ inb).emb z 3).val < 672 := ((Rect.unit (s := S2x2x2x672x2x128) _ _ inb).emb z 3).isLt
    refine e0 _ _ _ (by omega) q2 _ ?_ ?_ ?_ ?_
    · show k + 1 * (z 1).val = k
      have : (z 1).val < 1 := (z 1).isLt
      omega
    · show (32 * bx + 1 * (z 3).val) / 32 = bx
      omega
    · show h + 1 * (z 2).val = h
      have : (z 2).val < 1 := (z 2).isLt
      omega
    · refine Eq.trans ?_ (pix_eta z)
      have a1 : (32 * bx + 1 * (z 3).val) % 32 = (z 3).val := by omega
      have a2 : 0 + 1 * (z 4).val = (z 4).val := by omega
      have a3 : 0 + 1 * (z 5).val = (z 5).val := by omega
      exact congr (congr (congrArg pix (Fin.ext a1)) (Fin.ext a2)) (Fin.ext a3)
  · have h1 : (y 1).val < 2 := (y 1).isLt
    have h2 : (y 2).val < 2 := (y 2).isLt
    have h3 : (y 3).val < 672 := (y 3).isLt
    have h4 : (y 4).val < 2 := (y 4).isLt
    have h5 : (y 5).val < 128 := (y 5).isLt
    unfold rank9
    constructor
    · intro hy
      have g0 : cur i ≤ (y 0).val ∧ (y 0).val < cur i + 1 := hy 0
      have g1 : k ≤ (y 1).val ∧ (y 1).val < k + 1 := hy 1
      have g2 : h ≤ (y 2).val ∧ (y 2).val < h + 1 := hy 2
      have g3 : 32 * bx ≤ (y 3).val ∧ (y 3).val < 32 * bx + 32 := hy 3
      rw [if_pos (by omega)]
      have : (y 3).val / 32 = bx := by omega
      rw [this]; omega
    · intro hy a
      have hcu : (y 0).val = cur i := by
        by_contra hne; rw [if_neg hne] at hy; omega
      rw [if_pos hcu] at hy
      match a with
      | ⟨0, _⟩ => show cur i ≤ (y 0).val ∧ (y 0).val < cur i + 1; omega
      | ⟨1, _⟩ => show k ≤ (y 1).val ∧ (y 1).val < k + 1; omega
      | ⟨2, _⟩ => show h ≤ (y 2).val ∧ (y 2).val < h + 1; omega
      | ⟨3, _⟩ => show 32 * bx ≤ (y 3).val ∧ (y 3).val < 32 * bx + 32; omega
      | ⟨4, _⟩ => show 0 ≤ (y 4).val ∧ (y 4).val < 0 + 2; omega
      | ⟨5, _⟩ => show 0 ≤ (y 5).val ∧ (y 5).val < 0 + 128; omega

/-- The 64 rows of pixel pairs of two neighbouring blocks, of one slot, kind and half of the batch. -/
def slab (B : Vec F S2x2x2x672x2x128 .bf16) (s k h ox : ℕ) (hs : s < 2) (hk : k < 2) (hh : h < 2) (ho : ox < 20) :
    Vec F S1x1x1x64x2x128 .bf16 :=
  VecWindow.window B ![s, k, h, 32 * ox, 0, 0] S1x1x1x64x2x128.size (fun a => match a with
    | ⟨0, _⟩ => by show s + 1 ≤ 2; omega
    | ⟨1, _⟩ => by show k + 1 ≤ 2; omega
    | ⟨2, _⟩ => by show h + 1 ≤ 2; omega
    | ⟨3, _⟩ => by show 32 * ox + 64 ≤ 672; omega
    | ⟨4, _⟩ => by show 0 + 2 ≤ 2; omega
    | ⟨5, _⟩ => by show 0 + 128 ≤ 128; omega)

/-- The weights of one kind. -/
def wrow (w : Vec F S2x96x256 .bf16) (k : ℕ) (hk : k < 2) : Vec F S1x96x256 .bf16 :=
  VecWindow.window w ![k, 0, 0] S1x96x256.size (fun a => match a with
    | ⟨0, _⟩ => by show k + 1 ≤ 2; omega
    | ⟨1, _⟩ => by show 0 + 96 ≤ 96; omega
    | ⟨2, _⟩ => by show 0 + 256 ≤ 256; omega)

/-- One output position for the whole batch. -/
def dotTile (i : grid0.Coords) (w : Vec F S2x96x256 .bf16) (br : Vec F S96x128 .f32) (B : Vec F S2x2x2x672x2x128 .bf16)
    (k ox : ℕ) (hk : k < 2) (ho : ox < 20) : Vec F S1x1x96x256 .bf16 :=
  k0_pay7 (k0_pay4 br)
    (k0_pay5 (slab B (prev i) k 0 ox (prev_lt i) hk (by decide) ho) (slab B (cur i) k 0 ox (cur_lt i) hk (by decide) ho)
      (slab B (prev i) k 1 ox (prev_lt i) hk (by decide) ho) (slab B (cur i) k 1 ox (cur_lt i) hk (by decide) ho))
    (k0_pay6 (wrow w k hk))

/-- An index of an output position. -/
def oix (r : Fin 96) (l : Fin 256) : S1x1x96x256.Idx := fun a => match a with
  | ⟨0, _⟩ => (0 : Fin 1) | ⟨1, _⟩ => (0 : Fin 1) | ⟨2, _⟩ => r | ⟨3, _⟩ => l

/-- An index of an output tile is `oix` of its coordinates. -/
theorem oix_eta (z : S1x1x96x256.Idx) : oix (z 2) (z 3) = z := by
  funext a
  match a with
  | ⟨0, _⟩ => exact Subsingleton.elim (α := Fin 1) _ _
  | ⟨1, _⟩ => exact Subsingleton.elim (α := Fin 1) _ _
  | ⟨2, _⟩ => rfl
  | ⟨3, _⟩ => rfl

/-- The output row of kind `k` the second half of the body writes. -/
def outRow (i : grid0.Coords) (w : Vec F S2x96x256 .bf16) (br : Vec F S96x128 .f32) (B : Vec F S2x2x2x672x2x128 .bf16)
    (k : ℕ) (hk : k < 2) : Vec F S1x20x96x256 .bf16 := fun y =>
  dotTile i w br B k (y 1).val hk (y 1).isLt (oix (y 2) (y 3))

/-- The order in which the second half fills an output row. -/
def rank5 (y : S1x20x96x256.Idx) : ℕ := (y 1).val

/-- One store of the second half. -/
theorem put_dot {i : grid0.Coords} {W : Vec F S2x96x256 .bf16} {br : Vec F S96x128 .f32} {B : Vec F S2x2x2x672x2x128 .bf16}
    {x : Vec F S1x20x96x256 .bf16} {off : Fin 4 → ℕ} (k : ℕ) {hk : k < 2} (ox : ℕ) (ho : ox < 20)
    {w : Vec F S1x1x96x256 .bf16} (hoff : off = ![0, ox, 0, 0]) (hw : w = dotTile i W br B k ox hk ho) :
    VecWindow.put (s := S1x20x96x256) (fill rank5 (outRow i W br B k hk) x ox) off S1x1x96x256.size w
      = fill rank5 (outRow i W br B k hk) x (ox + 1) := by
  subst hoff hw
  have inb : ∀ a, (![0, ox, 0, 0] : Fin 4 → ℕ) a + S1x1x96x256.size a ≤ S1x20x96x256.size a := fun a => by
    match a with
    | ⟨0, _⟩ => show 0 + 1 ≤ 1; omega
    | ⟨1, _⟩ => show ox + 1 ≤ 20; omega
    | ⟨2, _⟩ => show 0 + 96 ≤ 96; omega
    | ⟨3, _⟩ => show 0 + 256 ≤ 256; omega
  refine put_fill inb ?_ fun y => ?_
  · funext z
    have e0 : ∀ (ox' : ℕ) (ho' : ox' < 20) (p : S1x1x96x256.Idx), ox' = ox → p = z →
        dotTile i W br B k ox hk ho z = dotTile i W br B k ox' hk ho' p := by
      intro ox' ho' p h1 h2; subst h1 h2; rfl
    refine e0 _ _ _ ?_ ?_
    · show ox + 1 * (z 1).val = ox
      have : (z 1).val < 1 := (z 1).isLt
      omega
    · refine Eq.trans ?_ (oix_eta z)
      have a2 : 0 + 1 * (z 2).val = (z 2).val := by omega
      have a3 : 0 + 1 * (z 3).val = (z 3).val := by omega
      exact congr (congrArg oix (Fin.ext a2)) (Fin.ext a3)
  · unfold rank5
    have h0 : (y 0).val < 1 := (y 0).isLt
    have h2 : (y 2).val < 96 := (y 2).isLt
    have h3 : (y 3).val < 256 := (y 3).isLt
    constructor
    · intro hy
      have g1 : ox ≤ (y 1).val ∧ (y 1).val < ox + 1 := hy 1
      omega
    · intro hy a
      match a with
      | ⟨0, _⟩ => show 0 ≤ (y 0).val ∧ (y 0).val < 0 + 1; omega
      | ⟨1, _⟩ => show ox ≤ (y 1).val ∧ (y 1).val < ox + 1; omega
      | ⟨2, _⟩ => show 0 ≤ (y 2).val ∧ (y 2).val < 0 + 96; omega
      | ⟨3, _⟩ => show 0 ≤ (y 3).val ∧ (y 3).val < 0 + 256; omega

end Tiles

end Cert.KernelIdeal.Body
-- ==== Proof.KernelIdealBlocks.lean ====
/- The first half of the kernel body of `KernelIdeal`: the weights and the bias rows at the first grid point, and at every grid point one slot of the block buffer, filled piece by piece. -/
module

public import proofs.«01_k».proof.Proof.KernelIdealTile

@[expose] public section

set_option maxRecDepth 16384

noncomputable section

namespace Cert.KernelIdeal.Body

open Idealize.ShloMosaic Idealize.ShloMosaic.TcCoe
open Idealize.SL Idealize.SL.RA Idealize.SL.BI Idealize.SL.Sem
open Idealize.SL.BI.BIBase Idealize.SL.BI.Laws
open Cert.KernelIdeal Cert.KernelIdeal.Gen Steps

variable {F : FTy → Type} [FloatOps F] {U : Type} [URA U]

local notation "𝕄" => MT nD τ sig Unit (Elt F) ℕ U ℕ

/-- What the weight buffer holds after the body at `i`. -/
def wAfter (i : grid0.Coords) (x2 : Vec F S2x96x256 .fp8e4m3) (x3 : Vec F S2x96x256 .f32) (x7 : Vec F S2x96x256 .bf16) : Vec F S2x96x256 .bf16 :=
  if (i 0).val = 0 then k0_pay118 x2 x3 else x7

/-- What the bias buffer holds after the body at `i`. -/
def brAfter (i : grid0.Coords) (x4 : Vec F S96x1 .f32) (x8 : Vec F S96x128 .f32) : Vec F S96x128 .f32 :=
  if (i 0).val = 0 then k0_pay119 x4 else x8

set_option maxRecDepth 65536 in
/-- The first conditional's test holds at the first grid point only. -/
theorem cond1_iff : ∀ i : grid0.Coords, Iff (Scalar.cmpi .ne (Scalar.extui (Scalar.cmpi .eq (BitVec.ofNat 32 (i 0).val) 0#32) : BitVec 32) 0#32 = 1#1) ((i 0).val = 0) := by decide +kernel

/-- The first part: the weights and the bias rows at the first grid point, then the first three octets of words. -/
theorem part51_runs (c : Dev nD) (R : sProp 𝕄) (i : grid0.Coords)
    (arg1 : Memref sig .tc .vmem S1x1008x128 .i32) (harg1 : arg1.IsWhole)
    (arg2 : Memref sig .tc .vmem S2x96x256 .fp8e4m3) (harg2 : arg2.IsWhole)
    (arg3 : Memref sig .tc .vmem S2x96x256 .f32) (harg3 : arg3.IsWhole)
    (arg4 : Memref sig .tc .vmem S96x1 .f32) (harg4 : arg4.IsWhole)
    (arg5 : Memref sig .tc .vmem S1x20x96x256 .bf16) (harg5 : arg5.IsWhole)
    (arg6 : Memref sig .tc .vmem S1x20x96x256 .bf16) (harg6 : arg6.IsWhole)
    (arg7 : Memref sig .tc .vmem S2x96x256 .bf16) (harg7 : arg7.IsWhole)
    (arg8 : Memref sig .tc .vmem S96x128 .f32) (harg8 : arg8.IsWhole)
    (arg9 : Memref sig .tc .vmem S2x2x2x672x2x128 .bf16) (harg9 : arg9.IsWhole)
    (x1 : Vec F S1x1008x128 .i32) (x2 : Vec F S2x96x256 .fp8e4m3) (x3 : Vec F S2x96x256 .f32) (x4 : Vec F S96x1 .f32)
    (x5 x6 : Vec F S1x20x96x256 .bf16) (x7 : Vec F S2x96x256 .bf16) (x8 : Vec F S96x128 .f32)
    (x9 : Vec F S2x2x2x672x2x128 .bf16)
    (K : _ → sProp 𝕄)
    (hK : ∀ v9 : BitVec 32, St c R arg1 arg2 arg3 arg4 arg5 arg6 arg7 arg8 arg9 x1 x2 x3 x4 x5 x6 (wAfter i x2 x3 x7) (brAfter i x4 x8) x9 ⊢
      K ⟨BitVec.ofNat 32 (i 0).val, v9, k0_pay120, k0_pay122 (octet x1 1 (by decide)), k0_pay124 (octet x1 2 (by decide)), k0_pay125 (octet x1 0 (by decide)) (octet x1 2 (by decide)),
        k0_pay128 (octet x1 0 (by decide)) (octet x1 1 (by decide)), k0_pay129 (octet x1 0 (by decide)) (octet x1 1 (by decide))⟩) :
    Runs (U := U) (defs₀ (F := F)) (c : Thread nD τ) (St c R arg1 arg2 arg3 arg4 arg5 arg6 arg7 arg8 arg9 x1 x2 x3 x4 x5 x6 x7 x8 x9)
      (k0_part51 i arg1 harg1 arg2 harg2 arg3 harg3 arg4 harg4 arg5 harg5 arg6 harg6 arg7 harg7 arg8 harg8 arg9 harg9) K := by
  rw [k0_part51_eq_skeleton]; unfold k0_part51_skel
  dsimp only
  refine Runs.dite (fun hi => ?_) (fun hi => ?_)
  ·
    have e1 : wAfter i x2 x3 x7 = k0_pay118 x2 x3 := if_pos ((cond1_iff i).mp hi)
    have e2 : brAfter i x4 x8 = k0_pay119 x4 := if_pos ((cond1_iff i).mp hi)
    rw [e1, e2] at hK
    refine Runs.loadWhole (swap2 _) (by decide) ?_
    refine Runs.loadWhole (swap3 _) (by decide) ?_
    refine Runs.loadWhole (swap7 _) (by decide) ?_
    refine Runs.store (swap7 (k0_pay118 x2 x3)) (put_whole _ _ (by decide) _) ?_
    refine Runs.loadWhole (swap4 _) (by decide) ?_
    refine Runs.loadWhole (swap8 _) (by decide) ?_
    refine Runs.store (swap8 (k0_pay119 x4)) (put_whole _ _ (by decide) _) ?_
    refine Runs.load (swap1 _) ?_
    refine Runs.load (swap1 _) ?_
    refine Runs.load (swap1 _) ?_
    refine Runs.pure ?_
    exact hK _
  ·
    have e1 : wAfter i x2 x3 x7 = x7 := if_neg fun h => hi ((cond1_iff i).mpr h)
    have e2 : brAfter i x4 x8 = x8 := if_neg fun h => hi ((cond1_iff i).mpr h)
    rw [e1, e2] at hK
    refine Runs.load (swap1 _) ?_
    refine Runs.load (swap1 _) ?_
    refine Runs.load (swap1 _) ?_
    refine Runs.pure ?_
    exact hK _

set_option maxHeartbeats 0 in
/-- The first half of the body, but for its last two stores. -/
theorem part99_runs (c : Dev nD) (R : sProp 𝕄) (i : grid0.Coords)
    (arg1 : Memref sig .tc .vmem S1x1008x128 .i32) (harg1 : arg1.IsWhole)
    (arg2 : Memref sig .tc .vmem S2x96x256 .fp8e4m3) (harg2 : arg2.IsWhole)
    (arg3 : Memref sig .tc .vmem S2x96x256 .f32) (harg3 : arg3.IsWhole)
    (arg4 : Memref sig .tc .vmem S96x1 .f32) (harg4 : arg4.IsWhole)
    (arg5 : Memref sig .tc .vmem S1x20x96x256 .bf16) (harg5 : arg5.IsWhole)
    (arg6 : Memref sig .tc .vmem S1x20x96x256 .bf16) (harg6 : arg6.IsWhole)
    (arg7 : Memref sig .tc .vmem S2x96x256 .bf16) (harg7 : arg7.IsWhole)
    (arg8 : Memref sig .tc .vmem S96x128 .f32) (harg8 : arg8.IsWhole)
    (arg9 : Memref sig .tc .vmem S2x2x2x672x2x128 .bf16) (harg9 : arg9.IsWhole)
    (x1 : Vec F S1x1008x128 .i32) (x2 : Vec F S2x96x256 .fp8e4m3) (x3 : Vec F S2x96x256 .f32) (x4 : Vec F S96x1 .f32)
    (x5 x6 : Vec F S1x20x96x256 .bf16) (x7 : Vec F S2x96x256 .bf16) (x8 : Vec F S96x128 .f32)
    (x9 : Vec F S2x2x2x672x2x128 .bf16)
    (K : _ → sProp 𝕄)
    (hK : ∀ r, k0_pay1 r.2.2.2.2.2.1 r.2.2.2.2.2.2.1 = pieceAt x1 0 20 1 (by decide) (by decide) →
      k0_pay2 (F := F) r.2.2.1 r.2.2.2.1 r.2.2.2.2.1 = pieceAt x1 1 20 1 (by decide) (by decide) →
      St c R arg1 arg2 arg3 arg4 arg5 arg6 arg7 arg8 arg9 x1 x2 x3 x4 x5 x6 (wAfter i x2 x3 x7) (brAfter i x4 x8) (fill (rank9 i) (blocks x1) x9 82) ⊢ K r) :
    Runs (U := U) (defs₀ (F := F)) (c : Thread nD τ) (St c R arg1 arg2 arg3 arg4 arg5 arg6 arg7 arg8 arg9 x1 x2 x3 x4 x5 x6 x7 x8 x9)
      (k0_part99 i arg1 harg1 arg2 harg2 arg3 harg3 arg4 harg4 arg5 harg5 arg6 harg6 arg7 harg7 arg8 harg8 arg9 harg9) K := by
  rw [← fill_zero (rank9 i) (blocks x1) x9]
  rw [k0_part99_eq_skeleton]; unfold k0_part99_skel
  refine Runs.bind (part51_runs c R i arg1 harg1 arg2 harg2 arg3 harg3 arg4 harg4 arg5 harg5 arg6 harg6 arg7 harg7 arg8 harg8 arg9 harg9 x1 x2 x3 x4 x5 x6 x7 x8 _ _ fun _ => ?_)
  dsimp only
  refine Runs.intro ?_
  refine Runs.bind ?_
  rw [k0_part52_eq_skeleton]; unfold k0_part52_skel
  refine Runs.load (swap9 _) ?_
  refine Runs.store (swap9 _) (put_piece 0 0 0 (by decide) (by decide) (by decide) rfl (by rfl) (by chain_rfl)) ?_
  refine Runs.load (swap9 _) ?_
  refine Runs.store (swap9 _) (put_piece 1 0 0 (by decide) (by decide) (by decide) rfl (by rfl) (by chain_rfl)) ?_
  refine Runs.load (swap1 _) ?_
  refine Runs.load (swap1 _) ?_
  refine Runs.load (swap1 _) ?_
  refine Runs.pure ?_
  dsimp only
  refine Runs.intro ?_
  refine Runs.bind ?_
  rw [k0_part53_eq_skeleton]; unfold k0_part53_skel
  refine Runs.load (swap9 _) ?_
  refine Runs.store (swap9 _) (put_piece 0 1 0 (by decide) (by decide) (by decide) rfl (by rfl) (by chain_rfl)) ?_
  refine Runs.load (swap9 _) ?_
  refine Runs.store (swap9 _) (put_piece 1 1 0 (by decide) (by decide) (by decide) rfl (by rfl) (by chain_rfl)) ?_
  refine Runs.load (swap1 _) ?_
  refine Runs.load (swap1 _) ?_
  refine Runs.load (swap1 _) ?_
  refine Runs.pure ?_
  dsimp only
  refine Runs.intro ?_
  refine Runs.bind ?_
  rw [k0_part54_eq_skeleton]; unfold k0_part54_skel
  refine Runs.load (swap9 _) ?_
  refine Runs.store (swap9 _) (put_piece 0 0 1 (by decide) (by decide) (by decide) rfl (by rfl) (by chain_rfl)) ?_
  refine Runs.load (swap9 _) ?_
  refine Runs.store (swap9 _) (put_piece 1 0 1 (by decide) (by decide) (by decide) rfl (by rfl) (by chain_rfl)) ?_
  refine Runs.load (swap1 _) ?_
  refine Runs.pure ?_
  dsimp only
  refine Runs.intro ?_
  refine Runs.bind ?_
  rw [k0_part55_eq_skeleton]; unfold k0_part55_skel
  refine Runs.load (swap1 _) ?_
  refine Runs.load (swap1 _) ?_
  refine Runs.load (swap9 _) ?_
  refine Runs.store (swap9 _) (put_piece 0 1 1 (by decide) (by decide) (by decide) rfl (by rfl) (by chain_rfl)) ?_
  refine Runs.load (swap9 _) ?_
  refine Runs.pure ?_
  dsimp only
  refine Runs.intro ?_
  refine Runs.bind ?_
  rw [k0_part56_eq_skeleton]; unfold k0_part56_skel
  refine Runs.store (swap9 _) (put_piece 1 1 1 (by decide) (by decide) (by decide) rfl (by rfl) (by chain_rfl)) ?_
  refine Runs.load (swap1 _) ?_
  refine Runs.load (swap1 _) ?_
  refine Runs.load (swap1 _) ?_
  refine Runs.load (swap9 _) ?_
  refine Runs.store (swap9 _) (put_piece 0 0 2 (by decide) (by decide) (by decide) rfl (by rfl) (by chain_rfl)) ?_
  refine Runs.pure ?_
  dsimp only
  refine Runs.intro ?_
  refine Runs.bind ?_
  rw [k0_part57_eq_skeleton]; unfold k0_part57_skel
  refine Runs.load (swap9 _) ?_
  refine Runs.store (swap9 _) (put_piece 1 0 2 (by decide) (by decide) (by decide) rfl (by rfl) (by chain_rfl)) ?_
  refine Runs.load (swap1 _) ?_
  refine Runs.load (swap1 _) ?_
  refine Runs.load (swap1 _) ?_
  refine Runs.load (swap9 _) ?_
  refine Runs.store (swap9 _) (put_piece 0 1 2 (by decide) (by decide) (by decide) rfl (by rfl) (by chain_rfl)) ?_
  refine Runs.pure ?_
  dsimp only
  refine Runs.intro ?_
  refine Runs.bind ?_
  rw [k0_part58_eq_skeleton]; unfold k0_part58_skel
  refine Runs.load (swap9 _) ?_
  refine Runs.store (swap9 _) (put_piece 1 1 2 (by decide) (by decide) (by decide) rfl (by rfl) (by chain_rfl)) ?_
  refine Runs.load (swap1 _) ?_
  refine Runs.load (swap1 _) ?_
  refine Runs.load (swap1 _) ?_
  refine Runs.load (swap9 _) ?_
  refine Runs.pure ?_
  dsimp only
  refine Runs.intro ?_
  refine Runs.bind ?_
  rw [k0_part59_eq_skeleton]; unfold k0_part59_skel
  refine Runs.store (swap9 _) (put_piece 0 0 3 (by decide) (by decide) (by decide) rfl (by rfl) (by chain_rfl)) ?_
  refine Runs.load (swap9 _) ?_
  refine Runs.store (swap9 _) (put_piece 1 0 3 (by decide) (by decide) (by decide) rfl (by rfl) (by chain_rfl)) ?_
  refine Runs.load (swap1 _) ?_
  refine Runs.load (swap1 _) ?_
  refine Runs.load (swap1 _) ?_
  refine Runs.pure ?_
  dsimp only
  refine Runs.intro ?_
  refine Runs.bind ?_
  rw [k0_part60_eq_skeleton]; unfold k0_part60_skel
  refine Runs.load (swap9 _) ?_
  refine Runs.store (swap9 _) (put_piece 0 1 3 (by decide) (by decide) (by decide) rfl (by rfl) (by chain_rfl)) ?_
  refine Runs.load (swap9 _) ?_
  refine Runs.store (swap9 _) (put_piece 1 1 3 (by decide) (by decide) (by decide) rfl (by rfl) (by chain_rfl)) ?_
  refine Runs.load (swap1 _) ?_
  refine Runs.load (swap1 _) ?_
  refine Runs.load (swap1 _) ?_
  refine Runs.pure ?_
  dsimp only
  refine Runs.intro ?_
  refine Runs.bind ?_
  rw [k0_part61_eq_skeleton]; unfold k0_part61_skel
  refine Runs.load (swap9 _) ?_
  refine Runs.store (swap9 _) (put_piece 0 0 4 (by decide) (by decide) (by decide) rfl (by rfl) (by chain_rfl)) ?_
  refine Runs.load (swap9 _) ?_
  refine Runs.store (swap9 _) (put_piece 1 0 4 (by decide) (by decide) (by decide) rfl (by rfl) (by chain_rfl)) ?_
  refine Runs.load (swap1 _) ?_
  refine Runs.load (swap1 _) ?_
  refine Runs.pure ?_
  dsimp only
  refine Runs.intro ?_
  refine Runs.bind ?_
  rw [k0_part62_eq_skeleton]; unfold k0_part62_skel
  refine Runs.load (swap1 _) ?_
  refine Runs.load (swap9 _) ?_
  refine Runs.store (swap9 _) (put_piece 0 1 4 (by decide) (by decide) (by decide) rfl (by rfl) (by chain_rfl)) ?_
  refine Runs.load (swap9 _) ?_
  refine Runs.store (swap9 _) (put_piece 1 1 4 (by decide) (by decide) (by decide) rfl (by rfl) (by chain_rfl)) ?_
  refine Runs.pure ?_
  dsimp only
  refine Runs.intro ?_
  refine Runs.bind ?_
  rw [k0_part63_eq_skeleton]; unfold k0_part63_skel
  refine Runs.load (swap1 _) ?_
  refine Runs.load (swap1 _) ?_
  refine Runs.load (swap1 _) ?_
  refine Runs.load (swap9 _) ?_
  refine Runs.store (swap9 _) (put_piece 0 0 5 (by decide) (by decide) (by decide) rfl (by rfl) (by chain_rfl)) ?_
  refine Runs.load (swap9 _) ?_
  refine Runs.pure ?_
  dsimp only
  refine Runs.intro ?_
  refine Runs.bind ?_
  rw [k0_part64_eq_skeleton]; unfold k0_part64_skel
  refine Runs.store (swap9 _) (put_piece 1 0 5 (by decide) (by decide) (by decide) rfl (by rfl) (by chain_rfl)) ?_
  refine Runs.load (swap1 _) ?_
  refine Runs.load (swap1 _) ?_
  refine Runs.load (swap1 _) ?_
  refine Runs.load (swap9 _) ?_
  refine Runs.store (swap9 _) (put_piece 0 1 5 (by decide) (by decide) (by decide) rfl (by rfl) (by chain_rfl)) ?_
  refine Runs.pure ?_
  dsimp only
  refine Runs.intro ?_
  refine Runs.bind ?_
  rw [k0_part65_eq_skeleton]; unfold k0_part65_skel
  refine Runs.load (swap9 _) ?_
  refine Runs.store (swap9 _) (put_piece 1 1 5 (by decide) (by decide) (by decide) rfl (by rfl) (by chain_rfl)) ?_
  refine Runs.load (swap1 _) ?_
  refine Runs.load (swap1 _) ?_
  refine Runs.load (swap1 _) ?_
  refine Runs.load (swap9 _) ?_
  refine Runs.store (swap9 _) (put_piece 0 0 6 (by decide) (by decide) (by decide) rfl (by rfl) (by chain_rfl)) ?_
  refine Runs.pure ?_
  dsimp only
  refine Runs.intro ?_
  refine Runs.bind ?_
  rw [k0_part66_eq_skeleton]; unfold k0_part66_skel
  refine Runs.load (swap9 _) ?_
  refine Runs.store (swap9 _) (put_piece 1 0 6 (by decide) (by decide) (by decide) rfl (by rfl) (by chain_rfl)) ?_
  refine Runs.load (swap1 _) ?_
  refine Runs.load (swap1 _) ?_
  refine Runs.load (swap1 _) ?_
  refine Runs.load (swap9 _) ?_
  refine Runs.pure ?_
  dsimp only
  refine Runs.intro ?_
  refine Runs.bind ?_
  rw [k0_part67_eq_skeleton]; unfold k0_part67_skel
  refine Runs.store (swap9 _) (put_piece 0 1 6 (by decide) (by decide) (by decide) rfl (by rfl) (by chain_rfl)) ?_
  refine Runs.load (swap9 _) ?_
  refine Runs.store (swap9 _) (put_piece 1 1 6 (by decide) (by decide) (by decide) rfl (by rfl) (by chain_rfl)) ?_
  refine Runs.load (swap1 _) ?_
  refine Runs.load (swap1 _) ?_
  refine Runs.load (swap1 _) ?_
  refine Runs.pure ?_
  dsimp only
  refine Runs.intro ?_
  refine Runs.bind ?_
  rw [k0_part68_eq_skeleton]; unfold k0_part68_skel
  refine Runs.load (swap9 _) ?_
  refine Runs.store (swap9 _) (put_piece 0 0 7 (by decide) (by decide) (by decide) rfl (by rfl) (by chain_rfl)) ?_
  refine Runs.load (swap9 _) ?_
  refine Runs.store (swap9 _) (put_piece 1 0 7 (by decide) (by decide) (by decide) rfl (by rfl) (by chain_rfl)) ?_
  refine Runs.load (swap1 _) ?_
  refine Runs.load (swap1 _) ?_
  refine Runs.load (swap1 _) ?_
  refine Runs.pure ?_
  dsimp only
  refine Runs.intro ?_
  refine Runs.bind ?_
  rw [k0_part69_eq_skeleton]; unfold k0_part69_skel
  refine Runs.load (swap9 _) ?_
  refine Runs.store (swap9 _) (put_piece 0 1 7 (by decide) (by decide) (by decide) rfl (by rfl) (by chain_rfl)) ?_
  refine Runs.load (swap9 _) ?_
  refine Runs.store (swap9 _) (put_piece 1 1 7 (by decide) (by decide) (by decide) rfl (by rfl) (by chain_rfl)) ?_
  refine Runs.load (swap1 _) ?_
  refine Runs.load (swap1 _) ?_
  refine Runs.pure ?_
  dsimp only
  refine Runs.intro ?_
  refine Runs.bind ?_
  rw [k0_part70_eq_skeleton]; unfold k0_part70_skel
  refine Runs.load (swap1 _) ?_
  refine Runs.load (swap9 _) ?_
  refine Runs.store (swap9 _) (put_piece 0 0 8 (by decide) (by decide) (by decide) rfl (by rfl) (by chain_rfl)) ?_
  refine Runs.load (swap9 _) ?_
  refine Runs.store (swap9 _) (put_piece 1 0 8 (by decide) (by decide) (by decide) rfl (by rfl) (by chain_rfl)) ?_
  refine Runs.pure ?_
  dsimp only
  refine Runs.intro ?_
  refine Runs.bind ?_
  rw [k0_part71_eq_skeleton]; unfold k0_part71_skel
  refine Runs.load (swap1 _) ?_
  refine Runs.load (swap1 _) ?_
  refine Runs.load (swap1 _) ?_
  refine Runs.load (swap9 _) ?_
  refine Runs.store (swap9 _) (put_piece 0 1 8 (by decide) (by decide) (by decide) rfl (by rfl) (by chain_rfl)) ?_
  refine Runs.pure ?_
  dsimp only
  refine Runs.intro ?_
  refine Runs.bind ?_
  rw [k0_part72_eq_skeleton]; unfold k0_part72_skel
  refine Runs.load (swap9 _) ?_
  refine Runs.store (swap9 _) (put_piece 1 1 8 (by decide) (by decide) (by decide) rfl (by rfl) (by chain_rfl)) ?_
  refine Runs.load (swap1 _) ?_
  refine Runs.load (swap1 _) ?_
  refine Runs.load (swap1 _) ?_
  refine Runs.load (swap9 _) ?_
  refine Runs.store (swap9 _) (put_piece 0 0 9 (by decide) (by decide) (by decide) rfl (by rfl) (by chain_rfl)) ?_
  refine Runs.pure ?_
  dsimp only
  refine Runs.intro ?_
  refine Runs.bind ?_
  rw [k0_part73_eq_skeleton]; unfold k0_part73_skel
  refine Runs.load (swap9 _) ?_
  refine Runs.store (swap9 _) (put_piece 1 0 9 (by decide) (by decide) (by decide) rfl (by rfl) (by chain_rfl)) ?_
  refine Runs.load (swap1 _) ?_
  refine Runs.load (swap1 _) ?_
  refine Runs.load (swap1 _) ?_
  refine Runs.load (swap9 _) ?_
  refine Runs.pure ?_
  dsimp only
  refine Runs.intro ?_
  refine Runs.bind ?_
  rw [k0_part74_eq_skeleton]; unfold k0_part74_skel
  refine Runs.store (swap9 _) (put_piece 0 1 9 (by decide) (by decide) (by decide) rfl (by rfl) (by chain_rfl)) ?_
  refine Runs.load (swap9 _) ?_
  refine Runs.store (swap9 _) (put_piece 1 1 9 (by decide) (by decide) (by decide) rfl (by rfl) (by chain_rfl)) ?_
  refine Runs.load (swap1 _) ?_
  refine Runs.load (swap1 _) ?_
  refine Runs.load (swap1 _) ?_
  refine Runs.pure ?_
  dsimp only
  refine Runs.intro ?_
  refine Runs.bind ?_
  rw [k0_part75_eq_skeleton]; unfold k0_part75_skel
  refine Runs.load (swap9 _) ?_
  refine Runs.store (swap9 _) (put_piece 0 0 10 (by decide) (by decide) (by decide) rfl (by rfl) (by chain_rfl)) ?_
  refine Runs.load (swap9 _) ?_
  refine Runs.store (swap9 _) (put_piece 1 0 10 (by decide) (by decide) (by decide) rfl (by rfl) (by chain_rfl)) ?_
  refine Runs.load (swap1 _) ?_
  refine Runs.load (swap1 _) ?_
  refine Runs.load (swap1 _) ?_
  refine Runs.pure ?_
  dsimp only
  refine Runs.intro ?_
  refine Runs.bind ?_
  rw [k0_part76_eq_skeleton]; unfold k0_part76_skel
  refine Runs.load (swap9 _) ?_
  refine Runs.store (swap9 _) (put_piece 0 1 10 (by decide) (by decide) (by decide) rfl (by rfl) (by chain_rfl)) ?_
  refine Runs.load (swap9 _) ?_
  refine Runs.store (swap9 _) (put_piece 1 1 10 (by decide) (by decide) (by decide) rfl (by rfl) (by chain_rfl)) ?_
  refine Runs.load (swap1 _) ?_
  refine Runs.load (swap1 _) ?_
  refine Runs.load (swap1 _) ?_
  refine Runs.pure ?_
  dsimp only
  refine Runs.intro ?_
  refine Runs.bind ?_
  rw [k0_part77_eq_skeleton]; unfold k0_part77_skel
  refine Runs.load (swap9 _) ?_
  refine Runs.store (swap9 _) (put_piece 0 0 11 (by decide) (by decide) (by decide) rfl (by rfl) (by chain_rfl)) ?_
  refine Runs.load (swap9 _) ?_
  refine Runs.store (swap9 _) (put_piece 1 0 11 (by decide) (by decide) (by decide) rfl (by rfl) (by chain_rfl)) ?_
  refine Runs.load (swap1 _) ?_
  refine Runs.pure ?_
  dsimp only
  refine Runs.intro ?_
  refine Runs.bind ?_
  rw [k0_part78_eq_skeleton]; unfold k0_part78_skel
  refine Runs.load (swap1 _) ?_
  refine Runs.load (swap1 _) ?_
  refine Runs.load (swap9 _) ?_
  refine Runs.store (swap9 _) (put_piece 0 1 11 (by decide) (by decide) (by decide) rfl (by rfl) (by chain_rfl)) ?_
  refine Runs.load (swap9 _) ?_
  refine Runs.pure ?_
  dsimp only
  refine Runs.intro ?_
  refine Runs.bind ?_
  rw [k0_part79_eq_skeleton]; unfold k0_part79_skel
  refine Runs.store (swap9 _) (put_piece 1 1 11 (by decide) (by decide) (by decide) rfl (by rfl) (by chain_rfl)) ?_
  refine Runs.load (swap1 _) ?_
  refine Runs.load (swap1 _) ?_
  refine Runs.load (swap1 _) ?_
  refine Runs.load (swap9 _) ?_
  refine Runs.store (swap9 _) (put_piece 0 0 12 (by decide) (by decide) (by decide) rfl (by rfl) (by chain_rfl)) ?_
  refine Runs.pure ?_
  dsimp only
  refine Runs.intro ?_
  refine Runs.bind ?_
  rw [k0_part80_eq_skeleton]; unfold k0_part80_skel
  refine Runs.load (swap9 _) ?_
  refine Runs.store (swap9 _) (put_piece 1 0 12 (by decide) (by decide) (by decide) rfl (by rfl) (by chain_rfl)) ?_
  refine Runs.load (swap1 _) ?_
  refine Runs.load (swap1 _) ?_
  refine Runs.load (swap1 _) ?_
  refine Runs.load (swap9 _) ?_
  refine Runs.store (swap9 _) (put_piece 0 1 12 (by decide) (by decide) (by decide) rfl (by rfl) (by chain_rfl)) ?_
  refine Runs.pure ?_
  dsimp only
  refine Runs.intro ?_
  refine Runs.bind ?_
  rw [k0_part81_eq_skeleton]; unfold k0_part81_skel
  refine Runs.load (swap9 _) ?_
  refine Runs.store (swap9 _) (put_piece 1 1 12 (by decide) (by decide) (by decide) rfl (by rfl) (by chain_rfl)) ?_
  refine Runs.load (swap1 _) ?_
  refine Runs.load (swap1 _) ?_
  refine Runs.load (swap1 _) ?_
  refine Runs.load (swap9 _) ?_
  refine Runs.pure ?_
  dsimp only
  refine Runs.intro ?_
  refine Runs.bind ?_
  rw [k0_part82_eq_skeleton]; unfold k0_part82_skel
  refine Runs.store (swap9 _) (put_piece 0 0 13 (by decide) (by decide) (by decide) rfl (by rfl) (by chain_rfl)) ?_
  refine Runs.load (swap9 _) ?_
  refine Runs.store (swap9 _) (put_piece 1 0 13 (by decide) (by decide) (by decide) rfl (by rfl) (by chain_rfl)) ?_
  refine Runs.load (swap1 _) ?_
  refine Runs.load (swap1 _) ?_
  refine Runs.load (swap1 _) ?_
  refine Runs.pure ?_
  dsimp only
  refine Runs.intro ?_
  refine Runs.bind ?_
  rw [k0_part83_eq_skeleton]; unfold k0_part83_skel
  refine Runs.load (swap9 _) ?_
  refine Runs.store (swap9 _) (put_piece 0 1 13 (by decide) (by decide) (by decide) rfl (by rfl) (by chain_rfl)) ?_
  refine Runs.load (swap9 _) ?_
  refine Runs.store (swap9 _) (put_piece 1 1 13 (by decide) (by decide) (by decide) rfl (by rfl) (by chain_rfl)) ?_
  refine Runs.load (swap1 _) ?_
  refine Runs.load (swap1 _) ?_
  refine Runs.load (swap1 _) ?_
  refine Runs.pure ?_
  dsimp only
  refine Runs.intro ?_
  refine Runs.bind ?_
  rw [k0_part84_eq_skeleton]; unfold k0_part84_skel
  refine Runs.load (swap9 _) ?_
  refine Runs.store (swap9 _) (put_piece 0 0 14 (by decide) (by decide) (by decide) rfl (by rfl) (by chain_rfl)) ?_
  refine Runs.load (swap9 _) ?_
  refine Runs.store (swap9 _) (put_piece 1 0 14 (by decide) (by decide) (by decide) rfl (by rfl) (by chain_rfl)) ?_
  refine Runs.load (swap1 _) ?_
  refine Runs.load (swap1 _) ?_
  refine Runs.pure ?_
  dsimp only
  refine Runs.intro ?_
  refine Runs.bind ?_
  rw [k0_part85_eq_skeleton]; unfold k0_part85_skel
  refine Runs.load (swap1 _) ?_
  refine Runs.load (swap9 _) ?_
  refine Runs.store (swap9 _) (put_piece 0 1 14 (by decide) (by decide) (by decide) rfl (by rfl) (by chain_rfl)) ?_
  refine Runs.load (swap9 _) ?_
  refine Runs.store (swap9 _) (put_piece 1 1 14 (by decide) (by decide) (by decide) rfl (by rfl) (by chain_rfl)) ?_
  refine Runs.pure ?_
  dsimp only
  refine Runs.intro ?_
  refine Runs.bind ?_
  rw [k0_part86_eq_skeleton]; unfold k0_part86_skel
  refine Runs.load (swap1 _) ?_
  refine Runs.load (swap1 _) ?_
  refine Runs.load (swap1 _) ?_
  refine Runs.load (swap9 _) ?_
  refine Runs.store (swap9 _) (put_piece 0 0 15 (by decide) (by decide) (by decide) rfl (by rfl) (by chain_rfl)) ?_
  refine Runs.load (swap9 _) ?_
  refine Runs.pure ?_
  dsimp only
  refine Runs.intro ?_
  refine Runs.bind ?_
  rw [k0_part87_eq_skeleton]; unfold k0_part87_skel
  refine Runs.store (swap9 _) (put_piece 1 0 15 (by decide) (by decide) (by decide) rfl (by rfl) (by chain_rfl)) ?_
  refine Runs.load (swap1 _) ?_
  refine Runs.load (swap1 _) ?_
  refine Runs.load (swap1 _) ?_
  refine Runs.load (swap9 _) ?_
  refine Runs.store (swap9 _) (put_piece 0 1 15 (by decide) (by decide) (by decide) rfl (by rfl) (by chain_rfl)) ?_
  refine Runs.pure ?_
  dsimp only
  refine Runs.intro ?_
  refine Runs.bind ?_
  rw [k0_part88_eq_skeleton]; unfold k0_part88_skel
  refine Runs.load (swap9 _) ?_
  refine Runs.store (swap9 _) (put_piece 1 1 15 (by decide) (by decide) (by decide) rfl (by rfl) (by chain_rfl)) ?_
  refine Runs.load (swap1 _) ?_
  refine Runs.load (swap1 _) ?_
  refine Runs.load (swap1 _) ?_
  refine Runs.load (swap9 _) ?_
  refine Runs.store (swap9 _) (put_piece 0 0 16 (by decide) (by decide) (by decide) rfl (by rfl) (by chain_rfl)) ?_
  refine Runs.pure ?_
  dsimp only
  refine Runs.intro ?_
  refine Runs.bind ?_
  rw [k0_part89_eq_skeleton]; unfold k0_part89_skel
  refine Runs.load (swap9 _) ?_
  refine Runs.store (swap9 _) (put_piece 1 0 16 (by decide) (by decide) (by decide) rfl (by rfl) (by chain_rfl)) ?_
  refine Runs.load (swap1 _) ?_
  refine Runs.load (swap1 _) ?_
  refine Runs.load (swap1 _) ?_
  refine Runs.load (swap9 _) ?_
  refine Runs.pure ?_
  dsimp only
  refine Runs.intro ?_
  refine Runs.bind ?_
  rw [k0_part90_eq_skeleton]; unfold k0_part90_skel
  refine Runs.store (swap9 _) (put_piece 0 1 16 (by decide) (by decide) (by decide) rfl (by rfl) (by chain_rfl)) ?_
  refine Runs.load (swap9 _) ?_
  refine Runs.store (swap9 _) (put_piece 1 1 16 (by decide) (by decide) (by decide) rfl (by rfl) (by chain_rfl)) ?_
  refine Runs.load (swap1 _) ?_
  refine Runs.load (swap1 _) ?_
  refine Runs.load (swap1 _) ?_
  refine Runs.pure ?_
  dsimp only
  refine Runs.intro ?_
  refine Runs.bind ?_
  rw [k0_part91_eq_skeleton]; unfold k0_part91_skel
  refine Runs.load (swap9 _) ?_
  refine Runs.store (swap9 _) (put_piece 0 0 17 (by decide) (by decide) (by decide) rfl (by rfl) (by chain_rfl)) ?_
  refine Runs.load (swap9 _) ?_
  refine Runs.store (swap9 _) (put_piece 1 0 17 (by decide) (by decide) (by decide) rfl (by rfl) (by chain_rfl)) ?_
  refine Runs.load (swap1 _) ?_
  refine Runs.load (swap1 _) ?_
  refine Runs.load (swap1 _) ?_
  refine Runs.pure ?_
  dsimp only
  refine Runs.intro ?_
  refine Runs.bind ?_
  rw [k0_part92_eq_skeleton]; unfold k0_part92_skel
  refine Runs.load (swap9 _) ?_
  refine Runs.store (swap9 _) (put_piece 0 1 17 (by decide) (by decide) (by decide) rfl (by rfl) (by chain_rfl)) ?_
  refine Runs.load (swap9 _) ?_
  refine Runs.store (swap9 _) (put_piece 1 1 17 (by decide) (by decide) (by decide) rfl (by rfl) (by chain_rfl)) ?_
  refine Runs.load (swap1 _) ?_
  refine Runs.load (swap1 _) ?_
  refine Runs.pure ?_
  dsimp only
  refine Runs.intro ?_
  refine Runs.bind ?_
  rw [k0_part93_eq_skeleton]; unfold k0_part93_skel
  refine Runs.load (swap1 _) ?_
  refine Runs.load (swap9 _) ?_
  refine Runs.store (swap9 _) (put_piece 0 0 18 (by decide) (by decide) (by decide) rfl (by rfl) (by chain_rfl)) ?_
  refine Runs.load (swap9 _) ?_
  refine Runs.store (swap9 _) (put_piece 1 0 18 (by decide) (by decide) (by decide) rfl (by rfl) (by chain_rfl)) ?_
  refine Runs.pure ?_
  dsimp only
  refine Runs.intro ?_
  refine Runs.bind ?_
  rw [k0_part94_eq_skeleton]; unfold k0_part94_skel
  refine Runs.load (swap1 _) ?_
  refine Runs.load (swap1 _) ?_
  refine Runs.load (swap1 _) ?_
  refine Runs.load (swap9 _) ?_
  refine Runs.store (swap9 _) (put_piece 0 1 18 (by decide) (by decide) (by decide) rfl (by rfl) (by chain_rfl)) ?_
  refine Runs.pure ?_
  dsimp only
  refine Runs.intro ?_
  refine Runs.bind ?_
  rw [k0_part95_eq_skeleton]; unfold k0_part95_skel
  refine Runs.load (swap9 _) ?_
  refine Runs.store (swap9 _) (put_piece 1 1 18 (by decide) (by decide) (by decide) rfl (by rfl) (by chain_rfl)) ?_
  refine Runs.load (swap1 _) ?_
  refine Runs.load (swap1 _) ?_
  refine Runs.load (swap1 _) ?_
  refine Runs.load (swap9 _) ?_
  refine Runs.store (swap9 _) (put_piece 0 0 19 (by decide) (by decide) (by decide) rfl (by rfl) (by chain_rfl)) ?_
  refine Runs.pure ?_
  dsimp only
  refine Runs.intro ?_
  refine Runs.bind ?_
  rw [k0_part96_eq_skeleton]; unfold k0_part96_skel
  refine Runs.load (swap9 _) ?_
  refine Runs.store (swap9 _) (put_piece 1 0 19 (by decide) (by decide) (by decide) rfl (by rfl) (by chain_rfl)) ?_
  refine Runs.load (swap1 _) ?_
  refine Runs.load (swap1 _) ?_
  refine Runs.load (swap1 _) ?_
  refine Runs.load (swap9 _) ?_
  refine Runs.pure ?_
  dsimp only
  refine Runs.intro ?_
  refine Runs.bind ?_
  rw [k0_part97_eq_skeleton]; unfold k0_part97_skel
  refine Runs.store (swap9 _) (put_piece 0 1 19 (by decide) (by decide) (by decide) rfl (by rfl) (by chain_rfl)) ?_
  refine Runs.load (swap9 _) ?_
  refine Runs.store (swap9 _) (put_piece 1 1 19 (by decide) (by decide) (by decide) rfl (by rfl) (by chain_rfl)) ?_
  refine Runs.load (swap1 _) ?_
  refine Runs.load (swap1 _) ?_
  refine Runs.load (swap1 _) ?_
  refine Runs.pure ?_
  dsimp only
  refine Runs.intro ?_
  refine Runs.bind ?_
  rw [k0_part98_eq_skeleton]; unfold k0_part98_skel
  refine Runs.load (swap9 _) ?_
  refine Runs.store (swap9 _) (put_piece 0 0 20 (by decide) (by decide) (by decide) rfl (by rfl) (by chain_rfl)) ?_
  refine Runs.load (swap9 _) ?_
  refine Runs.store (swap9 _) (put_piece 1 0 20 (by decide) (by decide) (by decide) rfl (by rfl) (by chain_rfl)) ?_
  refine Runs.load (swap1 _) ?_
  refine Runs.load (swap1 _) ?_
  refine Runs.load (swap1 _) ?_
  refine Runs.pure ?_
  dsimp only
  refine Runs.intro ?_
  refine Runs.load (swap9 _) ?_
  refine Runs.pure ?_
  exact hK _ (by chain_rfl) (by chain_rfl)

end Cert.KernelIdeal.Body
-- ==== Proof.KernelIdealRows.lean ====
/- The second half of the kernel body of `KernelIdeal`, up to its last store: the output rows are filled position by position. -/
module

public import proofs.«01_k».proof.Proof.KernelIdealTile

@[expose] public section

set_option maxRecDepth 16384

noncomputable section

namespace Cert.KernelIdeal.Body

open Idealize.ShloMosaic Idealize.ShloMosaic.TcCoe
open Idealize.SL Idealize.SL.RA Idealize.SL.BI Idealize.SL.Sem
open Idealize.SL.BI.BIBase Idealize.SL.BI.Laws
open Cert.KernelIdeal Cert.KernelIdeal.Gen Steps

variable {F : FTy → Type} [FloatOps F] {U : Type} [URA U]

local notation "𝕄" => MT nD τ sig Unit (Elt F) ℕ U ℕ

set_option maxHeartbeats 0 in
/-- The second half of the body, but for its last store. -/
theorem part50_runs (c : Dev nD) (R : sProp 𝕄) (i : grid0.Coords)
    (arg1 : Memref sig .tc .vmem S1x1008x128 .i32) (harg1 : arg1.IsWhole)
    (arg2 : Memref sig .tc .vmem S2x96x256 .fp8e4m3) (harg2 : arg2.IsWhole)
    (arg3 : Memref sig .tc .vmem S2x96x256 .f32) (harg3 : arg3.IsWhole)
    (arg4 : Memref sig .tc .vmem S96x1 .f32) (harg4 : arg4.IsWhole)
    (arg5 : Memref sig .tc .vmem S1x20x96x256 .bf16) (harg5 : arg5.IsWhole)
    (arg6 : Memref sig .tc .vmem S1x20x96x256 .bf16) (harg6 : arg6.IsWhole)
    (arg7 : Memref sig .tc .vmem S2x96x256 .bf16) (harg7 : arg7.IsWhole)
    (arg8 : Memref sig .tc .vmem S96x128 .f32) (harg8 : arg8.IsWhole)
    (arg9 : Memref sig .tc .vmem S2x2x2x672x2x128 .bf16) (harg9 : arg9.IsWhole)
    (x1 : Vec F S1x1008x128 .i32) (x2 : Vec F S2x96x256 .fp8e4m3) (x3 : Vec F S2x96x256 .f32) (x4 : Vec F S96x1 .f32)
    (x5 x6 : Vec F S1x20x96x256 .bf16) (x7 : Vec F S2x96x256 .bf16) (x8 : Vec F S96x128 .f32)
    (x9 : Vec F S2x2x2x672x2x128 .bf16)
    (v9 : BitVec 32) (k0_h2 : k0_cond2 i = 1#1) (K : _ → sProp 𝕄)
    (hK : ∀ r, k0_pay3 r.1 r.2 = dotTile i x7 x8 x9 1 19 (by decide) (by decide) →
      St c R arg1 arg2 arg3 arg4 arg5 arg6 arg7 arg8 arg9 x1 x2 x3 x4 (fill rank5 (outRow i x7 x8 x9 0 (by decide)) x5 20) (fill rank5 (outRow i x7 x8 x9 1 (by decide)) x6 19) x7 x8 x9 ⊢ K r) :
    Runs (U := U) (defs₀ (F := F)) (c : Thread nD τ) (St c R arg1 arg2 arg3 arg4 arg5 arg6 arg7 arg8 arg9 x1 x2 x3 x4 x5 x6 x7 x8 x9)
      (k0_part50 i arg1 harg1 arg2 harg2 arg3 harg3 arg4 harg4 arg5 harg5 arg6 harg6 arg7 harg7 arg8 harg8 arg9 harg9 v9 k0_h2) K := by
  rw [← fill_zero rank5 (outRow i x7 x8 x9 0 (by decide)) x5, ← fill_zero rank5 (outRow i x7 x8 x9 1 (by decide)) x6]
  rw [k0_part50_eq_skeleton]; unfold k0_part50_skel
  refine Runs.bind ?_
  rw [k0_part1_eq_skeleton]; unfold k0_part1_skel
  refine Runs.loadWhole (swap8 _) (by decide) ?_
  refine Runs.load (swap9 _) ?_
  refine Runs.load (swap9 _) ?_
  refine Runs.load (swap9 _) ?_
  refine Runs.load (swap9 _) ?_
  refine Runs.load (swap7 _) ?_
  refine Runs.pure ?_
  dsimp only
  refine Runs.intro ?_
  refine Runs.bind ?_
  rw [k0_part2_eq_skeleton]; unfold k0_part2_skel
  refine Runs.load (swap5 _) ?_
  refine Runs.store (swap5 _) (put_dot 0 0 (by decide) (by rfl) (by chain_rfl)) ?_
  refine Runs.load (swap9 _) ?_
  refine Runs.load (swap9 _) ?_
  refine Runs.load (swap9 _) ?_
  refine Runs.pure ?_
  dsimp only
  refine Runs.intro ?_
  refine Runs.bind ?_
  rw [k0_part3_eq_skeleton]; unfold k0_part3_skel
  refine Runs.load (swap9 _) ?_
  refine Runs.load (swap7 _) ?_
  refine Runs.load (swap6 _) ?_
  refine Runs.store (swap6 _) (put_dot 1 0 (by decide) (by rfl) (by chain_rfl)) ?_
  refine Runs.load (swap9 _) ?_
  refine Runs.load (swap9 _) ?_
  refine Runs.pure ?_
  dsimp only
  refine Runs.intro ?_
  refine Runs.bind ?_
  rw [k0_part4_eq_skeleton]; unfold k0_part4_skel
  refine Runs.load (swap9 _) ?_
  refine Runs.load (swap9 _) ?_
  refine Runs.load (swap7 _) ?_
  refine Runs.load (swap5 _) ?_
  refine Runs.store (swap5 _) (put_dot 0 1 (by decide) (by rfl) (by chain_rfl)) ?_
  refine Runs.load (swap9 _) ?_
  refine Runs.pure ?_
  dsimp only
  refine Runs.intro ?_
  refine Runs.bind ?_
  rw [k0_part5_eq_skeleton]; unfold k0_part5_skel
  refine Runs.load (swap9 _) ?_
  refine Runs.load (swap9 _) ?_
  refine Runs.load (swap9 _) ?_
  refine Runs.load (swap7 _) ?_
  refine Runs.load (swap6 _) ?_
  refine Runs.store (swap6 _) (put_dot 1 1 (by decide) (by rfl) (by chain_rfl)) ?_
  refine Runs.pure ?_
  dsimp only
  refine Runs.intro ?_
  refine Runs.bind ?_
  rw [k0_part6_eq_skeleton]; unfold k0_part6_skel
  refine Runs.load (swap9 _) ?_
  refine Runs.load (swap9 _) ?_
  refine Runs.load (swap9 _) ?_
  refine Runs.load (swap9 _) ?_
  refine Runs.load (swap7 _) ?_
  refine Runs.pure ?_
  dsimp only
  refine Runs.intro ?_
  refine Runs.bind ?_
  rw [k0_part7_eq_skeleton]; unfold k0_part7_skel
  refine Runs.load (swap5 _) ?_
  refine Runs.store (swap5 _) (put_dot 0 2 (by decide) (by rfl) (by chain_rfl)) ?_
  refine Runs.load (swap9 _) ?_
  refine Runs.load (swap9 _) ?_
  refine Runs.load (swap9 _) ?_
  refine Runs.load (swap9 _) ?_
  refine Runs.pure ?_
  dsimp only
  refine Runs.intro ?_
  refine Runs.bind ?_
  rw [k0_part8_eq_skeleton]; unfold k0_part8_skel
  refine Runs.load (swap7 _) ?_
  refine Runs.load (swap6 _) ?_
  refine Runs.store (swap6 _) (put_dot 1 2 (by decide) (by rfl) (by chain_rfl)) ?_
  refine Runs.load (swap9 _) ?_
  refine Runs.load (swap9 _) ?_
  refine Runs.pure ?_
  dsimp only
  refine Runs.intro ?_
  refine Runs.bind ?_
  rw [k0_part9_eq_skeleton]; unfold k0_part9_skel
  refine Runs.load (swap9 _) ?_
  refine Runs.load (swap9 _) ?_
  refine Runs.load (swap7 _) ?_
  refine Runs.load (swap5 _) ?_
  refine Runs.store (swap5 _) (put_dot 0 3 (by decide) (by rfl) (by chain_rfl)) ?_
  refine Runs.load (swap9 _) ?_
  refine Runs.pure ?_
  dsimp only
  refine Runs.intro ?_
  refine Runs.bind ?_
  rw [k0_part10_eq_skeleton]; unfold k0_part10_skel
  refine Runs.load (swap9 _) ?_
  refine Runs.load (swap9 _) ?_
  refine Runs.load (swap9 _) ?_
  refine Runs.load (swap7 _) ?_
  refine Runs.load (swap6 _) ?_
  refine Runs.store (swap6 _) (put_dot 1 3 (by decide) (by rfl) (by chain_rfl)) ?_
  refine Runs.pure ?_
  dsimp only
  refine Runs.intro ?_
  refine Runs.bind ?_
  rw [k0_part11_eq_skeleton]; unfold k0_part11_skel
  refine Runs.load (swap9 _) ?_
  refine Runs.load (swap9 _) ?_
  refine Runs.load (swap9 _) ?_
  refine Runs.load (swap9 _) ?_
  refine Runs.load (swap7 _) ?_
  refine Runs.pure ?_
  dsimp only
  refine Runs.intro ?_
  refine Runs.bind ?_
  rw [k0_part12_eq_skeleton]; unfold k0_part12_skel
  refine Runs.load (swap5 _) ?_
  refine Runs.store (swap5 _) (put_dot 0 4 (by decide) (by rfl) (by chain_rfl)) ?_
  refine Runs.load (swap9 _) ?_
  refine Runs.load (swap9 _) ?_
  refine Runs.load (swap9 _) ?_
  refine Runs.load (swap9 _) ?_
  refine Runs.pure ?_
  dsimp only
  refine Runs.intro ?_
  refine Runs.bind ?_
  rw [k0_part13_eq_skeleton]; unfold k0_part13_skel
  refine Runs.load (swap7 _) ?_
  refine Runs.load (swap6 _) ?_
  refine Runs.store (swap6 _) (put_dot 1 4 (by decide) (by rfl) (by chain_rfl)) ?_
  refine Runs.load (swap9 _) ?_
  refine Runs.load (swap9 _) ?_
  refine Runs.load (swap9 _) ?_
  refine Runs.pure ?_
  dsimp only
  refine Runs.intro ?_
  refine Runs.bind ?_
  rw [k0_part14_eq_skeleton]; unfold k0_part14_skel
  refine Runs.load (swap9 _) ?_
  refine Runs.load (swap7 _) ?_
  refine Runs.load (swap5 _) ?_
  refine Runs.store (swap5 _) (put_dot 0 5 (by decide) (by rfl) (by chain_rfl)) ?_
  refine Runs.load (swap9 _) ?_
  refine Runs.load (swap9 _) ?_
  refine Runs.pure ?_
  dsimp only
  refine Runs.intro ?_
  refine Runs.bind ?_
  rw [k0_part15_eq_skeleton]; unfold k0_part15_skel
  refine Runs.load (swap9 _) ?_
  refine Runs.load (swap9 _) ?_
  refine Runs.load (swap7 _) ?_
  refine Runs.load (swap6 _) ?_
  refine Runs.store (swap6 _) (put_dot 1 5 (by decide) (by rfl) (by chain_rfl)) ?_
  refine Runs.load (swap9 _) ?_
  refine Runs.pure ?_
  dsimp only
  refine Runs.intro ?_
  refine Runs.bind ?_
  rw [k0_part16_eq_skeleton]; unfold k0_part16_skel
  refine Runs.load (swap9 _) ?_
  refine Runs.load (swap9 _) ?_
  refine Runs.load (swap9 _) ?_
  refine Runs.load (swap7 _) ?_
  refine Runs.pure ?_
  dsimp only
  refine Runs.intro ?_
  refine Runs.bind ?_
  rw [k0_part17_eq_skeleton]; unfold k0_part17_skel
  refine Runs.load (swap5 _) ?_
  refine Runs.store (swap5 _) (put_dot 0 6 (by decide) (by rfl) (by chain_rfl)) ?_
  refine Runs.load (swap9 _) ?_
  refine Runs.load (swap9 _) ?_
  refine Runs.load (swap9 _) ?_
  refine Runs.load (swap9 _) ?_
  refine Runs.pure ?_
  dsimp only
  refine Runs.intro ?_
  refine Runs.bind ?_
  rw [k0_part18_eq_skeleton]; unfold k0_part18_skel
  refine Runs.load (swap7 _) ?_
  refine Runs.load (swap6 _) ?_
  refine Runs.store (swap6 _) (put_dot 1 6 (by decide) (by rfl) (by chain_rfl)) ?_
  refine Runs.load (swap9 _) ?_
  refine Runs.load (swap9 _) ?_
  refine Runs.load (swap9 _) ?_
  refine Runs.pure ?_
  dsimp only
  refine Runs.intro ?_
  refine Runs.bind ?_
  rw [k0_part19_eq_skeleton]; unfold k0_part19_skel
  refine Runs.load (swap9 _) ?_
  refine Runs.load (swap7 _) ?_
  refine Runs.load (swap5 _) ?_
  refine Runs.store (swap5 _) (put_dot 0 7 (by decide) (by rfl) (by chain_rfl)) ?_
  refine Runs.load (swap9 _) ?_
  refine Runs.load (swap9 _) ?_
  refine Runs.pure ?_
  dsimp only
  refine Runs.intro ?_
  refine Runs.bind ?_
  rw [k0_part20_eq_skeleton]; unfold k0_part20_skel
  refine Runs.load (swap9 _) ?_
  refine Runs.load (swap9 _) ?_
  refine Runs.load (swap7 _) ?_
  refine Runs.load (swap6 _) ?_
  refine Runs.store (swap6 _) (put_dot 1 7 (by decide) (by rfl) (by chain_rfl)) ?_
  refine Runs.load (swap9 _) ?_
  refine Runs.pure ?_
  dsimp only
  refine Runs.intro ?_
  refine Runs.bind ?_
  rw [k0_part21_eq_skeleton]; unfold k0_part21_skel
  refine Runs.load (swap9 _) ?_
  refine Runs.load (swap9 _) ?_
  refine Runs.load (swap9 _) ?_
  refine Runs.load (swap7 _) ?_
  refine Runs.load (swap5 _) ?_
  refine Runs.pure ?_
  dsimp only
  refine Runs.intro ?_
  refine Runs.bind ?_
  rw [k0_part22_eq_skeleton]; unfold k0_part22_skel
  refine Runs.store (swap5 _) (put_dot 0 8 (by decide) (by rfl) (by chain_rfl)) ?_
  refine Runs.load (swap9 _) ?_
  refine Runs.load (swap9 _) ?_
  refine Runs.load (swap9 _) ?_
  refine Runs.load (swap9 _) ?_
  refine Runs.load (swap7 _) ?_
  refine Runs.pure ?_
  dsimp only
  refine Runs.intro ?_
  refine Runs.bind ?_
  rw [k0_part23_eq_skeleton]; unfold k0_part23_skel
  refine Runs.load (swap6 _) ?_
  refine Runs.store (swap6 _) (put_dot 1 8 (by decide) (by rfl) (by chain_rfl)) ?_
  refine Runs.load (swap9 _) ?_
  refine Runs.load (swap9 _) ?_
  refine Runs.load (swap9 _) ?_
  refine Runs.load (swap9 _) ?_
  refine Runs.pure ?_
  dsimp only
  refine Runs.intro ?_
  refine Runs.bind ?_
  rw [k0_part24_eq_skeleton]; unfold k0_part24_skel
  refine Runs.load (swap7 _) ?_
  refine Runs.load (swap5 _) ?_
  refine Runs.store (swap5 _) (put_dot 0 9 (by decide) (by rfl) (by chain_rfl)) ?_
  refine Runs.load (swap9 _) ?_
  refine Runs.load (swap9 _) ?_
  refine Runs.pure ?_
  dsimp only
  refine Runs.intro ?_
  refine Runs.bind ?_
  rw [k0_part25_eq_skeleton]; unfold k0_part25_skel
  refine Runs.load (swap9 _) ?_
  refine Runs.load (swap9 _) ?_
  refine Runs.load (swap7 _) ?_
  refine Runs.load (swap6 _) ?_
  refine Runs.store (swap6 _) (put_dot 1 9 (by decide) (by rfl) (by chain_rfl)) ?_
  refine Runs.load (swap9 _) ?_
  refine Runs.pure ?_
  dsimp only
  refine Runs.intro ?_
  refine Runs.bind ?_
  rw [k0_part26_eq_skeleton]; unfold k0_part26_skel
  refine Runs.load (swap9 _) ?_
  refine Runs.load (swap9 _) ?_
  refine Runs.load (swap9 _) ?_
  refine Runs.load (swap7 _) ?_
  refine Runs.load (swap5 _) ?_
  refine Runs.store (swap5 _) (put_dot 0 10 (by decide) (by rfl) (by chain_rfl)) ?_
  refine Runs.pure ?_
  dsimp only
  refine Runs.intro ?_
  refine Runs.bind ?_
  rw [k0_part27_eq_skeleton]; unfold k0_part27_skel
  refine Runs.load (swap9 _) ?_
  refine Runs.load (swap9 _) ?_
  refine Runs.load (swap9 _) ?_
  refine Runs.load (swap9 _) ?_
  refine Runs.load (swap7 _) ?_
  refine Runs.pure ?_
  dsimp only
  refine Runs.intro ?_
  refine Runs.bind ?_
  rw [k0_part28_eq_skeleton]; unfold k0_part28_skel
  refine Runs.load (swap6 _) ?_
  refine Runs.store (swap6 _) (put_dot 1 10 (by decide) (by rfl) (by chain_rfl)) ?_
  refine Runs.load (swap9 _) ?_
  refine Runs.load (swap9 _) ?_
  refine Runs.load (swap9 _) ?_
  refine Runs.load (swap9 _) ?_
  refine Runs.pure ?_
  dsimp only
  refine Runs.intro ?_
  refine Runs.bind ?_
  rw [k0_part29_eq_skeleton]; unfold k0_part29_skel
  refine Runs.load (swap7 _) ?_
  refine Runs.load (swap5 _) ?_
  refine Runs.store (swap5 _) (put_dot 0 11 (by decide) (by rfl) (by chain_rfl)) ?_
  refine Runs.load (swap9 _) ?_
  refine Runs.load (swap9 _) ?_
  refine Runs.load (swap9 _) ?_
  refine Runs.pure ?_
  dsimp only
  refine Runs.intro ?_
  refine Runs.bind ?_
  rw [k0_part30_eq_skeleton]; unfold k0_part30_skel
  refine Runs.load (swap9 _) ?_
  refine Runs.load (swap7 _) ?_
  refine Runs.load (swap6 _) ?_
  refine Runs.store (swap6 _) (put_dot 1 11 (by decide) (by rfl) (by chain_rfl)) ?_
  refine Runs.load (swap9 _) ?_
  refine Runs.load (swap9 _) ?_
  refine Runs.pure ?_
  dsimp only
  refine Runs.intro ?_
  refine Runs.bind ?_
  rw [k0_part31_eq_skeleton]; unfold k0_part31_skel
  refine Runs.load (swap9 _) ?_
  refine Runs.load (swap9 _) ?_
  refine Runs.load (swap7 _) ?_
  refine Runs.load (swap5 _) ?_
  refine Runs.store (swap5 _) (put_dot 0 12 (by decide) (by rfl) (by chain_rfl)) ?_
  refine Runs.pure ?_
  dsimp only
  refine Runs.intro ?_
  refine Runs.bind ?_
  rw [k0_part32_eq_skeleton]; unfold k0_part32_skel
  refine Runs.load (swap9 _) ?_
  refine Runs.load (swap9 _) ?_
  refine Runs.load (swap9 _) ?_
  refine Runs.load (swap9 _) ?_
  refine Runs.load (swap7 _) ?_
  refine Runs.pure ?_
  dsimp only
  refine Runs.intro ?_
  refine Runs.bind ?_
  rw [k0_part33_eq_skeleton]; unfold k0_part33_skel
  refine Runs.load (swap6 _) ?_
  refine Runs.store (swap6 _) (put_dot 1 12 (by decide) (by rfl) (by chain_rfl)) ?_
  refine Runs.load (swap9 _) ?_
  refine Runs.load (swap9 _) ?_
  refine Runs.load (swap9 _) ?_
  refine Runs.load (swap9 _) ?_
  refine Runs.pure ?_
  dsimp only
  refine Runs.intro ?_
  refine Runs.bind ?_
  rw [k0_part34_eq_skeleton]; unfold k0_part34_skel
  refine Runs.load (swap7 _) ?_
  refine Runs.load (swap5 _) ?_
  refine Runs.store (swap5 _) (put_dot 0 13 (by decide) (by rfl) (by chain_rfl)) ?_
  refine Runs.load (swap9 _) ?_
  refine Runs.load (swap9 _) ?_
  refine Runs.load (swap9 _) ?_
  refine Runs.pure ?_
  dsimp only
  refine Runs.intro ?_
  refine Runs.bind ?_
  rw [k0_part35_eq_skeleton]; unfold k0_part35_skel
  refine Runs.load (swap9 _) ?_
  refine Runs.load (swap7 _) ?_
  refine Runs.load (swap6 _) ?_
  refine Runs.store (swap6 _) (put_dot 1 13 (by decide) (by rfl) (by chain_rfl)) ?_
  refine Runs.load (swap9 _) ?_
  refine Runs.load (swap9 _) ?_
  refine Runs.pure ?_
  dsimp only
  refine Runs.intro ?_
  refine Runs.bind ?_
  rw [k0_part36_eq_skeleton]; unfold k0_part36_skel
  refine Runs.load (swap9 _) ?_
  refine Runs.load (swap9 _) ?_
  refine Runs.load (swap7 _) ?_
  refine Runs.load (swap5 _) ?_
  refine Runs.store (swap5 _) (put_dot 0 14 (by decide) (by rfl) (by chain_rfl)) ?_
  refine Runs.load (swap9 _) ?_
  refine Runs.pure ?_
  dsimp only
  refine Runs.intro ?_
  refine Runs.bind ?_
  rw [k0_part37_eq_skeleton]; unfold k0_part37_skel
  refine Runs.load (swap9 _) ?_
  refine Runs.load (swap9 _) ?_
  refine Runs.load (swap9 _) ?_
  refine Runs.load (swap7 _) ?_
  refine Runs.pure ?_
  dsimp only
  refine Runs.intro ?_
  refine Runs.bind ?_
  rw [k0_part38_eq_skeleton]; unfold k0_part38_skel
  refine Runs.load (swap6 _) ?_
  refine Runs.store (swap6 _) (put_dot 1 14 (by decide) (by rfl) (by chain_rfl)) ?_
  refine Runs.load (swap9 _) ?_
  refine Runs.load (swap9 _) ?_
  refine Runs.load (swap9 _) ?_
  refine Runs.load (swap9 _) ?_
  refine Runs.load (swap7 _) ?_
  refine Runs.pure ?_
  dsimp only
  refine Runs.intro ?_
  refine Runs.bind ?_
  rw [k0_part39_eq_skeleton]; unfold k0_part39_skel
  refine Runs.load (swap5 _) ?_
  refine Runs.store (swap5 _) (put_dot 0 15 (by decide) (by rfl) (by chain_rfl)) ?_
  refine Runs.load (swap9 _) ?_
  refine Runs.load (swap9 _) ?_
  refine Runs.load (swap9 _) ?_
  refine Runs.pure ?_
  dsimp only
  refine Runs.intro ?_
  refine Runs.bind ?_
  rw [k0_part40_eq_skeleton]; unfold k0_part40_skel
  refine Runs.load (swap9 _) ?_
  refine Runs.load (swap7 _) ?_
  refine Runs.load (swap6 _) ?_
  refine Runs.store (swap6 _) (put_dot 1 15 (by decide) (by rfl) (by chain_rfl)) ?_
  refine Runs.load (swap9 _) ?_
  refine Runs.load (swap9 _) ?_
  refine Runs.pure ?_
  dsimp only
  refine Runs.intro ?_
  refine Runs.bind ?_
  rw [k0_part41_eq_skeleton]; unfold k0_part41_skel
  refine Runs.load (swap9 _) ?_
  refine Runs.load (swap9 _) ?_
  refine Runs.load (swap7 _) ?_
  refine Runs.load (swap5 _) ?_
  refine Runs.store (swap5 _) (put_dot 0 16 (by decide) (by rfl) (by chain_rfl)) ?_
  refine Runs.load (swap9 _) ?_
  refine Runs.pure ?_
  dsimp only
  refine Runs.intro ?_
  refine Runs.bind ?_
  rw [k0_part42_eq_skeleton]; unfold k0_part42_skel
  refine Runs.load (swap9 _) ?_
  refine Runs.load (swap9 _) ?_
  refine Runs.load (swap9 _) ?_
  refine Runs.load (swap7 _) ?_
  refine Runs.load (swap6 _) ?_
  refine Runs.store (swap6 _) (put_dot 1 16 (by decide) (by rfl) (by chain_rfl)) ?_
  refine Runs.pure ?_
  dsimp only
  refine Runs.intro ?_
  refine Runs.bind ?_
  rw [k0_part43_eq_skeleton]; unfold k0_part43_skel
  refine Runs.load (swap9 _) ?_
  refine Runs.load (swap9 _) ?_
  refine Runs.load (swap9 _) ?_
  refine Runs.load (swap9 _) ?_
  refine Runs.load (swap7 _) ?_
  refine Runs.pure ?_
  dsimp only
  refine Runs.intro ?_
  refine Runs.bind ?_
  rw [k0_part44_eq_skeleton]; unfold k0_part44_skel
  refine Runs.load (swap5 _) ?_
  refine Runs.store (swap5 _) (put_dot 0 17 (by decide) (by rfl) (by chain_rfl)) ?_
  refine Runs.load (swap9 _) ?_
  refine Runs.load (swap9 _) ?_
  refine Runs.load (swap9 _) ?_
  refine Runs.load (swap9 _) ?_
  refine Runs.pure ?_
  dsimp only
  refine Runs.intro ?_
  refine Runs.bind ?_
  rw [k0_part45_eq_skeleton]; unfold k0_part45_skel
  refine Runs.load (swap7 _) ?_
  refine Runs.load (swap6 _) ?_
  refine Runs.store (swap6 _) (put_dot 1 17 (by decide) (by rfl) (by chain_rfl)) ?_
  refine Runs.load (swap9 _) ?_
  refine Runs.load (swap9 _) ?_
  refine Runs.pure ?_
  dsimp only
  refine Runs.intro ?_
  refine Runs.bind ?_
  rw [k0_part46_eq_skeleton]; unfold k0_part46_skel
  refine Runs.load (swap9 _) ?_
  refine Runs.load (swap9 _) ?_
  refine Runs.load (swap7 _) ?_
  refine Runs.load (swap5 _) ?_
  refine Runs.store (swap5 _) (put_dot 0 18 (by decide) (by rfl) (by chain_rfl)) ?_
  refine Runs.load (swap9 _) ?_
  refine Runs.pure ?_
  dsimp only
  refine Runs.intro ?_
  refine Runs.bind ?_
  rw [k0_part47_eq_skeleton]; unfold k0_part47_skel
  refine Runs.load (swap9 _) ?_
  refine Runs.load (swap9 _) ?_
  refine Runs.load (swap9 _) ?_
  refine Runs.load (swap7 _) ?_
  refine Runs.load (swap6 _) ?_
  refine Runs.store (swap6 _) (put_dot 1 18 (by decide) (by rfl) (by chain_rfl)) ?_
  refine Runs.pure ?_
  dsimp only
  refine Runs.intro ?_
  refine Runs.bind ?_
  rw [k0_part48_eq_skeleton]; unfold k0_part48_skel
  refine Runs.load (swap9 _) ?_
  refine Runs.load (swap9 _) ?_
  refine Runs.load (swap9 _) ?_
  refine Runs.load (swap9 _) ?_
  refine Runs.load (swap7 _) ?_
  refine Runs.pure ?_
  dsimp only
  refine Runs.intro ?_
  refine Runs.bind ?_
  rw [k0_part49_eq_skeleton]; unfold k0_part49_skel
  refine Runs.load (swap5 _) ?_
  refine Runs.store (swap5 _) (put_dot 0 19 (by decide) (by rfl) (by chain_rfl)) ?_
  refine Runs.load (swap9 _) ?_
  refine Runs.load (swap9 _) ?_
  refine Runs.load (swap9 _) ?_
  refine Runs.load (swap9 _) ?_
  refine Runs.pure ?_
  dsimp only
  refine Runs.intro ?_
  refine Runs.load (swap7 _) ?_
  refine Runs.pure ?_
  exact hK _ (by chain_rfl)

end Cert.KernelIdeal.Body
-- ==== Proof.KernelIdealBody.lean ====
/- The whole kernel body of `KernelIdeal`: what its nine buffers hold after it, from what they held before it. -/
module

public import proofs.«01_k».proof.Proof.KernelIdealBlocks
public import proofs.«01_k».proof.Proof.KernelIdealRows

@[expose] public section

set_option maxRecDepth 16384

noncomputable section

namespace Cert.KernelIdeal.Body

open Idealize.ShloMosaic Idealize.ShloMosaic.TcCoe
open Idealize.SL Idealize.SL.RA Idealize.SL.BI Idealize.SL.Sem
open Idealize.SL.BI.BIBase Idealize.SL.BI.Laws
open Cert.KernelIdeal Cert.KernelIdeal.Gen Steps

variable {F : FTy → Type} [FloatOps F] {U : Type} [URA U]

local notation "𝕄" => MT nD τ sig Unit (Elt F) ℕ U ℕ

/-- What the block buffer holds after the body at `i`. -/
def blocksAfter (i : grid0.Coords) (x1 : Vec F S1x1008x128 .i32) (x9 : Vec F S2x2x2x672x2x128 .bf16) : Vec F S2x2x2x672x2x128 .bf16 :=
  fill (rank9 i) (blocks x1) x9 84

/-- An output row is full once its twenty positions are. -/
theorem fill_row (T x : Vec F S1x20x96x256 .bf16) : fill rank5 T x 20 = T := by
  funext y
  unfold fill rank5
  rw [if_pos (show (y 1).val < 20 from (y 1).isLt)]

set_option maxRecDepth 65536 in
/-- The second half runs at every grid point but the first. -/
theorem cond2_iff : ∀ i : grid0.Coords, Iff (k0_cond2 i = 1#1) (¬ (i 0).val = 0) := by decide +kernel

/-- The body at `i`. -/
theorem body_runs (c : Dev nD) (R : sProp 𝕄) (i : grid0.Coords)
    (arg1 : Memref sig .tc .vmem S1x1008x128 .i32) (harg1 : arg1.IsWhole)
    (arg2 : Memref sig .tc .vmem S2x96x256 .fp8e4m3) (harg2 : arg2.IsWhole)
    (arg3 : Memref sig .tc .vmem S2x96x256 .f32) (harg3 : arg3.IsWhole)
    (arg4 : Memref sig .tc .vmem S96x1 .f32) (harg4 : arg4.IsWhole)
    (arg5 : Memref sig .tc .vmem S1x20x96x256 .bf16) (harg5 : arg5.IsWhole)
    (arg6 : Memref sig .tc .vmem S1x20x96x256 .bf16) (harg6 : arg6.IsWhole)
    (arg7 : Memref sig .tc .vmem S2x96x256 .bf16) (harg7 : arg7.IsWhole)
    (arg8 : Memref sig .tc .vmem S96x128 .f32) (harg8 : arg8.IsWhole)
    (arg9 : Memref sig .tc .vmem S2x2x2x672x2x128 .bf16) (harg9 : arg9.IsWhole)
    (x1 : Vec F S1x1008x128 .i32) (x2 : Vec F S2x96x256 .fp8e4m3) (x3 : Vec F S2x96x256 .f32) (x4 : Vec F S96x1 .f32)
    (x5 x6 : Vec F S1x20x96x256 .bf16) (x7 : Vec F S2x96x256 .bf16) (x8 : Vec F S96x128 .f32)
    (x9 : Vec F S2x2x2x672x2x128 .bf16)
    (K : _ → sProp 𝕄)
    (hK0 : (i 0).val = 0 → St c R arg1 arg2 arg3 arg4 arg5 arg6 arg7 arg8 arg9 x1 x2 x3 x4 x5 x6 (wAfter i x2 x3 x7) (brAfter i x4 x8) (blocksAfter i x1 x9) ⊢ K ⟨⟩)
    (hK1 : ¬ (i 0).val = 0 → St c R arg1 arg2 arg3 arg4 arg5 arg6 arg7 arg8 arg9 x1 x2 x3 x4
      (outRow i (wAfter i x2 x3 x7) (brAfter i x4 x8) (blocksAfter i x1 x9) 0 (by decide))
      (outRow i (wAfter i x2 x3 x7) (brAfter i x4 x8) (blocksAfter i x1 x9) 1 (by decide))
      (wAfter i x2 x3 x7) (brAfter i x4 x8) (blocksAfter i x1 x9) ⊢ K ⟨⟩) :
    Runs (U := U) (defs₀ (F := F)) (c : Thread nD τ) (St c R arg1 arg2 arg3 arg4 arg5 arg6 arg7 arg8 arg9 x1 x2 x3 x4 x5 x6 x7 x8 x9)
      (cc0_conv i arg1 harg1 arg2 harg2 arg3 harg3 arg4 harg4 arg5 harg5 arg6 harg6 arg7 harg7 arg8 harg8 arg9 harg9) K := by
  rw [cc0_conv_eq_skeleton]; unfold cc0_conv_skel
  refine Runs.bind (part99_runs c R i arg1 harg1 arg2 harg2 arg3 harg3 arg4 harg4 arg5 harg5 arg6 harg6 arg7 harg7 arg8 harg8 arg9 harg9 x1 x2 x3 x4 x5 x6 x7 x8 x9 _ fun r h1 h2 => ?_)
  obtain ⟨_, _, _, _, _, _, _, _⟩ := r
  dsimp only at h1 h2 ⊢
  refine Runs.intro ?_
  refine Runs.store (swap9 _) (put_piece 0 1 20 (by decide) (by decide) (by decide) rfl (by rfl) h1) ?_
  refine Runs.load (swap9 _) ?_
  refine Runs.store (swap9 _) (put_piece 1 1 20 (by decide) (by decide) (by decide) rfl (by rfl) h2) ?_
  refine Runs.dite (fun hi => ?_) (fun hi => ?_)
  · refine Runs.bind (part50_runs c R i arg1 harg1 arg2 harg2 arg3 harg3 arg4 harg4 arg5 harg5 arg6 harg6 arg7 harg7 arg8 harg8 arg9 harg9 x1 x2 x3 x4 x5 x6 _ _ _ _ hi _ fun r h3 => ?_)
    obtain ⟨_, _⟩ := r
    dsimp only at h3 ⊢
    refine Runs.intro ?_
    refine Runs.load (swap6 _) ?_
    refine Runs.store (swap6 _) (put_dot 1 19 (by decide) (by rfl) h3) ?_
    refine Runs.pure ?_
    have := hK1 ((cond2_iff i).mp hi)
    rw [fill_row, fill_row]
    exact this
  · refine Runs.pure ?_
    exact hK0 (by by_contra h; exact hi ((cond2_iff i).mpr h))

end Cert.KernelIdeal.Body
-- ==== Proof.KernelIdealRun.lean ====
/- The pipelined region of `KernelIdeal`: what its two output windows hold at every grid point, the invariant of its scratch
   buffers, and the run that follows. Grid point `t > 0` writes output row `t - 1` from the block rows `t - 1` and `t`. -/
module

public import proofs.«01_k».proof.Proof.KernelIdealFrame
public import proofs.«01_k».proof.Proof.KernelIdealBody

@[expose] public section

set_option maxRecDepth 16384

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Steps

variable {F : FTy → Type} [FloatOps F]

section Rows

/-- One output position from two block rows of words: `xp` above, `xc` below. -/
def rowTile (w : Vec F S2x96x256 .bf16) (br : Vec F S96x128 .f32) (xp xc : Vec F S1x1008x128 .i32)
    (k ox : ℕ) (hk : k < 2) (ho : ox < 20) : Vec F S1x1x96x256 .bf16 :=
  k0_pay7 (k0_pay4 br)
    (k0_pay5 (slab (blocks xp) 0 k 0 ox (by decide) hk (by decide) ho) (slab (blocks xc) 0 k 0 ox (by decide) hk (by decide) ho)
      (slab (blocks xp) 0 k 1 ox (by decide) hk (by decide) ho) (slab (blocks xc) 0 k 1 ox (by decide) hk (by decide) ho))
    (k0_pay6 (wrow w k hk))

/-- One output row from two block rows of words. -/
def rowOut (w : Vec F S2x96x256 .bf16) (br : Vec F S96x128 .f32) (xp xc : Vec F S1x1008x128 .i32)
    (k : ℕ) (hk : k < 2) : Vec F S1x20x96x256 .bf16 := fun y =>
  rowTile w br xp xc k (y 1).val hk (y 1).isLt (oix (y 2) (y 3))

/-- A slab of a slot that holds the blocks of `x` is the slab of the blocks of `x`. -/
theorem slab_of (B : Vec F S2x2x2x672x2x128 .bf16) (x : Vec F S1x1008x128 .i32) (s : ℕ)
    (hB : ∀ y : S2x2x2x672x2x128.Idx, (y 0).val = s → B y = blocks x y) (k h ox : ℕ) (hs : s < 2) (hk : k < 2) (hh : h < 2) (ho : ox < 20) :
    slab B s k h ox hs hk hh ho = slab (blocks x) 0 k h ox (by decide) hk hh ho := by
  funext z
  refine (hB _ ?_).trans ?_
  · show s + 1 * (z 0).val = s
    have : (z 0).val < 1 := (z 0).isLt
    omega
  · rfl

/-- The slot just filled holds the blocks of the words. -/
theorem blocksAfter_cur (i : grid0.Coords) (x1 : Vec F S1x1008x128 .i32) (x9 : Vec F S2x2x2x672x2x128 .bf16) (y : S2x2x2x672x2x128.Idx)
    (hy : (y 0).val = cur i) : blocksAfter i x1 x9 y = blocks x1 y := by
  have h1 : (y 1).val < 2 := (y 1).isLt
  have h2 : (y 2).val < 2 := (y 2).isLt
  have h3 : (y 3).val < 672 := (y 3).isLt
  unfold blocksAfter fill rank9
  rw [if_pos hy, if_pos (by omega)]

/-- The other slot is left alone. -/
theorem blocksAfter_other (i : grid0.Coords) (x1 : Vec F S1x1008x128 .i32) (x9 : Vec F S2x2x2x672x2x128 .bf16) (y : S2x2x2x672x2x128.Idx)
    (hy : (y 0).val ≠ cur i) : blocksAfter i x1 x9 y = x9 y := by
  unfold blocksAfter fill rank9
  rw [if_neg hy, if_neg (by omega)]

/-- The row the second half writes, when the other slot holds the blocks of the words above. -/
theorem outRow_eq (i : grid0.Coords) (w : Vec F S2x96x256 .bf16) (br : Vec F S96x128 .f32) (xp xc : Vec F S1x1008x128 .i32)
    (x9 : Vec F S2x2x2x672x2x128 .bf16) (hB : ∀ y : S2x2x2x672x2x128.Idx, (y 0).val = prev i → x9 y = blocks xp y) (k : ℕ) (hk : k < 2) :
    outRow i w br (blocksAfter i xc x9) k hk = rowOut w br xp xc k hk := by
  have hp : ∀ y : S2x2x2x672x2x128.Idx, (y 0).val = prev i → blocksAfter i xc x9 y = blocks xp y := fun y hy => by
    rw [blocksAfter_other _ _ _ _ (by rw [hy, prev_eq, cur_eq]; omega)]; exact hB y hy
  have hc : ∀ y : S2x2x2x672x2x128.Idx, (y 0).val = cur i → blocksAfter i xc x9 y = blocks xc y := fun y hy => blocksAfter_cur _ _ _ _ hy
  have ht : ∀ (ox : ℕ) (ho : ox < 20), dotTile i w br (blocksAfter i xc x9) k ox hk ho = rowTile w br xp xc k ox hk ho := fun ox ho => by
    unfold dotTile rowTile
    rw [slab_of _ xp _ hp, slab_of _ xp _ hp, slab_of _ xc _ hc, slab_of _ xc _ hc]
  funext y
  exact congrFun (ht _ _) _

end Rows

set_option maxRecDepth 65536 in
/-- The coordinate of a grid point is its number. -/
theorem coords_val : ∀ t : Fin cfg0.N, ((grid0.coords t) 0).val = t.val := by decide +kernel

local notation "𝕄" => MT nD τ sig Unit (Elt F) ℕ (UR sig nD τ) ℕ

variable (m : (ℓ : Loc nD τ sig) → Buf (Elt F) ℓ) (ρ : Dev nD → PrngReg)

/-- The first grid point. -/
def t0 : Fin cfg0.N := ⟨0, by decide⟩

/-- The grid point before `t`. -/
def before (t : Fin cfg0.N) : Fin cfg0.N := ⟨t.val - 1, lt_of_le_of_lt (Nat.sub_le _ _) t.isLt⟩

/-- The words of block row `t`. -/
def wordsAt (c : Dev nD) (t : Fin cfg0.N) : Vec F S1x1008x128 .i32 := iblk m c 0 t

/-- The dequantised weights. -/
def weights (c : Dev nD) : Vec F S2x96x256 .bf16 := k0_pay118 (iblk m c 1 t0) (iblk m c 2 t0)

/-- The bias rows. -/
def biasRows (c : Dev nD) : Vec F S96x128 .f32 := k0_pay119 (iblk m c 3 t0)

/-- The output row of kind `k` written at `t`. -/
def rowAt (c : Dev nD) (t : Fin cfg0.N) (k : ℕ) (hk : k < 2) : Vec F S1x20x96x256 .bf16 :=
  rowOut (weights m c) (biasRows m c) (wordsAt m c (before t)) (wordsAt m c t) k hk

/-- The scratch buffers after `s` grid points: anything before the first; then the weights, the bias rows, and in the slot
    last filled the blocks of the block row last read. -/
def inv (c : Dev nD) (s : Fin (cfg0.N + 1)) : sProp 𝕄 :=
  if h : s.val = 0 then Pipeline.ΦA spec0 c else
    iprop(owns (c : Thread nD τ) (Memref.whole cc0_scratch0) fullShare (weights m c)
      ∗ owns (c : Thread nD τ) (Memref.whole cc0_scratch1) fullShare (biasRows m c)
      ∗ (∃ B, ⌜∀ y : S2x2x2x672x2x128.Idx, (y 0).val = (s.val - 1) % 2 → B y = blocks (wordsAt m c ⟨s.val - 1, by omega⟩) y⌝
          ∗ owns (c : Thread nD τ) (Memref.whole cc0_scratch2) fullShare B)
      ∗ (∃ r, prngReg c r))

/-- The proof data of the value: the arrays as the region finds them, each input's buffer left at its block, each output's
    at the row its grid point writes. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => rowAt m c t 0 (by decide)
    | ⟨5, _⟩ => rowAt m c t 1 (by decide)
  Φ s := inv m c s
  q _ := fullShare
  owed _ := 0

/-- The proof data's arrays are the region-entry contents. -/
theorem A_eq (c : Dev nD) (w : Fin cfg0.W) : (dats m 0 c).A w = V m c (Pipeline.arrRef spec0 w) := by
  dsimp only [dats]

/-- Before the body, input window 0's buffer holds its block. -/
theorem before0 (c : Dev nD) (t : Fin cfg0.N) (d) : (dats m 0 c).before 0 t d = iblk m c 0 t :=
  before0_0_of m (dats m 0 c) (A_eq m c 0) (fun _ => by dsimp only [dats]) t d
/-- Before the body, input window 1's buffer holds its block. -/
theorem before1 (c : Dev nD) (t : Fin cfg0.N) (d) : (dats m 0 c).before 1 t d = iblk m c 1 t :=
  before0_1_of m (dats m 0 c) (A_eq m c 1) (fun _ => by dsimp only [dats]) t d
/-- Before the body, input window 2's buffer holds its block. -/
theorem before2 (c : Dev nD) (t : Fin cfg0.N) (d) : (dats m 0 c).before 2 t d = iblk m c 2 t :=
  before0_2_of m (dats m 0 c) (A_eq m c 2) (fun _ => by dsimp only [dats]) t d
/-- Before the body, input window 3's buffer holds its block. -/
theorem before3 (c : Dev nD) (t : Fin cfg0.N) (d) : (dats m 0 c).before 3 t d = iblk m c 3 t :=
  before0_3_of m (dats m 0 c) (A_eq m c 3) (fun _ => by dsimp only [dats]) t d
/-- After the body, window 0's buffer holds its block. -/
theorem after0 (c : Dev nD) (t : Fin cfg0.N) : (dats m 0 c).after 0 t = iblk m c 0 t := by dsimp only [dats]
/-- After the body, window 1's buffer holds its block. -/
theorem after1 (c : Dev nD) (t : Fin cfg0.N) : (dats m 0 c).after 1 t = iblk m c 1 t := by dsimp only [dats]
/-- After the body, window 2's buffer holds its block. -/
theorem after2 (c : Dev nD) (t : Fin cfg0.N) : (dats m 0 c).after 2 t = iblk m c 2 t := by dsimp only [dats]
/-- After the body, window 3's buffer holds its block. -/
theorem after3 (c : Dev nD) (t : Fin cfg0.N) : (dats m 0 c).after 3 t = iblk m c 3 t := by dsimp only [dats]
/-- After the body, output window 4's buffer holds its row. -/
theorem after4 (c : Dev nD) (t : Fin cfg0.N) : (dats m 0 c).after 4 t = rowAt m c t 0 (by decide) := by dsimp only [dats]
/-- After the body, output window 5's buffer holds its row. -/
theorem after5 (c : Dev nD) (t : Fin cfg0.N) : (dats m 0 c).after 5 t = rowAt m c t 1 (by decide) := by dsimp only [dats]

set_option maxRecDepth 65536 in
/-- The output windows are idle at the first grid point and nowhere else; there they are not flushed. -/
theorem idle4 : ∀ t : Fin cfg0.N, cfg0.idle 4 (cfg0.grid.coords t) = decide (t.val = 0) := by decide +kernel
set_option maxRecDepth 65536 in
/-- Output window 5 is idle at the first point only. -/
theorem idle5 : ∀ t : Fin cfg0.N, cfg0.idle 5 (cfg0.grid.coords t) = decide (t.val = 0) := by decide +kernel
set_option maxRecDepth 65536 in
/-- Output window 4 is written back at every point after the first. -/
theorem flush4 : ∀ t : Fin cfg0.N, (cfg0.win 4).flush t = !decide (t.val = 0) := by decide +kernel
set_option maxRecDepth 65536 in
/-- Output window 5 is written back at every point after the first. -/
theorem flush5 : ∀ t : Fin cfg0.N, (cfg0.win 5).flush t = !decide (t.val = 0) := by decide +kernel

/-- What the body leaves in output window 4: at the first point what it found, after it the row. -/
theorem leaves4 (c : Dev nD) (t : Fin cfg0.N) (d X) (h0 : t.val = 0 → X = (dats m 0 c).before 4 t d) (h1 : ¬ t.val = 0 → X = (dats m 0 c).after 4 t) :
    (owns (c : Thread nD τ) (st0_4 t) fullShare X : sProp 𝕄) ⊢
      (match cfg0.idle 4 (cfg0.grid.coords t) with
        | true => match (cfg0.win 4).flush t with
          | false => iprop(∃ d, owns (c : Thread nD τ) (st0_4 t) fullShare ((dats m 0 c).before 4 t d))
          | true => owns (c : Thread nD τ) (st0_4 t) fullShare ((dats m 0 c).after 4 t)
        | false => owns (c : Thread nD τ) (st0_4 t) fullShare ((dats m 0 c).after 4 t)) := by
  rw [idle4, flush4]
  by_cases ht : t.val = 0
  · rw [decide_eq_true ht, h0 ht]
    show _ ⊢ iprop(∃ d, _)
    iintro H; iexists d; iexact H
  · rw [decide_eq_false ht, h1 ht]

/-- What the body leaves in output window 5: at the first point what it found, after it the row. -/
theorem leaves5 (c : Dev nD) (t : Fin cfg0.N) (d X) (h0 : t.val = 0 → X = (dats m 0 c).before 5 t d) (h1 : ¬ t.val = 0 → X = (dats m 0 c).after 5 t) :
    (owns (c : Thread nD τ) (st0_5 t) fullShare X : sProp 𝕄) ⊢
      (match cfg0.idle 5 (cfg0.grid.coords t) with
        | true => match (cfg0.win 5).flush t with
          | false => iprop(∃ d, owns (c : Thread nD τ) (st0_5 t) fullShare ((dats m 0 c).before 5 t d))
          | true => owns (c : Thread nD τ) (st0_5 t) fullShare ((dats m 0 c).after 5 t)
        | false => owns (c : Thread nD τ) (st0_5 t) fullShare ((dats m 0 c).after 5 t)) := by
  rw [idle5, flush5]
  by_cases ht : t.val = 0
  · rw [decide_eq_true ht, h0 ht]
    show _ ⊢ iprop(∃ d, _)
    iintro H; iexists d; iexact H
  · rw [decide_eq_false ht, h1 ht]

/-- The invariant before the first point. -/
theorem inv_zero (c : Dev nD) (t : Fin cfg0.N) (ht : t.val = 0) : (inv m c t.castSucc : sProp 𝕄) = Pipeline.ΦA spec0 c := by
  unfold inv; exact dif_pos ht

/-- The invariant before the region. -/
theorem inv_first (c : Dev nD) : (dats m 0 c).Φ 0 = (Pipeline.ΦA spec0 c : sProp 𝕄) := inv_zero m c t0 rfl

/-- The invariant before a later point. -/
theorem inv_pos (c : Dev nD) (t : Fin cfg0.N) (ht : ¬ t.val = 0) : (inv m c t.castSucc : sProp 𝕄)
    = iprop(owns (c : Thread nD τ) (Memref.whole cc0_scratch0) fullShare (weights m c)
      ∗ owns (c : Thread nD τ) (Memref.whole cc0_scratch1) fullShare (biasRows m c)
      ∗ (∃ B, ⌜∀ y : S2x2x2x672x2x128.Idx, (y 0).val = (t.val - 1) % 2 → B y = blocks (wordsAt m c (before t)) y⌝
          ∗ owns (c : Thread nD τ) (Memref.whole cc0_scratch2) fullShare B)
      ∗ (∃ r, prngReg c r)) := by
  unfold inv; exact dif_neg ht

/-- The invariant after a point. -/
theorem inv_succ (c : Dev nD) (t : Fin cfg0.N) : (inv m c t.succ : sProp 𝕄)
    = iprop(owns (c : Thread nD τ) (Memref.whole cc0_scratch0) fullShare (weights m c)
      ∗ owns (c : Thread nD τ) (Memref.whole cc0_scratch1) fullShare (biasRows m c)
      ∗ (∃ B, ⌜∀ y : S2x2x2x672x2x128.Idx, (y 0).val = t.val % 2 → B y = blocks (wordsAt m c t) y⌝
          ∗ owns (c : Thread nD τ) (Memref.whole cc0_scratch2) fullShare B)
      ∗ (∃ r, prngReg c r)) := by
  unfold inv; exact dif_neg (by simp)

/-- What the body is run from at a point, the contents of the output and scratch buffers given. -/
def from_ (c : Dev nD) (t : Fin cfg0.N) (x5 x6 : Vec F S1x20x96x256 .bf16) (x7 : Vec F S2x96x256 .bf16) (x8 : Vec F S96x128 .f32)
    (x9 : Vec F S2x2x2x672x2x128 .bf16) : sProp 𝕄 :=
  St c iprop((dats m 0 c).owesAt () t.castSucc ∗ (∃ r, prngReg c r)) (st0_0 t) (st0_1 t) (st0_2 t) (st0_3 t) (st0_4 t) (st0_5 t)
    (Memref.whole cc0_scratch0) (Memref.whole cc0_scratch1) (Memref.whole cc0_scratch2)
    (iblk m c 0 t) (iblk m c 1 t) (iblk m c 2 t) (iblk m c 3 t) x5 x6 x7 x8 x9

/-- The state after the body. -/
def post (c : Dev nD) (t : Fin cfg0.N) (x5 x6 : Vec F S1x20x96x256 .bf16) : sProp 𝕄 :=
  iprop(∃ y5 y6 B, ⌜(t.val = 0 → y5 = x5 ∧ y6 = x6) ∧ (¬ t.val = 0 → y5 = rowAt m c t 0 (by decide) ∧ y6 = rowAt m c t 1 (by decide))
      ∧ ∀ y : S2x2x2x672x2x128.Idx, (y 0).val = t.val % 2 → B y = blocks (wordsAt m c t) y⌝
    ∗ from_ m c t y5 y6 (weights m c) (biasRows m c) B)

/-- The body at the first point. -/
theorem body_first (c : Dev nD) (t : Fin cfg0.N) (ht : t.val = 0) (x5 x6 x7 x8 x9) :
    from_ m c t x5 x6 x7 x8 x9 ⊢ wp Idealize.ShloMosaic.frame (wpE (defs₀ (F := F)) Variants.none c none) Set.univ (bodyAt0 t) (fun _ => post m c t x5 x6) := by
  have hi : ((grid0.coords t) 0).val = 0 := by rw [coords_val]; exact ht
  have e0 : t = t0 := Fin.ext ht
  unfold bodyAt0 from_
  refine body_runs c _ (grid0.coords t) _ _ _ _ _ _ _ _ _ _ _ _ _ _ _ _ _ _ _ _ _ _ _ _ _ _ _ _ (fun _ => ?_) (fun h => absurd hi h)
  have e1 : wAfter (grid0.coords t) (iblk m c 1 t) (iblk m c 2 t) x7 = weights m c := by
    unfold wAfter weights; rw [if_pos hi]; subst e0; rfl
  have e2 : brAfter (grid0.coords t) (iblk m c 3 t) x8 = biasRows m c := by
    unfold brAfter biasRows; rw [if_pos hi]; subst e0; rfl
  rw [e1, e2]
  unfold post from_
  iintro H
  iexists x5, x6, (blocksAfter (grid0.coords t) (iblk m c 0 t) x9)
  isplitr
  · ipureintro
    refine ⟨fun _ => ⟨rfl, rfl⟩, fun h => absurd ht h, fun y hy => ?_⟩
    exact blocksAfter_cur _ _ _ _ (by rw [cur_eq, coords_val]; exact hy)
  · iexact H

/-- The body at a later point. -/
theorem body_later (c : Dev nD) (t : Fin cfg0.N) (ht : ¬ t.val = 0) (x5 x6 x9)
    (hB : ∀ y : S2x2x2x672x2x128.Idx, (y 0).val = (t.val - 1) % 2 → x9 y = blocks (wordsAt m c (before t)) y) :
    from_ m c t x5 x6 (weights m c) (biasRows m c) x9 ⊢
      wp Idealize.ShloMosaic.frame (wpE (defs₀ (F := F)) Variants.none c none) Set.univ (bodyAt0 t) (fun _ => post m c t x5 x6) := by
  have hi : ¬ ((grid0.coords t) 0).val = 0 := by rw [coords_val]; exact ht
  unfold bodyAt0 from_
  refine body_runs c _ (grid0.coords t) _ _ _ _ _ _ _ _ _ _ _ _ _ _ _ _ _ _ _ _ _ _ _ _ _ _ _ _ (fun h => absurd h hi) (fun _ => ?_)
  have e1 : wAfter (grid0.coords t) (iblk m c 1 t) (iblk m c 2 t) (weights m c) = weights m c := if_neg hi
  have e2 : brAfter (grid0.coords t) (iblk m c 3 t) (biasRows m c) = biasRows m c := if_neg hi
  have hp : ∀ y : S2x2x2x672x2x128.Idx, (y 0).val = prev (grid0.coords t) → x9 y = blocks (wordsAt m c (before t)) y := fun y hy =>
    hB y (by rw [hy, prev_eq, coords_val]; omega)
  rw [e1, e2, outRow_eq _ _ _ _ _ _ hp, outRow_eq _ _ _ _ _ _ hp]
  unfold post from_
  iintro H
  iexists (rowAt m c t 0 (by decide)), (rowAt m c t 1 (by decide)), (blocksAfter (grid0.coords t) (iblk m c 0 t) x9)
  isplitr
  · ipureintro
    refine ⟨fun h => absurd h ht, fun _ => ⟨rfl, rfl⟩, fun y hy => ?_⟩
    exact blocksAfter_cur _ _ _ _ (by rw [cur_eq, coords_val]; exact hy)
  · iexact H

/-- What the library hands the body at a point. -/
def found (c : Dev nD) (t : Fin cfg0.N) : sProp 𝕄 :=
  iprop((inv m c t.castSucc) ∗ (dats m 0 c).owesAt () t.castSucc
    ∗ owns (c : Thread nD τ) (st0_0 t) fullShare (iblk m c 0 t) ∗ owns (c : Thread nD τ) (st0_1 t) fullShare (iblk m c 1 t)
    ∗ owns (c : Thread nD τ) (st0_2 t) fullShare (iblk m c 2 t) ∗ owns (c : Thread nD τ) (st0_3 t) fullShare (iblk m c 3 t)
    ∗ (∃ d, owns (c : Thread nD τ) (st0_4 t) fullShare ((dats m 0 c).before 4 t d))
    ∗ (∃ d, owns (c : Thread nD τ) (st0_5 t) fullShare ((dats m 0 c).before 5 t d)))

/-- The state the body leaves, for what it found in the output windows. -/
def left_ (c : Dev nD) (t : Fin cfg0.N) : sProp 𝕄 :=
  iprop(∃ d5 d6, post m c t ((dats m 0 c).before 4 t d5) ((dats m 0 c).before 5 t d6))

/-- The body at any point. -/
theorem sound (c : Dev nD) (t : Fin cfg0.N) :
    found m c t ⊢ wp Idealize.ShloMosaic.frame (wpE (defs₀ (F := F)) Variants.none c none) Set.univ (bodyAt0 t) (fun _ => left_ m c t) := by
  have hmono : ∀ d5 d6, (wp Idealize.ShloMosaic.frame (wpE (defs₀ (F := F)) Variants.none c none) Set.univ (bodyAt0 t)
      (fun _ => post m c t ((dats m 0 c).before 4 t d5) ((dats m 0 c).before 5 t d6)) : sProp 𝕄)
      ⊢ wp Idealize.ShloMosaic.frame (wpE (defs₀ (F := F)) Variants.none c none) Set.univ (bodyAt0 t) (fun _ => left_ m c t) := fun d5 d6 =>
    triple_restated (P := wp Idealize.ShloMosaic.frame _ _ _ _) .rfl rfl .rfl fun _ => by unfold left_; iintro H; iexists d5, d6; iexact H
  unfold found
  by_cases ht : t.val = 0
  · rw [inv_zero m c t ht, phi_eq]
    iintro ⟨⟨⟨⟨%x7, H7⟩, ⟨%x8, H8⟩, ⟨%x9, H9⟩⟩, Hp⟩, Ho, H1, H2, H3, H4, ⟨%d5, H5⟩, ⟨%d6, H6⟩⟩
    iapply (hmono d5 d6)
    iapply (body_first m c t ht ((dats m 0 c).before 4 t d5) ((dats m 0 c).before 5 t d6) x7 x8 x9)
    unfold from_ St
    iframe
  · rw [inv_pos m c t ht]
    iintro ⟨⟨H7, H8, ⟨%x9, %hB, H9⟩, Hp⟩, Ho, H1, H2, H3, H4, ⟨%d5, H5⟩, ⟨%d6, H6⟩⟩
    iapply (hmono d5 d6)
    iapply (body_later m c t ht ((dats m 0 c).before 4 t d5) ((dats m 0 c).before 5 t d6) x9 hB)
    unfold from_ St
    iframe

set_option backward.isDefEq.respectTransparency.types false in

/-- The library's body obligation. -/
theorem body_obligation (c : Dev nD) : BodyObligation (dats (F := F) m 0 c) (defs₀ (F := F)) Variants.none () Set.univ := fun t => by
  rw [bigSep_W0, bigSep_W0, defs₀_row]
  refine triple_restated (sound m c t) rfl ?_ fun _ => ?_
  · dsimp only
    simp only [before0, before1, before2, before3]
    rw [show (dats m 0 c).Φ t.castSucc = inv m c t.castSucc from rfl]
    unfold found
    iintro ⟨Hi, Ho, ⟨%d0, H1⟩, ⟨%d1, H2⟩, ⟨%d2, H3⟩, ⟨%d3, H4⟩, H5, H6⟩
    iframe
  · dsimp only
    rw [show (dats m 0 c).Φ t.succ = inv m c t.succ from rfl, inv_succ,
      show (dats m 0 c).owesAt () t.succ = (dats m 0 c).owesAt () t.castSucc from rfl]
    unfold left_ post from_ St
    iintro ⟨%d5, %d6, %y5, %y6, %B, %hy, ⟨Ho, Hp⟩, H1, H2, H3, H4, H5, H6, H7, H8, H9⟩
    isplitl [H7 H8 H9 Hp]
    · isplitl [H7]; · iexact H7
      isplitl [H8]; · iexact H8
      isplitl [H9]
      · iexists B; isplitr; · ipureintro; exact hy.2.2
        iexact H9
      iexact Hp
    isplitl [Ho]; · iexact Ho
    isplitl [H1]; · iexact H1
    isplitl [H2]; · iexact H2
    isplitl [H3]; · iexact H3
    isplitl [H4]; · iexact H4
    isplitl [H5]
    · iapply (leaves4 m c t d5 y5 (fun h => (hy.1 h).1) (fun h => (hy.2.1 h).1.trans (after4 m c t).symm)); iexact H5
    · iapply (leaves5 m c t d6 y6 (fun h => (hy.1 h).2) (fun h => (hy.2.1 h).2.trans (after5 m c t).symm)); iexact H6

set_option backward.isDefEq.respectTransparency.types false in
set_option maxHeartbeats 800000 in
/-- The launch: every array ends as the grid points leave it, the host lines after the region run from there, and every
    semaphore counter is zero. -/
theorem run_value : θ_run defs (onTc (τ := τ) (main (F := F))) (s₀ m ρ) (fun r =>
    Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m)
    (hin := fun c => (inv_first m c).symm ▸ .rfl)
    (hout := fun c => by
      rw [show (dats m 0 c).Φ (Fin.last cfg0.N) = inv m c (⟨20, by decide⟩ : Fin cfg0.N).succ from rfl, inv_succ, phi_eq]
      iintro ⟨H7, H8, ⟨%B, %hB, H9⟩, Hp⟩
      isplitl [H7 H8 H9]
      · isplitl [H7]; · iexists (weights m c); iexact H7
        isplitl [H8]; · iexists (biasRows m c); iexact H8
        iexists B; iexact H9
      iexact Hp)

end Cert.KernelIdeal.Body
-- ==== Proof.KernelIdealArray.lean ====
/- What the two result buffers of `KernelIdeal` hold after the run: every output row is the row its grid point wrote, and
   the host transposes the two arrays. -/
module

public import proofs.«01_k».proof.Proof.KernelIdealRun
public import Idealize.ShloMosaic.Lib.Pipeline.ValueKit
public import Idealize.ShloMosaic.Lib.Pointwise
public import Idealize.ShloMosaic.Lib.Claim
public import Idealize.ShloMosaic.Lib.StableHlo.ReadAt

@[expose] public section

set_option maxRecDepth 16384

noncomputable section

namespace Cert.KernelIdeal.Body

open Idealize.ShloMosaic Idealize.ShloMosaic.TcCoe
open Idealize.SL Idealize.SL.RA Idealize.SL.Sem
open Cert.KernelIdeal Cert.KernelIdeal.Gen

variable {F : FTy → Type} [FloatOps F]
variable (m : (ℓ : Loc nD τ sig) → Buf (Elt F) ℓ) (ρ : Dev nD → PrngReg)

/-- The grid point that writes output row `oy`. -/
def writer (oy : ℕ) (h : oy < 20) : Fin cfg0.N := ⟨oy + 1, by show oy + 1 < 21; omega⟩

/-- The array of kind `k` after the run. -/
def rows (c : Dev nD) (k : ℕ) (hk : k < 2) : Vec F S20x20x96x256 .bf16 :=
  fun y => rowAt m c (writer (y 0).val (y 0).isLt) k hk (ix4 0 (y 1) (y 2) (y 3))

/-- The array at an index of block row `t - 1`. -/
theorem rows_at (c : Dev nD) (k : ℕ) (hk : k < 2) (t : Fin cfg0.N) (h0 : 0 < t.val) (z : S20x20x96x256.Idx) (y : S1x20x96x256.Idx)
    (h1 : (z 0).val = t.val - 1) (h2 : (z 1).val = (y 1).val) (h3 : (z 2).val = (y 2).val) (h4 : (z 3).val = (y 3).val) :
    rows m c k hk z = rowAt m c t k hk y := by
  idx_vars z
  idx_vars y
  unfold rows
  have e : writer (ix4 z0 z1 z2 z3 0).val (ix4 z0 z1 z2 z3 0).isLt = t := Fin.ext (by
    show z0.val + 1 = t.val
    have : z0.val = t.val - 1 := h1
    omega)
  have e0 : y0 = 0 := Subsingleton.elim _ _
  have e1 : z1 = y1 := Fin.ext h2
  have e2 : z2 = y2 := Fin.ext h3
  have e3 : z3 = y3 := Fin.ext h4
  rw [e]; subst e0 e1 e2 e3; rfl

set_option maxRecDepth 65536 in
/-- The block row of output window 4 at a point after the first. -/
theorem index4 : ∀ t : Fin cfg0.N, (cfg0.win 4).flush t = true →
    win0_4.index t 0 = t.val - 1 ∧ win0_4.index t 1 = 0 ∧ win0_4.index t 2 = 0 ∧ win0_4.index t 3 = 0 ∧ 0 < t.val := by
  decide +kernel

/-- Output array 0. -/
theorem final4 (c : Dev nD) : (dats m 0 c).arrAt 4 (cfgs 0).N = rows m c 0 (by decide) := by
  refine (dats m 0 c).arrAt_eq_of_covers 4 _ (by decide +kernel) fun t hf y => ?_
  blk_simp
  rw [after4]
  obtain ⟨e0, e1, e2, e3, h0⟩ := index4 t hf
  have h1 : ((((cfg0.win 4).blk t).view.emb y) 0 : ℕ) = t.val - 1 := by blk_simp [e0]
  have h2 : ((((cfg0.win 4).blk t).view.emb y) 1 : ℕ) = (y 1).val := by blk_simp [e1]
  have h3 : ((((cfg0.win 4).blk t).view.emb y) 2 : ℕ) = (y 2).val := by blk_simp [e2]
  have h4 : ((((cfg0.win 4).blk t).view.emb y) 3 : ℕ) = (y 3).val := by blk_simp [e3]
  exact (rows_at m c 0 (by decide) t h0 _ y h1 h2 h3 h4).symm

set_option maxRecDepth 65536 in
/-- The block row of output window 5 at a point after the first. -/
theorem index5 : ∀ t : Fin cfg0.N, (cfg0.win 5).flush t = true →
    win0_5.index t 0 = t.val - 1 ∧ win0_5.index t 1 = 0 ∧ win0_5.index t 2 = 0 ∧ win0_5.index t 3 = 0 ∧ 0 < t.val := by
  decide +kernel

/-- Output array 1. -/
theorem final5 (c : Dev nD) : (dats m 0 c).arrAt 5 (cfgs 0).N = rows m c 1 (by decide) := by
  refine (dats m 0 c).arrAt_eq_of_covers 5 _ (by decide +kernel) fun t hf y => ?_
  blk_simp
  rw [after5]
  obtain ⟨e0, e1, e2, e3, h0⟩ := index5 t hf
  have h1 : ((((cfg0.win 5).blk t).view.emb y) 0 : ℕ) = t.val - 1 := by blk_simp [e0]
  have h2 : ((((cfg0.win 5).blk t).view.emb y) 1 : ℕ) = (y 1).val := by blk_simp [e1]
  have h3 : ((((cfg0.win 5).blk t).view.emb y) 2 : ℕ) = (y 2).val := by blk_simp [e2]
  have h4 : ((((cfg0.win 5).blk t).view.emb y) 3 : ℕ) = (y 3).val := by blk_simp [e3]
  exact (rows_at m c 1 (by decide) t h0 _ y h1 h2 h3 h4).symm

/-- A result buffer: kind `k`'s array with the lanes in front. -/
def result (c : Dev nD) (k : ℕ) (hk : k < 2) : Vec F S256x20x20x96 .bf16 :=
  transpose S256x20x20x96 [3, 0, 1, 2] (rows m c k hk) transposes_S20x20x96x256_S256x20x20x96_3_0_1_2

/-- The host's transpose of array 0. -/
theorem tail22 (c : Dev nD) : Pipeline.afterTail₀ cfgs (dats m) 0 (V0 m) [hostOps1] c main_v22 = result m c 0 (by decide) := by
  unfold Pipeline.afterTail₀
  show StableHlo.after hostOps1 _ _ = _
  unfold hostOps1
  after_reads_simp
  rw [show ∀ A, Pipeline.withArrays (τ := τ) spec0 c (V0 m c) A (Proc.devRef .tc main_v21_0) = A 4 from fun A =>
    Pipeline.withArrays_arr spec0 (by decide) c (V0 m c) A 4, final4]
  rfl

/-- The host's transpose of array 1. -/
theorem tail23 (c : Dev nD) : Pipeline.afterTail₀ cfgs (dats m) 0 (V0 m) [hostOps1] c main_v23 = result m c 1 (by decide) := by
  unfold Pipeline.afterTail₀
  show StableHlo.after hostOps1 _ _ = _
  unfold hostOps1
  after_reads_simp
  rw [show ∀ A, Pipeline.withArrays (τ := τ) spec0 c (V0 m c) A (Proc.devRef .tc main_v21_1) = A 5 from fun A =>
    Pipeline.withArrays_arr spec0 (by decide) c (V0 m c) A 5, final5]
  rfl

/-- The run with what the two result buffers hold. -/
theorem run_result : θ_run defs (onTc (τ := τ) (main (F := F))) ⟨m, fun _ => 0, ρ⟩ (fun r => ∀ c : Dev nD,
    r.2.mem ((c.tc : Thread nD τ).loc main_v22) = result m c 0 (by decide)
    ∧ r.2.mem ((c.tc : Thread nD τ).loc main_v23) = result m c 1 (by decide)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) := by
  have h : θ_run defs (onTc (τ := τ) (main (F := F))) (s₀ m ρ)
    (Pipeline.FramePost cfgs (dats m) 0 (Pipeline.afterTail₀ cfgs (dats m) 0 (V0 m) [hostOps1])) :=
    (θ_run defs _ _).mono (fun _ h => h.1) (run_value m ρ)
  have h' : θ_run defs (onTc (τ := τ) (main (F := F))) ⟨m, fun _ => 0, ρ⟩ (fun r => ∀ c : Dev nD,
      r.2.mem ((c.tc : Thread nD τ).loc main_v22) = result m c 0 (by decide)
      ∧ r.2.mem ((c.tc : Thread nD τ).loc main_v23) = result m c 1 (by decide)) := by
    run_from h
    · exact tail22 m c
    · exact tail23 m c
  have h2 := frame m ρ
  run_from h' & h2

set_option maxRecDepth 65536 in
/-- The block of words at a point is block row `t`. -/
theorem index0 : ∀ t : Fin cfg0.N, win0_0.index t 0 = t.val ∧ win0_0.index t 1 = 0 ∧ win0_0.index t 2 = 0 := by
  decide +kernel
/-- The block of codes is the whole array. -/
theorem index1 : win0_1.index t0 0 = 0 ∧ win0_1.index t0 1 = 0 ∧ win0_1.index t0 2 = 0 := by decide +kernel
/-- The block of scales is the whole array. -/
theorem index2 : win0_2.index t0 0 = 0 ∧ win0_2.index t0 1 = 0 ∧ win0_2.index t0 2 = 0 := by decide +kernel
/-- The block of biases is the whole array. -/
theorem index3 : win0_3.index t0 0 = 0 ∧ win0_3.index t0 1 = 0 := by decide +kernel

/-- A block row of the words, as the region finds them. -/
theorem words_block (c : Dev nD) (t : Fin cfg0.N) (r : Fin 1008) (l : Fin 128) :
    wordsAt m c t (ix3 0 r l) = V m c main_v1 (ix3 t r l) := by
  obtain ⟨e0, e1, e2⟩ := index0 t
  show V m c main_v1 (((cfg0.win 0).blk t).view.emb (ix3 0 r l)) = V m c main_v1 (ix3 t r l)
  congr 1
  refine funext fun a => Fin.ext ?_
  match a with
  | ⟨0, _⟩ => blk_simp [e0]; rfl
  | ⟨1, _⟩ => blk_simp [e1]
  | ⟨2, _⟩ => blk_simp [e2]

/-- The words of a block row, in the argument. -/
theorem wordsAt_apply (c : Dev nD) (t : Fin cfg0.N) (r : Fin 1008) (l : Fin 128) :
    wordsAt m c t (ix3 0 r l) = m ((c.tc : Thread nD τ).loc main_arg0) (ix1 ⟨t.val * 129024 + r.val * 128 + l.val, by
      have := t.isLt; have h : cfg0.N = 21 := rfl; omega⟩) := by
  rw [words_block]
  show StableHlo.after hostOps0 _ _ _ = _
  unfold hostOps0
  after_reads_at

/-- The row of the window at position `q` of the contraction. -/
def kyOf (q : Fin 256) : Fin 8 := ⟨q.val / 128 * 4 + q.val / 4 % 4, by omega⟩
/-- The column of the window at position `q`. -/
def kxOf (q : Fin 256) : Fin 8 := ⟨q.val / 64 % 2 * 4 + q.val % 4, by omega⟩
/-- The channel of position `q`: kind 1 lists the newest frame first. -/
def cOf (k : Fin 2) (q : Fin 256) : Fin 4 := ⟨(q.val / 16 % 4 + 3 * k.val) % 4, by omega⟩

/-- The two kinds' weight rows out of the weights: kind 0 with the channels in order, kind 1 with the last channel first. -/
def kinds {e : EltTy} (x : Vec F S8x8x4x96 e) : Vec F S2x96x256 e :=
  shapeCast S2x96x256 (concatenate S2x96x2x2x4x4x4 0
    [⟨S1x96x2x2x4x4x4, broadcastInDim S1x96x2x2x4x4x4 ![1, 2, 3, 4, 5, 6] bcast_S96x2x2x4x4x4_S1x96x2x2x4x4x4_1_2_3_4_5_6
      (transpose S96x2x2x4x4x4 [5, 0, 2, 4, 1, 3] (shapeCast S2x4x2x4x4x96 x shapeCasts_S8x8x4x96_S2x4x2x4x4x96) transposes_S2x4x2x4x4x96_S96x2x2x4x4x4_5_0_2_4_1_3)⟩,
     ⟨S1x96x2x2x4x4x4, broadcastInDim S1x96x2x2x4x4x4 ![1, 2, 3, 4, 5, 6] bcast_S96x2x2x4x4x4_S1x96x2x2x4x4x4_1_2_3_4_5_6
      (concatenate S96x2x2x4x4x4 3
        [⟨S96x2x2x1x4x4, extractStridedSlice S96x2x2x1x4x4 ![0, 0, 0, 3, 0, 0]
            (transpose S96x2x2x4x4x4 [5, 0, 2, 4, 1, 3] (shapeCast S2x4x2x4x4x96 x shapeCasts_S8x8x4x96_S2x4x2x4x4x96) transposes_S2x4x2x4x4x96_S96x2x2x4x4x4_5_0_2_4_1_3)
            slices_S96x2x2x4x4x4_S96x2x2x1x4x4_0_0_0_3_0_0⟩,
         ⟨S96x2x2x3x4x4, extractStridedSlice S96x2x2x3x4x4 ![0, 0, 0, 0, 0, 0]
            (transpose S96x2x2x4x4x4 [5, 0, 2, 4, 1, 3] (shapeCast S2x4x2x4x4x96 x shapeCasts_S8x8x4x96_S2x4x2x4x4x96) transposes_S2x4x2x4x4x96_S96x2x2x4x4x4_5_0_2_4_1_3)
            slices_S96x2x2x4x4x4_S96x2x2x3x4x4_0_0_0_0_0_0⟩]
        concatenates_S96x2x2x1x4x4_S96x2x2x3x4x4_S96x2x2x4x4x4_d3)⟩]
    concatenates_S1x96x2x2x4x4x4_S1x96x2x2x4x4x4_S2x96x2x2x4x4x4_d0) shapeCasts_S2x96x2x2x4x4x4_S2x96x256

/-- An element of the two kinds' weight rows is a weight at its window row, column and channel. -/
theorem kinds_apply {e : EltTy} (x : Vec F S8x8x4x96 e) (k : Fin 2) (ch : Fin 96) (q : Fin 256) :
    kinds x (ix3 k ch q) = x (ix4 (kyOf q) (kxOf q) (cOf k q) ch) := by
  have hq := q.isLt
  pointwise [kinds]
  split
  · next h =>
    congr 1
    refine funext fun a => Fin.ext ?_
    match a with
    | ⟨0, _⟩ => simp [kyOf] <;> omega
    | ⟨1, _⟩ => simp [kxOf] <;> omega
    | ⟨2, _⟩ => simp [cOf] <;> omega
    | ⟨3, _⟩ => rfl
  · next h =>
    split
    · next h2 =>
      congr 1
      refine funext fun a => Fin.ext ?_
      match a with
      | ⟨0, _⟩ => simp [kyOf] <;> omega
      | ⟨1, _⟩ => simp [kxOf] <;> omega
      | ⟨2, _⟩ => simp [cOf] <;> omega
      | ⟨3, _⟩ => rfl
    · next h2 =>
      congr 1
      refine funext fun a => Fin.ext ?_
      match a with
      | ⟨0, _⟩ => simp [kyOf] <;> omega
      | ⟨1, _⟩ => simp [kxOf] <;> omega
      | ⟨2, _⟩ => simp [cOf] <;> omega
      | ⟨3, _⟩ => rfl

/-- The code rows, as the region finds them, read from the argument. -/
theorem codes_entry (c : Dev nD) (k : Fin 2) (ch : Fin 96) (q : Fin 256) :
    V m c main_v10 (ix3 k ch q) = m ((c.tc : Thread nD τ).loc main_arg1) (ix4 (kyOf q) (kxOf q) (cOf k q) ch) := by
  have h : V m c main_v10 = kinds (F := F) (e := .fp8e4m3) (m ((c.tc : Thread nD τ).loc main_arg1)) := by chain_rfl
  rw [h]; exact kinds_apply _ k ch q

/-- The scale rows, as the region finds them, read from the argument. -/
theorem scale_entry (c : Dev nD) (k : Fin 2) (ch : Fin 96) (q : Fin 256) :
    V m c main_v19 (ix3 k ch q) = m ((c.tc : Thread nD τ).loc main_arg2) (ix2 (cOf k q) ch) := by
  have h : V m c main_v19 = kinds (F := F) (e := .f32) (broadcastInDim S8x8x4x96 ![2, 3] bcast_S4x96_S8x8x4x96_2_3
    (m ((c.tc : Thread nD τ).loc main_arg2))) := by chain_rfl
  rw [h]; refine (kinds_apply _ k ch q).trans ?_
  pointwise

/-- The bias column, as the region finds it, read from the argument. -/
theorem bias_entry (c : Dev nD) (ch : Fin 96) :
    V m c main_v20 (ix2 ch 0) = m ((c.tc : Thread nD τ).loc main_arg3) (ix1 ch) := by
  show StableHlo.after hostOps0 _ _ _ = _
  unfold hostOps0
  after_reads_at

/-- The weights' codes as the body reads them. -/
theorem codes_block (c : Dev nD) (k : Fin 2) (ch : Fin 96) (q : Fin 256) :
    iblk m c 1 t0 (ix3 k ch q) = m ((c.tc : Thread nD τ).loc main_arg1) (ix4 (kyOf q) (kxOf q) (cOf k q) ch) := by
  obtain ⟨e0, e1, e2⟩ := index1
  refine Eq.trans ?_ (codes_entry m c k ch q)
  show V m c main_v10 (((cfg0.win 1).blk t0).view.emb (ix3 k ch q)) = V m c main_v10 (ix3 k ch q)
  congr 1
  refine funext fun a => Fin.ext ?_
  match a with
  | ⟨0, _⟩ => blk_simp [e0]
  | ⟨1, _⟩ => blk_simp [e1]
  | ⟨2, _⟩ => blk_simp [e2]

/-- The weights' scales as the body reads them. -/
theorem scale_block (c : Dev nD) (k : Fin 2) (ch : Fin 96) (q : Fin 256) :
    iblk m c 2 t0 (ix3 k ch q) = m ((c.tc : Thread nD τ).loc main_arg2) (ix2 (cOf k q) ch) := by
  obtain ⟨e0, e1, e2⟩ := index2
  refine Eq.trans ?_ (scale_entry m c k ch q)
  show V m c main_v19 (((cfg0.win 2).blk t0).view.emb (ix3 k ch q)) = V m c main_v19 (ix3 k ch q)
  congr 1
  refine funext fun a => Fin.ext ?_
  match a with
  | ⟨0, _⟩ => blk_simp [e0]
  | ⟨1, _⟩ => blk_simp [e1]
  | ⟨2, _⟩ => blk_simp [e2]

/-- The bias as the body reads it. -/
theorem bias_block (c : Dev nD) (ch : Fin 96) :
    iblk m c 3 t0 (ix2 ch 0) = m ((c.tc : Thread nD τ).loc main_arg3) (ix1 ch) := by
  obtain ⟨e0, e1⟩ := index3
  refine Eq.trans ?_ (bias_entry m c ch)
  show V m c main_v20 (((cfg0.win 3).blk t0).view.emb (ix2 ch 0)) = V m c main_v20 (ix2 ch 0)
  congr 1
  refine funext fun a => Fin.ext ?_
  match a with
  | ⟨0, _⟩ => blk_simp [e0]
  | ⟨1, _⟩ => blk_simp [e1] <;> rfl

end Cert.KernelIdeal.Body
-- ==== Proof.KernelIdealPixel.lean ====
/- The pixels the body of `KernelIdeal` unpacks, at `Ideal`: every element of a piece is one byte of one word. -/
module

public import proofs.«01_k».proof.Proof.KernelIdealArray
public import Idealize.ShloMosaic.Lib.BitcastPair

@[expose] public section

set_option maxRecDepth 16384

noncomputable section

namespace Cert.KernelIdeal.Body

open Idealize.ShloMosaic Idealize.ShloMosaic.TcCoe
open Cert.KernelIdeal Cert.KernelIdeal.Gen

/-- Words read as bytes: row `a` of the bytes is byte `a % 4` of the word in row `a / 4`. -/
theorem bytes_apply (x : IVec S8x128 32) (a : Fin 32) (l : Fin 128) :
    bitcast S32x128 8 x bitcasts_S8x128_w32_S32x128_w8 (ix2 a l)
      = (x (ix2 ⟨a.val / 4, by omega⟩ l)).extractLsb' (8 * (a.val % 4)) 8 := by
  apply BitVec.eq_of_getLsbD_eq
  intro i hi
  rw [bitcast_getLsbD x bitcasts_S8x128_w32_S32x128_w8 _ i hi (by decide), BitVec.getLsbD_extractLsb']
  have hr : S32x128.row (ix2 a l) = a.val := rfl
  have e1 : (S32x128.row (ix2 a l) * 8 + i) / 32 = a.val / 4 := by rw [hr]; omega
  have e2 : (S32x128.row (ix2 a l) * 8 + i) % 32 = 8 * (a.val % 4) + i := by rw [hr]; omega
  rw [e2, decide_eq_true hi, Bool.true_and]
  congr 2
  funext c
  match c with
  | ⟨0, _⟩ => exact Fin.ext ((Shape.Bitcasts.srcIdx_row _ _ _ _ ⟨0, Nat.zero_lt_two⟩ rfl).trans e1)
  | ⟨1, _⟩ => exact Fin.ext (Shape.Bitcasts.srcIdx_other _ _ _ _ ⟨1, Nat.one_lt_two⟩ (by show ¬ 1 + 2 = 2; omega))

/-- A byte of a word as a number. -/
def byteOf (w : BitVec 32) (j : ℕ) : Ideal .bf16 := FloatOps.uitofp .bf16 (w.extractLsb' (8 * j) 8)

/-- The index `pix`, by coordinates. -/
theorem pix_eq (r : Fin 32) (p : Fin 2) (l : Fin 128) : pix r p l = ix6 0 0 0 r p l := by
  funext a
  match a with
  | ⟨0, _⟩ => rfl | ⟨1, _⟩ => rfl | ⟨2, _⟩ => rfl | ⟨3, _⟩ => rfl | ⟨4, _⟩ => rfl | ⟨5, _⟩ => rfl

/-- Byte row `n` of eight rows of words, as a number. -/
def byteAt (X : IVec S8x128 32) (n : ℕ) (hn : n < 32) (l : Fin 128) : Ideal .bf16 := byteOf (X (ix2 ⟨n / 4, by omega⟩ l)) (n % 4)

/-- A row of widened bytes is a byte of a word. -/
theorem byteAt_eq (X : IVec S8x128 32) (n : Fin 32) (l : Fin 128) :
    FloatOps.uitofp (F := Ideal) .bf16 (bitcast S32x128 8 X bitcasts_S8x128_w32_S32x128_w8 (ix2 n l)) = byteAt X n.val n.isLt l := by
  rw [bytes_apply]; rfl

/-- Equal positions give equal bytes. -/
theorem byteAt_congr (X : IVec S8x128 32) {n n' : ℕ} (e : n = n') (h : n < 32) (h' : n' < 32) (l : Fin 128) :
    byteAt X n h l = byteAt X n' h' l := by subst e; rfl

/-- A select on a true bit. -/
theorem select_one (x y : BitVec 32) : Scalar.select 1#1 x y = x := rfl
/-- A select on a false bit. -/
theorem select_zero (x y : BitVec 32) : Scalar.select 0#1 x y = y := rfl

/-- The signed compare of a row number with four. -/
theorem slt_four (R : Fin 8) : IntOp.cmpi .slt (BitVec.ofNat 32 R.val) 4#32 = if R.val < 4 then 1#1 else 0#1 := by
  revert R; decide

/-- The first eight words of kind 1. -/
theorem front_apply (a d : Vec Ideal S1x8x128 .i32) (R : Fin 8) (l : Fin 128) :
    k0_pay125 a d (ix2 R l) = if R.val < 4 then d (ix3 0 R l) else IntOp.andi (a (ix3 0 R l)) (d (ix3 0 ⟨4 + R.val % 4, by omega⟩ l)) := by
  pointwise [k0_pay125, k0_pay120, k0_pay123, k0_pay124, k0_pay121]
  rw [slt_four]
  split
  · rw [select_one]
  · rw [select_zero, select_zero]
    exact congrArg₂ IntOp.andi rfl (congrArg (fun i => d (ix3 0 i l)) (Fin.ext (by simp only; omega)))

/-- The mask of the words in the same rows. -/
theorem mask_apply (d : Vec Ideal S1x8x128 .i32) (R : Fin 8) (l : Fin 128) :
    k0_pay124 d (ix2 R l) = d (ix3 0 ⟨4 + R.val % 4, by omega⟩ l) := by
  pointwise [k0_pay120, k0_pay123, k0_pay124, k0_pay121]
  rw [slt_four]
  split
  · rw [select_one]
    exact congrArg (fun i => d (ix3 0 i l)) (Fin.ext (by simp only; omega))
  · rw [select_zero]
    exact congrArg (fun i => d (ix3 0 i l)) (Fin.ext (by simp only; omega))

/-- Kind 0's widened pieces, byte by byte. -/
theorem piece0_bytes (a b d : Vec Ideal S1x8x128 .i32) (r : Fin 32) (p : Fin 2) (l : Fin 128) :
    piece 0 a b d (pix r p l) = if h : 2 * r.val + p.val < 32 then byteAt (k0_pay121 a) (2 * r.val + p.val) h l
      else byteAt (k0_pay122 b) (2 * r.val + p.val - 32) (by omega) l := by
  rw [pix_eq]
  unfold piece
  pointwise [k0_pay130, k0_pay128, k0_pay129, k0_pay126, k0_pay127]
  have hp := p.isLt
  split <;> split
  · refine Eq.trans ?_ (dif_pos (by omega)).symm
    exact (byteAt_eq _ _ l).trans (byteAt_congr _ (by simp only; omega) _ _ _)
  · refine Eq.trans ?_ (dif_neg (by omega)).symm
    exact (byteAt_eq _ _ l).trans (byteAt_congr _ (by simp only; omega) _ _ _)
  · refine Eq.trans ?_ (dif_pos (by omega)).symm
    exact (byteAt_eq _ _ l).trans (byteAt_congr _ (by simp only; omega) _ _ _)
  · refine Eq.trans ?_ (dif_neg (by omega)).symm
    exact (byteAt_eq _ _ l).trans (byteAt_congr _ (by simp only; omega) _ _ _)

/-- Kind 1's widened pieces, byte by byte. -/
theorem piece1_bytes (a b d : Vec Ideal S1x8x128 .i32) (r : Fin 32) (p : Fin 2) (l : Fin 128) :
    piece 1 a b d (pix r p l) = if h : 2 * r.val + p.val < 32 then byteAt (k0_pay125 a d) (2 * r.val + p.val) h l
      else byteAt (andi (k0_pay122 b) (k0_pay124 d)) (2 * r.val + p.val - 32) (by omega) l := by
  rw [pix_eq]
  unfold piece
  pointwise [k0_pay131]
  have hp := p.isLt
  split <;> split
  · refine Eq.trans ?_ (dif_pos (by omega)).symm
    exact (byteAt_eq _ _ l).trans (byteAt_congr _ (by simp only; omega) _ _ _)
  · refine Eq.trans ?_ (dif_neg (by omega)).symm
    exact (byteAt_eq _ _ l).trans (byteAt_congr _ (by simp only; omega) _ _ _)
  · refine Eq.trans ?_ (dif_pos (by omega)).symm
    exact (byteAt_eq _ _ l).trans (byteAt_congr _ (by simp only; omega) _ _ _)
  · refine Eq.trans ?_ (dif_neg (by omega)).symm
    exact (byteAt_eq _ _ l).trans (byteAt_congr _ (by simp only; omega) _ _ _)

/-- Eight rows of the block of words, element by element. -/
theorem octet_apply (x1 : Vec Ideal S1x1008x128 .i32) (n : ℕ) (hn : n < 126) (R : Fin 8) (l : Fin 128) :
    octet x1 n hn (ix3 0 R l) = x1 (ix3 0 ⟨8 * n + R.val, by omega⟩ l) := by
  show x1 _ = x1 _
  congr 1
  refine funext fun a => Fin.ext ?_
  match a with
  | ⟨0, _⟩ => rfl
  | ⟨1, _⟩ => show 8 * n + 1 * R.val = 8 * n + R.val; omega
  | ⟨2, _⟩ => show 0 + 1 * l.val = l.val; omega

/-- The word of a block row that holds position `f` of the four frames of kind `k`, pixel row `y` of block `bx`, in lane
    `l` of half `h`: of kind 0 frame `f`; of kind 1 the last frame first, then each frame but the first under the mask. -/
def srcWord (x1 : Vec Ideal S1x1008x128 .i32) (k : Fin 2) (bx : Fin 21) (h : Fin 2) (f y : Fin 4) (l : Fin 128) : BitVec 32 :=
  if k.val = 0 then x1 (ix3 0 ⟨24 * (2 * bx.val + h.val) + 4 * f.val + y.val, by omega⟩ l)
  else if f.val = 0 then x1 (ix3 0 ⟨24 * (2 * bx.val + h.val) + 16 + y.val, by omega⟩ l)
  else IntOp.andi (x1 (ix3 0 ⟨24 * (2 * bx.val + h.val) + 4 * f.val + y.val, by omega⟩ l))
    (x1 (ix3 0 ⟨24 * (2 * bx.val + h.val) + 20 + y.val, by omega⟩ l))

/-- The block of words read at equal row numbers. -/
theorem at_row (x1 : Vec Ideal S1x1008x128 .i32) {n n' : ℕ} (e : n = n') (h : n < 1008) (h' : n' < 1008) (l : Fin 128) :
    x1 (ix3 0 ⟨n, h⟩ l) = x1 (ix3 0 ⟨n', h'⟩ l) := by subst e; rfl

/-- Dropping the leading axis of eight rows. -/
theorem pay121_apply (a : Vec Ideal S1x8x128 .i32) (R : Fin 8) (l : Fin 128) : k0_pay121 a (ix2 R l) = a (ix3 0 R l) := by
  pointwise [k0_pay121]
/-- Dropping the leading axis of eight rows. -/
theorem pay122_apply (a : Vec Ideal S1x8x128 .i32) (R : Fin 8) (l : Fin 128) : k0_pay122 a (ix2 R l) = a (ix3 0 R l) := by
  pointwise [k0_pay122]

/-- A pixel of a piece is a byte of its word. -/
theorem pieceAt_apply (x1 : Vec Ideal S1x1008x128 .i32) (k : Fin 2) (bx : Fin 21) (h : Fin 2) (r : Fin 32) (p : Fin 2) (l : Fin 128) :
    pieceAt x1 k.val bx.val h.val bx.isLt h.isLt (pix r p l)
      = byteOf (srcWord x1 k bx h ⟨(2 * r.val + p.val) / 16, by omega⟩ ⟨(2 * r.val + p.val) / 4 % 4, by omega⟩ l) ((2 * r.val + p.val) % 4) := by
  have hp := p.isLt
  have hr := r.isLt
  unfold pieceAt srcWord
  match k with
  | ⟨0, _⟩ =>
    rw [piece0_bytes, if_pos rfl]
    split
    · unfold byteAt
      rw [pay121_apply, octet_apply]
      exact congrArg₂ byteOf (at_row _ (by simp only; omega) _ _ _) rfl
    · unfold byteAt
      rw [pay122_apply, octet_apply]
      exact congrArg₂ byteOf (at_row _ (by simp only; omega) _ _ _) (by omega)
  | ⟨1, _⟩ =>
    rw [piece1_bytes, if_neg (show ¬ (1 : ℕ) = 0 by decide)]
    split
    · unfold byteAt
      rw [front_apply, octet_apply, octet_apply, octet_apply]
      by_cases h4 : (2 * r.val + p.val) / 4 < 4
      · rw [if_pos h4, if_pos (by simp only; omega)]
        exact congrArg₂ byteOf (at_row _ (by simp only; omega) _ _ _) rfl
      · rw [if_neg h4, if_neg (by simp only; omega)]
        exact congrArg₂ byteOf (congrArg₂ IntOp.andi (at_row _ (by simp only; omega) _ _ _) (at_row _ (by simp only; omega) _ _ _)) rfl
    · unfold byteAt
      rw [andi_apply, pay122_apply, mask_apply, octet_apply, octet_apply, if_neg (by simp only; omega)]
      exact congrArg₂ byteOf (congrArg₂ IntOp.andi (at_row _ (by simp only; omega) _ _ _) (at_row _ (by simp only; omega) _ _ _)) (by omega)

/-- An element of a slab is a pixel of one of its two blocks. -/
theorem slab_apply (x1 : Vec Ideal S1x1008x128 .i32) (k h : Fin 2) (ox : Fin 20) (r : Fin 64) (p : Fin 2) (l : Fin 128) :
    slab (blocks x1) 0 k.val h.val ox.val (by decide) k.isLt h.isLt ox.isLt (ix6 0 0 0 r p l)
      = pieceAt x1 k.val (ox.val + r.val / 32) h.val (by omega) h.isLt (pix ⟨r.val % 32, by omega⟩ p l) := by
  have e : slab (blocks x1) 0 k.val h.val ox.val (by decide) k.isLt h.isLt ox.isLt (ix6 0 0 0 r p l)
      = blocks x1 (ix6 0 k h ⟨32 * ox.val + r.val, by omega⟩ p l) := by
    show blocks x1 _ = blocks x1 _
    congr 1
    refine funext fun a => Fin.ext ?_
    match a with
    | ⟨0, _⟩ => rfl
    | ⟨1, _⟩ => rfl
    | ⟨2, _⟩ => rfl
    | ⟨3, _⟩ => show 32 * ox.val + 1 * r.val = 32 * ox.val + r.val; omega
    | ⟨4, _⟩ => show 0 + 1 * p.val = p.val; omega
    | ⟨5, _⟩ => show 0 + 1 * l.val = l.val; omega
  rw [e]
  have e1 : (32 * ox.val + r.val) / 32 = ox.val + r.val / 32 := by omega
  have e2 : (32 * ox.val + r.val) % 32 = r.val % 32 := by omega
  show pieceAt x1 k.val ((32 * ox.val + r.val) / 32) h.val _ _ (pix ⟨(32 * ox.val + r.val) % 32, _⟩ p l) = _
  simp only [e1, e2]

/-- A pair buffer read at equal coordinates. -/
theorem six (s : Vec Ideal S1x1x1x64x2x128 .bf16) {r r' : Fin 64} {p p' : Fin 2} {l l' : Fin 128} (hr : r.val = r'.val) (hp : p.val = p'.val)
    (hl : l.val = l'.val) : s (ix6 0 0 0 r p l) = s (ix6 0 0 0 r' p' l') := by
  rw [Fin.ext hr, Fin.ext hp, Fin.ext hl]

/-- The gathered columns of one output position: rows are positions of the contraction, lanes the batch. -/
theorem pay5_apply (s0 s1 s2 s3 : Vec Ideal S1x1x1x64x2x128 .bf16) (q b : Fin 256) :
    k0_pay5 s0 s1 s2 s3 (ix2 q b)
      = (if b.val < 128 then (if q.val < 128 then s0 else s1) else (if q.val < 128 then s2 else s3))
          (ix6 0 0 0 ⟨q.val % 128 / 2, by omega⟩ ⟨q.val % 2, by omega⟩ ⟨b.val % 128, by omega⟩) := by
  pointwise [k0_pay5]
  have hb := b.isLt
  have hq := q.isLt
  split <;> rename_i h1 <;> split <;> rename_i h2 <;> split <;> rename_i h3
  all_goals
    first
    | exact six _ (by simp only; omega) (by show 0 = q.val % 2; omega) (by simp only; omega)
    | exact six _ (by simp only; omega) (by show 1 = q.val % 2; omega) (by simp only; omega)

end Cert.KernelIdeal.Body
-- ==== Proof.KernelIdealValue.lean ====
/- The results of `KernelIdeal`, at `Ideal`, element by element: a sum over the 256 positions of the contraction of a
   dequantised weight times a byte of a word, scaled, plus the bias, cut off below at zero. -/
module

public import proofs.«01_k».proof.Proof.KernelIdealPixel

@[expose] public section

set_option maxRecDepth 16384

noncomputable section

namespace Cert.KernelIdeal.Body

open Idealize.ShloMosaic Idealize.ShloMosaic.TcCoe
open Cert.KernelIdeal Cert.KernelIdeal.Gen

/-- The scale of the pixels. -/
def pixelScale : Ideal .f32 := Ideal.ofBits .f32 0x3B808081#32

/-- One output position: for channel `ch` and lane `b`. -/
theorem pay7_apply (br : Vec Ideal S96x128 .f32) (x : FVec Ideal S256x256 .bf16) (w : Vec Ideal S1x96x256 .bf16) (ch : Fin 96) (b : Fin 256) :
    k0_pay7 (k0_pay4 br) x (k0_pay6 w) (ix4 0 0 ch b)
      = max ((∑ q : Fin 256, w (ix3 0 ch q) * x (ix2 q b)) * pixelScale + br (ix2 ch ⟨b.val % 128, by omega⟩)) 0 := by
  pointwise [k0_pay7, k0_pay6, k0_pay4]
  refine congrArg₂ max (congrArg₂ (· + ·) rfl ?_) rfl
  split
  · exact congrArg (fun i => br (ix2 ch i)) (Fin.ext (by simp only; omega))
  · exact congrArg (fun i => br (ix2 ch i)) (Fin.ext (by simp only; omega))

variable (m : (ℓ : Loc nD τ sig) → Buf (Elt Ideal) ℓ)

/-- The words argument. -/
def argWords (c : Dev nD) : Vec Ideal S2709504 .i32 := m ((c.tc : Thread nD τ).loc main_arg0)
/-- The codes argument. -/
def argCodes (c : Dev nD) : Vec Ideal S8x8x4x96 .fp8e4m3 := m ((c.tc : Thread nD τ).loc main_arg1)
/-- The scales argument. -/
def argScale (c : Dev nD) : Vec Ideal S4x96 .f32 := m ((c.tc : Thread nD τ).loc main_arg2)
/-- The bias argument. -/
def argBias (c : Dev nD) : Vec Ideal S96 .f32 := m ((c.tc : Thread nD τ).loc main_arg3)

/-- A dequantised weight: a code times its channel's scale. -/
def wt (codes : Vec Ideal S8x8x4x96 .fp8e4m3) (scale : Vec Ideal S4x96 .f32) (ky kx : Fin 8) (ci : Fin 4) (ch : Fin 96) : EReal :=
  let x : EReal := codes (ix4 ky kx ci ch)
  let y : EReal := scale (ix2 ci ch)
  x * y

/-- The weights the body holds. -/
theorem weights_apply (c : Dev nD) (k : Fin 2) (ch : Fin 96) (q : Fin 256) :
    weights m c (ix3 k ch q) = wt (argCodes m c) (argScale m c) (kyOf q) (kxOf q) (cOf k q) ch := by
  have h1 : argCodes m c (ix4 (kyOf q) (kxOf q) (cOf k q) ch) = iblk m c 1 t0 (ix3 k ch q) := (codes_block m c k ch q).symm
  have h2 : argScale m c (ix2 (cOf k q) ch) = iblk m c 2 t0 (ix3 k ch q) := (scale_block m c k ch q).symm
  unfold wt
  rw [h1, h2]
  unfold weights
  pointwise [k0_pay118]
  try rfl

/-- The bias rows the body holds. -/
theorem biasRows_apply (c : Dev nD) (ch : Fin 96) (l : Fin 128) : biasRows m c (ix2 ch l) = argBias m c (ix1 ch) := by
  have h1 : argBias m c (ix1 ch) = iblk m c 3 t0 (ix2 ch 0) := (bias_block m c ch).symm
  rw [h1]
  unfold biasRows
  pointwise [k0_pay119]
  try rfl

/-- The pixel of position `q` of the contraction for output position `(oy, ox)` and batch element `b`. -/
def pixelOf (W : Fin cfg0.N → Vec Ideal S1x1008x128 .i32) (k : Fin 2) (oy ox : Fin 20) (b q : Fin 256) : EReal :=
  byteOf (srcWord (W ⟨oy.val + q.val / 128, by show _ < 21; omega⟩) k ⟨ox.val + q.val / 64 % 2, by omega⟩ ⟨b.val / 128, by omega⟩
    ⟨q.val / 16 % 4, by omega⟩ ⟨q.val / 4 % 4, by omega⟩ ⟨b.val % 128, by omega⟩) (q.val % 4)

/-- Bytes of words read at equal places are equal. -/
theorem srcWord_congr {x x' : Vec Ideal S1x1008x128 .i32} {k : Fin 2} {bx bx' : Fin 21} {h h' : Fin 2} {f f' y y' : Fin 4} {l : Fin 128} {j j' : ℕ}
    (e : x = x') (e1 : bx.val = bx'.val) (e2 : h.val = h'.val) (e3 : f.val = f'.val) (e4 : y.val = y'.val) (e5 : j = j') :
    byteOf (srcWord x k bx h f y l) j = byteOf (srcWord x' k bx' h' f' y' l) j' := by
  rw [e, Fin.ext e1, Fin.ext e2, Fin.ext e3, Fin.ext e4, e5]

/-- The gathered columns, out of two block rows of words. -/
theorem columns_apply (W : Fin cfg0.N → Vec Ideal S1x1008x128 .i32) (k : Fin 2) (oy ox : Fin 20) (q b : Fin 256)
    (tp tc : Fin cfg0.N) (hp : tp.val = oy.val) (hc : tc.val = oy.val + 1) :
    k0_pay5 (slab (blocks (W tp)) 0 k.val 0 ox.val (by decide) k.isLt (by decide) ox.isLt)
        (slab (blocks (W tc)) 0 k.val 0 ox.val (by decide) k.isLt (by decide) ox.isLt)
        (slab (blocks (W tp)) 0 k.val 1 ox.val (by decide) k.isLt (by decide) ox.isLt)
        (slab (blocks (W tc)) 0 k.val 1 ox.val (by decide) k.isLt (by decide) ox.isLt) (ix2 q b)
      = pixelOf W k oy ox b q := by
  have hq := q.isLt
  have hb := b.isLt
  rw [pay5_apply]
  unfold pixelOf
  have hW : ∀ (t : Fin cfg0.N) (n : ℕ) (hn : n < cfg0.N), t.val = n → W t = W ⟨n, hn⟩ := fun t n hn e => by subst e; rfl
  by_cases h1 : b.val < 128
  · rw [if_pos h1]
    by_cases h2 : q.val < 128
    · rw [if_pos h2]
      refine (slab_apply (W tp) k 0 ox _ _ _).trans ((pieceAt_apply (W tp) k ⟨ox.val + q.val % 128 / 2 / 32, by omega⟩ 0 _ _ _).trans ?_)
      exact srcWord_congr (hW _ _ _ (by omega)) (by simp only; omega) (by simp only [Fin.val_zero]; omega) (by simp only; omega) (by simp only; omega) (by simp only; omega)
    · rw [if_neg h2]
      refine (slab_apply (W tc) k 0 ox _ _ _).trans ((pieceAt_apply (W tc) k ⟨ox.val + q.val % 128 / 2 / 32, by omega⟩ 0 _ _ _).trans ?_)
      exact srcWord_congr (hW _ _ _ (by omega)) (by simp only; omega) (by simp only [Fin.val_zero]; omega) (by simp only; omega) (by simp only; omega) (by simp only; omega)
  · rw [if_neg h1]
    by_cases h2 : q.val < 128
    · rw [if_pos h2]
      refine (slab_apply (W tp) k 1 ox _ _ _).trans ((pieceAt_apply (W tp) k ⟨ox.val + q.val % 128 / 2 / 32, by omega⟩ 1 _ _ _).trans ?_)
      exact srcWord_congr (hW _ _ _ (by omega)) (by simp only; omega) (by simp only [Fin.val_one]; omega) (by simp only; omega) (by simp only; omega) (by simp only; omega)
    · rw [if_neg h2]
      refine (slab_apply (W tc) k 1 ox _ _ _).trans ((pieceAt_apply (W tc) k ⟨ox.val + q.val % 128 / 2 / 32, by omega⟩ 1 _ _ _).trans ?_)
      exact srcWord_congr (hW _ _ _ (by omega)) (by simp only; omega) (by simp only [Fin.val_one]; omega) (by simp only; omega) (by simp only; omega) (by simp only; omega)

/-- A window of the weights is one kind's weights. -/
theorem wrow_apply (w : Vec Ideal S2x96x256 .bf16) (k : Fin 2) (ch : Fin 96) (q : Fin 256) :
    wrow w k.val k.isLt (ix3 0 ch q) = w (ix3 k ch q) := by
  show w _ = w _
  congr 1
  refine funext fun a => Fin.ext ?_
  match a with
  | ⟨0, _⟩ => rfl
  | ⟨1, _⟩ => show 0 + 1 * ch.val = ch.val; omega
  | ⟨2, _⟩ => show 0 + 1 * q.val = q.val; omega

/-- The index `oix`, by coordinates. -/
theorem oix_eq (ch : Fin 96) (b : Fin 256) : oix ch b = ix4 0 0 ch b := by
  funext a
  match a with
  | ⟨0, _⟩ => rfl | ⟨1, _⟩ => rfl | ⟨2, _⟩ => rfl | ⟨3, _⟩ => rfl

/-- An element of a result. -/
theorem result_apply (c : Dev nD) (k : Fin 2) (b : Fin 256) (oy ox : Fin 20) (ch : Fin 96) :
    result m c k.val k.isLt (ix4 b oy ox ch)
      = max ((∑ q : Fin 256, wt (argCodes m c) (argScale m c) (kyOf q) (kxOf q) (cOf k q) ch * pixelOf (wordsAt m c) k oy ox b q) * pixelScale
          + (show EReal from argBias m c (ix1 ch))) 0 := by
  have e : result m c k.val k.isLt (ix4 b oy ox ch)
      = rowTile (weights m c) (biasRows m c) (wordsAt m c (before (writer oy.val oy.isLt))) (wordsAt m c (writer oy.val oy.isLt)) k.val ox.val k.isLt
          ox.isLt (oix ch b) := by
    unfold result
    pointwise
    rfl
  rw [e, oix_eq]
  unfold rowTile
  refine (pay7_apply _ _ _ ch b).trans ?_
  rw [biasRows_apply]
  refine congrArg₂ max (congrArg₂ (· + ·) (congrArg₂ (· * ·) (Finset.sum_congr rfl fun q _ => ?_) rfl) rfl) rfl
  refine congrArg₂ (· * ·) ((wrow_apply _ k ch q).trans (weights_apply m c k ch q)) ?_
  exact columns_apply (wordsAt m c) k oy ox q b _ _ rfl rfl

end Cert.KernelIdeal.Body
-- ==== Proof.ReferenceIdealTerms.lean ====
/- The two results of `ReferenceIdeal` as terms in its arguments, step by step as the program writes them. -/
module

public import proofs.«01_k».proof.Proof.Gen.ReferenceIdeal.Frame
public import Idealize.ShloMosaic.Lib.Pipeline.ValueKit
public import Idealize.ShloMosaic.Lib.Pointwise
public import Idealize.ShloMosaic.Lib.StableHlo.ReadAt

@[expose] public section

set_option maxRecDepth 16384

noncomputable section

namespace Cert.ReferenceIdeal.Body

open Idealize.ShloMosaic Idealize.ShloMosaic.TcCoe
open Idealize.SL Idealize.SL.RA Idealize.SL.Sem
open Cert.ReferenceIdeal Cert.ReferenceIdeal.Gen

variable {F : FTy → Type} [FloatOps F]

/-- The gathered words: five frames and the mask of every block. -/
def planes (A : Vec F S2709504 .i32) : Vec F S21x21x2x6x4x128 .i32 := shapeCast S21x21x2x6x4x128 A shapeCasts_S2709504_S21x21x2x6x4x128

/-- The five frames. -/
def frames (A : Vec F S2709504 .i32) : Vec F S21x21x2x5x4x128 .i32 :=
  extractStridedSlice S21x21x2x5x4x128 ![0, 0, 0, 0, 0, 0] (planes A) slices_S21x21x2x6x4x128_S21x21x2x5x4x128_0_0_0_0_0_0

/-- The state's frames. -/
def state (A : Vec F S2709504 .i32) : Vec F S21x21x2x4x4x128 .i32 :=
  extractStridedSlice S21x21x2x4x4x128 ![0, 0, 0, 0, 0, 0] (frames A) slices_S21x21x2x5x4x128_S21x21x2x4x4x128_0_0_0_0_0_0

/-- The next state's frames. -/
def nextState (A : Vec F S2709504 .i32) : Vec F S21x21x2x4x4x128 .i32 :=
  concatenate S21x21x2x4x4x128 3 [⟨S21x21x2x3x4x128,
      andi (extractStridedSlice S21x21x2x3x4x128 ![0, 0, 0, 1, 0, 0] (frames A) slices_S21x21x2x5x4x128_S21x21x2x3x4x128_0_0_0_1_0_0)
        (broadcastInDim S21x21x2x3x4x128 ![0, 1, 2, 3, 4, 5] bcast_S21x21x2x1x4x128_S21x21x2x3x4x128_0_1_2_3_4_5
          (extractStridedSlice S21x21x2x1x4x128 ![0, 0, 0, 5, 0, 0] (planes A) slices_S21x21x2x6x4x128_S21x21x2x1x4x128_0_0_0_5_0_0))⟩,
    ⟨S21x21x2x1x4x128, extractStridedSlice S21x21x2x1x4x128 ![0, 0, 0, 4, 0, 0] (frames A) slices_S21x21x2x5x4x128_S21x21x2x1x4x128_0_0_0_4_0_0⟩]
    concatenates_S21x21x2x3x4x128_S21x21x2x1x4x128_S21x21x2x4x4x128_d3

/-- The images of four frames of words: every word is four pixels of a row. -/
def images (s : Vec F S21x21x2x4x4x128 .i32) : Vec F S256x84x84x4 .bf16 :=
  sitofp .bf16 (shapeCast S256x84x84x4 (transpose S2x128x21x4x21x4x4 [2, 5, 0, 4, 1, 6, 3]
    (andi (Host.shrsi
        (broadcastInDim S21x21x2x4x4x128x4 ![0, 1, 2, 3, 4, 5, 6] bcast_S21x21x2x4x4x128x1_S21x21x2x4x4x128x4_0_1_2_3_4_5_6
          (broadcastInDim S21x21x2x4x4x128x1 ![0, 1, 2, 3, 4, 5] bcast_S21x21x2x4x4x128_S21x21x2x4x4x128x1_0_1_2_3_4_5 s))
        (broadcastInDim S21x21x2x4x4x128x4 ![0, 1, 2, 3, 4, 5, 6] bcast_S1x1x1x1x1x1x4_S21x21x2x4x4x128x4_0_1_2_3_4_5_6
          (broadcastInDim S1x1x1x1x1x1x4 ![6] bcast_S4_S1x1x1x1x1x1x4_6
            (muli (broadcastInDim S4 ![] bcast_S_S4 (constantI S_ 32 8#32)) (iotaInDim S4 32 0)))))
      (broadcastInDim S21x21x2x4x4x128x4 ![] bcast_S_S21x21x2x4x4x128x4 (constantI S_ 32 255#32)))
    transposes_S21x21x2x4x4x128x4_S2x128x21x4x21x4x4_2_5_0_4_1_6_3) shapeCasts_S2x128x21x4x21x4x4_S256x84x84x4)

/-- The windows of eight rows. -/
def rowWindows (x : Vec F S256x84x84x4 .bf16) : Vec F S256x20x8x84x4 .bf16 :=
  concatenate S256x20x8x84x4 2
    [⟨S256x20x1x84x4, broadcastInDim S256x20x1x84x4 ![0, 1, 3, 4] bcast_S256x20x84x4_S256x20x1x84x4_0_1_3_4
       (Host.slice S256x20x84x4 ![0, 0, 0, 0] ![1, 4, 1, 1] x slicesBy_S256x84x84x4_S256x20x84x4_0s1_0s4_0s1_0s1)⟩,
     ⟨S256x20x1x84x4, broadcastInDim S256x20x1x84x4 ![0, 1, 3, 4] bcast_S256x20x84x4_S256x20x1x84x4_0_1_3_4
       (Host.slice S256x20x84x4 ![0, 1, 0, 0] ![1, 4, 1, 1] x slicesBy_S256x84x84x4_S256x20x84x4_0s1_1s4_0s1_0s1)⟩,
     ⟨S256x20x1x84x4, broadcastInDim S256x20x1x84x4 ![0, 1, 3, 4] bcast_S256x20x84x4_S256x20x1x84x4_0_1_3_4
       (Host.slice S256x20x84x4 ![0, 2, 0, 0] ![1, 4, 1, 1] x slicesBy_S256x84x84x4_S256x20x84x4_0s1_2s4_0s1_0s1)⟩,
     ⟨S256x20x1x84x4, broadcastInDim S256x20x1x84x4 ![0, 1, 3, 4] bcast_S256x20x84x4_S256x20x1x84x4_0_1_3_4
       (Host.slice S256x20x84x4 ![0, 3, 0, 0] ![1, 4, 1, 1] x slicesBy_S256x84x84x4_S256x20x84x4_0s1_3s4_0s1_0s1)⟩,
     ⟨S256x20x1x84x4, broadcastInDim S256x20x1x84x4 ![0, 1, 3, 4] bcast_S256x20x84x4_S256x20x1x84x4_0_1_3_4
       (Host.slice S256x20x84x4 ![0, 4, 0, 0] ![1, 4, 1, 1] x slicesBy_S256x84x84x4_S256x20x84x4_0s1_4s4_0s1_0s1)⟩,
     ⟨S256x20x1x84x4, broadcastInDim S256x20x1x84x4 ![0, 1, 3, 4] bcast_S256x20x84x4_S256x20x1x84x4_0_1_3_4
       (Host.slice S256x20x84x4 ![0, 5, 0, 0] ![1, 4, 1, 1] x slicesBy_S256x84x84x4_S256x20x84x4_0s1_5s4_0s1_0s1)⟩,
     ⟨S256x20x1x84x4, broadcastInDim S256x20x1x84x4 ![0, 1, 3, 4] bcast_S256x20x84x4_S256x20x1x84x4_0_1_3_4
       (Host.slice S256x20x84x4 ![0, 6, 0, 0] ![1, 4, 1, 1] x slicesBy_S256x84x84x4_S256x20x84x4_0s1_6s4_0s1_0s1)⟩,
     ⟨S256x20x1x84x4, broadcastInDim S256x20x1x84x4 ![0, 1, 3, 4] bcast_S256x20x84x4_S256x20x1x84x4_0_1_3_4
       (Host.slice S256x20x84x4 ![0, 7, 0, 0] ![1, 4, 1, 1] x slicesBy_S256x84x84x4_S256x20x84x4_0s1_7s4_0s1_0s1)⟩]
    concatenates_S256x20x1x84x4_S256x20x1x84x4_S256x20x1x84x4_S256x20x1x84x4_S256x20x1x84x4_S256x20x1x84x4_S256x20x1x84x4_S256x20x1x84x4_S256x20x8x84x4_d2

/-- The windows of eight columns of these. -/
def windows (x : Vec F S256x20x8x84x4 .bf16) : Vec F S256x20x8x20x8x4 .bf16 :=
  concatenate S256x20x8x20x8x4 4
    [⟨S256x20x8x20x1x4, broadcastInDim S256x20x8x20x1x4 ![0, 1, 2, 3, 5] bcast_S256x20x8x20x4_S256x20x8x20x1x4_0_1_2_3_5
       (Host.slice S256x20x8x20x4 ![0, 0, 0, 0, 0] ![1, 1, 1, 4, 1] x slicesBy_S256x20x8x84x4_S256x20x8x20x4_0s1_0s1_0s1_0s4_0s1)⟩,
     ⟨S256x20x8x20x1x4, broadcastInDim S256x20x8x20x1x4 ![0, 1, 2, 3, 5] bcast_S256x20x8x20x4_S256x20x8x20x1x4_0_1_2_3_5
       (Host.slice S256x20x8x20x4 ![0, 0, 0, 1, 0] ![1, 1, 1, 4, 1] x slicesBy_S256x20x8x84x4_S256x20x8x20x4_0s1_0s1_0s1_1s4_0s1)⟩,
     ⟨S256x20x8x20x1x4, broadcastInDim S256x20x8x20x1x4 ![0, 1, 2, 3, 5] bcast_S256x20x8x20x4_S256x20x8x20x1x4_0_1_2_3_5
       (Host.slice S256x20x8x20x4 ![0, 0, 0, 2, 0] ![1, 1, 1, 4, 1] x slicesBy_S256x20x8x84x4_S256x20x8x20x4_0s1_0s1_0s1_2s4_0s1)⟩,
     ⟨S256x20x8x20x1x4, broadcastInDim S256x20x8x20x1x4 ![0, 1, 2, 3, 5] bcast_S256x20x8x20x4_S256x20x8x20x1x4_0_1_2_3_5
       (Host.slice S256x20x8x20x4 ![0, 0, 0, 3, 0] ![1, 1, 1, 4, 1] x slicesBy_S256x20x8x84x4_S256x20x8x20x4_0s1_0s1_0s1_3s4_0s1)⟩,
     ⟨S256x20x8x20x1x4, broadcastInDim S256x20x8x20x1x4 ![0, 1, 2, 3, 5] bcast_S256x20x8x20x4_S256x20x8x20x1x4_0_1_2_3_5
       (Host.slice S256x20x8x20x4 ![0, 0, 0, 4, 0] ![1, 1, 1, 4, 1] x slicesBy_S256x20x8x84x4_S256x20x8x20x4_0s1_0s1_0s1_4s4_0s1)⟩,
     ⟨S256x20x8x20x1x4, broadcastInDim S256x20x8x20x1x4 ![0, 1, 2, 3, 5] bcast_S256x20x8x20x4_S256x20x8x20x1x4_0_1_2_3_5
       (Host.slice S256x20x8x20x4 ![0, 0, 0, 5, 0] ![1, 1, 1, 4, 1] x slicesBy_S256x20x8x84x4_S256x20x8x20x4_0s1_0s1_0s1_5s4_0s1)⟩,
     ⟨S256x20x8x20x1x4, broadcastInDim S256x20x8x20x1x4 ![0, 1, 2, 3, 5] bcast_S256x20x8x20x4_S256x20x8x20x1x4_0_1_2_3_5
       (Host.slice S256x20x8x20x4 ![0, 0, 0, 6, 0] ![1, 1, 1, 4, 1] x slicesBy_S256x20x8x84x4_S256x20x8x20x4_0s1_0s1_0s1_6s4_0s1)⟩,
     ⟨S256x20x8x20x1x4, broadcastInDim S256x20x8x20x1x4 ![0, 1, 2, 3, 5] bcast_S256x20x8x20x4_S256x20x8x20x1x4_0_1_2_3_5
       (Host.slice S256x20x8x20x4 ![0, 0, 0, 7, 0] ![1, 1, 1, 4, 1] x slicesBy_S256x20x8x84x4_S256x20x8x20x4_0s1_0s1_0s1_7s4_0s1)⟩]
    concatenates_S256x20x8x20x1x4_S256x20x8x20x1x4_S256x20x8x20x1x4_S256x20x8x20x1x4_S256x20x8x20x1x4_S256x20x8x20x1x4_S256x20x8x20x1x4_S256x20x8x20x1x4_S256x20x8x20x8x4_d4

/-- The convolution, scaled, with the bias, cut off below at zero. -/
def features (p : Vec F S256x20x8x20x8x4 .bf16) (w : Vec F S8x8x4x96 .bf16) (bias : Vec F S96 .f32) : Vec F S256x20x20x96 .bf16 :=
  truncf .bf16 (maximumf (addf (mulf
      (Host.dotGeneral dot_S256x20x8x20x8x4_S8x8x4x96_S256x20x20x96_524_201_013_3_n_n none p w)
      (broadcastInDim S256x20x20x96 ![] bcast_S_S256x20x20x96 (constant S_ .f32 0x3B808081#32)))
      (broadcastInDim S256x20x20x96 ![0, 1, 2, 3] bcast_S1x1x1x96_S256x20x20x96_0_1_2_3 (broadcastInDim S1x1x1x96 ![3] bcast_S96_S1x1x1x96_3 bias)))
      (broadcastInDim S256x20x20x96 ![] bcast_S_S256x20x20x96 (constant S_ .f32 0x00000000#32))) bitsLt_bf16_f32

set_option maxHeartbeats 4000000 in
/-- The first result after the host operations. -/
theorem after65 (U : Valuation τ sig (Elt F)) : StableHlo.after hostOps1 U (Proc.devRef .tc main_v65)
    = features (windows (rowWindows (images (state (U (Proc.devRef .tc main_arg0)))))) (U (Proc.devRef .tc main_v0)) (U (Proc.devRef .tc main_arg3)) := by
  chain_rfl

set_option maxHeartbeats 4000000 in
/-- The second result after the host operations. -/
theorem after121 (U : Valuation τ sig (Elt F)) : StableHlo.after hostOps1 U (Proc.devRef .tc main_v121)
    = features (windows (rowWindows (images (nextState (U (Proc.devRef .tc main_arg0)))))) (U (Proc.devRef .tc main_v0)) (U (Proc.devRef .tc main_arg3)) := by
  chain_rfl

end Cert.ReferenceIdeal.Body
-- ==== Proof.ReferenceIdealValue.lean ====
/- The results of `ReferenceIdeal`, at `Ideal`, element by element. -/
module

public import proofs.«01_k».proof.Proof.ReferenceIdealTerms
public import Idealize.ShloMosaic.Lib.Claim

@[expose] public section

set_option maxRecDepth 16384

noncomputable section

namespace Cert.ReferenceIdeal.Body

open Idealize.ShloMosaic Idealize.ShloMosaic.TcCoe
open Idealize.SL Idealize.SL.RA Idealize.SL.Sem
open Cert.ReferenceIdeal Cert.ReferenceIdeal.Gen

/-- Row `ky` of window `oy` is row `4 oy + ky` of the image. -/
theorem rowWindows_apply (x : Vec Ideal S256x84x84x4 .bf16) (b : Fin 256) (oy : Fin 20) (ky : Fin 8) (X : Fin 84) (c : Fin 4) :
    rowWindows x (ix5 b oy ky X c) = x (ix4 b ⟨4 * oy.val + ky.val, by omega⟩ X c) := by
  pointwise [rowWindows]
  fin_vals ky with hk
  all_goals simp only [hk, Nat.reduceSub, Nat.reduceLT, ↓reduceDIte]
  all_goals exact congrArg (fun i => x (ix4 b i X c)) (Fin.ext (by simp only; omega))

/-- Column `kx` of window `ox` is column `4 ox + kx` of the image. -/
theorem windows_apply (x : Vec Ideal S256x20x8x84x4 .bf16) (b : Fin 256) (oy ox : Fin 20) (ky kx : Fin 8) (c : Fin 4) :
    windows x (ix6 b oy ky ox kx c) = x (ix5 b oy ky ⟨4 * ox.val + kx.val, by omega⟩ c) := by
  pointwise [windows]
  fin_vals kx with hk
  all_goals simp only [hk, Nat.reduceSub, Nat.reduceLT, ↓reduceDIte]
  all_goals exact congrArg (fun i => x (ix5 b oy ky i c)) (Fin.ext (by simp only; omega))

/-- Pixel `x` of a word: its byte `x`, by a shift and a mask. -/
def wordPixel (w : BitVec 32) (x : ℕ) : Ideal .bf16 :=
  FloatOps.sitofp .bf16 (IntOp.andi (IntOp.shrsi ArithUnit.host w (IntOp.muli 8#32 (BitVec.ofNat 32 x))) 255#32)

/-- A pixel of an image is a byte of a word of the state. -/
theorem images_apply (s : Vec Ideal S21x21x2x4x4x128 .i32) (b : Fin 256) (Y X : Fin 84) (c : Fin 4) :
    images s (ix4 b Y X c) = wordPixel (s (ix6 ⟨Y.val / 4, by omega⟩ ⟨X.val / 4, by omega⟩ ⟨b.val / 128, by omega⟩ c
      ⟨Y.val % 4, by omega⟩ ⟨b.val % 128, by omega⟩)) (X.val % 4) := by
  pointwise [images]
  rfl

/-- The words read at equal positions. -/
theorem at_word (A : Vec Ideal S2709504 .i32) {n n' : ℕ} (e : n = n') (h : n < 2709504) (h' : n' < 2709504) :
    A (ix1 ⟨n, h⟩) = A (ix1 ⟨n', h'⟩) := by subst e; rfl

/-- The word of frame `f` (the mask is frame 5) at a block. -/
def word (A : Vec Ideal S2709504 .i32) (by' bx : Fin 21) (h : Fin 2) (f : Fin 6) (y : Fin 4) (l : Fin 128) : BitVec 32 :=
  A (ix1 ⟨by'.val * 129024 + bx.val * 6144 + h.val * 3072 + f.val * 512 + y.val * 128 + l.val, by omega⟩)

/-- A word of the state is a word of one of the four older frames. -/
theorem state_apply (A : Vec Ideal S2709504 .i32) (by' bx : Fin 21) (h : Fin 2) (f y : Fin 4) (l : Fin 128) :
    state A (ix6 by' bx h f y l) = word A by' bx h ⟨f.val, by omega⟩ y l := by
  pointwise [state, frames, planes]
  rfl

/-- A word of the next state is a masked word of frames 1 to 3, or a word of frame 4. -/
theorem nextState_apply (A : Vec Ideal S2709504 .i32) (by' bx : Fin 21) (h : Fin 2) (f y : Fin 4) (l : Fin 128) :
    nextState A (ix6 by' bx h f y l) = if f.val < 3 then IntOp.andi (word A by' bx h ⟨f.val + 1, by omega⟩ y l) (word A by' bx h 5 y l)
      else word A by' bx h 4 y l := by
  pointwise [nextState, frames, planes]
  split
  · exact congrArg₂ IntOp.andi (at_word A (by simp only; omega) _ _) (at_word A (by show _ = _ + 5 * 512 + _ + _; omega) _ _)
  · exact at_word A (by show _ = _ + 4 * 512 + _ + _; omega) _ _

/-- An index of the contraction: channel, row and column of the window. -/
def cidx (c : Fin 4) (ky kx : Fin 8) : dot_S256x20x8x20x8x4_S8x8x4x96_S256x20x20x96_524_201_013_3_n_n.contr.Idx := fun p => match p with
  | ⟨0, _⟩ => c | ⟨1, _⟩ => ky | ⟨2, _⟩ => kx

/-- The indices of the contraction are the channels, rows and columns of a window. -/
def cidxEquiv : Fin 4 × Fin 8 × Fin 8 ≃ dot_S256x20x8x20x8x4_S8x8x4x96_S256x20x20x96_524_201_013_3_n_n.contr.Idx where
  toFun t := cidx t.1 t.2.1 t.2.2
  invFun k := (k ⟨0, by decide⟩, k ⟨1, by decide⟩, k ⟨2, by decide⟩)
  left_inv _ := rfl
  right_inv k := by
    funext p
    match p with
    | ⟨0, _⟩ => rfl | ⟨1, _⟩ => rfl | ⟨2, _⟩ => rfl

/-- The patch element a term of the contraction reads. -/
theorem lhs_at (b : Fin 256) (oy ox : Fin 20) (ch : Fin 96) (c : Fin 4) (ky kx : Fin 8) :
    dot_S256x20x8x20x8x4_S8x8x4x96_S256x20x20x96_524_201_013_3_n_n.lhsIdx (ix4 b oy ox ch) (cidx c ky kx) = ix6 b oy ky ox kx c := by
  funext a
  match a with
  | ⟨0, _⟩ => rfl | ⟨1, _⟩ => rfl | ⟨2, _⟩ => rfl | ⟨3, _⟩ => rfl | ⟨4, _⟩ => rfl | ⟨5, _⟩ => rfl

/-- The weight a term of the contraction reads. -/
theorem rhs_at (b : Fin 256) (oy ox : Fin 20) (ch : Fin 96) (c : Fin 4) (ky kx : Fin 8) :
    dot_S256x20x8x20x8x4_S8x8x4x96_S256x20x20x96_524_201_013_3_n_n.rhsIdx (ix4 b oy ox ch) (cidx c ky kx) = ix4 ky kx c ch := by
  funext a
  match a with
  | ⟨0, _⟩ => rfl | ⟨1, _⟩ => rfl | ⟨2, _⟩ => rfl | ⟨3, _⟩ => rfl

/-- An output element: the sum over a window of pixel times weight, scaled, plus the bias, cut off below at zero. -/
theorem features_apply (p : Vec Ideal S256x20x8x20x8x4 .bf16) (w : Vec Ideal S8x8x4x96 .bf16) (bias : Vec Ideal S96 .f32)
    (b : Fin 256) (oy ox : Fin 20) (ch : Fin 96) : features p w bias (ix4 b oy ox ch)
      = max ((∑ t : Fin 4 × Fin 8 × Fin 8, p (ix6 b oy t.2.1 ox t.2.2 t.1) * w (ix4 t.2.1 t.2.2 t.1 ch)) * Ideal.ofBits .f32 0x3B808081#32
          + bias (ix1 ch)) 0 := by
  pointwise [features]
  refine congrArg₂ max (congrArg₂ (· + ·) (congrArg₂ (· * ·) ?_ rfl) rfl) rfl
  unfold Ideal.matmul
  rw [zero_add]
  refine (Fintype.sum_equiv cidxEquiv _ _ fun t => ?_).symm
  show _ = p (DotDims.lhsIdx _ _ (cidx t.1 t.2.1 t.2.2)) * w (DotDims.rhsIdx _ _ (cidx t.1 t.2.1 t.2.2))
  rw [lhs_at, rhs_at]

end Cert.ReferenceIdeal.Body
-- ==== Proof.ReferenceIdealRun.lean ====
/- The run of `ReferenceIdeal`: the dequantised weights its one region writes, and what its two result buffers hold. -/
module

public import proofs.«01_k».proof.Proof.ReferenceIdealTerms
public import proofs.«01_k».proof.Proof.Gen.ReferenceIdeal.Frame
public import Idealize.ShloMosaic.Lib.Pipeline.ValueKit
public import Idealize.ShloMosaic.Lib.Pointwise
public import Idealize.ShloMosaic.Lib.Claim

@[expose] public section

set_option maxRecDepth 16384

noncomputable section

namespace Cert.ReferenceIdeal.Body

open Idealize.ShloMosaic Idealize.ShloMosaic.TcCoe
open Idealize.SL Idealize.SL.RA Idealize.SL.Sem
open Cert.ReferenceIdeal Cert.ReferenceIdeal.Gen

variable {F : FTy → Type} [FloatOps F]
variable (m : (ℓ : Loc nD τ sig) → Buf (Elt F) ℓ) (ρ : Dev nD → PrngReg)

/-- The dequantised weights. -/
def weights (c : Dev nD) : Vec F S8x8x4x96 .bf16 :=
  k0_pay1 (m ((c.tc : Thread nD τ).loc main_arg1)) (m ((c.tc : Thread nD τ).loc main_arg2))

/-- The block of codes is the whole array. -/
theorem index0 : ∀ t : Fin cfg0.N, win0_0.index t 0 = 0 ∧ win0_0.index t 1 = 0 ∧ win0_0.index t 2 = 0 ∧ win0_0.index t 3 = 0 := by decide +kernel
/-- The block of scales is the whole array. -/
theorem index1 : ∀ t : Fin cfg0.N, win0_1.index t 0 = 0 ∧ win0_1.index t 1 = 0 := by decide +kernel
/-- The block of weights is the whole array. -/
theorem index2 : ∀ t : Fin cfg0.N, win0_2.index t 0 = 0 ∧ win0_2.index t 1 = 0 ∧ win0_2.index t 2 = 0 ∧ win0_2.index t 3 = 0 := by decide +kernel

/-- The block of codes is the whole argument. -/
theorem codes_block (c : Dev nD) (t : Fin cfg0.N) : iblk m c 0 t = m ((c.tc : Thread nD τ).loc main_arg1) := by
  obtain ⟨e0, e1, e2, e3⟩ := index0 t
  funext y
  show V m c main_arg1 (((cfg0.win 0).blk t).view.emb y) = V m c main_arg1 y
  congr 1
  refine funext fun a => Fin.ext ?_
  match a with
  | ⟨0, _⟩ => blk_simp [e0] | ⟨1, _⟩ => blk_simp [e1] | ⟨2, _⟩ => blk_simp [e2] | ⟨3, _⟩ => blk_simp [e3]

/-- The block of scales is the whole argument. -/
theorem scale_block (c : Dev nD) (t : Fin cfg0.N) : iblk m c 1 t = m ((c.tc : Thread nD τ).loc main_arg2) := by
  obtain ⟨e0, e1⟩ := index1 t
  funext y
  show V m c main_arg2 (((cfg0.win 1).blk t).view.emb y) = V m c main_arg2 y
  congr 1
  refine funext fun a => Fin.ext ?_
  match a with
  | ⟨0, _⟩ => blk_simp [e0] | ⟨1, _⟩ => blk_simp [e1]

/-- A store over the whole buffer leaves its payload. -/
theorem out_eq (x0 : Vec F S8x8x4x96 .fp8e4m3) (x1 : Vec F S4x96 .f32) : out0_2 x0 x1 = k0_pay1 x0 x1 := by
  have h0 : View.ld x0 r0_0 = x0 := by
    funext y
    show x0 _ = x0 y
    congr 1
    refine funext fun a => Fin.ext ?_
    match a with
    | ⟨0, _⟩ => show 0 + 1 * (y 0).val = (y 0).val; omega
    | ⟨1, _⟩ => show 0 + 1 * (y 1).val = (y 1).val; omega
    | ⟨2, _⟩ => show 0 + 1 * (y 2).val = (y 2).val; omega
    | ⟨3, _⟩ => show 0 + 1 * (y 3).val = (y 3).val; omega
  have h1 : View.ld x1 r0_1 = x1 := by
    funext y
    show x1 _ = x1 y
    congr 1
    refine funext fun a => Fin.ext ?_
    match a with
    | ⟨0, _⟩ => show 0 + 1 * (y 0).val = (y 0).val; omega
    | ⟨1, _⟩ => show 0 + 1 * (y 1).val = (y 1).val; omega
  unfold out0_2
  rw [h0, h1]
  exact View.canon_cons_unit_lit _ _ _ (by decide)

/-- The region's array after the run. -/
theorem final2 (c : Dev nD) : (dats m 0 c).arrAt 2 (cfgs 0).N = weights m c := by
  refine (dats m 0 c).arrAt_eq_of_covers 2 _ (by decide +kernel) fun t hf y => ?_
  blk_simp
  rw [after0_2, codes_block, scale_block, out_eq]
  obtain ⟨e0, e1, e2, e3⟩ := index2 t
  show weights m c _ = weights m c _
  congr 1
  refine funext fun a => Fin.ext ?_
  match a with
  | ⟨0, _⟩ => blk_simp [e0] | ⟨1, _⟩ => blk_simp [e1] | ⟨2, _⟩ => blk_simp [e2] | ⟨3, _⟩ => blk_simp [e3]

/-- The first result. -/
def result0 (c : Dev nD) : Vec F S256x20x20x96 .bf16 :=
  features (windows (rowWindows (images (state (m ((c.tc : Thread nD τ).loc main_arg0)))))) (weights m c) (m ((c.tc : Thread nD τ).loc main_arg3))

/-- The second result. -/
def result1 (c : Dev nD) : Vec F S256x20x20x96 .bf16 :=
  features (windows (rowWindows (images (nextState (m ((c.tc : Thread nD τ).loc main_arg0)))))) (weights m c) (m ((c.tc : Thread nD τ).loc main_arg3))

/-- After the region, the weights' buffer holds the dequantised weights. -/
theorem with_v0 (c : Dev nD) : Pipeline.withArrays (τ := τ) spec0 c (V0 m c) (fun w => (dats m 0 c).arrAt w (cfgs 0).N) (Proc.devRef .tc main_v0) = weights m c :=
  (Pipeline.withArrays_arr spec0 (by decide) c (V0 m c) _ 2).trans (final2 m c)
/-- After the region, the words are as launched. -/
theorem with_arg0 (c : Dev nD) : Pipeline.withArrays (τ := τ) spec0 c (V0 m c) (fun w => (dats m 0 c).arrAt w (cfgs 0).N) (Proc.devRef .tc main_arg0)
    = m ((c.tc : Thread nD τ).loc main_arg0) :=
  (Pipeline.withArrays_of_ne _ c (V0 m c) _ main_arg0 (by exact (by decide : ∀ w, Pipeline.arrRef spec0 w ≠ main_arg0))).trans (V_main_arg0 m c)
/-- After the region, the bias is as launched. -/
theorem with_arg3 (c : Dev nD) : Pipeline.withArrays (τ := τ) spec0 c (V0 m c) (fun w => (dats m 0 c).arrAt w (cfgs 0).N) (Proc.devRef .tc main_arg3)
    = m ((c.tc : Thread nD τ).loc main_arg3) :=
  (Pipeline.withArrays_of_ne _ c (V0 m c) _ main_arg3 (by exact (by decide : ∀ w, Pipeline.arrRef spec0 w ≠ main_arg3))).trans (V_main_arg3 m c)

/-- After the host operations, the first result. -/
theorem tail65 (c : Dev nD) : Pipeline.afterTail₀ cfgs (dats m) 0 (V0 m) [hostOps1] c main_v65 = result0 m c := by
  refine (after65 (Pipeline.withArrays (τ := τ) spec0 c (V0 m c) (fun w => (dats m 0 c).arrAt w (cfgs 0).N))).trans ?_
  rw [with_v0, with_arg0, with_arg3]
  rfl

/-- After the host operations, the second result. -/
theorem tail121 (c : Dev nD) : Pipeline.afterTail₀ cfgs (dats m) 0 (V0 m) [hostOps1] c main_v121 = result1 m c := by
  refine (after121 (Pipeline.withArrays (τ := τ) spec0 c (V0 m c) (fun w => (dats m 0 c).arrAt w (cfgs 0).N))).trans ?_
  rw [with_v0, with_arg0, with_arg3]
  rfl

/-- The run with what the two result buffers hold. -/
theorem run_result : θ_run defs (onTc (τ := τ) (main (F := F))) ⟨m, fun _ => 0, ρ⟩ (fun r => ∀ c : Dev nD,
    r.2.mem ((c.tc : Thread nD τ).loc main_v65) = result0 m c
    ∧ r.2.mem ((c.tc : Thread nD τ).loc main_v121) = result1 m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) := by
  have h : θ_run defs (onTc (τ := τ) (main (F := F))) (s₀ m ρ)
    (Pipeline.FramePost cfgs (dats m) 0 (Pipeline.afterTail₀ cfgs (dats m) 0 (V0 m) [hostOps1])) := run_main m ρ
  have h' : θ_run defs (onTc (τ := τ) (main (F := F))) ⟨m, fun _ => 0, ρ⟩ (fun r => ∀ c : Dev nD,
      r.2.mem ((c.tc : Thread nD τ).loc main_v65) = result0 m c
      ∧ r.2.mem ((c.tc : Thread nD τ).loc main_v121) = result1 m c) := by
    run_from h
    · exact tail65 m c
    · exact tail121 m c
  have h2 := Gen.frame m ρ
  run_from h' & h2

end Cert.ReferenceIdeal.Body
-- ==== Proof.Equation.lean ====
/- The two programs' results are equal, element by element, at the extended reals: the reference's sum over channel, row and
   column of a window is the kernel's sum over its 256 positions, and both read the same byte of the same word. -/
module

public import proofs.«01_k».proof.Proof.KernelIdealValue
public import proofs.«01_k».proof.Proof.ReferenceIdealValue
public import proofs.«01_k».proof.Proof.ReferenceIdealRun

@[expose] public section

set_option maxRecDepth 16384

noncomputable section

namespace Cert.Equation

open Idealize.ShloMosaic Idealize.ShloMosaic.TcCoe
open Idealize.SL Idealize.SL.RA Idealize.SL.Sem
open Cert.KernelIdeal Cert.KernelIdeal.Gen Cert.KernelIdeal.Body
open Cert.ReferenceIdeal.Body (word wordPixel state nextState images rowWindows windows features images_apply state_apply nextState_apply
  rowWindows_apply windows_apply features_apply)

/-! ## A byte of a word -/

/-- The low eight bits of a word shifted right are a byte of it. -/
theorem low_byte (w : BitVec 32) (n : ℕ) (hn : n ≤ 24) : w.sshiftRight n &&& 255#32 = (w.extractLsb' n 8).setWidth 32 := by
  have h255 : ∀ i : Fin 32, (255#32).getLsbD i.val = decide (i.val < 8) := by decide
  refine BitVec.eq_of_getLsbD_eq fun i hi => ?_
  have h := h255 ⟨i, hi⟩
  simp only at h
  rw [BitVec.getLsbD_and, h, BitVec.getLsbD_setWidth, BitVec.getLsbD_extractLsb', BitVec.getLsbD_sshiftRight]
  by_cases h8 : i < 8
  · have h1 : n + i < 32 := by omega
    simp [h8, h1, hi]
  · simp [h8]

/-- The shift by eight times `j` on the host. -/
theorem host_shift (w : BitVec 32) (j : ℕ) (hj : j < 4) :
    IntOp.shrsi ArithUnit.host w (IntOp.muli 8#32 (BitVec.ofNat 32 j)) = w.sshiftRight (8 * j) := by
  have e : ∀ j : Fin 4, (IntOp.muli 8#32 (BitVec.ofNat 32 j.val)).toNat = 8 * j.val := by decide
  have e' := e ⟨j, hj⟩
  simp only at e'
  unfold IntOp.shrsi
  rw [if_pos (by omega), BitVec.sshiftRight', e']

/-- The reference's pixel is the kernel's byte. -/
theorem wordPixel_eq (w : BitVec 32) (j : ℕ) (hj : j < 4) : wordPixel w j = byteOf w j := by
  unfold wordPixel byteOf
  rw [host_shift w j hj]
  show ((((w.sshiftRight (8 * j) &&& 255#32).toInt : ℝ)) : EReal) = (((w.extractLsb' (8 * j) 8).toNat : ℝ) : EReal)
  have hlt := (w.extractLsb' (8 * j) 8).isLt
  have hn : ((w.extractLsb' (8 * j) 8).setWidth 32).toNat = (w.extractLsb' (8 * j) 8).toNat := by
    rw [BitVec.toNat_setWidth]; omega
  rw [low_byte w (8 * j) (by omega), BitVec.toInt_eq_toNat_of_lt (by omega), hn]
  norm_cast

/-! ## The positions of the contraction -/

/-- The position of the contraction of a channel, row and column. -/
def posOf (k : Fin 2) (t : Fin 4 × Fin 8 × Fin 8) : Fin 256 :=
  ⟨t.2.1.val / 4 * 128 + t.2.2.val / 4 * 64 + (t.1.val + k.val) % 4 * 16 + t.2.1.val % 4 * 4 + t.2.2.val % 4, by
    have := t.2.1.isLt; have := t.2.2.isLt; omega⟩

/-- `posOf` inverts the reading of a position's channel, row and column. -/
theorem posOf_right : ∀ (k : Fin 2) (t : Fin 4 × Fin 8 × Fin 8), (cOf k (posOf k t), kyOf (posOf k t), kxOf (posOf k t)) = t := by
  decide +kernel

/-- The 256 positions are the channels, rows and columns of a window. -/
def posEquiv (k : Fin 2) : Fin 256 ≃ Fin 4 × Fin 8 × Fin 8 where
  toFun q := (cOf k q, kyOf q, kxOf q)
  invFun t := posOf k t
  left_inv q := by
    have := q.isLt; have := k.isLt
    refine Fin.ext ?_
    simp only [posOf, cOf, kyOf, kxOf]
    omega
  right_inv t := posOf_right k t

/-! ## The words -/

variable (m : (ℓ : Loc nD τ sig) → Buf (Elt Ideal) ℓ)

/-- A row of the kernel's block of words is a frame's words. -/
theorem words_row (c : Dev nD) (t : Fin cfg0.N) (by' bx : Fin 21) (h : Fin 2) (f : Fin 6) (y : Fin 4) (l : Fin 128) (r : Fin 1008)
    (e : t.val = by'.val) (er : r.val = 24 * (2 * bx.val + h.val) + 4 * f.val + y.val) :
    wordsAt m c t (ix3 0 r l) = word (argWords m c) by' bx h f y l := by
  rw [wordsAt_apply]
  exact Cert.ReferenceIdeal.Body.at_word (argWords m c) (by rw [e, er]; omega) _ _

/-- The word the kernel reads for kind 0 is the state's. -/
theorem src0 (c : Dev nD) (t : Fin cfg0.N) (by' bx : Fin 21) (h : Fin 2) (f y : Fin 4) (l : Fin 128) (e : t.val = by'.val) :
    srcWord (wordsAt m c t) 0 bx h f y l = state (argWords m c) (ix6 by' bx h f y l) := by
  unfold srcWord
  rw [if_pos (show (0 : Fin 2).val = 0 from rfl), state_apply]
  exact words_row m c t by' bx h ⟨f.val, by omega⟩ y l _ e rfl

/-- The word the kernel reads for kind 1 is the next state's, its channels listed from the last. -/
theorem src1 (c : Dev nD) (t : Fin cfg0.N) (by' bx : Fin 21) (h : Fin 2) (f f' y : Fin 4) (l : Fin 128) (e : t.val = by'.val)
    (ef : f'.val = (f.val + 3) % 4) :
    srcWord (wordsAt m c t) 1 bx h f y l = nextState (argWords m c) (ix6 by' bx h f' y l) := by
  unfold srcWord
  rw [if_neg (by decide), nextState_apply]
  by_cases h0 : f.val = 0
  · rw [if_pos h0, if_neg (by omega)]
    exact words_row m c t by' bx h 4 y l _ e (by show _ = _ + 4 * 4 + _; rfl)
  · rw [if_neg h0, if_pos (by omega)]
    refine congrArg₂ IntOp.andi (words_row m c t by' bx h _ y l _ e ?_) (words_row m c t by' bx h 5 y l _ e (by show _ = _ + 4 * 5 + _; rfl))
    simp only
    omega

/-- A state of either kind. -/
def stateOf (k : Fin 2) (A : Vec Ideal S2709504 .i32) : Vec Ideal Cert.ReferenceIdeal.S21x21x2x4x4x128 .i32 :=
  if k.val = 0 then state A else nextState A

/-- The word the kernel reads for either kind is that kind's state's. -/
theorem src (k : Fin 2) (c : Dev nD) (t : Fin cfg0.N) (by' bx : Fin 21) (h : Fin 2) (f f' y : Fin 4) (l : Fin 128) (e : t.val = by'.val)
    (ef : f'.val = (f.val + 3 * k.val) % 4) :
    srcWord (wordsAt m c t) k bx h f y l = stateOf k (argWords m c) (ix6 by' bx h f' y l) := by
  match k with
  | ⟨0, _⟩ =>
    have : f' = f := Fin.ext (by simp only at ef; omega)
    subst this
    exact src0 m c t by' bx h f' y l e
  | ⟨1, _⟩ => exact src1 m c t by' bx h f f' y l e ef

/-! ## The results -/

/-- A reference result at an element. -/
theorem reference_apply (s : Vec Ideal Cert.ReferenceIdeal.S21x21x2x4x4x128 .i32) (w : Vec Ideal Cert.ReferenceIdeal.S8x8x4x96 .bf16)
    (bias : Vec Ideal Cert.ReferenceIdeal.S96 .f32) (b : Fin 256) (oy ox : Fin 20) (ch : Fin 96) :
    features (windows (rowWindows (images s))) w bias (ix4 b oy ox ch)
      = max ((∑ t : Fin 4 × Fin 8 × Fin 8, wordPixel (s (ix6 ⟨(4 * oy.val + t.2.1.val) / 4, by omega⟩ ⟨(4 * ox.val + t.2.2.val) / 4, by omega⟩
            ⟨b.val / 128, by omega⟩ t.1 ⟨(4 * oy.val + t.2.1.val) % 4, by omega⟩ ⟨b.val % 128, by omega⟩)) ((4 * ox.val + t.2.2.val) % 4)
          * w (ix4 t.2.1 t.2.2 t.1 ch)) * Ideal.ofBits .f32 0x3B808081#32 + bias (ix1 ch)) 0 := by
  rw [features_apply]
  refine congrArg₂ max (congrArg₂ (· + ·) (congrArg₂ (· * ·) (Finset.sum_congr rfl fun t _ => ?_) rfl) rfl) rfl
  rw [windows_apply, rowWindows_apply, images_apply]

/-- The reference's weights. -/
theorem dequant_apply (codes : Vec Ideal S8x8x4x96 .fp8e4m3) (scale : Vec Ideal S4x96 .f32) (ky kx : Fin 8) (ci : Fin 4) (ch : Fin 96) :
    Cert.ReferenceIdeal.Gen.k0_pay1 codes scale (ix4 ky kx ci ch) = wt codes scale ky kx ci ch := by
  pointwise [Cert.ReferenceIdeal.Gen.k0_pay1]
  rfl

/-- A state read at two index tuples with equal coordinates. -/
theorem at_state (s : Vec Ideal Cert.ReferenceIdeal.S21x21x2x4x4x128 .i32) {p p' q q' : Fin 21} {h h' : Fin 2} {f f' y y' : Fin 4} {l l' : Fin 128}
    (e1 : p.val = p'.val) (e2 : q.val = q'.val) (e3 : h.val = h'.val) (e4 : f.val = f'.val) (e5 : y.val = y'.val) (e6 : l.val = l'.val) :
    s (ix6 p q h f y l) = s (ix6 p' q' h' f' y' l') := by
  rw [Fin.ext e1, Fin.ext e2, Fin.ext e3, Fin.ext e4, Fin.ext e5, Fin.ext e6]

/-- The kernel's result of kind `k` is the reference's. -/
theorem result_eq (c : Dev nD) (k : Fin 2) : result m c k.val k.isLt
    = features (windows (rowWindows (images (stateOf k (argWords m c))))) (Cert.ReferenceIdeal.Gen.k0_pay1 (argCodes m c) (argScale m c)) (argBias m c) := by
  funext i
  idx_vars i
  refine (result_apply m c k i0 i1 i2 i3).trans (Eq.trans ?_ (reference_apply _ _ _ i0 i1 i2 i3).symm)
  refine congrArg₂ max (congrArg₂ (· + ·) (congrArg₂ (· * ·) (Fintype.sum_equiv (posEquiv k) _ _ fun q => ?_) rfl) rfl) rfl
  have hq := q.isLt
  refine (mul_comm _ _).trans (congrArg₂ (· * ·) ?_ (dequant_apply _ _ _ _ _ _).symm)
  rw [wordPixel_eq _ _ (by omega)]
  unfold pixelOf
  rw [src m k c ⟨i1.val + q.val / 128, _⟩ ⟨i1.val + q.val / 128, by omega⟩ _ _ _ (cOf k q) _ _ rfl rfl]
  refine congrArg₂ byteOf (at_state _ ?_ ?_ rfl rfl ?_ rfl) ?_
  all_goals simp only [posEquiv, Equiv.coe_fn_mk, kyOf, kxOf]
  all_goals omega

/-- The reference's two results are the kernel's, on equal arguments. -/
theorem results (m' : (ℓ : Loc Cert.ReferenceIdeal.nD Cert.ReferenceIdeal.τ Cert.ReferenceIdeal.sig) → Buf (Elt Ideal) ℓ) (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3)) :
    Cert.ReferenceIdeal.Body.result0 m' c = result m c 0 (by decide) ∧ Cert.ReferenceIdeal.Body.result1 m' c = result m c 1 (by decide) := by
  unfold Cert.ReferenceIdeal.Body.result0 Cert.ReferenceIdeal.Body.result1 Cert.ReferenceIdeal.Body.weights
  rw [h0, h1, h2, h3]
  exact ⟨(result_eq m c 0).symm, (result_eq m c 1).symm⟩

end Cert.Equation
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Frame
public import proofs.«01_k».proof.Proof.KernelFrame
public import proofs.«01_k».proof.Proof.KernelIdealFrame
public import proofs.«01_k».proof.Proof.Equation
public import Idealize.ShloMosaic.Lib.Claim
public import Idealize.ShloMosaic.Adequacy
public import Idealize.ShloMosaic.Init
public import Idealize.ShloMosaic.Lib.Bf16PairInverse

@[expose] public section

noncomputable section

namespace Cert.Proof

open Idealize.ShloMosaic Idealize.SL.Sem Cert.KernelIdeal

/-- Each rewrite of the idealization, by its rule's theorem. -/
theorem preserves : Cert.preserves_Kernel_KernelIdeal :=
  ⟨IdealRules.bf16_pair.bufferStatement S2x2x2x672x2x128 S2x2x2x672x1x128, IdealRules.bf16_pair.statement S32x128 S16x128,
    IdealRules.bf16_pair.statement S1x1x1x32x2x128 S1x1x1x32x1x128, IdealRules.bf16_pair.statement S1x1x1x64x2x128 S1x1x1x64x1x128,
    IdealRules.bf16_pair.statement S128x128 S64x128⟩

/-- At the extended reals, from equal arguments, the kernel and the reference end with equal results. -/
theorem algebraic : Cert.algebraic_KernelIdeal_ReferenceIdeal := by
  pair_intro
  · run_from Cert.KernelIdeal.Body.run_result m g
  · exact (θ_run _ _ _).mono (fun r h c =>
      have e := Cert.Equation.results m m' c (hagree c).1 (hagree c).2.1 (hagree c).2.2.1 (hagree c).2.2.2
      ⟨(h c).1.trans e.1, (h c).2.1.trans e.2, (h c).2.2⟩) (Cert.ReferenceIdeal.Body.run_result m' g')

/-- The claim. -/
theorem claim : Cert.Claim :=
  ⟨Cert.Kernel.Gen.facts, Cert.KernelIdeal.Gen.facts, Cert.ReferenceIdeal.Gen.facts,
    fun m g _ => Cert.Kernel.Body.frame m g, fun m g _ => Cert.KernelIdeal.Body.frame m g, fun m g _ => Cert.ReferenceIdeal.Gen.frame m g,
    preserves, algebraic⟩

end Cert.Proof

end
